-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ff1W (m : (ℓ : Loc Cert.Ff1W.nD Cert.Ff1W.τ Cert.Ff1W.sig) → Buf (Elt Bits) ℓ) : Prop :=
  True

def Pre_Ff1WIdeal (m : (ℓ : Loc Cert.Ff1WIdeal.nD Cert.Ff1WIdeal.τ Cert.Ff1WIdeal.sig) → Buf (Elt Ideal) ℓ) : Prop :=
  True

def Pre_Ff1WRefIdeal (m : (ℓ : Loc Cert.Ff1WRefIdeal.nD Cert.Ff1WRefIdeal.τ Cert.Ff1WRefIdeal.sig) → Buf (Elt Ideal) ℓ) : Prop :=
  True

def Pre_Ff1X (m : (ℓ : Loc Cert.Ff1X.nD Cert.Ff1X.τ Cert.Ff1X.sig) → Buf (Elt Bits) ℓ) : Prop :=
  True

def Pre_Ff1XIdeal (m : (ℓ : Loc Cert.Ff1XIdeal.nD Cert.Ff1XIdeal.τ Cert.Ff1XIdeal.sig) → Buf (Elt Ideal) ℓ) : Prop :=
  True

def Pre_Ff1XRefIdeal (m : (ℓ : Loc Cert.Ff1XRefIdeal.nD Cert.Ff1XRefIdeal.τ Cert.Ff1XRefIdeal.sig) → Buf (Elt Ideal) ℓ) : Prop :=
  True

def Pre_Ff2W (m : (ℓ : Loc Cert.Ff2W.nD Cert.Ff2W.τ Cert.Ff2W.sig) → Buf (Elt Bits) ℓ) : Prop :=
  True

def Pre_Ff2WIdeal (m : (ℓ : Loc Cert.Ff2WIdeal.nD Cert.Ff2WIdeal.τ Cert.Ff2WIdeal.sig) → Buf (Elt Ideal) ℓ) : Prop :=
  True

def Pre_Ff2WRefIdeal (m : (ℓ : Loc Cert.Ff2WRefIdeal.nD Cert.Ff2WRefIdeal.τ Cert.Ff2WRefIdeal.sig) → Buf (Elt Ideal) ℓ) : Prop :=
  True

def Pre_Ff2X (m : (ℓ : Loc Cert.Ff2X.nD Cert.Ff2X.τ Cert.Ff2X.sig) → Buf (Elt Bits) ℓ) : Prop :=
  True

def Pre_Ff2XIdeal (m : (ℓ : Loc Cert.Ff2XIdeal.nD Cert.Ff2XIdeal.τ Cert.Ff2XIdeal.sig) → Buf (Elt Ideal) ℓ) : Prop :=
  True

def Pre_Ff2XRefIdeal (m : (ℓ : Loc Cert.Ff2XRefIdeal.nD Cert.Ff2XRefIdeal.τ Cert.Ff2XRefIdeal.sig) → Buf (Elt Ideal) ℓ) : Prop :=
  True

def Pre_OutW (m : (ℓ : Loc Cert.OutW.nD Cert.OutW.τ Cert.OutW.sig) → Buf (Elt Bits) ℓ) : Prop :=
  True

def Pre_OutWIdeal (m : (ℓ : Loc Cert.OutWIdeal.nD Cert.OutWIdeal.τ Cert.OutWIdeal.sig) → Buf (Elt Ideal) ℓ) : Prop :=
  True

def Pre_OutWRefIdeal (m : (ℓ : Loc Cert.OutWRefIdeal.nD Cert.OutWRefIdeal.τ Cert.OutWRefIdeal.sig) → Buf (Elt Ideal) ℓ) : Prop :=
  True

def Pre_OutX (m : (ℓ : Loc Cert.OutX.nD Cert.OutX.τ Cert.OutX.sig) → Buf (Elt Bits) ℓ) : Prop :=
  True

def Pre_OutXIdeal (m : (ℓ : Loc Cert.OutXIdeal.nD Cert.OutXIdeal.τ Cert.OutXIdeal.sig) → Buf (Elt Ideal) ℓ) : Prop :=
  True

def Pre_OutXRefIdeal (m : (ℓ : Loc Cert.OutXRefIdeal.nD Cert.OutXRefIdeal.τ Cert.OutXRefIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWRefIdeal (m : (ℓ : Loc Cert.InWRefIdeal.nD Cert.InWRefIdeal.τ Cert.InWRefIdeal.sig) → Buf (Elt Ideal) ℓ) : Prop :=
  True

def Pre_InX (m : (ℓ : Loc Cert.InX.nD Cert.InX.τ Cert.InX.sig) → Buf (Elt Bits) ℓ) : Prop :=
  True

def Pre_InXIdeal (m : (ℓ : Loc Cert.InXIdeal.nD Cert.InXIdeal.τ Cert.InXIdeal.sig) → Buf (Elt Ideal) ℓ) : Prop :=
  True

def Pre_InXRefIdeal (m : (ℓ : Loc Cert.InXRefIdeal.nD Cert.InXRefIdeal.τ Cert.InXRefIdeal.sig) → Buf (Elt Ideal) ℓ) : Prop :=
  True

def Pre_UpW (m : (ℓ : Loc Cert.UpW.nD Cert.UpW.τ Cert.UpW.sig) → Buf (Elt Bits) ℓ) : Prop :=
  True

def Pre_UpWIdeal (m : (ℓ : Loc Cert.UpWIdeal.nD Cert.UpWIdeal.τ Cert.UpWIdeal.sig) → Buf (Elt Ideal) ℓ) : Prop :=
  True

def Pre_UpWRefIdeal (m : (ℓ : Loc Cert.UpWRefIdeal.nD Cert.UpWRefIdeal.τ Cert.UpWRefIdeal.sig) → Buf (Elt Ideal) ℓ) : Prop :=
  True

def Pre_UpX (m : (ℓ : Loc Cert.UpX.nD Cert.UpX.τ Cert.UpX.sig) → Buf (Elt Bits) ℓ) : Prop :=
  True

def Pre_UpXIdeal (m : (ℓ : Loc Cert.UpXIdeal.nD Cert.UpXIdeal.τ Cert.UpXIdeal.sig) → Buf (Elt Ideal) ℓ) : Prop :=
  True

def Pre_UpXRefIdeal (m : (ℓ : Loc Cert.UpXRefIdeal.nD Cert.UpXRefIdeal.τ Cert.UpXRefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_KvUp (m : (ℓ : Loc Cert.KvUp.nD Cert.KvUp.τ Cert.KvUp.sig) → Buf (Elt Bits) ℓ) : Prop :=
  True

def Pre_KvUpIdeal (m : (ℓ : Loc Cert.KvUpIdeal.nD Cert.KvUpIdeal.τ Cert.KvUpIdeal.sig) → Buf (Elt Ideal) ℓ) : Prop :=
  True

def Pre_KvUpRefIdeal (m : (ℓ : Loc Cert.KvUpRefIdeal.nD Cert.KvUpRefIdeal.τ Cert.KvUpRefIdeal.sig) → Buf (Elt Ideal) ℓ) : Prop :=
  True

def Pre_QUp (m : (ℓ : Loc Cert.QUp.nD Cert.QUp.τ Cert.QUp.sig) → Buf (Elt Bits) ℓ) : Prop :=
  True

def Pre_QUpIdeal (m : (ℓ : Loc Cert.QUpIdeal.nD Cert.QUpIdeal.τ Cert.QUpIdeal.sig) → Buf (Elt Ideal) ℓ) : Prop :=
  True

def Pre_QUpRefIdeal (m : (ℓ : Loc Cert.QUpRefIdeal.nD Cert.QUpRefIdeal.τ Cert.QUpRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_qk [hPre_finite_qk : Cert.Pre_finite_qk.Facts] (m : (ℓ : Loc Cert.FwdIdeal.nD Cert.FwdIdeal.τ Cert.FwdIdeal.sig) → Buf (Elt Ideal) ℓ) : Prop :=
  ∀ c : Dev Cert.FwdIdeal.nD,
    (Cert.Pre_finite_qk.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).1 = (fun _ => 1#1)
    ∧ (Cert.Pre_finite_qk.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))).2 = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_qk [hPre_finite_qk : Cert.Pre_finite_qk.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_qk.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).1 = (fun _ => 1#1)
    ∧ (Cert.Pre_finite_qk.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ff1W [hFf1W : Cert.Ff1W.Facts] : Prop :=
  ∀ (m : (ℓ : Loc Cert.Ff1W.nD Cert.Ff1W.τ Cert.Ff1W.sig) → Buf (Elt Bits) ℓ) (g : Dev Cert.Ff1W.nD → PrngReg), Pre_Ff1W m →
    θ_run (Cert.Ff1W.defs (F := Bits)) (onTc (τ := Cert.Ff1W.τ) (Cert.Ff1W.main (F := Bits))) ⟨m, fun _ => 0, g⟩ (fun r => (∀ c : Dev Cert.Ff1W.nD,
      r.2.mem ((c.tc : Thread Cert.Ff1W.nD Cert.Ff1W.τ).loc Cert.Ff1W.main_arg0) = m ((c.tc : Thread Cert.Ff1W.nD Cert.Ff1W.τ).loc Cert.Ff1W.main_arg0)
      ∧ r.2.mem ((c.tc : Thread Cert.Ff1W.nD Cert.Ff1W.τ).loc Cert.Ff1W.main_arg1) = m ((c.tc : Thread Cert.Ff1W.nD Cert.Ff1W.τ).loc Cert.Ff1W.main_arg1)
      ∧ r.2.mem ((c.tc : Thread Cert.Ff1W.nD Cert.Ff1W.τ).loc Cert.Ff1W.main_arg2) = m ((c.tc : Thread Cert.Ff1W.nD Cert.Ff1W.τ).loc Cert.Ff1W.main_arg2))
      ∧ r.2.sem = fun _ => 0)

def quiescent_Ff1WIdeal [hFf1WIdeal : Cert.Ff1WIdeal.Facts] : Prop :=
  ∀ (m : (ℓ : Loc Cert.Ff1WIdeal.nD Cert.Ff1WIdeal.τ Cert.Ff1WIdeal.sig) → Buf (Elt Ideal) ℓ) (g : Dev Cert.Ff1WIdeal.nD → PrngReg), Pre_Ff1WIdeal m →
    θ_run (Cert.Ff1WIdeal.defs (F := Ideal)) (onTc (τ := Cert.Ff1WIdeal.τ) (Cert.Ff1WIdeal.main (F := Ideal))) ⟨m, fun _ => 0, g⟩ (fun r => (∀ c : Dev Cert.Ff1WIdeal.nD,
      r.2.mem ((c.tc : Thread Cert.Ff1WIdeal.nD Cert.Ff1WIdeal.τ).loc Cert.Ff1WIdeal.main_arg0) = m ((c.tc : Thread Cert.Ff1WIdeal.nD Cert.Ff1WIdeal.τ).loc Cert.Ff1WIdeal.main_arg0)
      ∧ r.2.mem ((c.tc : Thread Cert.Ff1WIdeal.nD Cert.Ff1WIdeal.τ).loc Cert.Ff1WIdeal.main_arg1) = m ((c.tc : Thread Cert.Ff1WIdeal.nD Cert.Ff1WIdeal.τ).loc Cert.Ff1WIdeal.main_arg1)
      ∧ r.2.mem ((c.tc : Thread Cert.Ff1WIdeal.nD Cert.Ff1WIdeal.τ).loc Cert.Ff1WIdeal.main_arg2) = m ((c.tc : Thread Cert.Ff1WIdeal.nD Cert.Ff1WIdeal.τ).loc Cert.Ff1WIdeal.main_arg2))
      ∧ r.2.sem = fun _ => 0)

def quiescent_Ff1WRefIdeal [hFf1WRefIdeal : Cert.Ff1WRefIdeal.Facts] : Prop :=
  ∀ (m : (ℓ : Loc Cert.Ff1WRefIdeal.nD Cert.Ff1WRefIdeal.τ Cert.Ff1WRefIdeal.sig) → Buf (Elt Ideal) ℓ) (g : Dev Cert.Ff1WRefIdeal.nD → PrngReg), Pre_Ff1WRefIdeal m →
    θ_run (Cert.Ff1WRefIdeal.defs (F := Ideal)) (onTc (τ := Cert.Ff1WRefIdeal.τ) (Cert.Ff1WRefIdeal.main (F := Ideal))) ⟨m, fun _ => 0, g⟩ (fun r => (∀ c : Dev Cert.Ff1WRefIdeal.nD,
      r.2.mem ((c.tc : Thread Cert.Ff1WRefIdeal.nD Cert.Ff1WRefIdeal.τ).loc Cert.Ff1WRefIdeal.main_arg0) = m ((c.tc : Thread Cert.Ff1WRefIdeal.nD Cert.Ff1WRefIdeal.τ).loc Cert.Ff1WRefIdeal.main_arg0)
      ∧ r.2.mem ((c.tc : Thread Cert.Ff1WRefIdeal.nD Cert.Ff1WRefIdeal.τ).loc Cert.Ff1WRefIdeal.main_arg1) = m ((c.tc : Thread Cert.Ff1WRefIdeal.nD Cert.Ff1WRefIdeal.τ).loc Cert.Ff1WRefIdeal.main_arg1)
      ∧ r.2.mem ((c.tc : Thread Cert.Ff1WRefIdeal.nD Cert.Ff1WRefIdeal.τ).loc Cert.Ff1WRefIdeal.main_arg2) = m ((c.tc : Thread Cert.Ff1WRefIdeal.nD Cert.Ff1WRefIdeal.τ).loc Cert.Ff1WRefIdeal.main_arg2))
      ∧ r.2.sem = fun _ => 0)

def quiescent_Ff1X [hFf1X : Cert.Ff1X.Facts] : Prop :=
  ∀ (m : (ℓ : Loc Cert.Ff1X.nD Cert.Ff1X.τ Cert.Ff1X.sig) → Buf (Elt Bits) ℓ) (g : Dev Cert.Ff1X.nD → PrngReg), Pre_Ff1X m →
    θ_run (Cert.Ff1X.defs (F := Bits)) (onTc (τ := Cert.Ff1X.τ) (Cert.Ff1X.main (F := Bits))) ⟨m, fun _ => 0, g⟩ (fun r => (∀ c : Dev Cert.Ff1X.nD,
      r.2.mem ((c.tc : Thread Cert.Ff1X.nD Cert.Ff1X.τ).loc Cert.Ff1X.main_arg0) = m ((c.tc : Thread Cert.Ff1X.nD Cert.Ff1X.τ).loc Cert.Ff1X.main_arg0)
      ∧ r.2.mem ((c.tc : Thread Cert.Ff1X.nD Cert.Ff1X.τ).loc Cert.Ff1X.main_arg1) = m ((c.tc : Thread Cert.Ff1X.nD Cert.Ff1X.τ).loc Cert.Ff1X.main_arg1)
      ∧ r.2.mem ((c.tc : Thread Cert.Ff1X.nD Cert.Ff1X.τ).loc Cert.Ff1X.main_arg2) = m ((c.tc : Thread Cert.Ff1X.nD Cert.Ff1X.τ).loc Cert.Ff1X.main_arg2))
      ∧ r.2.sem = fun _ => 0)

def quiescent_Ff1XIdeal [hFf1XIdeal : Cert.Ff1XIdeal.Facts] : Prop :=
  ∀ (m : (ℓ : Loc Cert.Ff1XIdeal.nD Cert.Ff1XIdeal.τ Cert.Ff1XIdeal.sig) → Buf (Elt Ideal) ℓ) (g : Dev Cert.Ff1XIdeal.nD → PrngReg), Pre_Ff1XIdeal m →
    θ_run (Cert.Ff1XIdeal.defs (F := Ideal)) (onTc (τ := Cert.Ff1XIdeal.τ) (Cert.Ff1XIdeal.main (F := Ideal))) ⟨m, fun _ => 0, g⟩ (fun r => (∀ c : Dev Cert.Ff1XIdeal.nD,
      r.2.mem ((c.tc : Thread Cert.Ff1XIdeal.nD Cert.Ff1XIdeal.τ).loc Cert.Ff1XIdeal.main_arg0) = m ((c.tc : Thread Cert.Ff1XIdeal.nD Cert.Ff1XIdeal.τ).loc Cert.Ff1XIdeal.main_arg0)
      ∧ r.2.mem ((c.tc : Thread Cert.Ff1XIdeal.nD Cert.Ff1XIdeal.τ).loc Cert.Ff1XIdeal.main_arg1) = m ((c.tc : Thread Cert.Ff1XIdeal.nD Cert.Ff1XIdeal.τ).loc Cert.Ff1XIdeal.main_arg1)
      ∧ r.2.mem ((c.tc : Thread Cert.Ff1XIdeal.nD Cert.Ff1XIdeal.τ).loc Cert.Ff1XIdeal.main_arg2) = m ((c.tc : Thread Cert.Ff1XIdeal.nD Cert.Ff1XIdeal.τ).loc Cert.Ff1XIdeal.main_arg2))
      ∧ r.2.sem = fun _ => 0)

def quiescent_Ff1XRefIdeal [hFf1XRefIdeal : Cert.Ff1XRefIdeal.Facts] : Prop :=
  ∀ (m : (ℓ : Loc Cert.Ff1XRefIdeal.nD Cert.Ff1XRefIdeal.τ Cert.Ff1XRefIdeal.sig) → Buf (Elt Ideal) ℓ) (g : Dev Cert.Ff1XRefIdeal.nD → PrngReg), Pre_Ff1XRefIdeal m →
    θ_run (Cert.Ff1XRefIdeal.defs (F := Ideal)) (onTc (τ := Cert.Ff1XRefIdeal.τ) (Cert.Ff1XRefIdeal.main (F := Ideal))) ⟨m, fun _ => 0, g⟩ (fun r => (∀ c : Dev Cert.Ff1XRefIdeal.nD,
      r.2.mem ((c.tc : Thread Cert.Ff1XRefIdeal.nD Cert.Ff1XRefIdeal.τ).loc Cert.Ff1XRefIdeal.main_arg0) = m ((c.tc : Thread Cert.Ff1XRefIdeal.nD Cert.Ff1XRefIdeal.τ).loc Cert.Ff1XRefIdeal.main_arg0)
      ∧ r.2.mem ((c.tc : Thread Cert.Ff1XRefIdeal.nD Cert.Ff1XRefIdeal.τ).loc Cert.Ff1XRefIdeal.main_arg1) = m ((c.tc : Thread Cert.Ff1XRefIdeal.nD Cert.Ff1XRefIdeal.τ).loc Cert.Ff1XRefIdeal.main_arg1)
      ∧ r.2.mem ((c.tc : Thread Cert.Ff1XRefIdeal.nD Cert.Ff1XRefIdeal.τ).loc Cert.Ff1XRefIdeal.main_arg2) = m ((c.tc : Thread Cert.Ff1XRefIdeal.nD Cert.Ff1XRefIdeal.τ).loc Cert.Ff1XRefIdeal.main_arg2))
      ∧ r.2.sem = fun _ => 0)

def quiescent_Ff2W [hFf2W : Cert.Ff2W.Facts] : Prop :=
  ∀ (m : (ℓ : Loc Cert.Ff2W.nD Cert.Ff2W.τ Cert.Ff2W.sig) → Buf (Elt Bits) ℓ) (g : Dev Cert.Ff2W.nD → PrngReg), Pre_Ff2W m →
    θ_run (Cert.Ff2W.defs (F := Bits)) (onTc (τ := Cert.Ff2W.τ) (Cert.Ff2W.main (F := Bits))) ⟨m, fun _ => 0, g⟩ (fun r => (∀ c : Dev Cert.Ff2W.nD,
      r.2.mem ((c.tc : Thread Cert.Ff2W.nD Cert.Ff2W.τ).loc Cert.Ff2W.main_arg0) = m ((c.tc : Thread Cert.Ff2W.nD Cert.Ff2W.τ).loc Cert.Ff2W.main_arg0)
      ∧ r.2.mem ((c.tc : Thread Cert.Ff2W.nD Cert.Ff2W.τ).loc Cert.Ff2W.main_arg1) = m ((c.tc : Thread Cert.Ff2W.nD Cert.Ff2W.τ).loc Cert.Ff2W.main_arg1)
      ∧ r.2.mem ((c.tc : Thread Cert.Ff2W.nD Cert.Ff2W.τ).loc Cert.Ff2W.main_arg2) = m ((c.tc : Thread Cert.Ff2W.nD Cert.Ff2W.τ).loc Cert.Ff2W.main_arg2))
      ∧ r.2.sem = fun _ => 0)

def quiescent_Ff2WIdeal [hFf2WIdeal : Cert.Ff2WIdeal.Facts] : Prop :=
  ∀ (m : (ℓ : Loc Cert.Ff2WIdeal.nD Cert.Ff2WIdeal.τ Cert.Ff2WIdeal.sig) → Buf (Elt Ideal) ℓ) (g : Dev Cert.Ff2WIdeal.nD → PrngReg), Pre_Ff2WIdeal m →
    θ_run (Cert.Ff2WIdeal.defs (F := Ideal)) (onTc (τ := Cert.Ff2WIdeal.τ) (Cert.Ff2WIdeal.main (F := Ideal))) ⟨m, fun _ => 0, g⟩ (fun r => (∀ c : Dev Cert.Ff2WIdeal.nD,
      r.2.mem ((c.tc : Thread Cert.Ff2WIdeal.nD Cert.Ff2WIdeal.τ).loc Cert.Ff2WIdeal.main_arg0) = m ((c.tc : Thread Cert.Ff2WIdeal.nD Cert.Ff2WIdeal.τ).loc Cert.Ff2WIdeal.main_arg0)
      ∧ r.2.mem ((c.tc : Thread Cert.Ff2WIdeal.nD Cert.Ff2WIdeal.τ).loc Cert.Ff2WIdeal.main_arg1) = m ((c.tc : Thread Cert.Ff2WIdeal.nD Cert.Ff2WIdeal.τ).loc Cert.Ff2WIdeal.main_arg1)
      ∧ r.2.mem ((c.tc : Thread Cert.Ff2WIdeal.nD Cert.Ff2WIdeal.τ).loc Cert.Ff2WIdeal.main_arg2) = m ((c.tc : Thread Cert.Ff2WIdeal.nD Cert.Ff2WIdeal.τ).loc Cert.Ff2WIdeal.main_arg2))
      ∧ r.2.sem = fun _ => 0)

def quiescent_Ff2WRefIdeal [hFf2WRefIdeal : Cert.Ff2WRefIdeal.Facts] : Prop :=
  ∀ (m : (ℓ : Loc Cert.Ff2WRefIdeal.nD Cert.Ff2WRefIdeal.τ Cert.Ff2WRefIdeal.sig) → Buf (Elt Ideal) ℓ) (g : Dev Cert.Ff2WRefIdeal.nD → PrngReg), Pre_Ff2WRefIdeal m →
    θ_run (Cert.Ff2WRefIdeal.defs (F := Ideal)) (onTc (τ := Cert.Ff2WRefIdeal.τ) (Cert.Ff2WRefIdeal.main (F := Ideal))) ⟨m, fun _ => 0, g⟩ (fun r => (∀ c : Dev Cert.Ff2WRefIdeal.nD,
      r.2.mem ((c.tc : Thread Cert.Ff2WRefIdeal.nD Cert.Ff2WRefIdeal.τ).loc Cert.Ff2WRefIdeal.main_arg0) = m ((c.tc : Thread Cert.Ff2WRefIdeal.nD Cert.Ff2WRefIdeal.τ).loc Cert.Ff2WRefIdeal.main_arg0)
      ∧ r.2.mem ((c.tc : Thread Cert.Ff2WRefIdeal.nD Cert.Ff2WRefIdeal.τ).loc Cert.Ff2WRefIdeal.main_arg1) = m ((c.tc : Thread Cert.Ff2WRefIdeal.nD Cert.Ff2WRefIdeal.τ).loc Cert.Ff2WRefIdeal.main_arg1)
      ∧ r.2.mem ((c.tc : Thread Cert.Ff2WRefIdeal.nD Cert.Ff2WRefIdeal.τ).loc Cert.Ff2WRefIdeal.main_arg2) = m ((c.tc : Thread Cert.Ff2WRefIdeal.nD Cert.Ff2WRefIdeal.τ).loc Cert.Ff2WRefIdeal.main_arg2))
      ∧ r.2.sem = fun _ => 0)

def quiescent_Ff2X [hFf2X : Cert.Ff2X.Facts] : Prop :=
  ∀ (m : (ℓ : Loc Cert.Ff2X.nD Cert.Ff2X.τ Cert.Ff2X.sig) → Buf (Elt Bits) ℓ) (g : Dev Cert.Ff2X.nD → PrngReg), Pre_Ff2X m →
    θ_run (Cert.Ff2X.defs (F := Bits)) (onTc (τ := Cert.Ff2X.τ) (Cert.Ff2X.main (F := Bits))) ⟨m, fun _ => 0, g⟩ (fun r => (∀ c : Dev Cert.Ff2X.nD,
      r.2.mem ((c.tc : Thread Cert.Ff2X.nD Cert.Ff2X.τ).loc Cert.Ff2X.main_arg0) = m ((c.tc : Thread Cert.Ff2X.nD Cert.Ff2X.τ).loc Cert.Ff2X.main_arg0)
      ∧ r.2.mem ((c.tc : Thread Cert.Ff2X.nD Cert.Ff2X.τ).loc Cert.Ff2X.main_arg1) = m ((c.tc : Thread Cert.Ff2X.nD Cert.Ff2X.τ).loc Cert.Ff2X.main_arg1)
      ∧ r.2.mem ((c.tc : Thread Cert.Ff2X.nD Cert.Ff2X.τ).loc Cert.Ff2X.main_arg2) = m ((c.tc : Thread Cert.Ff2X.nD Cert.Ff2X.τ).loc Cert.Ff2X.main_arg2))
      ∧ r.2.sem = fun _ => 0)

def quiescent_Ff2XIdeal [hFf2XIdeal : Cert.Ff2XIdeal.Facts] : Prop :=
  ∀ (m : (ℓ : Loc Cert.Ff2XIdeal.nD Cert.Ff2XIdeal.τ Cert.Ff2XIdeal.sig) → Buf (Elt Ideal) ℓ) (g : Dev Cert.Ff2XIdeal.nD → PrngReg), Pre_Ff2XIdeal m →
    θ_run (Cert.Ff2XIdeal.defs (F := Ideal)) (onTc (τ := Cert.Ff2XIdeal.τ) (Cert.Ff2XIdeal.main (F := Ideal))) ⟨m, fun _ => 0, g⟩ (fun r => (∀ c : Dev Cert.Ff2XIdeal.nD,
      r.2.mem ((c.tc : Thread Cert.Ff2XIdeal.nD Cert.Ff2XIdeal.τ).loc Cert.Ff2XIdeal.main_arg0) = m ((c.tc : Thread Cert.Ff2XIdeal.nD Cert.Ff2XIdeal.τ).loc Cert.Ff2XIdeal.main_arg0)
      ∧ r.2.mem ((c.tc : Thread Cert.Ff2XIdeal.nD Cert.Ff2XIdeal.τ).loc Cert.Ff2XIdeal.main_arg1) = m ((c.tc : Thread Cert.Ff2XIdeal.nD Cert.Ff2XIdeal.τ).loc Cert.Ff2XIdeal.main_arg1)
      ∧ r.2.mem ((c.tc : Thread Cert.Ff2XIdeal.nD Cert.Ff2XIdeal.τ).loc Cert.Ff2XIdeal.main_arg2) = m ((c.tc : Thread Cert.Ff2XIdeal.nD Cert.Ff2XIdeal.τ).loc Cert.Ff2XIdeal.main_arg2))
      ∧ r.2.sem = fun _ => 0)

def quiescent_Ff2XRefIdeal [hFf2XRefIdeal : Cert.Ff2XRefIdeal.Facts] : Prop :=
  ∀ (m : (ℓ : Loc Cert.Ff2XRefIdeal.nD Cert.Ff2XRefIdeal.τ Cert.Ff2XRefIdeal.sig) → Buf (Elt Ideal) ℓ) (g : Dev Cert.Ff2XRefIdeal.nD → PrngReg), Pre_Ff2XRefIdeal m →
    θ_run (Cert.Ff2XRefIdeal.defs (F := Ideal)) (onTc (τ := Cert.Ff2XRefIdeal.τ) (Cert.Ff2XRefIdeal.main (F := Ideal))) ⟨m, fun _ => 0, g⟩ (fun r => (∀ c : Dev Cert.Ff2XRefIdeal.nD,
      r.2.mem ((c.tc : Thread Cert.Ff2XRefIdeal.nD Cert.Ff2XRefIdeal.τ).loc Cert.Ff2XRefIdeal.main_arg0) = m ((c.tc : Thread Cert.Ff2XRefIdeal.nD Cert.Ff2XRefIdeal.τ).loc Cert.Ff2XRefIdeal.main_arg0)
      ∧ r.2.mem ((c.tc : Thread Cert.Ff2XRefIdeal.nD Cert.Ff2XRefIdeal.τ).loc Cert.Ff2XRefIdeal.main_arg1) = m ((c.tc : Thread Cert.Ff2XRefIdeal.nD Cert.Ff2XRefIdeal.τ).loc Cert.Ff2XRefIdeal.main_arg1)
      ∧ r.2.mem ((c.tc : Thread Cert.Ff2XRefIdeal.nD Cert.Ff2XRefIdeal.τ).loc Cert.Ff2XRefIdeal.main_arg2) = m ((c.tc : Thread Cert.Ff2XRefIdeal.nD Cert.Ff2XRefIdeal.τ).loc Cert.Ff2XRefIdeal.main_arg2))
      ∧ r.2.sem = fun _ => 0)

def quiescent_OutW [hOutW : Cert.OutW.Facts] : Prop :=
  ∀ (m : (ℓ : Loc Cert.OutW.nD Cert.OutW.τ Cert.OutW.sig) → Buf (Elt Bits) ℓ) (g : Dev Cert.OutW.nD → PrngReg), Pre_OutW m →
    θ_run (Cert.OutW.defs (F := Bits)) (onTc (τ := Cert.OutW.τ) (Cert.OutW.main (F := Bits))) ⟨m, fun _ => 0, g⟩ (fun r => (∀ c : Dev Cert.OutW.nD,
      r.2.mem ((c.tc : Thread Cert.OutW.nD Cert.OutW.τ).loc Cert.OutW.main_arg0) = m ((c.tc : Thread Cert.OutW.nD Cert.OutW.τ).loc Cert.OutW.main_arg0)
      ∧ r.2.mem ((c.tc : Thread Cert.OutW.nD Cert.OutW.τ).loc Cert.OutW.main_arg1) = m ((c.tc : Thread Cert.OutW.nD Cert.OutW.τ).loc Cert.OutW.main_arg1)
      ∧ r.2.mem ((c.tc : Thread Cert.OutW.nD Cert.OutW.τ).loc Cert.OutW.main_arg2) = m ((c.tc : Thread Cert.OutW.nD Cert.OutW.τ).loc Cert.OutW.main_arg2))
      ∧ r.2.sem = fun _ => 0)

def quiescent_OutWIdeal [hOutWIdeal : Cert.OutWIdeal.Facts] : Prop :=
  ∀ (m : (ℓ : Loc Cert.OutWIdeal.nD Cert.OutWIdeal.τ Cert.OutWIdeal.sig) → Buf (Elt Ideal) ℓ) (g : Dev Cert.OutWIdeal.nD → PrngReg), Pre_OutWIdeal m →
    θ_run (Cert.OutWIdeal.defs (F := Ideal)) (onTc (τ := Cert.OutWIdeal.τ) (Cert.OutWIdeal.main (F := Ideal))) ⟨m, fun _ => 0, g⟩ (fun r => (∀ c : Dev Cert.OutWIdeal.nD,
      r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
      ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
      ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ r.2.sem = fun _ => 0)

def quiescent_OutWRefIdeal [hOutWRefIdeal : Cert.OutWRefIdeal.Facts] : Prop :=
  ∀ (m : (ℓ : Loc Cert.OutWRefIdeal.nD Cert.OutWRefIdeal.τ Cert.OutWRefIdeal.sig) → Buf (Elt Ideal) ℓ) (g : Dev Cert.OutWRefIdeal.nD → PrngReg), Pre_OutWRefIdeal m →
    θ_run (Cert.OutWRefIdeal.defs (F := Ideal)) (onTc (τ := Cert.OutWRefIdeal.τ) (Cert.OutWRefIdeal.main (F := Ideal))) ⟨m, fun _ => 0, g⟩ (fun r => (∀ c : Dev Cert.OutWRefIdeal.nD,
      r.2.mem ((c.tc : Thread Cert.OutWRefIdeal.nD Cert.OutWRefIdeal.τ).loc Cert.OutWRefIdeal.main_arg0) = m ((c.tc : Thread Cert.OutWRefIdeal.nD Cert.OutWRefIdeal.τ).loc Cert.OutWRefIdeal.main_arg0)
      ∧ r.2.mem ((c.tc : Thread Cert.OutWRefIdeal.nD Cert.OutWRefIdeal.τ).loc Cert.OutWRefIdeal.main_arg1) = m ((c.tc : Thread Cert.OutWRefIdeal.nD Cert.OutWRefIdeal.τ).loc Cert.OutWRefIdeal.main_arg1)
      ∧ r.2.mem ((c.tc : Thread Cert.OutWRefIdeal.nD Cert.OutWRefIdeal.τ).loc Cert.OutWRefIdeal.main_arg2) = m ((c.tc : Thread Cert.OutWRefIdeal.nD Cert.OutWRefIdeal.τ).loc Cert.OutWRefIdeal.main_arg2))
      ∧ r.2.sem = fun _ => 0)

def quiescent_OutX [hOutX : Cert.OutX.Facts] : Prop :=
  ∀ (m : (ℓ : Loc Cert.OutX.nD Cert.OutX.τ Cert.OutX.sig) → Buf (Elt Bits) ℓ) (g : Dev Cert.OutX.nD → PrngReg), Pre_OutX m →
    θ_run (Cert.OutX.defs (F := Bits)) (onTc (τ := Cert.OutX.τ) (Cert.OutX.main (F := Bits))) ⟨m, fun _ => 0, g⟩ (fun r => (∀ c : Dev Cert.OutX.nD,
      r.2.mem ((c.tc : Thread Cert.OutX.nD Cert.OutX.τ).loc Cert.OutX.main_arg0) = m ((c.tc : Thread Cert.OutX.nD Cert.OutX.τ).loc Cert.OutX.main_arg0)
      ∧ r.2.mem ((c.tc : Thread Cert.OutX.nD Cert.OutX.τ).loc Cert.OutX.main_arg1) = m ((c.tc : Thread Cert.OutX.nD Cert.OutX.τ).loc Cert.OutX.main_arg1)
      ∧ r.2.mem ((c.tc : Thread Cert.OutX.nD Cert.OutX.τ).loc Cert.OutX.main_arg2) = m ((c.tc : Thread Cert.OutX.nD Cert.OutX.τ).loc Cert.OutX.main_arg2))
      ∧ r.2.sem = fun _ => 0)

def quiescent_OutXIdeal [hOutXIdeal : Cert.OutXIdeal.Facts] : Prop :=
  ∀ (m : (ℓ : Loc Cert.OutXIdeal.nD Cert.OutXIdeal.τ Cert.OutXIdeal.sig) → Buf (Elt Ideal) ℓ) (g : Dev Cert.OutXIdeal.nD → PrngReg), Pre_OutXIdeal m →
    θ_run (Cert.OutXIdeal.defs (F := Ideal)) (onTc (τ := Cert.OutXIdeal.τ) (Cert.OutXIdeal.main (F := Ideal))) ⟨m, fun _ => 0, g⟩ (fun r => (∀ c : Dev Cert.OutXIdeal.nD,
      r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
      ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
      ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ r.2.sem = fun _ => 0)

def quiescent_OutXRefIdeal [hOutXRefIdeal : Cert.OutXRefIdeal.Facts] : Prop :=
  ∀ (m : (ℓ : Loc Cert.OutXRefIdeal.nD Cert.OutXRefIdeal.τ Cert.OutXRefIdeal.sig) → Buf (Elt Ideal) ℓ) (g : Dev Cert.OutXRefIdeal.nD → PrngReg), Pre_OutXRefIdeal m →
    θ_run (Cert.OutXRefIdeal.defs (F := Ideal)) (onTc (τ := Cert.OutXRefIdeal.τ) (Cert.OutXRefIdeal.main (F := Ideal))) ⟨m, fun _ => 0, g⟩ (fun r => (∀ c : Dev Cert.OutXRefIdeal.nD,
      r.2.mem ((c.tc : Thread Cert.OutXRefIdeal.nD Cert.OutXRefIdeal.τ).loc Cert.OutXRefIdeal.main_arg0) = m ((c.tc : Thread Cert.OutXRefIdeal.nD Cert.OutXRefIdeal.τ).loc Cert.OutXRefIdeal.main_arg0)
      ∧ r.2.mem ((c.tc : Thread Cert.OutXRefIdeal.nD Cert.OutXRefIdeal.τ).loc Cert.OutXRefIdeal.main_arg1) = m ((c.tc : Thread Cert.OutXRefIdeal.nD Cert.OutXRefIdeal.τ).loc Cert.OutXRefIdeal.main_arg1)
      ∧ r.2.mem ((c.tc : Thread Cert.OutXRefIdeal.nD Cert.OutXRefIdeal.τ).loc Cert.OutXRefIdeal.main_arg2) = m ((c.tc : Thread Cert.OutXRefIdeal.nD Cert.OutXRefIdeal.τ).loc Cert.OutXRefIdeal.main_arg2))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ r.2.sem = fun _ => 0)

def quiescent_InWRefIdeal [hInWRefIdeal : Cert.InWRefIdeal.Facts] : Prop :=
  ∀ (m : (ℓ : Loc Cert.InWRefIdeal.nD Cert.InWRefIdeal.τ Cert.InWRefIdeal.sig) → Buf (Elt Ideal) ℓ) (g : Dev Cert.InWRefIdeal.nD → PrngReg), Pre_InWRefIdeal m →
    θ_run (Cert.InWRefIdeal.defs (F := Ideal)) (onTc (τ := Cert.InWRefIdeal.τ) (Cert.InWRefIdeal.main (F := Ideal))) ⟨m, fun _ => 0, g⟩ (fun r => (∀ c : Dev Cert.InWRefIdeal.nD,
      r.2.mem ((c.tc : Thread Cert.InWRefIdeal.nD Cert.InWRefIdeal.τ).loc Cert.InWRefIdeal.main_arg0) = m ((c.tc : Thread Cert.InWRefIdeal.nD Cert.InWRefIdeal.τ).loc Cert.InWRefIdeal.main_arg0)
      ∧ r.2.mem ((c.tc : Thread Cert.InWRefIdeal.nD Cert.InWRefIdeal.τ).loc Cert.InWRefIdeal.main_arg1) = m ((c.tc : Thread Cert.InWRefIdeal.nD Cert.InWRefIdeal.τ).loc Cert.InWRefIdeal.main_arg1)
      ∧ r.2.mem ((c.tc : Thread Cert.InWRefIdeal.nD Cert.InWRefIdeal.τ).loc Cert.InWRefIdeal.main_arg2) = m ((c.tc : Thread Cert.InWRefIdeal.nD Cert.InWRefIdeal.τ).loc Cert.InWRefIdeal.main_arg2))
      ∧ r.2.sem = fun _ => 0)

def quiescent_InX [hInX : Cert.InX.Facts] : Prop :=
  ∀ (m : (ℓ : Loc Cert.InX.nD Cert.InX.τ Cert.InX.sig) → Buf (Elt Bits) ℓ) (g : Dev Cert.InX.nD → PrngReg), Pre_InX m →
    θ_run (Cert.InX.defs (F := Bits)) (onTc (τ := Cert.InX.τ) (Cert.InX.main (F := Bits))) ⟨m, fun _ => 0, g⟩ (fun r => (∀ c : Dev Cert.InX.nD,
      r.2.mem ((c.tc : Thread Cert.InX.nD Cert.InX.τ).loc Cert.InX.main_arg0) = m ((c.tc : Thread Cert.InX.nD Cert.InX.τ).loc Cert.InX.main_arg0)
      ∧ r.2.mem ((c.tc : Thread Cert.InX.nD Cert.InX.τ).loc Cert.InX.main_arg1) = m ((c.tc : Thread Cert.InX.nD Cert.InX.τ).loc Cert.InX.main_arg1)
      ∧ r.2.mem ((c.tc : Thread Cert.InX.nD Cert.InX.τ).loc Cert.InX.main_arg2) = m ((c.tc : Thread Cert.InX.nD Cert.InX.τ).loc Cert.InX.main_arg2))
      ∧ r.2.sem = fun _ => 0)

def quiescent_InXIdeal [hInXIdeal : Cert.InXIdeal.Facts] : Prop :=
  ∀ (m : (ℓ : Loc Cert.InXIdeal.nD Cert.InXIdeal.τ Cert.InXIdeal.sig) → Buf (Elt Ideal) ℓ) (g : Dev Cert.InXIdeal.nD → PrngReg), Pre_InXIdeal m →
    θ_run (Cert.InXIdeal.defs (F := Ideal)) (onTc (τ := Cert.InXIdeal.τ) (Cert.InXIdeal.main (F := Ideal))) ⟨m, fun _ => 0, g⟩ (fun r => (∀ c : Dev Cert.InXIdeal.nD,
      r.2.mem ((c.tc : Thread Cert.InXIdeal.nD Cert.InXIdeal.τ).loc Cert.InXIdeal.main_arg0) = m ((c.tc : Thread Cert.InXIdeal.nD Cert.InXIdeal.τ).loc Cert.InXIdeal.main_arg0)
      ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
      ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ r.2.sem = fun _ => 0)

def quiescent_InXRefIdeal [hInXRefIdeal : Cert.InXRefIdeal.Facts] : Prop :=
  ∀ (m : (ℓ : Loc Cert.InXRefIdeal.nD Cert.InXRefIdeal.τ Cert.InXRefIdeal.sig) → Buf (Elt Ideal) ℓ) (g : Dev Cert.InXRefIdeal.nD → PrngReg), Pre_InXRefIdeal m →
    θ_run (Cert.InXRefIdeal.defs (F := Ideal)) (onTc (τ := Cert.InXRefIdeal.τ) (Cert.InXRefIdeal.main (F := Ideal))) ⟨m, fun _ => 0, g⟩ (fun r => (∀ c : Dev Cert.InXRefIdeal.nD,
      r.2.mem ((c.tc : Thread Cert.InXRefIdeal.nD Cert.InXRefIdeal.τ).loc Cert.InXRefIdeal.main_arg0) = m ((c.tc : Thread Cert.InXRefIdeal.nD Cert.InXRefIdeal.τ).loc Cert.InXRefIdeal.main_arg0)
      ∧ r.2.mem ((c.tc : Thread Cert.InXRefIdeal.nD Cert.InXRefIdeal.τ).loc Cert.InXRefIdeal.main_arg1) = m ((c.tc : Thread Cert.InXRefIdeal.nD Cert.InXRefIdeal.τ).loc Cert.InXRefIdeal.main_arg1)
      ∧ r.2.mem ((c.tc : Thread Cert.InXRefIdeal.nD Cert.InXRefIdeal.τ).loc Cert.InXRefIdeal.main_arg2) = m ((c.tc : Thread Cert.InXRefIdeal.nD Cert.InXRefIdeal.τ).loc Cert.InXRefIdeal.main_arg2))
      ∧ r.2.sem = fun _ => 0)

def quiescent_UpW [hUpW : Cert.UpW.Facts] : Prop :=
  ∀ (m : (ℓ : Loc Cert.UpW.nD Cert.UpW.τ Cert.UpW.sig) → Buf (Elt Bits) ℓ) (g : Dev Cert.UpW.nD → PrngReg), Pre_UpW m →
    θ_run (Cert.UpW.defs (F := Bits)) (onTc (τ := Cert.UpW.τ) (Cert.UpW.main (F := Bits))) ⟨m, fun _ => 0, g⟩ (fun r => (∀ c : Dev Cert.UpW.nD,
      r.2.mem ((c.tc : Thread Cert.UpW.nD Cert.UpW.τ).loc Cert.UpW.main_arg0) = m ((c.tc : Thread Cert.UpW.nD Cert.UpW.τ).loc Cert.UpW.main_arg0)
      ∧ r.2.mem ((c.tc : Thread Cert.UpW.nD Cert.UpW.τ).loc Cert.UpW.main_arg1) = m ((c.tc : Thread Cert.UpW.nD Cert.UpW.τ).loc Cert.UpW.main_arg1)
      ∧ r.2.mem ((c.tc : Thread Cert.UpW.nD Cert.UpW.τ).loc Cert.UpW.main_arg2) = m ((c.tc : Thread Cert.UpW.nD Cert.UpW.τ).loc Cert.UpW.main_arg2))
      ∧ r.2.sem = fun _ => 0)

def quiescent_UpWIdeal [hUpWIdeal : Cert.UpWIdeal.Facts] : Prop :=
  ∀ (m : (ℓ : Loc Cert.UpWIdeal.nD Cert.UpWIdeal.τ Cert.UpWIdeal.sig) → Buf (Elt Ideal) ℓ) (g : Dev Cert.UpWIdeal.nD → PrngReg), Pre_UpWIdeal m →
    θ_run (Cert.UpWIdeal.defs (F := Ideal)) (onTc (τ := Cert.UpWIdeal.τ) (Cert.UpWIdeal.main (F := Ideal))) ⟨m, fun _ => 0, g⟩ (fun r => (∀ c : Dev Cert.UpWIdeal.nD,
      r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
      ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
      ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ r.2.sem = fun _ => 0)

def quiescent_UpWRefIdeal [hUpWRefIdeal : Cert.UpWRefIdeal.Facts] : Prop :=
  ∀ (m : (ℓ : Loc Cert.UpWRefIdeal.nD Cert.UpWRefIdeal.τ Cert.UpWRefIdeal.sig) → Buf (Elt Ideal) ℓ) (g : Dev Cert.UpWRefIdeal.nD → PrngReg), Pre_UpWRefIdeal m →
    θ_run (Cert.UpWRefIdeal.defs (F := Ideal)) (onTc (τ := Cert.UpWRefIdeal.τ) (Cert.UpWRefIdeal.main (F := Ideal))) ⟨m, fun _ => 0, g⟩ (fun r => (∀ c : Dev Cert.UpWRefIdeal.nD,
      r.2.mem ((c.tc : Thread Cert.UpWRefIdeal.nD Cert.UpWRefIdeal.τ).loc Cert.UpWRefIdeal.main_arg0) = m ((c.tc : Thread Cert.UpWRefIdeal.nD Cert.UpWRefIdeal.τ).loc Cert.UpWRefIdeal.main_arg0)
      ∧ r.2.mem ((c.tc : Thread Cert.UpWRefIdeal.nD Cert.UpWRefIdeal.τ).loc Cert.UpWRefIdeal.main_arg1) = m ((c.tc : Thread Cert.UpWRefIdeal.nD Cert.UpWRefIdeal.τ).loc Cert.UpWRefIdeal.main_arg1)
      ∧ r.2.mem ((c.tc : Thread Cert.UpWRefIdeal.nD Cert.UpWRefIdeal.τ).loc Cert.UpWRefIdeal.main_arg2) = m ((c.tc : Thread Cert.UpWRefIdeal.nD Cert.UpWRefIdeal.τ).loc Cert.UpWRefIdeal.main_arg2))
      ∧ r.2.sem = fun _ => 0)

def quiescent_UpX [hUpX : Cert.UpX.Facts] : Prop :=
  ∀ (m : (ℓ : Loc Cert.UpX.nD Cert.UpX.τ Cert.UpX.sig) → Buf (Elt Bits) ℓ) (g : Dev Cert.UpX.nD → PrngReg), Pre_UpX m →
    θ_run (Cert.UpX.defs (F := Bits)) (onTc (τ := Cert.UpX.τ) (Cert.UpX.main (F := Bits))) ⟨m, fun _ => 0, g⟩ (fun r => (∀ c : Dev Cert.UpX.nD,
      r.2.mem ((c.tc : Thread Cert.UpX.nD Cert.UpX.τ).loc Cert.UpX.main_arg0) = m ((c.tc : Thread Cert.UpX.nD Cert.UpX.τ).loc Cert.UpX.main_arg0)
      ∧ r.2.mem ((c.tc : Thread Cert.UpX.nD Cert.UpX.τ).loc Cert.UpX.main_arg1) = m ((c.tc : Thread Cert.UpX.nD Cert.UpX.τ).loc Cert.UpX.main_arg1)
      ∧ r.2.mem ((c.tc : Thread Cert.UpX.nD Cert.UpX.τ).loc Cert.UpX.main_arg2) = m ((c.tc : Thread Cert.UpX.nD Cert.UpX.τ).loc Cert.UpX.main_arg2))
      ∧ r.2.sem = fun _ => 0)

def quiescent_UpXIdeal [hUpXIdeal : Cert.UpXIdeal.Facts] : Prop :=
  ∀ (m : (ℓ : Loc Cert.UpXIdeal.nD Cert.UpXIdeal.τ Cert.UpXIdeal.sig) → Buf (Elt Ideal) ℓ) (g : Dev Cert.UpXIdeal.nD → PrngReg), Pre_UpXIdeal m →
    θ_run (Cert.UpXIdeal.defs (F := Ideal)) (onTc (τ := Cert.UpXIdeal.τ) (Cert.UpXIdeal.main (F := Ideal))) ⟨m, fun _ => 0, g⟩ (fun r => (∀ c : Dev Cert.UpXIdeal.nD,
      r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
      ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
      ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ r.2.sem = fun _ => 0)

def quiescent_UpXRefIdeal [hUpXRefIdeal : Cert.UpXRefIdeal.Facts] : Prop :=
  ∀ (m : (ℓ : Loc Cert.UpXRefIdeal.nD Cert.UpXRefIdeal.τ Cert.UpXRefIdeal.sig) → Buf (Elt Ideal) ℓ) (g : Dev Cert.UpXRefIdeal.nD → PrngReg), Pre_UpXRefIdeal m →
    θ_run (Cert.UpXRefIdeal.defs (F := Ideal)) (onTc (τ := Cert.UpXRefIdeal.τ) (Cert.UpXRefIdeal.main (F := Ideal))) ⟨m, fun _ => 0, g⟩ (fun r => (∀ c : Dev Cert.UpXRefIdeal.nD,
      r.2.mem ((c.tc : Thread Cert.UpXRefIdeal.nD Cert.UpXRefIdeal.τ).loc Cert.UpXRefIdeal.main_arg0) = m ((c.tc : Thread Cert.UpXRefIdeal.nD Cert.UpXRefIdeal.τ).loc Cert.UpXRefIdeal.main_arg0)
      ∧ r.2.mem ((c.tc : Thread Cert.UpXRefIdeal.nD Cert.UpXRefIdeal.τ).loc Cert.UpXRefIdeal.main_arg1) = m ((c.tc : Thread Cert.UpXRefIdeal.nD Cert.UpXRefIdeal.τ).loc Cert.UpXRefIdeal.main_arg1)
      ∧ r.2.mem ((c.tc : Thread Cert.UpXRefIdeal.nD Cert.UpXRefIdeal.τ).loc Cert.UpXRefIdeal.main_arg2) = m ((c.tc : Thread Cert.UpXRefIdeal.nD Cert.UpXRefIdeal.τ).loc Cert.UpXRefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_KvUp [hKvUp : Cert.KvUp.Facts] : Prop :=
  ∀ (m : (ℓ : Loc Cert.KvUp.nD Cert.KvUp.τ Cert.KvUp.sig) → Buf (Elt Bits) ℓ) (g : Dev Cert.KvUp.nD → PrngReg), Pre_KvUp m →
    θ_run (Cert.KvUp.defs (F := Bits)) (onTc (τ := Cert.KvUp.τ) (Cert.KvUp.main (F := Bits))) ⟨m, fun _ => 0, g⟩ (fun r => (∀ c : Dev Cert.KvUp.nD,
      r.2.mem ((c.tc : Thread Cert.KvUp.nD Cert.KvUp.τ).loc Cert.KvUp.main_arg0) = m ((c.tc : Thread Cert.KvUp.nD Cert.KvUp.τ).loc Cert.KvUp.main_arg0)
      ∧ r.2.mem ((c.tc : Thread Cert.KvUp.nD Cert.KvUp.τ).loc Cert.KvUp.main_arg1) = m ((c.tc : Thread Cert.KvUp.nD Cert.KvUp.τ).loc Cert.KvUp.main_arg1))
      ∧ r.2.sem = fun _ => 0)

def quiescent_KvUpIdeal [hKvUpIdeal : Cert.KvUpIdeal.Facts] : Prop :=
  ∀ (m : (ℓ : Loc Cert.KvUpIdeal.nD Cert.KvUpIdeal.τ Cert.KvUpIdeal.sig) → Buf (Elt Ideal) ℓ) (g : Dev Cert.KvUpIdeal.nD → PrngReg), Pre_KvUpIdeal m →
    θ_run (Cert.KvUpIdeal.defs (F := Ideal)) (onTc (τ := Cert.KvUpIdeal.τ) (Cert.KvUpIdeal.main (F := Ideal))) ⟨m, fun _ => 0, g⟩ (fun r => (∀ c : Dev Cert.KvUpIdeal.nD,
      r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
      ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ r.2.sem = fun _ => 0)

def quiescent_KvUpRefIdeal [hKvUpRefIdeal : Cert.KvUpRefIdeal.Facts] : Prop :=
  ∀ (m : (ℓ : Loc Cert.KvUpRefIdeal.nD Cert.KvUpRefIdeal.τ Cert.KvUpRefIdeal.sig) → Buf (Elt Ideal) ℓ) (g : Dev Cert.KvUpRefIdeal.nD → PrngReg), Pre_KvUpRefIdeal m →
    θ_run (Cert.KvUpRefIdeal.defs (F := Ideal)) (onTc (τ := Cert.KvUpRefIdeal.τ) (Cert.KvUpRefIdeal.main (F := Ideal))) ⟨m, fun _ => 0, g⟩ (fun r => (∀ c : Dev Cert.KvUpRefIdeal.nD,
      r.2.mem ((c.tc : Thread Cert.KvUpRefIdeal.nD Cert.KvUpRefIdeal.τ).loc Cert.KvUpRefIdeal.main_arg0) = m ((c.tc : Thread Cert.KvUpRefIdeal.nD Cert.KvUpRefIdeal.τ).loc Cert.KvUpRefIdeal.main_arg0)
      ∧ r.2.mem ((c.tc : Thread Cert.KvUpRefIdeal.nD Cert.KvUpRefIdeal.τ).loc Cert.KvUpRefIdeal.main_arg1) = m ((c.tc : Thread Cert.KvUpRefIdeal.nD Cert.KvUpRefIdeal.τ).loc Cert.KvUpRefIdeal.main_arg1))
      ∧ r.2.sem = fun _ => 0)

def quiescent_QUp [hQUp : Cert.QUp.Facts] : Prop :=
  ∀ (m : (ℓ : Loc Cert.QUp.nD Cert.QUp.τ Cert.QUp.sig) → Buf (Elt Bits) ℓ) (g : Dev Cert.QUp.nD → PrngReg), Pre_QUp m →
    θ_run (Cert.QUp.defs (F := Bits)) (onTc (τ := Cert.QUp.τ) (Cert.QUp.main (F := Bits))) ⟨m, fun _ => 0, g⟩ (fun r => (∀ c : Dev Cert.QUp.nD,
      r.2.mem ((c.tc : Thread Cert.QUp.nD Cert.QUp.τ).loc Cert.QUp.main_arg0) = m ((c.tc : Thread Cert.QUp.nD Cert.QUp.τ).loc Cert.QUp.main_arg0)
      ∧ r.2.mem ((c.tc : Thread Cert.QUp.nD Cert.QUp.τ).loc Cert.QUp.main_arg1) = m ((c.tc : Thread Cert.QUp.nD Cert.QUp.τ).loc Cert.QUp.main_arg1))
      ∧ r.2.sem = fun _ => 0)

def quiescent_QUpIdeal [hQUpIdeal : Cert.QUpIdeal.Facts] : Prop :=
  ∀ (m : (ℓ : Loc Cert.QUpIdeal.nD Cert.QUpIdeal.τ Cert.QUpIdeal.sig) → Buf (Elt Ideal) ℓ) (g : Dev Cert.QUpIdeal.nD → PrngReg), Pre_QUpIdeal m →
    θ_run (Cert.QUpIdeal.defs (F := Ideal)) (onTc (τ := Cert.QUpIdeal.τ) (Cert.QUpIdeal.main (F := Ideal))) ⟨m, fun _ => 0, g⟩ (fun r => (∀ c : Dev Cert.QUpIdeal.nD,
      r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
      ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ r.2.sem = fun _ => 0)

def quiescent_QUpRefIdeal [hQUpRefIdeal : Cert.QUpRefIdeal.Facts] : Prop :=
  ∀ (m : (ℓ : Loc Cert.QUpRefIdeal.nD Cert.QUpRefIdeal.τ Cert.QUpRefIdeal.sig) → Buf (Elt Ideal) ℓ) (g : Dev Cert.QUpRefIdeal.nD → PrngReg), Pre_QUpRefIdeal m →
    θ_run (Cert.QUpRefIdeal.defs (F := Ideal)) (onTc (τ := Cert.QUpRefIdeal.τ) (Cert.QUpRefIdeal.main (F := Ideal))) ⟨m, fun _ => 0, g⟩ (fun r => (∀ c : Dev Cert.QUpRefIdeal.nD,
      r.2.mem ((c.tc : Thread Cert.QUpRefIdeal.nD Cert.QUpRefIdeal.τ).loc Cert.QUpRefIdeal.main_arg0) = m ((c.tc : Thread Cert.QUpRefIdeal.nD Cert.QUpRefIdeal.τ).loc Cert.QUpRefIdeal.main_arg0)
      ∧ r.2.mem ((c.tc : Thread Cert.QUpRefIdeal.nD Cert.QUpRefIdeal.τ).loc Cert.QUpRefIdeal.main_arg1) = m ((c.tc : Thread Cert.QUpRefIdeal.nD Cert.QUpRefIdeal.τ).loc Cert.QUpRefIdeal.main_arg1))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_qk [hFwdIdeal : Cert.FwdIdeal.Facts] [hPre_finite_qk : Cert.Pre_finite_qk.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_qk m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_qk [hFwdRefIdeal : Cert.FwdRefIdeal.Facts] [hPre_finite_qk : Cert.Pre_finite_qk.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_qk m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "log2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v65_0)) (v1 : (c : Dev Cert.KernelIdeal.nD) → Buf (Elt Ideal) ((c.tc : Thread Cert.KernelIdeal.nD Cert.KernelIdeal.τ).loc Cert.KernelIdeal.main_v65_1)) (v2 : (c : Dev Cert.KernelIdeal.nD) → Buf (Elt Ideal) ((c.tc : Thread Cert.KernelIdeal.nD Cert.KernelIdeal.τ).loc Cert.KernelIdeal.main_v65_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65_0) = v0 c
          ∧ r.2.mem ((c.tc : Thread Cert.KernelIdeal.nD Cert.KernelIdeal.τ).loc Cert.KernelIdeal.main_v65_1) = v1 c
          ∧ r.2.mem ((c.tc : Thread Cert.KernelIdeal.nD Cert.KernelIdeal.τ).loc Cert.KernelIdeal.main_v65_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_v150) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ff1W_Ff1WIdeal : Prop :=
  True

def algebraic_Ff1WIdeal_Ff1WRefIdeal [hFf1WIdeal : Cert.Ff1WIdeal.Facts] [hFf1WRefIdeal : Cert.Ff1WRefIdeal.Facts] : Prop :=
  ∀ (m : (ℓ : Loc Cert.Ff1WIdeal.nD Cert.Ff1WIdeal.τ Cert.Ff1WIdeal.sig) → Buf (Elt Ideal) ℓ) (g : Dev Cert.Ff1WIdeal.nD → PrngReg)
    (m' : (ℓ : Loc Cert.Ff1WRefIdeal.nD Cert.Ff1WRefIdeal.τ Cert.Ff1WRefIdeal.sig) → Buf (Elt Ideal) ℓ) (g' : Dev Cert.Ff1WRefIdeal.nD → PrngReg), Pre_Ff1WIdeal m →
    (∀ c : Dev Cert.Ff1WIdeal.nD,
      m' ((c.tc : Thread Cert.Ff1WRefIdeal.nD Cert.Ff1WRefIdeal.τ).loc Cert.Ff1WRefIdeal.main_arg0) = m ((c.tc : Thread Cert.Ff1WIdeal.nD Cert.Ff1WIdeal.τ).loc Cert.Ff1WIdeal.main_arg0)
      ∧ m' ((c.tc : Thread Cert.Ff1WRefIdeal.nD Cert.Ff1WRefIdeal.τ).loc Cert.Ff1WRefIdeal.main_arg1) = m ((c.tc : Thread Cert.Ff1WIdeal.nD Cert.Ff1WIdeal.τ).loc Cert.Ff1WIdeal.main_arg1)
      ∧ m' ((c.tc : Thread Cert.Ff1WRefIdeal.nD Cert.Ff1WRefIdeal.τ).loc Cert.Ff1WRefIdeal.main_arg2) = m ((c.tc : Thread Cert.Ff1WIdeal.nD Cert.Ff1WIdeal.τ).loc Cert.Ff1WIdeal.main_arg2)) →
    ∃ (v0 : (c : Dev Cert.Ff1WIdeal.nD) → Buf (Elt Ideal) ((c.tc : Thread Cert.Ff1WIdeal.nD Cert.Ff1WIdeal.τ).loc Cert.Ff1WIdeal.main_v0)),
      θ_run (Cert.Ff1WIdeal.defs (F := Ideal)) (onTc (τ := Cert.Ff1WIdeal.τ) (Cert.Ff1WIdeal.main (F := Ideal))) ⟨m, fun _ => 0, g⟩ (fun r => ∀ c : Dev Cert.Ff1WIdeal.nD,
          r.2.mem ((c.tc : Thread Cert.Ff1WIdeal.nD Cert.Ff1WIdeal.τ).loc Cert.Ff1WIdeal.main_v0) = v0 c
          ∧ r.2.mem ((c.tc : Thread Cert.Ff1WIdeal.nD Cert.Ff1WIdeal.τ).loc Cert.Ff1WIdeal.main_arg0) = m ((c.tc : Thread Cert.Ff1WIdeal.nD Cert.Ff1WIdeal.τ).loc Cert.Ff1WIdeal.main_arg0)
          ∧ r.2.mem ((c.tc : Thread Cert.Ff1WIdeal.nD Cert.Ff1WIdeal.τ).loc Cert.Ff1WIdeal.main_arg1) = m ((c.tc : Thread Cert.Ff1WIdeal.nD Cert.Ff1WIdeal.τ).loc Cert.Ff1WIdeal.main_arg1)
          ∧ r.2.mem ((c.tc : Thread Cert.Ff1WIdeal.nD Cert.Ff1WIdeal.τ).loc Cert.Ff1WIdeal.main_arg2) = m ((c.tc : Thread Cert.Ff1WIdeal.nD Cert.Ff1WIdeal.τ).loc Cert.Ff1WIdeal.main_arg2))
      ∧ θ_run (Cert.Ff1WRefIdeal.defs (F := Ideal)) (onTc (τ := Cert.Ff1WRefIdeal.τ) (Cert.Ff1WRefIdeal.main (F := Ideal))) ⟨m', fun _ => 0, g'⟩ (fun r => ∀ c : Dev Cert.Ff1WRefIdeal.nD,
          r.2.mem ((c.tc : Thread Cert.Ff1WRefIdeal.nD Cert.Ff1WRefIdeal.τ).loc Cert.Ff1WRefIdeal.main_v5) = v0 c
          ∧ r.2.mem ((c.tc : Thread Cert.Ff1WRefIdeal.nD Cert.Ff1WRefIdeal.τ).loc Cert.Ff1WRefIdeal.main_arg0) = m' ((c.tc : Thread Cert.Ff1WRefIdeal.nD Cert.Ff1WRefIdeal.τ).loc Cert.Ff1WRefIdeal.main_arg0)
          ∧ r.2.mem ((c.tc : Thread Cert.Ff1WRefIdeal.nD Cert.Ff1WRefIdeal.τ).loc Cert.Ff1WRefIdeal.main_arg1) = m' ((c.tc : Thread Cert.Ff1WRefIdeal.nD Cert.Ff1WRefIdeal.τ).loc Cert.Ff1WRefIdeal.main_arg1)
          ∧ r.2.mem ((c.tc : Thread Cert.Ff1WRefIdeal.nD Cert.Ff1WRefIdeal.τ).loc Cert.Ff1WRefIdeal.main_arg2) = m' ((c.tc : Thread Cert.Ff1WRefIdeal.nD Cert.Ff1WRefIdeal.τ).loc Cert.Ff1WRefIdeal.main_arg2))

def preserves_Ff1X_Ff1XIdeal : Prop :=
  True

def algebraic_Ff1XIdeal_Ff1XRefIdeal [hFf1XIdeal : Cert.Ff1XIdeal.Facts] [hFf1XRefIdeal : Cert.Ff1XRefIdeal.Facts] : Prop :=
  ∀ (m : (ℓ : Loc Cert.Ff1XIdeal.nD Cert.Ff1XIdeal.τ Cert.Ff1XIdeal.sig) → Buf (Elt Ideal) ℓ) (g : Dev Cert.Ff1XIdeal.nD → PrngReg)
    (m' : (ℓ : Loc Cert.Ff1XRefIdeal.nD Cert.Ff1XRefIdeal.τ Cert.Ff1XRefIdeal.sig) → Buf (Elt Ideal) ℓ) (g' : Dev Cert.Ff1XRefIdeal.nD → PrngReg), Pre_Ff1XIdeal m →
    (∀ c : Dev Cert.Ff1XIdeal.nD,
      m' ((c.tc : Thread Cert.Ff1XRefIdeal.nD Cert.Ff1XRefIdeal.τ).loc Cert.Ff1XRefIdeal.main_arg0) = m ((c.tc : Thread Cert.Ff1XIdeal.nD Cert.Ff1XIdeal.τ).loc Cert.Ff1XIdeal.main_arg0)
      ∧ m' ((c.tc : Thread Cert.Ff1XRefIdeal.nD Cert.Ff1XRefIdeal.τ).loc Cert.Ff1XRefIdeal.main_arg1) = m ((c.tc : Thread Cert.Ff1XIdeal.nD Cert.Ff1XIdeal.τ).loc Cert.Ff1XIdeal.main_arg1)
      ∧ m' ((c.tc : Thread Cert.Ff1XRefIdeal.nD Cert.Ff1XRefIdeal.τ).loc Cert.Ff1XRefIdeal.main_arg2) = m ((c.tc : Thread Cert.Ff1XIdeal.nD Cert.Ff1XIdeal.τ).loc Cert.Ff1XIdeal.main_arg2)) →
    ∃ (v0 : (c : Dev Cert.Ff1XIdeal.nD) → Buf (Elt Ideal) ((c.tc : Thread Cert.Ff1XIdeal.nD Cert.Ff1XIdeal.τ).loc Cert.Ff1XIdeal.main_v0)),
      θ_run (Cert.Ff1XIdeal.defs (F := Ideal)) (onTc (τ := Cert.Ff1XIdeal.τ) (Cert.Ff1XIdeal.main (F := Ideal))) ⟨m, fun _ => 0, g⟩ (fun r => ∀ c : Dev Cert.Ff1XIdeal.nD,
          r.2.mem ((c.tc : Thread Cert.Ff1XIdeal.nD Cert.Ff1XIdeal.τ).loc Cert.Ff1XIdeal.main_v0) = v0 c
          ∧ r.2.mem ((c.tc : Thread Cert.Ff1XIdeal.nD Cert.Ff1XIdeal.τ).loc Cert.Ff1XIdeal.main_arg0) = m ((c.tc : Thread Cert.Ff1XIdeal.nD Cert.Ff1XIdeal.τ).loc Cert.Ff1XIdeal.main_arg0)
          ∧ r.2.mem ((c.tc : Thread Cert.Ff1XIdeal.nD Cert.Ff1XIdeal.τ).loc Cert.Ff1XIdeal.main_arg1) = m ((c.tc : Thread Cert.Ff1XIdeal.nD Cert.Ff1XIdeal.τ).loc Cert.Ff1XIdeal.main_arg1)
          ∧ r.2.mem ((c.tc : Thread Cert.Ff1XIdeal.nD Cert.Ff1XIdeal.τ).loc Cert.Ff1XIdeal.main_arg2) = m ((c.tc : Thread Cert.Ff1XIdeal.nD Cert.Ff1XIdeal.τ).loc Cert.Ff1XIdeal.main_arg2))
      ∧ θ_run (Cert.Ff1XRefIdeal.defs (F := Ideal)) (onTc (τ := Cert.Ff1XRefIdeal.τ) (Cert.Ff1XRefIdeal.main (F := Ideal))) ⟨m', fun _ => 0, g'⟩ (fun r => ∀ c : Dev Cert.Ff1XRefIdeal.nD,
          r.2.mem ((c.tc : Thread Cert.Ff1XRefIdeal.nD Cert.Ff1XRefIdeal.τ).loc Cert.Ff1XRefIdeal.main_v6) = v0 c
          ∧ r.2.mem ((c.tc : Thread Cert.Ff1XRefIdeal.nD Cert.Ff1XRefIdeal.τ).loc Cert.Ff1XRefIdeal.main_arg0) = m' ((c.tc : Thread Cert.Ff1XRefIdeal.nD Cert.Ff1XRefIdeal.τ).loc Cert.Ff1XRefIdeal.main_arg0)
          ∧ r.2.mem ((c.tc : Thread Cert.Ff1XRefIdeal.nD Cert.Ff1XRefIdeal.τ).loc Cert.Ff1XRefIdeal.main_arg1) = m' ((c.tc : Thread Cert.Ff1XRefIdeal.nD Cert.Ff1XRefIdeal.τ).loc Cert.Ff1XRefIdeal.main_arg1)
          ∧ r.2.mem ((c.tc : Thread Cert.Ff1XRefIdeal.nD Cert.Ff1XRefIdeal.τ).loc Cert.Ff1XRefIdeal.main_arg2) = m' ((c.tc : Thread Cert.Ff1XRefIdeal.nD Cert.Ff1XRefIdeal.τ).loc Cert.Ff1XRefIdeal.main_arg2))

def preserves_Ff2W_Ff2WIdeal : Prop :=
  True

def algebraic_Ff2WIdeal_Ff2WRefIdeal [hFf2WIdeal : Cert.Ff2WIdeal.Facts] [hFf2WRefIdeal : Cert.Ff2WRefIdeal.Facts] : Prop :=
  ∀ (m : (ℓ : Loc Cert.Ff2WIdeal.nD Cert.Ff2WIdeal.τ Cert.Ff2WIdeal.sig) → Buf (Elt Ideal) ℓ) (g : Dev Cert.Ff2WIdeal.nD → PrngReg)
    (m' : (ℓ : Loc Cert.Ff2WRefIdeal.nD Cert.Ff2WRefIdeal.τ Cert.Ff2WRefIdeal.sig) → Buf (Elt Ideal) ℓ) (g' : Dev Cert.Ff2WRefIdeal.nD → PrngReg), Pre_Ff2WIdeal m →
    (∀ c : Dev Cert.Ff2WIdeal.nD,
      m' ((c.tc : Thread Cert.Ff2WRefIdeal.nD Cert.Ff2WRefIdeal.τ).loc Cert.Ff2WRefIdeal.main_arg0) = m ((c.tc : Thread Cert.Ff2WIdeal.nD Cert.Ff2WIdeal.τ).loc Cert.Ff2WIdeal.main_arg0)
      ∧ m' ((c.tc : Thread Cert.Ff2WRefIdeal.nD Cert.Ff2WRefIdeal.τ).loc Cert.Ff2WRefIdeal.main_arg1) = m ((c.tc : Thread Cert.Ff2WIdeal.nD Cert.Ff2WIdeal.τ).loc Cert.Ff2WIdeal.main_arg1)
      ∧ m' ((c.tc : Thread Cert.Ff2WRefIdeal.nD Cert.Ff2WRefIdeal.τ).loc Cert.Ff2WRefIdeal.main_arg2) = m ((c.tc : Thread Cert.Ff2WIdeal.nD Cert.Ff2WIdeal.τ).loc Cert.Ff2WIdeal.main_arg2)) →
    ∃ (v0 : (c : Dev Cert.Ff2WIdeal.nD) → Buf (Elt Ideal) ((c.tc : Thread Cert.Ff2WIdeal.nD Cert.Ff2WIdeal.τ).loc Cert.Ff2WIdeal.main_v2)),
      θ_run (Cert.Ff2WIdeal.defs (F := Ideal)) (onTc (τ := Cert.Ff2WIdeal.τ) (Cert.Ff2WIdeal.main (F := Ideal))) ⟨m, fun _ => 0, g⟩ (fun r => ∀ c : Dev Cert.Ff2WIdeal.nD,
          r.2.mem ((c.tc : Thread Cert.Ff2WIdeal.nD Cert.Ff2WIdeal.τ).loc Cert.Ff2WIdeal.main_v2) = v0 c
          ∧ r.2.mem ((c.tc : Thread Cert.Ff2WIdeal.nD Cert.Ff2WIdeal.τ).loc Cert.Ff2WIdeal.main_arg0) = m ((c.tc : Thread Cert.Ff2WIdeal.nD Cert.Ff2WIdeal.τ).loc Cert.Ff2WIdeal.main_arg0)
          ∧ r.2.mem ((c.tc : Thread Cert.Ff2WIdeal.nD Cert.Ff2WIdeal.τ).loc Cert.Ff2WIdeal.main_arg1) = m ((c.tc : Thread Cert.Ff2WIdeal.nD Cert.Ff2WIdeal.τ).loc Cert.Ff2WIdeal.main_arg1)
          ∧ r.2.mem ((c.tc : Thread Cert.Ff2WIdeal.nD Cert.Ff2WIdeal.τ).loc Cert.Ff2WIdeal.main_arg2) = m ((c.tc : Thread Cert.Ff2WIdeal.nD Cert.Ff2WIdeal.τ).loc Cert.Ff2WIdeal.main_arg2))
      ∧ θ_run (Cert.Ff2WRefIdeal.defs (F := Ideal)) (onTc (τ := Cert.Ff2WRefIdeal.τ) (Cert.Ff2WRefIdeal.main (F := Ideal))) ⟨m', fun _ => 0, g'⟩ (fun r => ∀ c : Dev Cert.Ff2WRefIdeal.nD,
          r.2.mem ((c.tc : Thread Cert.Ff2WRefIdeal.nD Cert.Ff2WRefIdeal.τ).loc Cert.Ff2WRefIdeal.main_v9) = v0 c
          ∧ r.2.mem ((c.tc : Thread Cert.Ff2WRefIdeal.nD Cert.Ff2WRefIdeal.τ).loc Cert.Ff2WRefIdeal.main_arg0) = m' ((c.tc : Thread Cert.Ff2WRefIdeal.nD Cert.Ff2WRefIdeal.τ).loc Cert.Ff2WRefIdeal.main_arg0)
          ∧ r.2.mem ((c.tc : Thread Cert.Ff2WRefIdeal.nD Cert.Ff2WRefIdeal.τ).loc Cert.Ff2WRefIdeal.main_arg1) = m' ((c.tc : Thread Cert.Ff2WRefIdeal.nD Cert.Ff2WRefIdeal.τ).loc Cert.Ff2WRefIdeal.main_arg1)
          ∧ r.2.mem ((c.tc : Thread Cert.Ff2WRefIdeal.nD Cert.Ff2WRefIdeal.τ).loc Cert.Ff2WRefIdeal.main_arg2) = m' ((c.tc : Thread Cert.Ff2WRefIdeal.nD Cert.Ff2WRefIdeal.τ).loc Cert.Ff2WRefIdeal.main_arg2))

def preserves_Ff2X_Ff2XIdeal : Prop :=
  True

def algebraic_Ff2XIdeal_Ff2XRefIdeal [hFf2XIdeal : Cert.Ff2XIdeal.Facts] [hFf2XRefIdeal : Cert.Ff2XRefIdeal.Facts] : Prop :=
  ∀ (m : (ℓ : Loc Cert.Ff2XIdeal.nD Cert.Ff2XIdeal.τ Cert.Ff2XIdeal.sig) → Buf (Elt Ideal) ℓ) (g : Dev Cert.Ff2XIdeal.nD → PrngReg)
    (m' : (ℓ : Loc Cert.Ff2XRefIdeal.nD Cert.Ff2XRefIdeal.τ Cert.Ff2XRefIdeal.sig) → Buf (Elt Ideal) ℓ) (g' : Dev Cert.Ff2XRefIdeal.nD → PrngReg), Pre_Ff2XIdeal m →
    (∀ c : Dev Cert.Ff2XIdeal.nD,
      m' ((c.tc : Thread Cert.Ff2XRefIdeal.nD Cert.Ff2XRefIdeal.τ).loc Cert.Ff2XRefIdeal.main_arg0) = m ((c.tc : Thread Cert.Ff2XIdeal.nD Cert.Ff2XIdeal.τ).loc Cert.Ff2XIdeal.main_arg0)
      ∧ m' ((c.tc : Thread Cert.Ff2XRefIdeal.nD Cert.Ff2XRefIdeal.τ).loc Cert.Ff2XRefIdeal.main_arg1) = m ((c.tc : Thread Cert.Ff2XIdeal.nD Cert.Ff2XIdeal.τ).loc Cert.Ff2XIdeal.main_arg1)
      ∧ m' ((c.tc : Thread Cert.Ff2XRefIdeal.nD Cert.Ff2XRefIdeal.τ).loc Cert.Ff2XRefIdeal.main_arg2) = m ((c.tc : Thread Cert.Ff2XIdeal.nD Cert.Ff2XIdeal.τ).loc Cert.Ff2XIdeal.main_arg2)) →
    ∃ (v0 : (c : Dev Cert.Ff2XIdeal.nD) → Buf (Elt Ideal) ((c.tc : Thread Cert.Ff2XIdeal.nD Cert.Ff2XIdeal.τ).loc Cert.Ff2XIdeal.main_v2)),
      θ_run (Cert.Ff2XIdeal.defs (F := Ideal)) (onTc (τ := Cert.Ff2XIdeal.τ) (Cert.Ff2XIdeal.main (F := Ideal))) ⟨m, fun _ => 0, g⟩ (fun r => ∀ c : Dev Cert.Ff2XIdeal.nD,
          r.2.mem ((c.tc : Thread Cert.Ff2XIdeal.nD Cert.Ff2XIdeal.τ).loc Cert.Ff2XIdeal.main_v2) = v0 c
          ∧ r.2.mem ((c.tc : Thread Cert.Ff2XIdeal.nD Cert.Ff2XIdeal.τ).loc Cert.Ff2XIdeal.main_arg0) = m ((c.tc : Thread Cert.Ff2XIdeal.nD Cert.Ff2XIdeal.τ).loc Cert.Ff2XIdeal.main_arg0)
          ∧ r.2.mem ((c.tc : Thread Cert.Ff2XIdeal.nD Cert.Ff2XIdeal.τ).loc Cert.Ff2XIdeal.main_arg1) = m ((c.tc : Thread Cert.Ff2XIdeal.nD Cert.Ff2XIdeal.τ).loc Cert.Ff2XIdeal.main_arg1)
          ∧ r.2.mem ((c.tc : Thread Cert.Ff2XIdeal.nD Cert.Ff2XIdeal.τ).loc Cert.Ff2XIdeal.main_arg2) = m ((c.tc : Thread Cert.Ff2XIdeal.nD Cert.Ff2XIdeal.τ).loc Cert.Ff2XIdeal.main_arg2))
      ∧ θ_run (Cert.Ff2XRefIdeal.defs (F := Ideal)) (onTc (τ := Cert.Ff2XRefIdeal.τ) (Cert.Ff2XRefIdeal.main (F := Ideal))) ⟨m', fun _ => 0, g'⟩ (fun r => ∀ c : Dev Cert.Ff2XRefIdeal.nD,
          r.2.mem ((c.tc : Thread Cert.Ff2XRefIdeal.nD Cert.Ff2XRefIdeal.τ).loc Cert.Ff2XRefIdeal.main_v16) = v0 c
          ∧ r.2.mem ((c.tc : Thread Cert.Ff2XRefIdeal.nD Cert.Ff2XRefIdeal.τ).loc Cert.Ff2XRefIdeal.main_arg0) = m' ((c.tc : Thread Cert.Ff2XRefIdeal.nD Cert.Ff2XRefIdeal.τ).loc Cert.Ff2XRefIdeal.main_arg0)
          ∧ r.2.mem ((c.tc : Thread Cert.Ff2XRefIdeal.nD Cert.Ff2XRefIdeal.τ).loc Cert.Ff2XRefIdeal.main_arg1) = m' ((c.tc : Thread Cert.Ff2XRefIdeal.nD Cert.Ff2XRefIdeal.τ).loc Cert.Ff2XRefIdeal.main_arg1)
          ∧ r.2.mem ((c.tc : Thread Cert.Ff2XRefIdeal.nD Cert.Ff2XRefIdeal.τ).loc Cert.Ff2XRefIdeal.main_arg2) = m' ((c.tc : Thread Cert.Ff2XRefIdeal.nD Cert.Ff2XRefIdeal.τ).loc Cert.Ff2XRefIdeal.main_arg2))

def preserves_OutW_OutWIdeal : Prop :=
  True

def algebraic_OutWIdeal_OutWRefIdeal [hOutWIdeal : Cert.OutWIdeal.Facts] [hOutWRefIdeal : Cert.OutWRefIdeal.Facts] : Prop :=
  ∀ (m : (ℓ : Loc Cert.OutWIdeal.nD Cert.OutWIdeal.τ Cert.OutWIdeal.sig) → Buf (Elt Ideal) ℓ) (g : Dev Cert.OutWIdeal.nD → PrngReg)
    (m' : (ℓ : Loc Cert.OutWRefIdeal.nD Cert.OutWRefIdeal.τ Cert.OutWRefIdeal.sig) → Buf (Elt Ideal) ℓ) (g' : Dev Cert.OutWRefIdeal.nD → PrngReg), Pre_OutWIdeal m →
    (∀ c : Dev Cert.OutWIdeal.nD,
      m' ((c.tc : Thread Cert.OutWRefIdeal.nD Cert.OutWRefIdeal.τ).loc Cert.OutWRefIdeal.main_arg0) = m ((c.tc : Thread Cert.OutWIdeal.nD Cert.OutWIdeal.τ).loc Cert.OutWIdeal.main_arg0)
      ∧ m' ((c.tc : Thread Cert.OutWRefIdeal.nD Cert.OutWRefIdeal.τ).loc Cert.OutWRefIdeal.main_arg1) = m ((c.tc : Thread Cert.OutWIdeal.nD Cert.OutWIdeal.τ).loc Cert.OutWIdeal.main_arg1)
      ∧ m' ((c.tc : Thread Cert.OutWRefIdeal.nD Cert.OutWRefIdeal.τ).loc Cert.OutWRefIdeal.main_arg2) = m ((c.tc : Thread Cert.OutWIdeal.nD Cert.OutWIdeal.τ).loc Cert.OutWIdeal.main_arg2)) →
    ∃ (v0 : (c : Dev Cert.OutWIdeal.nD) → Buf (Elt Ideal) ((c.tc : Thread Cert.OutWIdeal.nD Cert.OutWIdeal.τ).loc Cert.OutWIdeal.main_v0)),
      θ_run (Cert.OutWIdeal.defs (F := Ideal)) (onTc (τ := Cert.OutWIdeal.τ) (Cert.OutWIdeal.main (F := Ideal))) ⟨m, fun _ => 0, g⟩ (fun r => ∀ c : Dev Cert.OutWIdeal.nD,
          r.2.mem ((c.tc : Thread Cert.OutWIdeal.nD Cert.OutWIdeal.τ).loc Cert.OutWIdeal.main_v0) = v0 c
          ∧ r.2.mem ((c.tc : Thread Cert.OutWIdeal.nD Cert.OutWIdeal.τ).loc Cert.OutWIdeal.main_arg0) = m ((c.tc : Thread Cert.OutWIdeal.nD Cert.OutWIdeal.τ).loc Cert.OutWIdeal.main_arg0)
          ∧ r.2.mem ((c.tc : Thread Cert.OutWIdeal.nD Cert.OutWIdeal.τ).loc Cert.OutWIdeal.main_arg1) = m ((c.tc : Thread Cert.OutWIdeal.nD Cert.OutWIdeal.τ).loc Cert.OutWIdeal.main_arg1)
          ∧ r.2.mem ((c.tc : Thread Cert.OutWIdeal.nD Cert.OutWIdeal.τ).loc Cert.OutWIdeal.main_arg2) = m ((c.tc : Thread Cert.OutWIdeal.nD Cert.OutWIdeal.τ).loc Cert.OutWIdeal.main_arg2))
      ∧ θ_run (Cert.OutWRefIdeal.defs (F := Ideal)) (onTc (τ := Cert.OutWRefIdeal.τ) (Cert.OutWRefIdeal.main (F := Ideal))) ⟨m', fun _ => 0, g'⟩ (fun r => ∀ c : Dev Cert.OutWRefIdeal.nD,
          r.2.mem ((c.tc : Thread Cert.OutWRefIdeal.nD Cert.OutWRefIdeal.τ).loc Cert.OutWRefIdeal.main_v5) = v0 c
          ∧ r.2.mem ((c.tc : Thread Cert.OutWRefIdeal.nD Cert.OutWRefIdeal.τ).loc Cert.OutWRefIdeal.main_arg0) = m' ((c.tc : Thread Cert.OutWRefIdeal.nD Cert.OutWRefIdeal.τ).loc Cert.OutWRefIdeal.main_arg0)
          ∧ r.2.mem ((c.tc : Thread Cert.OutWRefIdeal.nD Cert.OutWRefIdeal.τ).loc Cert.OutWRefIdeal.main_arg1) = m' ((c.tc : Thread Cert.OutWRefIdeal.nD Cert.OutWRefIdeal.τ).loc Cert.OutWRefIdeal.main_arg1)
          ∧ r.2.mem ((c.tc : Thread Cert.OutWRefIdeal.nD Cert.OutWRefIdeal.τ).loc Cert.OutWRefIdeal.main_arg2) = m' ((c.tc : Thread Cert.OutWRefIdeal.nD Cert.OutWRefIdeal.τ).loc Cert.OutWRefIdeal.main_arg2))

def preserves_OutX_OutXIdeal : Prop :=
  True

def algebraic_OutXIdeal_OutXRefIdeal [hOutXIdeal : Cert.OutXIdeal.Facts] [hOutXRefIdeal : Cert.OutXRefIdeal.Facts] : Prop :=
  ∀ (m : (ℓ : Loc Cert.OutXIdeal.nD Cert.OutXIdeal.τ Cert.OutXIdeal.sig) → Buf (Elt Ideal) ℓ) (g : Dev Cert.OutXIdeal.nD → PrngReg)
    (m' : (ℓ : Loc Cert.OutXRefIdeal.nD Cert.OutXRefIdeal.τ Cert.OutXRefIdeal.sig) → Buf (Elt Ideal) ℓ) (g' : Dev Cert.OutXRefIdeal.nD → PrngReg), Pre_OutXIdeal m →
    (∀ c : Dev Cert.OutXIdeal.nD,
      m' ((c.tc : Thread Cert.OutXRefIdeal.nD Cert.OutXRefIdeal.τ).loc Cert.OutXRefIdeal.main_arg0) = m ((c.tc : Thread Cert.OutXIdeal.nD Cert.OutXIdeal.τ).loc Cert.OutXIdeal.main_arg0)
      ∧ m' ((c.tc : Thread Cert.OutXRefIdeal.nD Cert.OutXRefIdeal.τ).loc Cert.OutXRefIdeal.main_arg1) = m ((c.tc : Thread Cert.OutXIdeal.nD Cert.OutXIdeal.τ).loc Cert.OutXIdeal.main_arg1)
      ∧ m' ((c.tc : Thread Cert.OutXRefIdeal.nD Cert.OutXRefIdeal.τ).loc Cert.OutXRefIdeal.main_arg2) = m ((c.tc : Thread Cert.OutXIdeal.nD Cert.OutXIdeal.τ).loc Cert.OutXIdeal.main_arg2)) →
    ∃ (v0 : (c : Dev Cert.OutXIdeal.nD) → Buf (Elt Ideal) ((c.tc : Thread Cert.OutXIdeal.nD Cert.OutXIdeal.τ).loc Cert.OutXIdeal.main_v0)),
      θ_run (Cert.OutXIdeal.defs (F := Ideal)) (onTc (τ := Cert.OutXIdeal.τ) (Cert.OutXIdeal.main (F := Ideal))) ⟨m, fun _ => 0, g⟩ (fun r => ∀ c : Dev Cert.OutXIdeal.nD,
          r.2.mem ((c.tc : Thread Cert.OutXIdeal.nD Cert.OutXIdeal.τ).loc Cert.OutXIdeal.main_v0) = v0 c
          ∧ r.2.mem ((c.tc : Thread Cert.OutXIdeal.nD Cert.OutXIdeal.τ).loc Cert.OutXIdeal.main_arg0) = m ((c.tc : Thread Cert.OutXIdeal.nD Cert.OutXIdeal.τ).loc Cert.OutXIdeal.main_arg0)
          ∧ r.2.mem ((c.tc : Thread Cert.OutXIdeal.nD Cert.OutXIdeal.τ).loc Cert.OutXIdeal.main_arg1) = m ((c.tc : Thread Cert.OutXIdeal.nD Cert.OutXIdeal.τ).loc Cert.OutXIdeal.main_arg1)
          ∧ r.2.mem ((c.tc : Thread Cert.OutXIdeal.nD Cert.OutXIdeal.τ).loc Cert.OutXIdeal.main_arg2) = m ((c.tc : Thread Cert.OutXIdeal.nD Cert.OutXIdeal.τ).loc Cert.OutXIdeal.main_arg2))
      ∧ θ_run (Cert.OutXRefIdeal.defs (F := Ideal)) (onTc (τ := Cert.OutXRefIdeal.τ) (Cert.OutXRefIdeal.main (F := Ideal))) ⟨m', fun _ => 0, g'⟩ (fun r => ∀ c : Dev Cert.OutXRefIdeal.nD,
          r.2.mem ((c.tc : Thread Cert.OutXRefIdeal.nD Cert.OutXRefIdeal.τ).loc Cert.OutXRefIdeal.main_v6) = v0 c
          ∧ r.2.mem ((c.tc : Thread Cert.OutXRefIdeal.nD Cert.OutXRefIdeal.τ).loc Cert.OutXRefIdeal.main_arg0) = m' ((c.tc : Thread Cert.OutXRefIdeal.nD Cert.OutXRefIdeal.τ).loc Cert.OutXRefIdeal.main_arg0)
          ∧ r.2.mem ((c.tc : Thread Cert.OutXRefIdeal.nD Cert.OutXRefIdeal.τ).loc Cert.OutXRefIdeal.main_arg1) = m' ((c.tc : Thread Cert.OutXRefIdeal.nD Cert.OutXRefIdeal.τ).loc Cert.OutXRefIdeal.main_arg1)
          ∧ r.2.mem ((c.tc : Thread Cert.OutXRefIdeal.nD Cert.OutXRefIdeal.τ).loc Cert.OutXRefIdeal.main_arg2) = m' ((c.tc : Thread Cert.OutXRefIdeal.nD Cert.OutXRefIdeal.τ).loc Cert.OutXRefIdeal.main_arg2))

def preserves_InW_InWIdeal : Prop :=
  True

def algebraic_InWIdeal_InWRefIdeal [hInWIdeal : Cert.InWIdeal.Facts] [hInWRefIdeal : Cert.InWRefIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWRefIdeal.nD Cert.InWRefIdeal.τ Cert.InWRefIdeal.sig) → Buf (Elt Ideal) ℓ) (g' : Dev Cert.InWRefIdeal.nD → PrngReg), Pre_InWIdeal m →
    (∀ c : Dev Cert.InWIdeal.nD,
      m' ((c.tc : Thread Cert.InWRefIdeal.nD Cert.InWRefIdeal.τ).loc Cert.InWRefIdeal.main_arg0) = m ((c.tc : Thread Cert.InWIdeal.nD Cert.InWIdeal.τ).loc Cert.InWIdeal.main_arg0)
      ∧ m' ((c.tc : Thread Cert.InWRefIdeal.nD Cert.InWRefIdeal.τ).loc Cert.InWRefIdeal.main_arg1) = m ((c.tc : Thread Cert.InWIdeal.nD Cert.InWIdeal.τ).loc Cert.InWIdeal.main_arg1)
      ∧ m' ((c.tc : Thread Cert.InWRefIdeal.nD Cert.InWRefIdeal.τ).loc Cert.InWRefIdeal.main_arg2) = m ((c.tc : Thread Cert.InWIdeal.nD Cert.InWIdeal.τ).loc Cert.InWIdeal.main_arg2)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ θ_run (Cert.InWRefIdeal.defs (F := Ideal)) (onTc (τ := Cert.InWRefIdeal.τ) (Cert.InWRefIdeal.main (F := Ideal))) ⟨m', fun _ => 0, g'⟩ (fun r => ∀ c : Dev Cert.InWRefIdeal.nD,
          r.2.mem ((c.tc : Thread Cert.InWRefIdeal.nD Cert.InWRefIdeal.τ).loc Cert.InWRefIdeal.main_v5) = v0 c
          ∧ r.2.mem ((c.tc : Thread Cert.InWRefIdeal.nD Cert.InWRefIdeal.τ).loc Cert.InWRefIdeal.main_arg0) = m' ((c.tc : Thread Cert.InWRefIdeal.nD Cert.InWRefIdeal.τ).loc Cert.InWRefIdeal.main_arg0)
          ∧ r.2.mem ((c.tc : Thread Cert.InWRefIdeal.nD Cert.InWRefIdeal.τ).loc Cert.InWRefIdeal.main_arg1) = m' ((c.tc : Thread Cert.InWRefIdeal.nD Cert.InWRefIdeal.τ).loc Cert.InWRefIdeal.main_arg1)
          ∧ r.2.mem ((c.tc : Thread Cert.InWRefIdeal.nD Cert.InWRefIdeal.τ).loc Cert.InWRefIdeal.main_arg2) = m' ((c.tc : Thread Cert.InWRefIdeal.nD Cert.InWRefIdeal.τ).loc Cert.InWRefIdeal.main_arg2))

def preserves_InX_InXIdeal : Prop :=
  True

def algebraic_InXIdeal_InXRefIdeal [hInXIdeal : Cert.InXIdeal.Facts] [hInXRefIdeal : Cert.InXRefIdeal.Facts] : Prop :=
  ∀ (m : (ℓ : Loc Cert.InXIdeal.nD Cert.InXIdeal.τ Cert.InXIdeal.sig) → Buf (Elt Ideal) ℓ) (g : Dev Cert.InXIdeal.nD → PrngReg)
    (m' : (ℓ : Loc Cert.InXRefIdeal.nD Cert.InXRefIdeal.τ Cert.InXRefIdeal.sig) → Buf (Elt Ideal) ℓ) (g' : Dev Cert.InXRefIdeal.nD → PrngReg), Pre_InXIdeal m →
    (∀ c : Dev Cert.InXIdeal.nD,
      m' ((c.tc : Thread Cert.InXRefIdeal.nD Cert.InXRefIdeal.τ).loc Cert.InXRefIdeal.main_arg0) = m ((c.tc : Thread Cert.InXIdeal.nD Cert.InXIdeal.τ).loc Cert.InXIdeal.main_arg0)
      ∧ m' ((c.tc : Thread Cert.InXRefIdeal.nD Cert.InXRefIdeal.τ).loc Cert.InXRefIdeal.main_arg1) = m ((c.tc : Thread Cert.InXIdeal.nD Cert.InXIdeal.τ).loc Cert.InXIdeal.main_arg1)
      ∧ m' ((c.tc : Thread Cert.InXRefIdeal.nD Cert.InXRefIdeal.τ).loc Cert.InXRefIdeal.main_arg2) = m ((c.tc : Thread Cert.InXIdeal.nD Cert.InXIdeal.τ).loc Cert.InXIdeal.main_arg2)) →
    ∃ (v0 : (c : Dev Cert.InXIdeal.nD) → Buf (Elt Ideal) ((c.tc : Thread Cert.InXIdeal.nD Cert.InXIdeal.τ).loc Cert.InXIdeal.main_v0)),
      θ_run (Cert.InXIdeal.defs (F := Ideal)) (onTc (τ := Cert.InXIdeal.τ) (Cert.InXIdeal.main (F := Ideal))) ⟨m, fun _ => 0, g⟩ (fun r => ∀ c : Dev Cert.InXIdeal.nD,
          r.2.mem ((c.tc : Thread Cert.InXIdeal.nD Cert.InXIdeal.τ).loc Cert.InXIdeal.main_v0) = v0 c
          ∧ r.2.mem ((c.tc : Thread Cert.InXIdeal.nD Cert.InXIdeal.τ).loc Cert.InXIdeal.main_arg0) = m ((c.tc : Thread Cert.InXIdeal.nD Cert.InXIdeal.τ).loc Cert.InXIdeal.main_arg0)
          ∧ r.2.mem ((c.tc : Thread Cert.InXIdeal.nD Cert.InXIdeal.τ).loc Cert.InXIdeal.main_arg1) = m ((c.tc : Thread Cert.InXIdeal.nD Cert.InXIdeal.τ).loc Cert.InXIdeal.main_arg1)
          ∧ r.2.mem ((c.tc : Thread Cert.InXIdeal.nD Cert.InXIdeal.τ).loc Cert.InXIdeal.main_arg2) = m ((c.tc : Thread Cert.InXIdeal.nD Cert.InXIdeal.τ).loc Cert.InXIdeal.main_arg2))
      ∧ θ_run (Cert.InXRefIdeal.defs (F := Ideal)) (onTc (τ := Cert.InXRefIdeal.τ) (Cert.InXRefIdeal.main (F := Ideal))) ⟨m', fun _ => 0, g'⟩ (fun r => ∀ c : Dev Cert.InXRefIdeal.nD,
          r.2.mem ((c.tc : Thread Cert.InXRefIdeal.nD Cert.InXRefIdeal.τ).loc Cert.InXRefIdeal.main_v6) = v0 c
          ∧ r.2.mem ((c.tc : Thread Cert.InXRefIdeal.nD Cert.InXRefIdeal.τ).loc Cert.InXRefIdeal.main_arg0) = m' ((c.tc : Thread Cert.InXRefIdeal.nD Cert.InXRefIdeal.τ).loc Cert.InXRefIdeal.main_arg0)
          ∧ r.2.mem ((c.tc : Thread Cert.InXRefIdeal.nD Cert.InXRefIdeal.τ).loc Cert.InXRefIdeal.main_arg1) = m' ((c.tc : Thread Cert.InXRefIdeal.nD Cert.InXRefIdeal.τ).loc Cert.InXRefIdeal.main_arg1)
          ∧ r.2.mem ((c.tc : Thread Cert.InXRefIdeal.nD Cert.InXRefIdeal.τ).loc Cert.InXRefIdeal.main_arg2) = m' ((c.tc : Thread Cert.InXRefIdeal.nD Cert.InXRefIdeal.τ).loc Cert.InXRefIdeal.main_arg2))

def preserves_UpW_UpWIdeal : Prop :=
  True

def algebraic_UpWIdeal_UpWRefIdeal [hUpWIdeal : Cert.UpWIdeal.Facts] [hUpWRefIdeal : Cert.UpWRefIdeal.Facts] : Prop :=
  ∀ (m : (ℓ : Loc Cert.UpWIdeal.nD Cert.UpWIdeal.τ Cert.UpWIdeal.sig) → Buf (Elt Ideal) ℓ) (g : Dev Cert.UpWIdeal.nD → PrngReg)
    (m' : (ℓ : Loc Cert.UpWRefIdeal.nD Cert.UpWRefIdeal.τ Cert.UpWRefIdeal.sig) → Buf (Elt Ideal) ℓ) (g' : Dev Cert.UpWRefIdeal.nD → PrngReg), Pre_UpWIdeal m →
    (∀ c : Dev Cert.UpWIdeal.nD,
      m' ((c.tc : Thread Cert.UpWRefIdeal.nD Cert.UpWRefIdeal.τ).loc Cert.UpWRefIdeal.main_arg0) = m ((c.tc : Thread Cert.UpWIdeal.nD Cert.UpWIdeal.τ).loc Cert.UpWIdeal.main_arg0)
      ∧ m' ((c.tc : Thread Cert.UpWRefIdeal.nD Cert.UpWRefIdeal.τ).loc Cert.UpWRefIdeal.main_arg1) = m ((c.tc : Thread Cert.UpWIdeal.nD Cert.UpWIdeal.τ).loc Cert.UpWIdeal.main_arg1)
      ∧ m' ((c.tc : Thread Cert.UpWRefIdeal.nD Cert.UpWRefIdeal.τ).loc Cert.UpWRefIdeal.main_arg2) = m ((c.tc : Thread Cert.UpWIdeal.nD Cert.UpWIdeal.τ).loc Cert.UpWIdeal.main_arg2)) →
    ∃ (v0 : (c : Dev Cert.UpWIdeal.nD) → Buf (Elt Ideal) ((c.tc : Thread Cert.UpWIdeal.nD Cert.UpWIdeal.τ).loc Cert.UpWIdeal.main_v0)),
      θ_run (Cert.UpWIdeal.defs (F := Ideal)) (onTc (τ := Cert.UpWIdeal.τ) (Cert.UpWIdeal.main (F := Ideal))) ⟨m, fun _ => 0, g⟩ (fun r => ∀ c : Dev Cert.UpWIdeal.nD,
          r.2.mem ((c.tc : Thread Cert.UpWIdeal.nD Cert.UpWIdeal.τ).loc Cert.UpWIdeal.main_v0) = v0 c
          ∧ r.2.mem ((c.tc : Thread Cert.UpWIdeal.nD Cert.UpWIdeal.τ).loc Cert.UpWIdeal.main_arg0) = m ((c.tc : Thread Cert.UpWIdeal.nD Cert.UpWIdeal.τ).loc Cert.UpWIdeal.main_arg0)
          ∧ r.2.mem ((c.tc : Thread Cert.UpWIdeal.nD Cert.UpWIdeal.τ).loc Cert.UpWIdeal.main_arg1) = m ((c.tc : Thread Cert.UpWIdeal.nD Cert.UpWIdeal.τ).loc Cert.UpWIdeal.main_arg1)
          ∧ r.2.mem ((c.tc : Thread Cert.UpWIdeal.nD Cert.UpWIdeal.τ).loc Cert.UpWIdeal.main_arg2) = m ((c.tc : Thread Cert.UpWIdeal.nD Cert.UpWIdeal.τ).loc Cert.UpWIdeal.main_arg2))
      ∧ θ_run (Cert.UpWRefIdeal.defs (F := Ideal)) (onTc (τ := Cert.UpWRefIdeal.τ) (Cert.UpWRefIdeal.main (F := Ideal))) ⟨m', fun _ => 0, g'⟩ (fun r => ∀ c : Dev Cert.UpWRefIdeal.nD,
          r.2.mem ((c.tc : Thread Cert.UpWRefIdeal.nD Cert.UpWRefIdeal.τ).loc Cert.UpWRefIdeal.main_v5) = v0 c
          ∧ r.2.mem ((c.tc : Thread Cert.UpWRefIdeal.nD Cert.UpWRefIdeal.τ).loc Cert.UpWRefIdeal.main_arg0) = m' ((c.tc : Thread Cert.UpWRefIdeal.nD Cert.UpWRefIdeal.τ).loc Cert.UpWRefIdeal.main_arg0)
          ∧ r.2.mem ((c.tc : Thread Cert.UpWRefIdeal.nD Cert.UpWRefIdeal.τ).loc Cert.UpWRefIdeal.main_arg1) = m' ((c.tc : Thread Cert.UpWRefIdeal.nD Cert.UpWRefIdeal.τ).loc Cert.UpWRefIdeal.main_arg1)
          ∧ r.2.mem ((c.tc : Thread Cert.UpWRefIdeal.nD Cert.UpWRefIdeal.τ).loc Cert.UpWRefIdeal.main_arg2) = m' ((c.tc : Thread Cert.UpWRefIdeal.nD Cert.UpWRefIdeal.τ).loc Cert.UpWRefIdeal.main_arg2))

def preserves_UpX_UpXIdeal : Prop :=
  True

def algebraic_UpXIdeal_UpXRefIdeal [hUpXIdeal : Cert.UpXIdeal.Facts] [hUpXRefIdeal : Cert.UpXRefIdeal.Facts] : Prop :=
  ∀ (m : (ℓ : Loc Cert.UpXIdeal.nD Cert.UpXIdeal.τ Cert.UpXIdeal.sig) → Buf (Elt Ideal) ℓ) (g : Dev Cert.UpXIdeal.nD → PrngReg)
    (m' : (ℓ : Loc Cert.UpXRefIdeal.nD Cert.UpXRefIdeal.τ Cert.UpXRefIdeal.sig) → Buf (Elt Ideal) ℓ) (g' : Dev Cert.UpXRefIdeal.nD → PrngReg), Pre_UpXIdeal m →
    (∀ c : Dev Cert.UpXIdeal.nD,
      m' ((c.tc : Thread Cert.UpXRefIdeal.nD Cert.UpXRefIdeal.τ).loc Cert.UpXRefIdeal.main_arg0) = m ((c.tc : Thread Cert.UpXIdeal.nD Cert.UpXIdeal.τ).loc Cert.UpXIdeal.main_arg0)
      ∧ m' ((c.tc : Thread Cert.UpXRefIdeal.nD Cert.UpXRefIdeal.τ).loc Cert.UpXRefIdeal.main_arg1) = m ((c.tc : Thread Cert.UpXIdeal.nD Cert.UpXIdeal.τ).loc Cert.UpXIdeal.main_arg1)
      ∧ m' ((c.tc : Thread Cert.UpXRefIdeal.nD Cert.UpXRefIdeal.τ).loc Cert.UpXRefIdeal.main_arg2) = m ((c.tc : Thread Cert.UpXIdeal.nD Cert.UpXIdeal.τ).loc Cert.UpXIdeal.main_arg2)) →
    ∃ (v0 : (c : Dev Cert.UpXIdeal.nD) → Buf (Elt Ideal) ((c.tc : Thread Cert.UpXIdeal.nD Cert.UpXIdeal.τ).loc Cert.UpXIdeal.main_v0)),
      θ_run (Cert.UpXIdeal.defs (F := Ideal)) (onTc (τ := Cert.UpXIdeal.τ) (Cert.UpXIdeal.main (F := Ideal))) ⟨m, fun _ => 0, g⟩ (fun r => ∀ c : Dev Cert.UpXIdeal.nD,
          r.2.mem ((c.tc : Thread Cert.UpXIdeal.nD Cert.UpXIdeal.τ).loc Cert.UpXIdeal.main_v0) = v0 c
          ∧ r.2.mem ((c.tc : Thread Cert.UpXIdeal.nD Cert.UpXIdeal.τ).loc Cert.UpXIdeal.main_arg0) = m ((c.tc : Thread Cert.UpXIdeal.nD Cert.UpXIdeal.τ).loc Cert.UpXIdeal.main_arg0)
          ∧ r.2.mem ((c.tc : Thread Cert.UpXIdeal.nD Cert.UpXIdeal.τ).loc Cert.UpXIdeal.main_arg1) = m ((c.tc : Thread Cert.UpXIdeal.nD Cert.UpXIdeal.τ).loc Cert.UpXIdeal.main_arg1)
          ∧ r.2.mem ((c.tc : Thread Cert.UpXIdeal.nD Cert.UpXIdeal.τ).loc Cert.UpXIdeal.main_arg2) = m ((c.tc : Thread Cert.UpXIdeal.nD Cert.UpXIdeal.τ).loc Cert.UpXIdeal.main_arg2))
      ∧ θ_run (Cert.UpXRefIdeal.defs (F := Ideal)) (onTc (τ := Cert.UpXRefIdeal.τ) (Cert.UpXRefIdeal.main (F := Ideal))) ⟨m', fun _ => 0, g'⟩ (fun r => ∀ c : Dev Cert.UpXRefIdeal.nD,
          r.2.mem ((c.tc : Thread Cert.UpXRefIdeal.nD Cert.UpXRefIdeal.τ).loc Cert.UpXRefIdeal.main_v6) = v0 c
          ∧ r.2.mem ((c.tc : Thread Cert.UpXRefIdeal.nD Cert.UpXRefIdeal.τ).loc Cert.UpXRefIdeal.main_arg0) = m' ((c.tc : Thread Cert.UpXRefIdeal.nD Cert.UpXRefIdeal.τ).loc Cert.UpXRefIdeal.main_arg0)
          ∧ r.2.mem ((c.tc : Thread Cert.UpXRefIdeal.nD Cert.UpXRefIdeal.τ).loc Cert.UpXRefIdeal.main_arg1) = m' ((c.tc : Thread Cert.UpXRefIdeal.nD Cert.UpXRefIdeal.τ).loc Cert.UpXRefIdeal.main_arg1)
          ∧ r.2.mem ((c.tc : Thread Cert.UpXRefIdeal.nD Cert.UpXRefIdeal.τ).loc Cert.UpXRefIdeal.main_arg2) = m' ((c.tc : Thread Cert.UpXRefIdeal.nD Cert.UpXRefIdeal.τ).loc Cert.UpXRefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v4) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v3) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v2) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_KvUp_KvUpIdeal : Prop :=
  True

def algebraic_KvUpIdeal_KvUpRefIdeal [hKvUpIdeal : Cert.KvUpIdeal.Facts] [hKvUpRefIdeal : Cert.KvUpRefIdeal.Facts] : Prop :=
  ∀ (m : (ℓ : Loc Cert.KvUpIdeal.nD Cert.KvUpIdeal.τ Cert.KvUpIdeal.sig) → Buf (Elt Ideal) ℓ) (g : Dev Cert.KvUpIdeal.nD → PrngReg)
    (m' : (ℓ : Loc Cert.KvUpRefIdeal.nD Cert.KvUpRefIdeal.τ Cert.KvUpRefIdeal.sig) → Buf (Elt Ideal) ℓ) (g' : Dev Cert.KvUpRefIdeal.nD → PrngReg), Pre_KvUpIdeal m →
    (∀ c : Dev Cert.KvUpIdeal.nD,
      m' ((c.tc : Thread Cert.KvUpRefIdeal.nD Cert.KvUpRefIdeal.τ).loc Cert.KvUpRefIdeal.main_arg0) = m ((c.tc : Thread Cert.KvUpIdeal.nD Cert.KvUpIdeal.τ).loc Cert.KvUpIdeal.main_arg0)
      ∧ m' ((c.tc : Thread Cert.KvUpRefIdeal.nD Cert.KvUpRefIdeal.τ).loc Cert.KvUpRefIdeal.main_arg1) = m ((c.tc : Thread Cert.KvUpIdeal.nD Cert.KvUpIdeal.τ).loc Cert.KvUpIdeal.main_arg1)) →
    ∃ (v0 : (c : Dev Cert.KvUpIdeal.nD) → Buf (Elt Ideal) ((c.tc : Thread Cert.KvUpIdeal.nD Cert.KvUpIdeal.τ).loc Cert.KvUpIdeal.main_v0)),
      θ_run (Cert.KvUpIdeal.defs (F := Ideal)) (onTc (τ := Cert.KvUpIdeal.τ) (Cert.KvUpIdeal.main (F := Ideal))) ⟨m, fun _ => 0, g⟩ (fun r => ∀ c : Dev Cert.KvUpIdeal.nD,
          r.2.mem ((c.tc : Thread Cert.KvUpIdeal.nD Cert.KvUpIdeal.τ).loc Cert.KvUpIdeal.main_v0) = v0 c
          ∧ r.2.mem ((c.tc : Thread Cert.KvUpIdeal.nD Cert.KvUpIdeal.τ).loc Cert.KvUpIdeal.main_arg0) = m ((c.tc : Thread Cert.KvUpIdeal.nD Cert.KvUpIdeal.τ).loc Cert.KvUpIdeal.main_arg0)
          ∧ r.2.mem ((c.tc : Thread Cert.KvUpIdeal.nD Cert.KvUpIdeal.τ).loc Cert.KvUpIdeal.main_arg1) = m ((c.tc : Thread Cert.KvUpIdeal.nD Cert.KvUpIdeal.τ).loc Cert.KvUpIdeal.main_arg1))
      ∧ θ_run (Cert.KvUpRefIdeal.defs (F := Ideal)) (onTc (τ := Cert.KvUpRefIdeal.τ) (Cert.KvUpRefIdeal.main (F := Ideal))) ⟨m', fun _ => 0, g'⟩ (fun r => ∀ c : Dev Cert.KvUpRefIdeal.nD,
          r.2.mem ((c.tc : Thread Cert.KvUpRefIdeal.nD Cert.KvUpRefIdeal.τ).loc Cert.KvUpRefIdeal.main_v3) = v0 c
          ∧ r.2.mem ((c.tc : Thread Cert.KvUpRefIdeal.nD Cert.KvUpRefIdeal.τ).loc Cert.KvUpRefIdeal.main_arg0) = m' ((c.tc : Thread Cert.KvUpRefIdeal.nD Cert.KvUpRefIdeal.τ).loc Cert.KvUpRefIdeal.main_arg0)
          ∧ r.2.mem ((c.tc : Thread Cert.KvUpRefIdeal.nD Cert.KvUpRefIdeal.τ).loc Cert.KvUpRefIdeal.main_arg1) = m' ((c.tc : Thread Cert.KvUpRefIdeal.nD Cert.KvUpRefIdeal.τ).loc Cert.KvUpRefIdeal.main_arg1))

def preserves_QUp_QUpIdeal : Prop :=
  True

def algebraic_QUpIdeal_QUpRefIdeal [hQUpIdeal : Cert.QUpIdeal.Facts] [hQUpRefIdeal : Cert.QUpRefIdeal.Facts] : Prop :=
  ∀ (m : (ℓ : Loc Cert.QUpIdeal.nD Cert.QUpIdeal.τ Cert.QUpIdeal.sig) → Buf (Elt Ideal) ℓ) (g : Dev Cert.QUpIdeal.nD → PrngReg)
    (m' : (ℓ : Loc Cert.QUpRefIdeal.nD Cert.QUpRefIdeal.τ Cert.QUpRefIdeal.sig) → Buf (Elt Ideal) ℓ) (g' : Dev Cert.QUpRefIdeal.nD → PrngReg), Pre_QUpIdeal m →
    (∀ c : Dev Cert.QUpIdeal.nD,
      m' ((c.tc : Thread Cert.QUpRefIdeal.nD Cert.QUpRefIdeal.τ).loc Cert.QUpRefIdeal.main_arg0) = m ((c.tc : Thread Cert.QUpIdeal.nD Cert.QUpIdeal.τ).loc Cert.QUpIdeal.main_arg0)
      ∧ m' ((c.tc : Thread Cert.QUpRefIdeal.nD Cert.QUpRefIdeal.τ).loc Cert.QUpRefIdeal.main_arg1) = m ((c.tc : Thread Cert.QUpIdeal.nD Cert.QUpIdeal.τ).loc Cert.QUpIdeal.main_arg1)) →
    ∃ (v0 : (c : Dev Cert.QUpIdeal.nD) → Buf (Elt Ideal) ((c.tc : Thread Cert.QUpIdeal.nD Cert.QUpIdeal.τ).loc Cert.QUpIdeal.main_v0)),
      θ_run (Cert.QUpIdeal.defs (F := Ideal)) (onTc (τ := Cert.QUpIdeal.τ) (Cert.QUpIdeal.main (F := Ideal))) ⟨m, fun _ => 0, g⟩ (fun r => ∀ c : Dev Cert.QUpIdeal.nD,
          r.2.mem ((c.tc : Thread Cert.QUpIdeal.nD Cert.QUpIdeal.τ).loc Cert.QUpIdeal.main_v0) = v0 c
          ∧ r.2.mem ((c.tc : Thread Cert.QUpIdeal.nD Cert.QUpIdeal.τ).loc Cert.QUpIdeal.main_arg0) = m ((c.tc : Thread Cert.QUpIdeal.nD Cert.QUpIdeal.τ).loc Cert.QUpIdeal.main_arg0)
          ∧ r.2.mem ((c.tc : Thread Cert.QUpIdeal.nD Cert.QUpIdeal.τ).loc Cert.QUpIdeal.main_arg1) = m ((c.tc : Thread Cert.QUpIdeal.nD Cert.QUpIdeal.τ).loc Cert.QUpIdeal.main_arg1))
      ∧ θ_run (Cert.QUpRefIdeal.defs (F := Ideal)) (onTc (τ := Cert.QUpRefIdeal.τ) (Cert.QUpRefIdeal.main (F := Ideal))) ⟨m', fun _ => 0, g'⟩ (fun r => ∀ c : Dev Cert.QUpRefIdeal.nD,
          r.2.mem ((c.tc : Thread Cert.QUpRefIdeal.nD Cert.QUpRefIdeal.τ).loc Cert.QUpRefIdeal.main_v2) = v0 c
          ∧ r.2.mem ((c.tc : Thread Cert.QUpRefIdeal.nD Cert.QUpRefIdeal.τ).loc Cert.QUpRefIdeal.main_arg0) = m' ((c.tc : Thread Cert.QUpRefIdeal.nD Cert.QUpRefIdeal.τ).loc Cert.QUpRefIdeal.main_arg0)
          ∧ r.2.mem ((c.tc : Thread Cert.QUpRefIdeal.nD Cert.QUpRefIdeal.τ).loc Cert.QUpRefIdeal.main_arg1) = m' ((c.tc : Thread Cert.QUpRefIdeal.nD Cert.QUpRefIdeal.τ).loc Cert.QUpRefIdeal.main_arg1))

def preserves_Fwd_FwdIdeal : Prop :=
  IdealRules.named_const.Statement Cert.FwdIdeal.κ "mask" .f32 0xF149F2CA#32 ⊥
  ∧ IdealRules.named_const.Statement Cert.FwdIdeal.κ "log2e" .f32 0x3FB8AA3B#32 (((Real.log 2)⁻¹ : ℝ) : EReal)

def algebraic_FwdIdeal_FwdRefIdeal_pre_finite_qk [hFwdIdeal : Cert.FwdIdeal.Facts] [hFwdRefIdeal : Cert.FwdRefIdeal.Facts] [hPre_finite_qk : Cert.Pre_finite_qk.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_qk m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v45) = v0 c
          ∧ r.2.mem ((c.tc : Thread Cert.FwdRefIdeal.nD Cert.FwdRefIdeal.τ).loc Cert.FwdRefIdeal.main_v74) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def Claim : Prop :=
  ∃ (hKernel : Cert.Kernel.Facts) (hKernelIdeal : Cert.KernelIdeal.Facts) (hReferenceIdeal : Cert.ReferenceIdeal.Facts) (hFf1W : Cert.Ff1W.Facts) (hFf1WIdeal : Cert.Ff1WIdeal.Facts) (hFf1WRefIdeal : Cert.Ff1WRefIdeal.Facts) (hFf1X : Cert.Ff1X.Facts) (hFf1XIdeal : Cert.Ff1XIdeal.Facts) (hFf1XRefIdeal : Cert.Ff1XRefIdeal.Facts) (hFf2W : Cert.Ff2W.Facts) (hFf2WIdeal : Cert.Ff2WIdeal.Facts) (hFf2WRefIdeal : Cert.Ff2WRefIdeal.Facts) (hFf2X : Cert.Ff2X.Facts) (hFf2XIdeal : Cert.Ff2XIdeal.Facts) (hFf2XRefIdeal : Cert.Ff2XRefIdeal.Facts) (hOutW : Cert.OutW.Facts) (hOutWIdeal : Cert.OutWIdeal.Facts) (hOutWRefIdeal : Cert.OutWRefIdeal.Facts) (hOutX : Cert.OutX.Facts) (hOutXIdeal : Cert.OutXIdeal.Facts) (hOutXRefIdeal : Cert.OutXRefIdeal.Facts) (hInW : Cert.InW.Facts) (hInWIdeal : Cert.InWIdeal.Facts) (hInWRefIdeal : Cert.InWRefIdeal.Facts) (hInX : Cert.InX.Facts) (hInXIdeal : Cert.InXIdeal.Facts) (hInXRefIdeal : Cert.InXRefIdeal.Facts) (hUpW : Cert.UpW.Facts) (hUpWIdeal : Cert.UpWIdeal.Facts) (hUpWRefIdeal : Cert.UpWRefIdeal.Facts) (hUpX : Cert.UpX.Facts) (hUpXIdeal : Cert.UpXIdeal.Facts) (hUpXRefIdeal : Cert.UpXRefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hKvUp : Cert.KvUp.Facts) (hKvUpIdeal : Cert.KvUpIdeal.Facts) (hKvUpRefIdeal : Cert.KvUpRefIdeal.Facts) (hQUp : Cert.QUp.Facts) (hQUpIdeal : Cert.QUpIdeal.Facts) (hQUpRefIdeal : Cert.QUpRefIdeal.Facts) (hFwd : Cert.Fwd.Facts) (hFwdIdeal : Cert.FwdIdeal.Facts) (hFwdRefIdeal : Cert.FwdRefIdeal.Facts) (hPre_finite : Cert.Pre_finite.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ff1W (hFf1W := hFf1W)
    ∧ quiescent_Ff1WIdeal (hFf1WIdeal := hFf1WIdeal)
    ∧ quiescent_Ff1WRefIdeal (hFf1WRefIdeal := hFf1WRefIdeal)
    ∧ quiescent_Ff1X (hFf1X := hFf1X)
    ∧ quiescent_Ff1XIdeal (hFf1XIdeal := hFf1XIdeal)
    ∧ quiescent_Ff1XRefIdeal (hFf1XRefIdeal := hFf1XRefIdeal)
    ∧ quiescent_Ff2W (hFf2W := hFf2W)
    ∧ quiescent_Ff2WIdeal (hFf2WIdeal := hFf2WIdeal)
    ∧ quiescent_Ff2WRefIdeal (hFf2WRefIdeal := hFf2WRefIdeal)
    ∧ quiescent_Ff2X (hFf2X := hFf2X)
    ∧ quiescent_Ff2XIdeal (hFf2XIdeal := hFf2XIdeal)
    ∧ quiescent_Ff2XRefIdeal (hFf2XRefIdeal := hFf2XRefIdeal)
    ∧ quiescent_OutW (hOutW := hOutW)
    ∧ quiescent_OutWIdeal (hOutWIdeal := hOutWIdeal)
    ∧ quiescent_OutWRefIdeal (hOutWRefIdeal := hOutWRefIdeal)
    ∧ quiescent_OutX (hOutX := hOutX)
    ∧ quiescent_OutXIdeal (hOutXIdeal := hOutXIdeal)
    ∧ quiescent_OutXRefIdeal (hOutXRefIdeal := hOutXRefIdeal)
    ∧ quiescent_InW (hInW := hInW)
    ∧ quiescent_InWIdeal (hInWIdeal := hInWIdeal)
    ∧ quiescent_InWRefIdeal (hInWRefIdeal := hInWRefIdeal)
    ∧ quiescent_InX (hInX := hInX)
    ∧ quiescent_InXIdeal (hInXIdeal := hInXIdeal)
    ∧ quiescent_InXRefIdeal (hInXRefIdeal := hInXRefIdeal)
    ∧ quiescent_UpW (hUpW := hUpW)
    ∧ quiescent_UpWIdeal (hUpWIdeal := hUpWIdeal)
    ∧ quiescent_UpWRefIdeal (hUpWRefIdeal := hUpWRefIdeal)
    ∧ quiescent_UpX (hUpX := hUpX)
    ∧ quiescent_UpXIdeal (hUpXIdeal := hUpXIdeal)
    ∧ quiescent_UpXRefIdeal (hUpXRefIdeal := hUpXRefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_KvUp (hKvUp := hKvUp)
    ∧ quiescent_KvUpIdeal (hKvUpIdeal := hKvUpIdeal)
    ∧ quiescent_KvUpRefIdeal (hKvUpRefIdeal := hKvUpRefIdeal)
    ∧ quiescent_QUp (hQUp := hQUp)
    ∧ quiescent_QUpIdeal (hQUpIdeal := hQUpIdeal)
    ∧ quiescent_QUpRefIdeal (hQUpRefIdeal := hQUpRefIdeal)
    ∧ quiescent_Fwd (hFwd := hFwd)
    ∧ quiescent_FwdIdeal (hFwdIdeal := hFwdIdeal)
    ∧ quiescent_FwdIdeal_pre_finite_qk (hFwdIdeal := hFwdIdeal) (hPre_finite_qk := hPre_finite_qk)
    ∧ quiescent_FwdRefIdeal (hFwdRefIdeal := hFwdRefIdeal)
    ∧ quiescent_FwdRefIdeal_pre_finite_qk (hFwdRefIdeal := hFwdRefIdeal) (hPre_finite_qk := hPre_finite_qk)
    ∧ preserves_Kernel_KernelIdeal
    ∧ algebraic_KernelIdeal_ReferenceIdeal_pre_finite (hKernelIdeal := hKernelIdeal) (hReferenceIdeal := hReferenceIdeal) (hPre_finite := hPre_finite)
    ∧ preserves_Ff1W_Ff1WIdeal
    ∧ algebraic_Ff1WIdeal_Ff1WRefIdeal (hFf1WIdeal := hFf1WIdeal) (hFf1WRefIdeal := hFf1WRefIdeal)
    ∧ preserves_Ff1X_Ff1XIdeal
    ∧ algebraic_Ff1XIdeal_Ff1XRefIdeal (hFf1XIdeal := hFf1XIdeal) (hFf1XRefIdeal := hFf1XRefIdeal)
    ∧ preserves_Ff2W_Ff2WIdeal
    ∧ algebraic_Ff2WIdeal_Ff2WRefIdeal (hFf2WIdeal := hFf2WIdeal) (hFf2WRefIdeal := hFf2WRefIdeal)
    ∧ preserves_Ff2X_Ff2XIdeal
    ∧ algebraic_Ff2XIdeal_Ff2XRefIdeal (hFf2XIdeal := hFf2XIdeal) (hFf2XRefIdeal := hFf2XRefIdeal)
    ∧ preserves_OutW_OutWIdeal
    ∧ algebraic_OutWIdeal_OutWRefIdeal (hOutWIdeal := hOutWIdeal) (hOutWRefIdeal := hOutWRefIdeal)
    ∧ preserves_OutX_OutXIdeal
    ∧ algebraic_OutXIdeal_OutXRefIdeal (hOutXIdeal := hOutXIdeal) (hOutXRefIdeal := hOutXRefIdeal)
    ∧ preserves_InW_InWIdeal
    ∧ algebraic_InWIdeal_InWRefIdeal (hInWIdeal := hInWIdeal) (hInWRefIdeal := hInWRefIdeal)
    ∧ preserves_InX_InXIdeal
    ∧ algebraic_InXIdeal_InXRefIdeal (hInXIdeal := hInXIdeal) (hInXRefIdeal := hInXRefIdeal)
    ∧ preserves_UpW_UpWIdeal
    ∧ algebraic_UpWIdeal_UpWRefIdeal (hUpWIdeal := hUpWIdeal) (hUpWRefIdeal := hUpWRefIdeal)
    ∧ preserves_UpX_UpXIdeal
    ∧ algebraic_UpXIdeal_UpXRefIdeal (hUpXIdeal := hUpXIdeal) (hUpXRefIdeal := hUpXRefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_KvUp_KvUpIdeal
    ∧ algebraic_KvUpIdeal_KvUpRefIdeal (hKvUpIdeal := hKvUpIdeal) (hKvUpRefIdeal := hKvUpRefIdeal)
    ∧ preserves_QUp_QUpIdeal
    ∧ algebraic_QUpIdeal_QUpRefIdeal (hQUpIdeal := hQUpIdeal) (hQUpRefIdeal := hQUpRefIdeal)
    ∧ preserves_Fwd_FwdIdeal
    ∧ algebraic_FwdIdeal_FwdRefIdeal_pre_finite_qk (hFwdIdeal := hFwdIdeal) (hFwdRefIdeal := hFwdRefIdeal) (hPre_finite_qk := hPre_finite_qk)
-- ==== Pre_finite.lean ====
abbrev S8448x1024 : Shape := ⟨2, ![8448, 1024]⟩
abbrev S8448x512 : Shape := ⟨2, ![8448, 512]⟩
abbrev S_ : Shape := ⟨0, ![]⟩

class Facts : Prop where
  slices_S8448x1024_S8448x512_0_512 : S8448x1024.Slices ![0, 512] S8448x512
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel
  bcast_S_S8448x512 : S_.BroadcastsInDim S8448x512 (![] : Fin 0 → Fin S8448x512.rank)
  reducesTo_S8448x512_S_d0_1 : S8448x512.ReducesTo [0, 1] S_

variable [Facts]

def fn_part1 {F : FTy → Type} [FloatOps F] (main_v6 : IVec S_ 1) (main_v11 : IVec S_ 1) (main_v16 : IVec S_ 1) (main_v17 : FVec F S8448x512 .f32) : IVec S_ 1 × IVec S_ 1 × IVec S_ 1 × IVec S_ 1 :=
  let main_cst_4 : FVec F S_ .f32 := constant S_ .f32 0x7F800000#32
  let main_v18 : FVec F S8448x512 .f32 := broadcastInDim S8448x512 ![] bcast_S_S8448x512 main_cst_4
  let main_v19 : IVec S8448x512 1 := cmpf .olt main_v17 main_v18
  let main_c_5 : IVec S_ 1 := constantI S_ 1 1#1
  let main_v20 : IVec S_ 1 := (fun x v => Host.reduce IntOp.andi x v reducesTo_S8448x512_S_d0_1 h_S_) main_v19 main_c_5
  (main_v6, main_v11, main_v16, main_v20)

def fn {F : FTy → Type} [FloatOps F] (main_arg0 : FVec F S8448x1024 .bf16) (main_arg1 : FVec F S8448x1024 .bf16) (main_arg2 : FVec F S8448x1024 .bf16) (main_arg3 : FVec F S8448x1024 .f32) : IVec S_ 1 × IVec S_ 1 × IVec S_ 1 × IVec S_ 1 :=
  let main_v0 : FVec F S8448x512 .bf16 := (extractStridedSlice S8448x512 ![0, 512] · slices_S8448x1024_S8448x512_0_512) main_arg2
  let main_v1 : FVec F S8448x512 .f32 := (extractStridedSlice S8448x512 ![0, 512] · slices_S8448x1024_S8448x512_0_512) main_arg3
  let main_v2 : FVec F S8448x1024 .f32 := (extf .f32 · bitsLt_bf16_f32) main_arg0
  let main_v3 : FVec F S8448x1024 .f32 := Host.absf main_v2
  let main_cst : FVec F S_ .f32 := constant S_ .f32 0x7F800000#32
  let main_v4 : FVec F S8448x1024 .f32 := broadcastInDim S8448x1024 ![] bcast_S_S8448x1024 main_cst
  let main_v5 : IVec S8448x1024 1 := cmpf .olt main_v3 main_v4
  let main_c : IVec S_ 1 := constantI S_ 1 1#1
  let main_v6 : IVec S_ 1 := (fun x v => Host.reduce IntOp.andi x v reducesTo_S8448x1024_S_d0_1 h_S_) main_v5 main_c
  let main_v7 : FVec F S8448x1024 .f32 := (extf .f32 · bitsLt_bf16_f32) main_arg1
  let main_v8 : FVec F S8448x1024 .f32 := Host.absf main_v7
  let main_cst_0 : FVec F S_ .f32 := constant S_ .f32 0x7F800000#32
  let main_v9 : FVec F S8448x1024 .f32 := broadcastInDim S8448x1024 ![] bcast_S_S8448x1024 main_cst_0
  let main_v10 : IVec S8448x1024 1 := cmpf .olt main_v8 main_v9
  let main_c_1 : IVec S_ 1 := constantI S_ 1 1#1
  let main_v11 : IVec S_ 1 := (fun x v => Host.reduce IntOp.andi x v reducesTo_S8448x1024_S_d0_1 h_S_) main_v10 main_c_1
  let main_v12 : FVec F S8448x512 .f32 := (extf .f32 · bitsLt_bf16_f32) main_v0
  let main_v13 : FVec F S8448x512 .f32 := Host.absf main_v12
  let main_cst_2 : FVec F S_ .f32 := constant S_ .f32 0x7F800000#32
  let main_v14 : FVec F S8448x512 .f32 := broadcastInDim S8448x512 ![] bcast_S_S8448x512 main_cst_2
  let main_v15 : IVec S8448x512 1 := cmpf .olt main_v13 main_v14
  let main_c_3 : IVec S_ 1 := constantI S_ 1 1#1
  let main_v16 : IVec S_ 1 := (fun x v => Host.reduce IntOp.andi x v reducesTo_S8448x512_S_d0_1 h_S_) main_v15 main_c_3
  let main_v17 : FVec F S8448x512 .f32 := Host.absf main_v1
  fn_part1 (F := F) main_v6 main_v11 main_v16 main_v17
-- ==== Pre_finite_qk.lean ====
abbrev S8448x1024 : Shape := ⟨2, ![8448, 1024]⟩
abbrev S_ : Shape := ⟨0, ![]⟩

class Facts : Prop where
  bitsLt_bf16_f32 : FTy.bits .bf16 < FTy.bits .f32
  bcast_S_S8448x1024 : S_.BroadcastsInDim S8448x1024 (![] : Fin 0 → Fin S8448x1024.rank)
  reducesTo_S8448x1024_S_d0_1 : S8448x1024.ReducesTo [0, 1] S_
  h_S_ : 0 < S_.numel

variable [Facts]

def fn {F : FTy → Type} [FloatOps F] (main_arg0 : FVec F S8448x1024 .bf16) (main_arg1 : FVec F S8448x1024 .bf16) (main_arg2 : FVec F S8448x1024 .bf16) : IVec S_ 1 × IVec S_ 1 :=
  let main_v0 : FVec F S8448x1024 .f32 := (extf .f32 · bitsLt_bf16_f32) main_arg0
  let main_v1 : FVec F S8448x1024 .f32 := Host.absf main_v0
  let main_cst : FVec F S_ .f32 := constant S_ .f32 0x7F800000#32
  let main_v2 : FVec F S8448x1024 .f32 := broadcastInDim S8448x1024 ![] bcast_S_S8448x1024 main_cst
  let main_v3 : IVec S8448x1024 1 := cmpf .olt main_v1 main_v2
  let main_c : IVec S_ 1 := constantI S_ 1 1#1
  let main_v4 : IVec S_ 1 := (fun x v => Host.reduce IntOp.andi x v reducesTo_S8448x1024_S_d0_1 h_S_) main_v3 main_c
  let main_v5 : FVec F S8448x1024 .f32 := (extf .f32 · bitsLt_bf16_f32) main_arg1
  let main_v6 : FVec F S8448x1024 .f32 := Host.absf main_v5
  let main_cst_0 : FVec F S_ .f32 := constant S_ .f32 0x7F800000#32
  let main_v7 : FVec F S8448x1024 .f32 := broadcastInDim S8448x1024 ![] bcast_S_S8448x1024 main_cst_0
  let main_v8 : IVec S8448x1024 1 := cmpf .olt main_v6 main_v7
  let main_c_1 : IVec S_ 1 := constantI S_ 1 1#1
  let main_v9 : IVec S_ 1 := (fun x v => Host.reduce IntOp.andi x v reducesTo_S8448x1024_S_d0_1 h_S_) main_v8 main_c_1
  (main_v4, main_v9)
-- ==== Kernel.lean ====
abbrev S8448x1024 : Shape := ⟨2, ![8448, 1024]⟩
abbrev S8448x4x256 : Shape := ⟨3, ![8448, 4, 256]⟩
abbrev S8448x512 : Shape := ⟨2, ![8448, 512]⟩
abbrev S8448x4x128 : Shape := ⟨3, ![8448, 4, 128]⟩
abbrev S256x4x256 : Shape := ⟨3, ![256, 4, 256]⟩
abbrev S256x4x128 : Shape := ⟨3, ![256, 4, 128]⟩
abbrev S4x256x256 : Shape := ⟨3, ![4, 256, 256]⟩
abbrev S_ : Shape := ⟨0, ![]⟩
abbrev S4x256 : Shape := ⟨2, ![4, 256]⟩
abbrev S4x256x1 : Shape := ⟨3, ![4, 256, 1]⟩
abbrev S4x256x128 : Shape := ⟨3, ![4, 256, 128]⟩
abbrev S8192x4x256 : Shape := ⟨3, ![8192, 4, 256]⟩
abbrev S4x8192x8448 : Shape := ⟨3, ![4, 8192, 8448]⟩
abbrev S4x8192 : Shape := ⟨2, ![4, 8192]⟩
abbrev S4x8192x1 : Shape := ⟨3, ![4, 8192, 1]⟩
abbrev S4x8192x128 : Shape := ⟨3, ![4, 8192, 128]⟩
abbrev S4x8448x128 : Shape := ⟨3, ![4, 8448, 128]⟩
abbrev S4x8448 : Shape := ⟨2, ![4, 8448]⟩
abbrev S4x1x8448 : Shape := ⟨3, ![4, 1, 8448]⟩
abbrev S4x2x8448 : Shape := ⟨3, ![4, 2, 8448]⟩
abbrev S4x2x33x256 : Shape := ⟨4, ![4, 2, 33, 256]⟩
abbrev S33x4x2x256 : Shape := ⟨4, ![33, 4, 2, 256]⟩
abbrev S33x4x2x1x256 : Shape := ⟨5, ![33, 4, 2, 1, 256]⟩
abbrev S33x4x2x8x256 : Shape := ⟨5, ![33, 4, 2, 8, 256]⟩
abbrev S33x64x256 : Shape := ⟨3, ![33, 64, 256]⟩
abbrev S2816x256 : Shape := ⟨2, ![2816, 256]⟩
abbrev S768x256 : Shape := ⟨2, ![768, 256]⟩
abbrev S768x128 : Shape := ⟨2, ![768, 128]⟩
abbrev S2816x128 : Shape := ⟨2, ![2816, 128]⟩
abbrev S11x16x256 : Shape := ⟨3, ![11, 16, 256]⟩
abbrev S8448x256 : Shape := ⟨2, ![8448, 256]⟩
abbrev S1x1x256 : Shape := ⟨3, ![1, 1, 256]⟩
abbrev S1x256 : Shape := ⟨2, ![1, 256]⟩
abbrev S1x2816 : Shape := ⟨2, ![1, 2816]⟩
abbrev S768x2816 : Shape := ⟨2, ![768, 2816]⟩

abbrev nBuf : Space → Nat
  | .hbm => 81
  | .vmem => 16
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x1024, .f32⟩
  | .hbm, ⟨4, _⟩ => ⟨S8448x4x256, .bf16⟩
  | .hbm, ⟨5, _⟩ => ⟨S8448x4x256, .bf16⟩
  | .hbm, ⟨6, _⟩ => ⟨S8448x512, .bf16⟩
  | .hbm, ⟨7, _⟩ => ⟨S8448x4x128, .bf16⟩
  | .hbm, ⟨8, _⟩ => ⟨S256x4x256, .bf16⟩
  | .hbm, ⟨9, _⟩ => ⟨S256x4x256, .bf16⟩
  | .hbm, ⟨10, _⟩ => ⟨S256x4x128, .bf16⟩
  | .hbm, ⟨11, _⟩ => ⟨S4x256x256, .f32⟩
  | .hbm, ⟨12, _⟩ => ⟨S_, .f32⟩
  | .hbm, ⟨13, _⟩ => ⟨S_, .f32⟩
  | .hbm, ⟨14, _⟩ => ⟨S4x256x256, .f32⟩
  | .hbm, ⟨15, _⟩ => ⟨S4x256x256, .f32⟩
  | .hbm, ⟨16, _⟩ => ⟨S_, .f32⟩
  | .hbm, ⟨17, _⟩ => ⟨S4x256, .f32⟩
  | .hbm, ⟨18, _⟩ => ⟨S4x256x1, .f32⟩
  | .hbm, ⟨19, _⟩ => ⟨S4x256x256, .f32⟩
  | .hbm, ⟨20, _⟩ => ⟨S4x256x256, .f32⟩
  | .hbm, ⟨21, _⟩ => ⟨S4x256x256, .f32⟩
  | .hbm, ⟨22, _⟩ => ⟨S_, .f32⟩
  | .hbm, ⟨23, _⟩ => ⟨S4x256, .f32⟩
  | .hbm, ⟨24, _⟩ => ⟨S4x256x1, .f32⟩
  | .hbm, ⟨25, _⟩ => ⟨S4x256x256, .f32⟩
  | .hbm, ⟨26, _⟩ => ⟨S4x256x256, .f32⟩
  | .hbm, ⟨27, _⟩ => ⟨S4x256x256, .bf16⟩
  | .hbm, ⟨28, _⟩ => ⟨S4x256x128, .f32⟩
  | .hbm, ⟨29, _⟩ => ⟨S4x256x1, .f32⟩
  | .hbm, ⟨30, _⟩ => ⟨S4x256x1, .f32⟩
  | .hbm, ⟨31, _⟩ => ⟨S4x256, .f32⟩
  | .hbm, ⟨32, _⟩ => ⟨S_, .f32⟩
  | .hbm, ⟨33, _⟩ => ⟨S_, .f32⟩
  | .hbm, ⟨34, _⟩ => ⟨S4x256, .f32⟩
  | .hbm, ⟨35, _⟩ => ⟨S4x256, .f32⟩
  | .hbm, ⟨36, _⟩ => ⟨S8192x4x256, .bf16⟩
  | .hbm, ⟨37, _⟩ => ⟨S4x8192x8448, .f32⟩
  | .hbm, ⟨38, _⟩ => ⟨S_, .f32⟩
  | .hbm, ⟨39, _⟩ => ⟨S_, .f32⟩
  | .hbm, ⟨40, _⟩ => ⟨S4x8192x8448, .f32⟩
  | .hbm, ⟨41, _⟩ => ⟨S4x8192x8448, .f32⟩
  | .hbm, ⟨42, _⟩ => ⟨S_, .f32⟩
  | .hbm, ⟨43, _⟩ => ⟨S4x8192, .f32⟩
  | .hbm, ⟨44, _⟩ => ⟨S4x8192x1, .f32⟩
  | .hbm, ⟨45, _⟩ => ⟨S4x8192x8448, .f32⟩
  | .hbm, ⟨46, _⟩ => ⟨S4x8192x8448, .f32⟩
  | .hbm, ⟨47, _⟩ => ⟨S4x8192x8448, .f32⟩
  | .hbm, ⟨48, _⟩ => ⟨S_, .f32⟩
  | .hbm, ⟨49, _⟩ => ⟨S4x8192, .f32⟩
  | .hbm, ⟨50, _⟩ => ⟨S4x8192x1, .f32⟩
  | .hbm, ⟨51, _⟩ => ⟨S4x8192x8448, .f32⟩
  | .hbm, ⟨52, _⟩ => ⟨S4x8192x8448, .f32⟩
  | .hbm, ⟨53, _⟩ => ⟨S4x8192x8448, .bf16⟩
  | .hbm, ⟨54, _⟩ => ⟨S4x8192x128, .f32⟩
  | .hbm, ⟨55, _⟩ => ⟨S4x8192x1, .f32⟩
  | .hbm, ⟨56, _⟩ => ⟨S4x8192x1, .f32⟩
  | .hbm, ⟨57, _⟩ => ⟨S4x8192, .f32⟩
  | .hbm, ⟨58, _⟩ => ⟨S_, .f32⟩
  | .hbm, ⟨59, _⟩ => ⟨S_, .f32⟩
  | .hbm, ⟨60, _⟩ => ⟨S4x8192, .f32⟩
  | .hbm, ⟨61, _⟩ => ⟨S4x8192, .f32⟩
  | .hbm, ⟨62, _⟩ => ⟨S4x8448x128, .f32⟩
  | .hbm, ⟨63, _⟩ => ⟨S4x8448, .f32⟩
  | .hbm, ⟨64, _⟩ => ⟨S8448x512, .f32⟩
  | .hbm, ⟨65, _⟩ => ⟨S8448x4x128, .f32⟩
  | .hbm, ⟨66, _⟩ => ⟨S4x8448x128, .f32⟩
  | .hbm, ⟨67, _⟩ => ⟨S4x8448x128, .f32⟩
  | .hbm, ⟨68, _⟩ => ⟨S_, .f32⟩
  | .hbm, ⟨69, _⟩ => ⟨S4x8448, .f32⟩
  | .hbm, ⟨70, _⟩ => ⟨S4x1x8448, .f32⟩
  | .hbm, ⟨71, _⟩ => ⟨S4x1x8448, .f32⟩
  | .hbm, ⟨72, _⟩ => ⟨S4x2x8448, .f32⟩
  | .hbm, ⟨73, _⟩ => ⟨S4x2x33x256, .f32⟩
  | .hbm, ⟨74, _⟩ => ⟨S33x4x2x256, .f32⟩
  | .hbm, ⟨75, _⟩ => ⟨S33x4x2x1x256, .f32⟩
  | .hbm, ⟨76, _⟩ => ⟨S33x4x2x8x256, .f32⟩
  | .hbm, ⟨77, _⟩ => ⟨S33x64x256, .f32⟩
  | .hbm, ⟨78, _⟩ => ⟨S8448x1024, .f32⟩
  | .hbm, ⟨79, _⟩ => ⟨S8448x1024, .f32⟩
  | .hbm, ⟨80, _⟩ => ⟨S8448x512, .f32⟩
  | .local _ .vmem, ⟨0, _⟩ => ⟨S2816x256, .bf16⟩
  | .local _ .vmem, ⟨1, _⟩ => ⟨S2816x256, .bf16⟩
  | .local _ .vmem, ⟨2, _⟩ => ⟨S768x256, .bf16⟩
  | .local _ .vmem, ⟨3, _⟩ => ⟨S768x256, .bf16⟩
  | .local _ .vmem, ⟨4, _⟩ => ⟨S768x128, .bf16⟩
  | .local _ .vmem, ⟨5, _⟩ => ⟨S768x128, .bf16⟩
  | .local _ .vmem, ⟨6, _⟩ => ⟨S2816x128, .f32⟩
  | .local _ .vmem, ⟨7, _⟩ => ⟨S2816x128, .f32⟩
  | .local _ .vmem, ⟨8, _⟩ => ⟨S11x16x256, .f32⟩
  | .local _ .vmem, ⟨9, _⟩ => ⟨S11x16x256, .f32⟩
  | .local _ .vmem, ⟨10, _⟩ => ⟨S8448x256, .f32⟩
  | .local _ .vmem, ⟨11, _⟩ => ⟨S8448x256, .f32⟩
  | .local _ .vmem, ⟨12, _⟩ => ⟨S768x256, .f32⟩
  | .local _ .vmem, ⟨13, _⟩ => ⟨S768x256, .f32⟩
  | .local _ .vmem, ⟨14, _⟩ => ⟨S768x128, .f32⟩
  | .local _ .vmem, ⟨15, _⟩ => ⟨S768x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_4 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65_0 : Ref sig .tc := ⟨.hbm, 78, rfl⟩
abbrev main_v65_1 : Ref sig .tc := ⟨.hbm, 79, rfl⟩
abbrev main_v65_2 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 11, 3], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_mult1 (i : grid0.Coords) : BitVec 32 :=
  let arg2 : BitVec 32 := BitVec.ofNat 32 (i 2).val
  let c2816_i32 : BitVec 32 := 2816#32
  let v97 : BitVec 32 := Scalar.muli arg2 c2816_i32
  v97
def k0_cond3 (i : grid0.Coords) : BitVec 1 :=
  let arg1 : BitVec 32 := BitVec.ofNat 32 (i 1).val
  let c0_i32_84 : BitVec 32 := 0#32
  let v99 : BitVec 1 := Scalar.cmpi .eq arg1 c0_i32_84
  let v100 : BitVec 32 := Scalar.extui v99
  let c0_i32_85 : BitVec 32 := 0#32
  let v101 : BitVec 1 := Scalar.cmpi .ne v100 c0_i32_85
  v101

def k0_off1 (i : grid0.Coords) : Fin 2 → Nat :=
  let arg2 : BitVec 32 := BitVec.ofNat 32 (i 2).val
  let c2816_i32 : BitVec 32 := 2816#32
  let v97 : BitVec 32 := Scalar.muli arg2 c2816_i32
  let v98 : BitVec 32 := v97
  let v105 : Index := Scalar.indexCast v98
  let c0_88 : Index := 0#32
  ![v105.toNat, 0]
def k0_cond4 (i : grid0.Coords) : BitVec 1 :=
  let arg1 : BitVec 32 := BitVec.ofNat 32 (i 1).val
  let c0_i32_86 : BitVec 32 := 0#32
  let v102 : BitVec 1 := Scalar.cmpi .ne arg1 c0_i32_86
  let v103 : BitVec 32 := Scalar.extui v102
  let c0_i32_87 : BitVec 32 := 0#32
  let v104 : BitVec 1 := Scalar.cmpi .ne v103 c0_i32_87
  v104

def k0_off2 (i : grid0.Coords) : Fin 2 → Nat :=
  let arg2 : BitVec 32 := BitVec.ofNat 32 (i 2).val
  let c2816_i32 : BitVec 32 := 2816#32
  let v97 : BitVec 32 := Scalar.muli arg2 c2816_i32
  let v98 : BitVec 32 := v97
  let v105 : Index := Scalar.indexCast v98
  let c0_88 : Index := 0#32
  ![v105.toNat, 0]
def k0_cond5 (i : grid0.Coords) : BitVec 1 :=
  let arg2 : BitVec 32 := BitVec.ofNat 32 (i 2).val
  let c0_i32_3 : BitVec 32 := 0#32
  let v6 : BitVec 1 := Scalar.cmpi .ne arg2 c0_i32_3
  let v7 : BitVec 32 := Scalar.extui v6
  let c0_i32_4 : BitVec 32 := 0#32
  let v8 : BitVec 1 := Scalar.cmpi .ne v7 c0_i32_4
  v8

def k0_mult2 (i : grid0.Coords) : BitVec 32 :=
  let arg2 : BitVec 32 := BitVec.ofNat 32 (i 2).val
  let c2816_i32 : BitVec 32 := 2816#32
  let v85 : BitVec 32 := Scalar.muli arg2 c2816_i32
  v85
def k0_cond6 (i : grid0.Coords) : BitVec 1 :=
  let arg1 : BitVec 32 := BitVec.ofNat 32 (i 1).val
  let c0_i32_82 : BitVec 32 := 0#32
  let v87 : BitVec 1 := Scalar.cmpi .eq arg1 c0_i32_82
  let v88 : BitVec 32 := Scalar.extui v87
  let c0_i32_83 : BitVec 32 := 0#32
  let v89 : BitVec 1 := Scalar.cmpi .ne v88 c0_i32_83
  v89

def k0_off3 (i : grid0.Coords) : Fin 2 → Nat :=
  let arg2 : BitVec 32 := BitVec.ofNat 32 (i 2).val
  let c2816_i32 : BitVec 32 := 2816#32
  let v85 : BitVec 32 := Scalar.muli arg2 c2816_i32
  let v86 : BitVec 32 := v85
  let v93 : Index := Scalar.indexCast v86
  let c0_86 : Index := 0#32
  ![v93.toNat, 0]
def k0_cond7 (i : grid0.Coords) : BitVec 1 :=
  let arg1 : BitVec 32 := BitVec.ofNat 32 (i 1).val
  let c0_i32_84 : BitVec 32 := 0#32
  let v90 : BitVec 1 := Scalar.cmpi .ne arg1 c0_i32_84
  let v91 : BitVec 32 := Scalar.extui v90
  let c0_i32_85 : BitVec 32 := 0#32
  let v92 : BitVec 1 := Scalar.cmpi .ne v91 c0_i32_85
  v92

def k0_off4 (i : grid0.Coords) : Fin 2 → Nat :=
  let arg2 : BitVec 32 := BitVec.ofNat 32 (i 2).val
  let c2816_i32 : BitVec 32 := 2816#32
  let v85 : BitVec 32 := Scalar.muli arg2 c2816_i32
  let v86 : BitVec 32 := v85
  let v93 : Index := Scalar.indexCast v86
  let c0_86 : Index := 0#32
  ![v93.toNat, 0]
def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2816x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2816x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S11x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S8448x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S768x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== KernelIdeal.lean ====
variable {F : FTy → Type} [FloatOps F] [Named F]
def κ : String → Option EReal := fun
  | "log2" => some ((Real.log 2 : ℝ) : EReal)
  | "mask" => some ⊥
  | _ => none
-- ==== ReferenceIdeal.lean ====
abbrev S8448x1024 : Shape := ⟨2, ![8448, 1024]⟩
abbrev S8448x512 : Shape := ⟨2, ![8448, 512]⟩
abbrev S8448x4x256 : Shape := ⟨3, ![8448, 4, 256]⟩
abbrev S8448x4x128 : Shape := ⟨3, ![8448, 4, 128]⟩
abbrev S256x4x256 : Shape := ⟨3, ![256, 4, 256]⟩
abbrev S256x4x128 : Shape := ⟨3, ![256, 4, 128]⟩
abbrev S4x256x256 : Shape := ⟨3, ![4, 256, 256]⟩
abbrev S_ : Shape := ⟨0, ![]⟩
abbrev S4x256 : Shape := ⟨2, ![4, 256]⟩
abbrev S4x256x1 : Shape := ⟨3, ![4, 256, 1]⟩
abbrev S4x128x256 : Shape := ⟨3, ![4, 128, 256]⟩
abbrev S8192x4x256 : Shape := ⟨3, ![8192, 4, 256]⟩
abbrev S4x8192x8448 : Shape := ⟨3, ![4, 8192, 8448]⟩
abbrev S4x8192 : Shape := ⟨2, ![4, 8192]⟩
abbrev S4x8192x1 : Shape := ⟨3, ![4, 8192, 1]⟩
abbrev S4x128x8192 : Shape := ⟨3, ![4, 128, 8192]⟩
abbrev S8192x4x128 : Shape := ⟨3, ![8192, 4, 128]⟩
abbrev S4x128x8448 : Shape := ⟨3, ![4, 128, 8448]⟩
abbrev S4x8448x256 : Shape := ⟨3, ![4, 8448, 256]⟩
abbrev S4x8192x256 : Shape := ⟨3, ![4, 8192, 256]⟩

abbrev nBuf : Space → Nat
  | .hbm => 185
  | .vmem => 0
  | .smem => 0
  | _ => 0

abbrev hbmTy0_0 (i : Nat) : BufTy := match i % 128 with
  | 0 => ⟨S8448x1024, .bf16⟩
  | 1 => ⟨S8448x1024, .bf16⟩
  | 2 => ⟨S8448x1024, .bf16⟩
  | 3 => ⟨S8448x1024, .f32⟩
  | 4 => ⟨S8448x512, .bf16⟩
  | 5 => ⟨S8448x4x256, .bf16⟩
  | 6 => ⟨S8448x4x256, .bf16⟩
  | 7 => ⟨S8448x4x128, .bf16⟩
  | 8 => ⟨S256x4x256, .bf16⟩
  | 9 => ⟨S256x4x256, .bf16⟩
  | 10 => ⟨S256x4x128, .bf16⟩
  | 11 => ⟨S4x256x256, .f32⟩
  | 12 => ⟨S_, .f32⟩
  | 13 => ⟨S_, .f32⟩
  | 14 => ⟨S4x256x256, .f32⟩
  | 15 => ⟨S4x256x256, .f32⟩
  | 16 => ⟨S_, .f32⟩
  | 17 => ⟨S4x256, .f32⟩
  | 18 => ⟨S4x256x1, .f32⟩
  | 19 => ⟨S4x256x256, .f32⟩
  | 20 => ⟨S4x256x256, .i1⟩
  | 21 => ⟨S4x256x256, .f32⟩
  | 22 => ⟨S_, .f32⟩
  | 23 => ⟨S4x256, .f32⟩
  | 24 => ⟨S_, .f32⟩
  | 25 => ⟨S4x256, .f32⟩
  | 26 => ⟨S4x256, .f32⟩
  | 27 => ⟨S_, .f32⟩
  | 28 => ⟨S4x256, .f32⟩
  | 29 => ⟨S4x256, .i1⟩
  | 30 => ⟨S_, .f32⟩
  | 31 => ⟨S4x256, .f32⟩
  | 32 => ⟨S4x256, .i1⟩
  | 33 => ⟨S_, .f32⟩
  | 34 => ⟨S4x256, .f32⟩
  | 35 => ⟨S_, .f32⟩
  | 36 => ⟨S4x256, .f32⟩
  | 37 => ⟨S_, .f32⟩
  | 38 => ⟨S4x256, .f32⟩
  | 39 => ⟨S4x256, .f32⟩
  | 40 => ⟨S4x256, .f32⟩
  | 41 => ⟨S4x256x1, .f32⟩
  | 42 => ⟨S4x256x256, .f32⟩
  | 43 => ⟨S4x256x256, .f32⟩
  | 44 => ⟨S4x256x256, .f32⟩
  | 45 => ⟨S_, .f32⟩
  | 46 => ⟨S4x256, .f32⟩
  | 47 => ⟨S4x256x1, .f32⟩
  | 48 => ⟨S4x256x256, .f32⟩
  | 49 => ⟨S4x256x256, .f32⟩
  | 50 => ⟨S4x256x1, .f32⟩
  | 51 => ⟨S_, .f32⟩
  | 52 => ⟨S4x256x1, .f32⟩
  | 53 => ⟨S4x256x1, .f32⟩
  | 54 => ⟨S4x256x256, .bf16⟩
  | 55 => ⟨S4x128x256, .f32⟩
  | 56 => ⟨S256x4x128, .f32⟩
  | 57 => ⟨S8192x4x256, .bf16⟩
  | 58 => ⟨S4x8192x8448, .f32⟩
  | 59 => ⟨S_, .f32⟩
  | 60 => ⟨S_, .f32⟩
  | 61 => ⟨S4x8192x8448, .f32⟩
  | 62 => ⟨S4x8192x8448, .f32⟩
  | 63 => ⟨S_, .f32⟩
  | 64 => ⟨S4x8192, .f32⟩
  | 65 => ⟨S4x8192x1, .f32⟩
  | 66 => ⟨S4x8192x8448, .f32⟩
  | 67 => ⟨S4x8192x8448, .i1⟩
  | 68 => ⟨S4x8192x8448, .f32⟩
  | 69 => ⟨S_, .f32⟩
  | 70 => ⟨S4x8192, .f32⟩
  | 71 => ⟨S_, .f32⟩
  | 72 => ⟨S4x8192, .f32⟩
  | 73 => ⟨S4x8192, .f32⟩
  | 74 => ⟨S_, .f32⟩
  | 75 => ⟨S4x8192, .f32⟩
  | 76 => ⟨S4x8192, .i1⟩
  | 77 => ⟨S_, .f32⟩
  | 78 => ⟨S4x8192, .f32⟩
  | 79 => ⟨S4x8192, .i1⟩
  | 80 => ⟨S_, .f32⟩
  | 81 => ⟨S4x8192, .f32⟩
  | 82 => ⟨S_, .f32⟩
  | 83 => ⟨S4x8192, .f32⟩
  | 84 => ⟨S_, .f32⟩
  | 85 => ⟨S4x8192, .f32⟩
  | 86 => ⟨S4x8192, .f32⟩
  | 87 => ⟨S4x8192, .f32⟩
  | 88 => ⟨S4x8192x1, .f32⟩
  | 89 => ⟨S4x8192x8448, .f32⟩
  | 90 => ⟨S4x8192x8448, .f32⟩
  | 91 => ⟨S4x8192x8448, .f32⟩
  | 92 => ⟨S_, .f32⟩
  | 93 => ⟨S4x8192, .f32⟩
  | 94 => ⟨S4x8192x1, .f32⟩
  | 95 => ⟨S4x8192x8448, .f32⟩
  | 96 => ⟨S4x8192x8448, .f32⟩
  | 97 => ⟨S4x8192x1, .f32⟩
  | 98 => ⟨S_, .f32⟩
  | 99 => ⟨S4x8192x1, .f32⟩
  | 100 => ⟨S4x8192x1, .f32⟩
  | 101 => ⟨S4x8192x8448, .bf16⟩
  | 102 => ⟨S4x128x8192, .f32⟩
  | 103 => ⟨S8192x4x128, .f32⟩
  | 104 => ⟨S8448x4x128, .f32⟩
  | 105 => ⟨S8448x512, .f32⟩
  | 106 => ⟨S8448x512, .f32⟩
  | 107 => ⟨S8448x4x128, .f32⟩
  | 108 => ⟨S256x4x128, .f32⟩
  | 109 => ⟨S8192x4x128, .f32⟩
  | 110 => ⟨S4x128x8192, .f32⟩
  | 111 => ⟨S4x8192x8448, .f32⟩
  | 112 => ⟨S4x8192x8448, .bf16⟩
  | 113 => ⟨S4x128x8448, .f32⟩
  | 114 => ⟨S8448x4x128, .f32⟩
  | 115 => ⟨S8448x4x128, .bf16⟩
  | 116 => ⟨S4x8192x8448, .f32⟩
  | 117 => ⟨S4x8192x8448, .f32⟩
  | 118 => ⟨S4x8192x8448, .f32⟩
  | 119 => ⟨S4x8192x8448, .f32⟩
  | 120 => ⟨S_, .f32⟩
  | 121 => ⟨S4x8192, .f32⟩
  | 122 => ⟨S4x8192x1, .f32⟩
  | 123 => ⟨S4x8192x1, .f32⟩
  | 124 => ⟨S4x8192x8448, .f32⟩
  | 125 => ⟨S4x8192x8448, .f32⟩
  | 126 => ⟨S_, .f32⟩
  | 127 => ⟨S4x8192, .f32⟩
  | _ => ⟨S8448x1024, .bf16⟩

abbrev hbmTy0_1 (i : Nat) : BufTy := match i % 128 with
  | 0 => ⟨S4x8192x8448, .f32⟩
  | 1 => ⟨S4x8192x8448, .f32⟩
  | 2 => ⟨S4x8192x8448, .f32⟩
  | 3 => ⟨S4x8192x8448, .f32⟩
  | 4 => ⟨S4x8192x8448, .f32⟩
  | 5 => ⟨S4x8448x256, .f32⟩
  | 6 => ⟨S8448x4x256, .f32⟩
  | 7 => ⟨S8448x4x256, .bf16⟩
  | 8 => ⟨S4x8192x256, .f32⟩
  | 9 => ⟨S8192x4x256, .f32⟩
  | 10 => ⟨S8192x4x256, .bf16⟩
  | 11 => ⟨S_, .bf16⟩
  | 12 => ⟨S8448x4x256, .bf16⟩
  | 13 => ⟨S4x128x256, .f32⟩
  | 14 => ⟨S4x256x256, .f32⟩
  | 15 => ⟨S4x256x256, .bf16⟩
  | 16 => ⟨S4x128x256, .f32⟩
  | 17 => ⟨S256x4x128, .f32⟩
  | 18 => ⟨S256x4x128, .bf16⟩
  | 19 => ⟨S4x256x256, .f32⟩
  | 20 => ⟨S4x256x256, .f32⟩
  | 21 => ⟨S4x256x256, .f32⟩
  | 22 => ⟨S4x256x256, .f32⟩
  | 23 => ⟨S_, .f32⟩
  | 24 => ⟨S4x256, .f32⟩
  | 25 => ⟨S4x256x1, .f32⟩
  | 26 => ⟨S4x256x1, .f32⟩
  | 27 => ⟨S4x256x256, .f32⟩
  | 28 => ⟨S4x256x256, .f32⟩
  | 29 => ⟨S_, .f32⟩
  | 30 => ⟨S4x256, .f32⟩
  | 31 => ⟨S4x256x256, .f32⟩
  | 32 => ⟨S4x256x256, .f32⟩
  | 33 => ⟨S4x256x256, .f32⟩
  | 34 => ⟨S4x256x256, .f32⟩
  | 35 => ⟨S4x256x256, .f32⟩
  | 36 => ⟨S4x256x256, .f32⟩
  | 37 => ⟨S256x4x256, .f32⟩
  | 38 => ⟨S256x4x256, .bf16⟩
  | 39 => ⟨S4x256x256, .f32⟩
  | 40 => ⟨S256x4x256, .f32⟩
  | 41 => ⟨S256x4x256, .bf16⟩
  | 42 => ⟨S_, .bf16⟩
  | 43 => ⟨S8448x4x128, .bf16⟩
  | 44 => ⟨S8448x4x128, .bf16⟩
  | 45 => ⟨S_, .bf16⟩
  | 46 => ⟨S8448x4x256, .bf16⟩
  | 47 => ⟨S8448x4x256, .bf16⟩
  | 48 => ⟨S_, .bf16⟩
  | 49 => ⟨S8448x4x256, .bf16⟩
  | 50 => ⟨S8448x4x256, .bf16⟩
  | 51 => ⟨S8448x512, .bf16⟩
  | 52 => ⟨S8448x1024, .bf16⟩
  | 53 => ⟨S8448x1024, .bf16⟩
  | 54 => ⟨S8448x1024, .f32⟩
  | 55 => ⟨S8448x1024, .f32⟩
  | 56 => ⟨S8448x512, .f32⟩
  | _ => ⟨S8448x1024, .bf16⟩

abbrev hbmTy (i : Nat) : BufTy := match i / 128 with
  | 0 => hbmTy0_0 i
  | 1 => hbmTy0_1 i
  | _ => ⟨S8448x1024, .bf16⟩

abbrev bufTy : (tb : Table) → Fin (tcTables nBuf tb) → BufTy
  | .hbm, ⟨i, _⟩ => hbmTy i
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_12 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_cst_14 : Ref sig .tc := ⟨.hbm, 74, rfl⟩
abbrev main_v55 : Ref sig .tc := ⟨.hbm, 75, rfl⟩
abbrev main_v56 : Ref sig .tc := ⟨.hbm, 76, rfl⟩
abbrev main_cst_15 : Ref sig .tc := ⟨.hbm, 77, rfl⟩
abbrev main_v57 : Ref sig .tc := ⟨.hbm, 78, rfl⟩
abbrev main_v58 : Ref sig .tc := ⟨.hbm, 79, rfl⟩
abbrev main_cst_16 : Ref sig .tc := ⟨.hbm, 80, rfl⟩
abbrev main_v59 : Ref sig .tc := ⟨.hbm, 81, rfl⟩
abbrev main_cst_17 : Ref sig .tc := ⟨.hbm, 82, rfl⟩
abbrev main_v60 : Ref sig .tc := ⟨.hbm, 83, rfl⟩
abbrev main_cst_18 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_19 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_20 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_21 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_22 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_23 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_cst_24 : Ref sig .tc := ⟨.hbm, 151, rfl⟩
abbrev main_v122 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_cst_25 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_cst_26 : Ref sig .tc := ⟨.hbm, 170, rfl⟩
abbrev main_v139 : Ref sig .tc := ⟨.hbm, 171, rfl⟩
abbrev main_v140 : Ref sig .tc := ⟨.hbm, 172, rfl⟩
abbrev main_cst_27 : Ref sig .tc := ⟨.hbm, 173, rfl⟩
abbrev main_v141 : Ref sig .tc := ⟨.hbm, 174, rfl⟩
abbrev main_v142 : Ref sig .tc := ⟨.hbm, 175, rfl⟩
abbrev main_cst_28 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩

abbrev nD : Nat := 1
abbrev τ : Topo := Topo.v7x

variable {F : FTy → Type} [FloatOps F]
-- ==== Ff1W.lean ====
abbrev S8448x1024 : Shape := ⟨2, ![8448, 1024]⟩
abbrev S1024x4096 : Shape := ⟨2, ![1024, 4096]⟩
abbrev S8448x4096 : Shape := ⟨2, ![8448, 4096]⟩
abbrev S768x1024 : Shape := ⟨2, ![768, 1024]⟩
abbrev S768x2048 : Shape := ⟨2, ![768, 2048]⟩
abbrev S1024x2048 : Shape := ⟨2, ![1024, 2048]⟩

abbrev nBuf : Space → Nat
  | .hbm => 4
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x4096, .bf16⟩
  | .hbm, ⟨3, _⟩ => ⟨S1024x4096, .f32⟩
  | .local _ .vmem, ⟨0, _⟩ => ⟨S768x1024, .bf16⟩
  | .local _ .vmem, ⟨1, _⟩ => ⟨S768x1024, .bf16⟩
  | .local _ .vmem, ⟨2, _⟩ => ⟨S768x2048, .bf16⟩
  | .local _ .vmem, ⟨3, _⟩ => ⟨S768x2048, .bf16⟩
  | .local _ .vmem, ⟨4, _⟩ => ⟨S1024x2048, .f32⟩
  | .local _ .vmem, ⟨5, _⟩ => ⟨S1024x2048, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1WRefIdeal.lean ====
abbrev S8448x1024 : Shape := ⟨2, ![8448, 1024]⟩
abbrev S1024x4096 : Shape := ⟨2, ![1024, 4096]⟩
abbrev S8448x4096 : Shape := ⟨2, ![8448, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x4096, .bf16⟩
  | .hbm, ⟨3, _⟩ => ⟨S8448x1024, .f32⟩
  | .hbm, ⟨4, _⟩ => ⟨S1024x4096, .f32⟩
  | .hbm, ⟨5, _⟩ => ⟨S8448x4096, .f32⟩
  | .hbm, ⟨6, _⟩ => ⟨S8448x4096, .f32⟩
  | .hbm, ⟨7, _⟩ => ⟨S4096x1024, .f32⟩
  | .hbm, ⟨8, _⟩ => ⟨S1024x4096, .f32⟩
  | .hbm, ⟨9, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff1X.lean ====
abbrev S8448x1024 : Shape := ⟨2, ![8448, 1024]⟩
abbrev S1024x4096 : Shape := ⟨2, ![1024, 4096]⟩
abbrev S8448x4096 : Shape := ⟨2, ![8448, 4096]⟩
abbrev S768x4096 : Shape := ⟨2, ![768, 4096]⟩
abbrev S768x1024 : Shape := ⟨2, ![768, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x4096, .bf16⟩
  | .hbm, ⟨3, _⟩ => ⟨S8448x1024, .f32⟩
  | .local _ .vmem, ⟨0, _⟩ => ⟨S768x4096, .bf16⟩
  | .local _ .vmem, ⟨1, _⟩ => ⟨S768x4096, .bf16⟩
  | .local _ .vmem, ⟨2, _⟩ => ⟨S1024x4096, .bf16⟩
  | .local _ .vmem, ⟨3, _⟩ => ⟨S768x1024, .f32⟩
  | .local _ .vmem, ⟨4, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Ff1XRefIdeal.lean ====
abbrev S8448x1024 : Shape := ⟨2, ![8448, 1024]⟩
abbrev S1024x4096 : Shape := ⟨2, ![1024, 4096]⟩
abbrev S8448x4096 : Shape := ⟨2, ![8448, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x4096, .bf16⟩
  | .hbm, ⟨3, _⟩ => ⟨S8448x1024, .f32⟩
  | .hbm, ⟨4, _⟩ => ⟨S1024x4096, .f32⟩
  | .hbm, ⟨5, _⟩ => ⟨S8448x4096, .f32⟩
  | .hbm, ⟨6, _⟩ => ⟨S8448x4096, .f32⟩
  | .hbm, ⟨7, _⟩ => ⟨S4096x1024, .f32⟩
  | .hbm, ⟨8, _⟩ => ⟨S1024x4096, .f32⟩
  | .hbm, ⟨9, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff2W.lean ====
abbrev S8448x4096 : Shape := ⟨2, ![8448, 4096]⟩
abbrev S4096x1024 : Shape := ⟨2, ![4096, 1024]⟩
abbrev S8448x1024 : Shape := ⟨2, ![8448, 1024]⟩
abbrev S_ : Shape := ⟨0, ![]⟩
abbrev S768x2048 : Shape := ⟨2, ![768, 2048]⟩
abbrev S768x1024 : Shape := ⟨2, ![768, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8448x4096, .f32⟩
  | .hbm, ⟨1, _⟩ => ⟨S4096x1024, .bf16⟩
  | .hbm, ⟨2, _⟩ => ⟨S8448x1024, .bf16⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S8448x4096, .bf16⟩
  | .hbm, ⟨7, _⟩ => ⟨S4096x1024, .f32⟩
  | .local _ .vmem, ⟨0, _⟩ => ⟨S768x2048, .bf16⟩
  | .local _ .vmem, ⟨1, _⟩ => ⟨S768x2048, .bf16⟩
  | .local _ .vmem, ⟨2, _⟩ => ⟨S768x1024, .bf16⟩
  | .local _ .vmem, ⟨3, _⟩ => ⟨S768x1024, .bf16⟩
  | .local _ .vmem, ⟨4, _⟩ => ⟨S2048x1024, .f32⟩
  | .local _ .vmem, ⟨5, _⟩ => ⟨S2048x1024, .f32⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff2WRefIdeal.lean ====
abbrev S8448x4096 : Shape := ⟨2, ![8448, 4096]⟩
abbrev S4096x1024 : Shape := ⟨2, ![4096, 1024]⟩
abbrev S8448x1024 : Shape := ⟨2, ![8448, 1024]⟩
abbrev S_ : Shape := ⟨0, ![]⟩
abbrev S1024x4096 : Shape := ⟨2, ![1024, 4096]⟩

abbrev nBuf : Space → Nat
  | .hbm => 24
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096x1024, .bf16⟩
  | .hbm, ⟨2, _⟩ => ⟨S8448x1024, .bf16⟩
  | .hbm, ⟨3, _⟩ => ⟨S4096x1024, .f32⟩
  | .hbm, ⟨4, _⟩ => ⟨S_, .f32⟩
  | .hbm, ⟨5, _⟩ => ⟨S8448x4096, .f32⟩
  | .hbm, ⟨6, _⟩ => ⟨S8448x4096, .f32⟩
  | .hbm, ⟨7, _⟩ => ⟨S_, .f32⟩
  | .hbm, ⟨8, _⟩ => ⟨S8448x4096, .f32⟩
  | .hbm, ⟨9, _⟩ => ⟨S8448x4096, .i1⟩
  | .hbm, ⟨10, _⟩ => ⟨S_, .f32⟩
  | .hbm, ⟨11, _⟩ => ⟨S8448x4096, .f32⟩
  | .hbm, ⟨12, _⟩ => ⟨S8448x4096, .f32⟩
  | .hbm, ⟨13, _⟩ => ⟨S8448x1024, .f32⟩
  | .hbm, ⟨14, _⟩ => ⟨S8448x1024, .f32⟩
  | .hbm, ⟨15, _⟩ => ⟨S1024x4096, .f32⟩
  | .hbm, ⟨16, _⟩ => ⟨S4096x1024, .f32⟩
  | .hbm, ⟨17, _⟩ => ⟨S8448x4096, .f32⟩
  | .hbm, ⟨18, _⟩ => ⟨S8448x4096, .f32⟩
  | .hbm, ⟨19, _⟩ => ⟨S8448x4096, .f32⟩
  | .hbm, ⟨20, _⟩ => ⟨S8448x4096, .f32⟩
  | .hbm, ⟨21, _⟩ => ⟨S_, .f32⟩
  | .hbm, ⟨22, _⟩ => ⟨S8448x4096, .f32⟩
  | .hbm, ⟨23, _⟩ => ⟨S8448x4096, .f32⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Ff2X.lean ====
abbrev S8448x4096 : Shape := ⟨2, ![8448, 4096]⟩
abbrev S4096x1024 : Shape := ⟨2, ![4096, 1024]⟩
abbrev S8448x1024 : Shape := ⟨2, ![8448, 1024]⟩
abbrev S_ : Shape := ⟨0, ![]⟩
abbrev S384x1024 : Shape := ⟨2, ![384, 1024]⟩
abbrev S384x4096 : Shape := ⟨2, ![384, 4096]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S8448x4096, .f32⟩
  | .hbm, ⟨1, _⟩ => ⟨S4096x1024, .bf16⟩
  | .hbm, ⟨2, _⟩ => ⟨S8448x1024, .bf16⟩
  | .hbm, ⟨3, _⟩ => ⟨S_, .f32⟩
  | .hbm, ⟨4, _⟩ => ⟨S8448x4096, .f32⟩
  | .hbm, ⟨5, _⟩ => ⟨S8448x4096, .f32⟩
  | .hbm, ⟨6, _⟩ => ⟨S8448x4096, .bf16⟩
  | .hbm, ⟨7, _⟩ => ⟨S8448x4096, .bf16⟩
  | .local _ .vmem, ⟨0, _⟩ => ⟨S384x1024, .bf16⟩
  | .local _ .vmem, ⟨1, _⟩ => ⟨S384x1024, .bf16⟩
  | .local _ .vmem, ⟨2, _⟩ => ⟨S4096x1024, .bf16⟩
  | .local _ .vmem, ⟨3, _⟩ => ⟨S384x4096, .bf16⟩
  | .local _ .vmem, ⟨4, _⟩ => ⟨S384x4096, .bf16⟩
  | .local _ .vmem, ⟨5, _⟩ => ⟨S384x4096, .bf16⟩
  | .local _ .vmem, ⟨6, _⟩ => ⟨S384x4096, .bf16⟩
  | _, _ => ⟨S8448x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Ff2XRefIdeal.lean ====
abbrev S8448x4096 : Shape := ⟨2, ![8448, 4096]⟩
abbrev S4096x1024 : Shape := ⟨2, ![4096, 1024]⟩
abbrev S8448x1024 : Shape := ⟨2, ![8448, 1024]⟩
abbrev S_ : Shape := ⟨0, ![]⟩
abbrev S1024x4096 : Shape := ⟨2, ![1024, 4096]⟩

abbrev nBuf : Space → Nat
  | .hbm => 25
  | .vmem => 0
  | .smem => 0
  | _ => 0

abbrev bufTy : (tb : Table) → Fin (tcTables nBuf tb) → BufTy
  | .hbm, ⟨0, _⟩ => ⟨S8448x4096, .f32⟩
  | .hbm, ⟨1, _⟩ => ⟨S4096x1024, .bf16⟩
  | .hbm, ⟨2, _⟩ => ⟨S8448x1024, .bf16⟩
  | .hbm, ⟨3, _⟩ => ⟨S4096x1024, .f32⟩
  | .hbm, ⟨4, _⟩ => ⟨S_, .f32⟩
  | .hbm, ⟨5, _⟩ => ⟨S8448x4096, .f32⟩
  | .hbm, ⟨6, _⟩ => ⟨S8448x4096, .f32⟩
  | .hbm, ⟨7, _⟩ => ⟨S_, .f32⟩
  | .hbm, ⟨8, _⟩ => ⟨S8448x4096, .f32⟩
  | .hbm, ⟨9, _⟩ => ⟨S8448x4096, .i1⟩
  | .hbm, ⟨10, _⟩ => ⟨S_, .f32⟩
  | .hbm, ⟨11, _⟩ => ⟨S8448x4096, .f32⟩
  | .hbm, ⟨12, _⟩ => ⟨S8448x4096, .f32⟩
  | .hbm, ⟨13, _⟩ => ⟨S8448x1024, .f32⟩
  | .hbm, ⟨14, _⟩ => ⟨S8448x1024, .f32⟩
  | .hbm, ⟨15, _⟩ => ⟨S1024x4096, .f32⟩
  | .hbm, ⟨16, _⟩ => ⟨S4096x1024, .f32⟩
  | .hbm, ⟨17, _⟩ => ⟨S8448x4096, .f32⟩
  | .hbm, ⟨18, _⟩ => ⟨S8448x4096, .f32⟩
  | .hbm, ⟨19, _⟩ => ⟨S8448x4096, .f32⟩
  | .hbm, ⟨20, _⟩ => ⟨S8448x4096, .f32⟩
  | .hbm, ⟨21, _⟩ => ⟨S_, .f32⟩
  | .hbm, ⟨22, _⟩ => ⟨S8448x4096, .f32⟩
  | .hbm, ⟨23, _⟩ => ⟨S8448x4096, .f32⟩
  | .hbm, ⟨24, _⟩ => ⟨S8448x4096, .bf16⟩
  | _, _ => ⟨S8448x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]
-- ==== OutW.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .hbm, ⟨3, _⟩ => ⟨S1024x1024, .f32⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutWRefIdeal.lean ====
abbrev S8448x1024 : Shape := ⟨2, ![8448, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutX.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .hbm, ⟨3, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutXRefIdeal.lean ====
abbrev S8448x1024 : Shape := ⟨2, ![8448, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .hbm, ⟨3, _⟩ => ⟨S8448x1024, .f32⟩
  | .hbm, ⟨4, _⟩ => ⟨S1024x1024, .f32⟩
  | .hbm, ⟨5, _⟩ => ⟨S8448x1024, .f32⟩
  | .hbm, ⟨6, _⟩ => ⟨S8448x1024, .f32⟩
  | .hbm, ⟨7, _⟩ => ⟨S1024x1024, .f32⟩
  | .hbm, ⟨8, _⟩ => ⟨S1024x1024, .f32⟩
  | .hbm, ⟨9, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InW.lean ====
abbrev S8448x1024 : Shape := ⟨2, ![8448, 1024]⟩
abbrev S1024x2048 : Shape := ⟨2, ![1024, 2048]⟩
abbrev S8448x2048 : Shape := ⟨2, ![8448, 2048]⟩
abbrev S768x1024 : Shape := ⟨2, ![768, 1024]⟩
abbrev S768x2048 : Shape := ⟨2, ![768, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x2048, .bf16⟩
  | .hbm, ⟨3, _⟩ => ⟨S1024x2048, .f32⟩
  | .local _ .vmem, ⟨0, _⟩ => ⟨S768x1024, .bf16⟩
  | .local _ .vmem, ⟨1, _⟩ => ⟨S768x1024, .bf16⟩
  | .local _ .vmem, ⟨2, _⟩ => ⟨S768x2048, .bf16⟩
  | .local _ .vmem, ⟨3, _⟩ => ⟨S768x2048, .bf16⟩
  | .local _ .vmem, ⟨4, _⟩ => ⟨S1024x2048, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== InWRefIdeal.lean ====
abbrev S8448x1024 : Shape := ⟨2, ![8448, 1024]⟩
abbrev S1024x2048 : Shape := ⟨2, ![1024, 2048]⟩
abbrev S8448x2048 : Shape := ⟨2, ![8448, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x2048, .bf16⟩
  | .hbm, ⟨3, _⟩ => ⟨S8448x1024, .f32⟩
  | .hbm, ⟨4, _⟩ => ⟨S1024x2048, .f32⟩
  | .hbm, ⟨5, _⟩ => ⟨S8448x2048, .f32⟩
  | .hbm, ⟨6, _⟩ => ⟨S8448x2048, .f32⟩
  | .hbm, ⟨7, _⟩ => ⟨S2048x1024, .f32⟩
  | .hbm, ⟨8, _⟩ => ⟨S1024x2048, .f32⟩
  | .hbm, ⟨9, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InX.lean ====
abbrev S8448x1024 : Shape := ⟨2, ![8448, 1024]⟩
abbrev S1024x2048 : Shape := ⟨2, ![1024, 2048]⟩
abbrev S8448x2048 : Shape := ⟨2, ![8448, 2048]⟩
abbrev S768x2048 : Shape := ⟨2, ![768, 2048]⟩
abbrev S768x1024 : Shape := ⟨2, ![768, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x2048, .bf16⟩
  | .hbm, ⟨3, _⟩ => ⟨S8448x1024, .f32⟩
  | .local _ .vmem, ⟨0, _⟩ => ⟨S768x2048, .bf16⟩
  | .local _ .vmem, ⟨1, _⟩ => ⟨S768x2048, .bf16⟩
  | .local _ .vmem, ⟨2, _⟩ => ⟨S1024x2048, .bf16⟩
  | .local _ .vmem, ⟨3, _⟩ => ⟨S768x1024, .f32⟩
  | .local _ .vmem, ⟨4, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InXRefIdeal.lean ====
abbrev S8448x1024 : Shape := ⟨2, ![8448, 1024]⟩
abbrev S1024x2048 : Shape := ⟨2, ![1024, 2048]⟩
abbrev S8448x2048 : Shape := ⟨2, ![8448, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x2048, .bf16⟩
  | .hbm, ⟨3, _⟩ => ⟨S8448x1024, .f32⟩
  | .hbm, ⟨4, _⟩ => ⟨S1024x2048, .f32⟩
  | .hbm, ⟨5, _⟩ => ⟨S8448x2048, .f32⟩
  | .hbm, ⟨6, _⟩ => ⟨S8448x2048, .f32⟩
  | .hbm, ⟨7, _⟩ => ⟨S2048x1024, .f32⟩
  | .hbm, ⟨8, _⟩ => ⟨S1024x2048, .f32⟩
  | .hbm, ⟨9, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpW.lean ====
abbrev S8448x256 : Shape := ⟨2, ![8448, 256]⟩
abbrev S256x1024 : Shape := ⟨2, ![256, 1024]⟩
abbrev S8448x1024 : Shape := ⟨2, ![8448, 1024]⟩
abbrev S768x256 : Shape := ⟨2, ![768, 256]⟩
abbrev S768x1024 : Shape := ⟨2, ![768, 1024]⟩

abbrev nBuf : Space → Nat
  | .hbm => 4
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x1024, .bf16⟩
  | .hbm, ⟨3, _⟩ => ⟨S256x1024, .f32⟩
  | .local _ .vmem, ⟨0, _⟩ => ⟨S768x256, .bf16⟩
  | .local _ .vmem, ⟨1, _⟩ => ⟨S768x256, .bf16⟩
  | .local _ .vmem, ⟨2, _⟩ => ⟨S768x1024, .bf16⟩
  | .local _ .vmem, ⟨3, _⟩ => ⟨S768x1024, .bf16⟩
  | .local _ .vmem, ⟨4, _⟩ => ⟨S256x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 11], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== UpWRefIdeal.lean ====
abbrev S8448x256 : Shape := ⟨2, ![8448, 256]⟩
abbrev S256x1024 : Shape := ⟨2, ![256, 1024]⟩
abbrev S8448x1024 : Shape := ⟨2, ![8448, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x1024, .bf16⟩
  | .hbm, ⟨3, _⟩ => ⟨S8448x256, .f32⟩
  | .hbm, ⟨4, _⟩ => ⟨S256x1024, .f32⟩
  | .hbm, ⟨5, _⟩ => ⟨S8448x1024, .f32⟩
  | .hbm, ⟨6, _⟩ => ⟨S8448x1024, .f32⟩
  | .hbm, ⟨7, _⟩ => ⟨S1024x256, .f32⟩
  | .hbm, ⟨8, _⟩ => ⟨S256x1024, .f32⟩
  | .hbm, ⟨9, _⟩ => ⟨S8448x256, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpX.lean ====
abbrev S8448x256 : Shape := ⟨2, ![8448, 256]⟩
abbrev S256x1024 : Shape := ⟨2, ![256, 1024]⟩
abbrev S8448x1024 : Shape := ⟨2, ![8448, 1024]⟩
abbrev S768x1024 : Shape := ⟨2, ![768, 1024]⟩
abbrev S768x256 : Shape := ⟨2, ![768, 256]⟩

abbrev nBuf : Space → Nat
  | .hbm => 4
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x1024, .bf16⟩
  | .hbm, ⟨3, _⟩ => ⟨S8448x256, .f32⟩
  | .local _ .vmem, ⟨0, _⟩ => ⟨S768x1024, .bf16⟩
  | .local _ .vmem, ⟨1, _⟩ => ⟨S768x1024, .bf16⟩
  | .local _ .vmem, ⟨2, _⟩ => ⟨S256x1024, .bf16⟩
  | .local _ .vmem, ⟨3, _⟩ => ⟨S768x256, .f32⟩
  | .local _ .vmem, ⟨4, _⟩ => ⟨S768x256, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== UpXRefIdeal.lean ====
abbrev S8448x256 : Shape := ⟨2, ![8448, 256]⟩
abbrev S256x1024 : Shape := ⟨2, ![256, 1024]⟩
abbrev S8448x1024 : Shape := ⟨2, ![8448, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x1024, .bf16⟩
  | .hbm, ⟨3, _⟩ => ⟨S8448x256, .f32⟩
  | .hbm, ⟨4, _⟩ => ⟨S256x1024, .f32⟩
  | .hbm, ⟨5, _⟩ => ⟨S8448x1024, .f32⟩
  | .hbm, ⟨6, _⟩ => ⟨S8448x1024, .f32⟩
  | .hbm, ⟨7, _⟩ => ⟨S1024x256, .f32⟩
  | .hbm, ⟨8, _⟩ => ⟨S256x1024, .f32⟩
  | .hbm, ⟨9, _⟩ => ⟨S8448x256, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Ff1.lean ====
abbrev S8448x1024 : Shape := ⟨2, ![8448, 1024]⟩
abbrev S1024x4096 : Shape := ⟨2, ![1024, 4096]⟩
abbrev S8448x4096 : Shape := ⟨2, ![8448, 4096]⟩
abbrev S768x1024 : Shape := ⟨2, ![768, 1024]⟩
abbrev S768x4096 : Shape := ⟨2, ![768, 4096]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x4096, .bf16⟩
  | .local _ .vmem, ⟨0, _⟩ => ⟨S768x1024, .bf16⟩
  | .local _ .vmem, ⟨1, _⟩ => ⟨S768x1024, .bf16⟩
  | .local _ .vmem, ⟨2, _⟩ => ⟨S1024x4096, .bf16⟩
  | .local _ .vmem, ⟨3, _⟩ => ⟨S768x4096, .bf16⟩
  | .local _ .vmem, ⟨4, _⟩ => ⟨S768x4096, .bf16⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Ff1RefIdeal.lean ====
abbrev S8448x1024 : Shape := ⟨2, ![8448, 1024]⟩
abbrev S1024x4096 : Shape := ⟨2, ![1024, 4096]⟩
abbrev S8448x4096 : Shape := ⟨2, ![8448, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x4096, .bf16⟩
  | .hbm, ⟨2, _⟩ => ⟨S8448x1024, .f32⟩
  | .hbm, ⟨3, _⟩ => ⟨S1024x4096, .f32⟩
  | .hbm, ⟨4, _⟩ => ⟨S8448x4096, .f32⟩
  | .hbm, ⟨5, _⟩ => ⟨S_, .f32⟩
  | .hbm, ⟨6, _⟩ => ⟨S8448x4096, .f32⟩
  | .hbm, ⟨7, _⟩ => ⟨S8448x4096, .f32⟩
  | .hbm, ⟨8, _⟩ => ⟨S8448x4096, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Ff2.lean ====
abbrev S8448x4096 : Shape := ⟨2, ![8448, 4096]⟩
abbrev S4096x1024 : Shape := ⟨2, ![4096, 1024]⟩
abbrev S8448x1024 : Shape := ⟨2, ![8448, 1024]⟩
abbrev S768x4096 : Shape := ⟨2, ![768, 4096]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x4096, .bf16⟩
  | .hbm, ⟨1, _⟩ => ⟨S4096x1024, .bf16⟩
  | .hbm, ⟨2, _⟩ => ⟨S8448x1024, .f32⟩
  | .local _ .vmem, ⟨0, _⟩ => ⟨S768x4096, .bf16⟩
  | .local _ .vmem, ⟨1, _⟩ => ⟨S768x4096, .bf16⟩
  | .local _ .vmem, ⟨2, _⟩ => ⟨S4096x1024, .bf16⟩
  | .local _ .vmem, ⟨3, _⟩ => ⟨S768x1024, .f32⟩
  | .local _ .vmem, ⟨4, _⟩ => ⟨S768x1024, .f32⟩
  | _, _ => ⟨S8448x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Ff2RefIdeal.lean ====
abbrev S8448x4096 : Shape := ⟨2, ![8448, 4096]⟩
abbrev S4096x1024 : Shape := ⟨2, ![4096, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x4096, .bf16⟩
  | .hbm, ⟨1, _⟩ => ⟨S4096x1024, .bf16⟩
  | .hbm, ⟨2, _⟩ => ⟨S8448x4096, .f32⟩
  | .hbm, ⟨3, _⟩ => ⟨S8448x4096, .f32⟩
  | .hbm, ⟨4, _⟩ => ⟨S4096x1024, .f32⟩
  | .hbm, ⟨5, _⟩ => ⟨S8448x1024, .f32⟩
  | _, _ => ⟨S8448x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProj.lean ====
abbrev S8448x1024 : Shape := ⟨2, ![8448, 1024]⟩
abbrev S1024x2048 : Shape := ⟨2, ![1024, 2048]⟩
abbrev S8448x2048 : Shape := ⟨2, ![8448, 2048]⟩
abbrev S768x1024 : Shape := ⟨2, ![768, 1024]⟩
abbrev S768x2048 : Shape := ⟨2, ![768, 2048]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x2048, .f32⟩
  | .local _ .vmem, ⟨0, _⟩ => ⟨S768x1024, .bf16⟩
  | .local _ .vmem, ⟨1, _⟩ => ⟨S768x1024, .bf16⟩
  | .local _ .vmem, ⟨2, _⟩ => ⟨S1024x2048, .bf16⟩
  | .local _ .vmem, ⟨3, _⟩ => ⟨S768x2048, .f32⟩
  | .local _ .vmem, ⟨4, _⟩ => ⟨S768x2048, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjRefIdeal.lean ====
abbrev S8448x1024 : Shape := ⟨2, ![8448, 1024]⟩
abbrev S1024x2048 : Shape := ⟨2, ![1024, 2048]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x2048, .bf16⟩
  | .hbm, ⟨2, _⟩ => ⟨S8448x1024, .f32⟩
  | .hbm, ⟨3, _⟩ => ⟨S1024x2048, .f32⟩
  | .hbm, ⟨4, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S8448x1024 : Shape := ⟨2, ![8448, 1024]⟩
abbrev S1024x1024 : Shape := ⟨2, ![1024, 1024]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutProjRefIdeal.lean ====
abbrev S8448x1024 : Shape := ⟨2, ![8448, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvUp.lean ====
abbrev S8448x256 : Shape := ⟨2, ![8448, 256]⟩
abbrev S256x1024 : Shape := ⟨2, ![256, 1024]⟩
abbrev S8448x1024 : Shape := ⟨2, ![8448, 1024]⟩
abbrev S768x256 : Shape := ⟨2, ![768, 256]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x1024, .bf16⟩
  | .local _ .vmem, ⟨0, _⟩ => ⟨S768x256, .bf16⟩
  | .local _ .vmem, ⟨1, _⟩ => ⟨S768x256, .bf16⟩
  | .local _ .vmem, ⟨2, _⟩ => ⟨S256x1024, .bf16⟩
  | .local _ .vmem, ⟨3, _⟩ => ⟨S768x1024, .bf16⟩
  | .local _ .vmem, ⟨4, _⟩ => ⟨S768x1024, .bf16⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvUpRefIdeal.lean ====
abbrev S8448x256 : Shape := ⟨2, ![8448, 256]⟩
abbrev S256x1024 : Shape := ⟨2, ![256, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x256, .f32⟩
  | .hbm, ⟨3, _⟩ => ⟨S256x1024, .f32⟩
  | .hbm, ⟨4, _⟩ => ⟨S8448x1024, .f32⟩
  | .hbm, ⟨5, _⟩ => ⟨S8448x1024, .bf16⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== QUp.lean ====
abbrev S8448x256 : Shape := ⟨2, ![8448, 256]⟩
abbrev S256x1024 : Shape := ⟨2, ![256, 1024]⟩
abbrev S8448x1024 : Shape := ⟨2, ![8448, 1024]⟩
abbrev S768x256 : Shape := ⟨2, ![768, 256]⟩
abbrev S768x1024 : Shape := ⟨2, ![768, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x1024, .f32⟩
  | .local _ .vmem, ⟨0, _⟩ => ⟨S768x256, .bf16⟩
  | .local _ .vmem, ⟨1, _⟩ => ⟨S768x256, .bf16⟩
  | .local _ .vmem, ⟨2, _⟩ => ⟨S256x1024, .bf16⟩
  | .local _ .vmem, ⟨3, _⟩ => ⟨S768x1024, .f32⟩
  | .local _ .vmem, ⟨4, _⟩ => ⟨S768x1024, .f32⟩
  | _, _ => ⟨S8448x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QUpRefIdeal.lean ====
abbrev S8448x256 : Shape := ⟨2, ![8448, 256]⟩
abbrev S256x1024 : Shape := ⟨2, ![256, 1024]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x256, .bf16⟩
  | .hbm, ⟨1, _⟩ => ⟨S256x1024, .bf16⟩
  | .hbm, ⟨2, _⟩ => ⟨S8448x256, .f32⟩
  | .hbm, ⟨3, _⟩ => ⟨S256x1024, .f32⟩
  | .hbm, ⟨4, _⟩ => ⟨S8448x1024, .f32⟩
  | _, _ => ⟨S8448x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Fwd.lean ====
abbrev S8448x1024 : Shape := ⟨2, ![8448, 1024]⟩
abbrev S8448x512 : Shape := ⟨2, ![8448, 512]⟩
abbrev S768x256 : Shape := ⟨2, ![768, 256]⟩
abbrev S2816x256 : Shape := ⟨2, ![2816, 256]⟩
abbrev S2816x128 : Shape := ⟨2, ![2816, 128]⟩
abbrev S768x128 : Shape := ⟨2, ![768, 128]⟩
abbrev S768x1 : Shape := ⟨2, ![768, 1]⟩
abbrev S256x256 : Shape := ⟨2, ![256, 256]⟩
abbrev S256x2816 : Shape := ⟨2, ![256, 2816]⟩
abbrev S256x1 : Shape := ⟨2, ![256, 1]⟩
abbrev S256 : Shape := ⟨1, ![256]⟩
abbrev S256x128 : Shape := ⟨2, ![256, 128]⟩

abbrev nBuf : Space → Nat
  | .hbm => 5
  | .vmem => 13
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x512, .f32⟩
  | .hbm, ⟨4, _⟩ => ⟨S8448x512, .f32⟩
  | .local _ .vmem, ⟨0, _⟩ => ⟨S768x256, .bf16⟩
  | .local _ .vmem, ⟨1, _⟩ => ⟨S768x256, .bf16⟩
  | .local _ .vmem, ⟨2, _⟩ => ⟨S2816x256, .bf16⟩
  | .local _ .vmem, ⟨3, _⟩ => ⟨S2816x256, .bf16⟩
  | .local _ .vmem, ⟨4, _⟩ => ⟨S2816x128, .bf16⟩
  | .local _ .vmem, ⟨5, _⟩ => ⟨S2816x128, .bf16⟩
  | .local _ .vmem, ⟨6, _⟩ => ⟨S768x128, .f32⟩
  | .local _ .vmem, ⟨7, _⟩ => ⟨S768x128, .f32⟩
  | .local _ .vmem, ⟨8, _⟩ => ⟨S768x128, .f32⟩
  | .local _ .vmem, ⟨9, _⟩ => ⟨S768x128, .f32⟩
  | .local _ .vmem, ⟨10, _⟩ => ⟨S768x1, .f32⟩
  | .local _ .vmem, ⟨11, _⟩ => ⟨S768x1, .f32⟩
  | .local _ .vmem, ⟨12, _⟩ => ⟨S768x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 3], ![false, false, false]⟩

def k0_cond2 (i : grid0.Coords) : BitVec 1 :=
  let arg2 : BitVec 32 := BitVec.ofNat 32 (i 2).val
  let c2_i32 : BitVec 32 := 2#32
  let v109 : BitVec 1 := Scalar.cmpi .eq arg2 c2_i32
  let v110 : BitVec 32 := Scalar.extui v109
  let c0_i32_57 : BitVec 32 := 0#32
  let v111 : BitVec 1 := Scalar.cmpi .ne v110 c0_i32_57
  v111

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg0
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2816x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2816x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S768x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S768x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== FwdIdeal.lean ====
variable {F : FTy → Type} [FloatOps F] [Named F]
def κ : String → Option EReal := fun
  | "log2e" => some (((Real.log 2)⁻¹ : ℝ) : EReal)
  | "mask" => some ⊥
  | _ => none
-- ==== FwdRefIdeal.lean ====
abbrev S8448x1024 : Shape := ⟨2, ![8448, 1024]⟩
abbrev S8448x512 : Shape := ⟨2, ![8448, 512]⟩
abbrev S8448x4x256 : Shape := ⟨3, ![8448, 4, 256]⟩
abbrev S8448x4x128 : Shape := ⟨3, ![8448, 4, 128]⟩
abbrev S256x4x256 : Shape := ⟨3, ![256, 4, 256]⟩
abbrev S256x4x128 : Shape := ⟨3, ![256, 4, 128]⟩
abbrev S4x256x256 : Shape := ⟨3, ![4, 256, 256]⟩
abbrev S_ : Shape := ⟨0, ![]⟩
abbrev S4x256 : Shape := ⟨2, ![4, 256]⟩
abbrev S4x256x1 : Shape := ⟨3, ![4, 256, 1]⟩
abbrev S4x128x256 : Shape := ⟨3, ![4, 128, 256]⟩
abbrev S8192x4x256 : Shape := ⟨3, ![8192, 4, 256]⟩
abbrev S4x8192x8448 : Shape := ⟨3, ![4, 8192, 8448]⟩
abbrev S4x8192 : Shape := ⟨2, ![4, 8192]⟩
abbrev S4x8192x1 : Shape := ⟨3, ![4, 8192, 1]⟩
abbrev S4x128x8192 : Shape := ⟨3, ![4, 128, 8192]⟩
abbrev S8192x4x128 : Shape := ⟨3, ![8192, 4, 128]⟩
abbrev S4x8448 : Shape := ⟨2, ![4, 8448]⟩
abbrev S8448x4 : Shape := ⟨2, ![8448, 4]⟩

abbrev nBuf : Space → Nat
  | .hbm => 92
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .bf16⟩
  | .hbm, ⟨3, _⟩ => ⟨S8448x512, .bf16⟩
  | .hbm, ⟨4, _⟩ => ⟨S8448x4x256, .bf16⟩
  | .hbm, ⟨5, _⟩ => ⟨S8448x4x256, .bf16⟩
  | .hbm, ⟨6, _⟩ => ⟨S8448x4x128, .bf16⟩
  | .hbm, ⟨7, _⟩ => ⟨S256x4x256, .bf16⟩
  | .hbm, ⟨8, _⟩ => ⟨S256x4x256, .bf16⟩
  | .hbm, ⟨9, _⟩ => ⟨S256x4x128, .bf16⟩
  | .hbm, ⟨10, _⟩ => ⟨S4x256x256, .f32⟩
  | .hbm, ⟨11, _⟩ => ⟨S_, .f32⟩
  | .hbm, ⟨12, _⟩ => ⟨S_, .f32⟩
  | .hbm, ⟨13, _⟩ => ⟨S4x256x256, .f32⟩
  | .hbm, ⟨14, _⟩ => ⟨S4x256x256, .f32⟩
  | .hbm, ⟨15, _⟩ => ⟨S_, .f32⟩
  | .hbm, ⟨16, _⟩ => ⟨S4x256, .f32⟩
  | .hbm, ⟨17, _⟩ => ⟨S_, .f32⟩
  | .hbm, ⟨18, _⟩ => ⟨S4x256, .f32⟩
  | .hbm, ⟨19, _⟩ => ⟨S4x256, .f32⟩
  | .hbm, ⟨20, _⟩ => ⟨S4x256x1, .f32⟩
  | .hbm, ⟨21, _⟩ => ⟨S4x256x256, .f32⟩
  | .hbm, ⟨22, _⟩ => ⟨S4x256x256, .f32⟩
  | .hbm, ⟨23, _⟩ => ⟨S4x256x256, .f32⟩
  | .hbm, ⟨24, _⟩ => ⟨S_, .f32⟩
  | .hbm, ⟨25, _⟩ => ⟨S4x256, .f32⟩
  | .hbm, ⟨26, _⟩ => ⟨S4x256x1, .f32⟩
  | .hbm, ⟨27, _⟩ => ⟨S4x256x256, .f32⟩
  | .hbm, ⟨28, _⟩ => ⟨S4x256x256, .f32⟩
  | .hbm, ⟨29, _⟩ => ⟨S4x256x256, .bf16⟩
  | .hbm, ⟨30, _⟩ => ⟨S4x128x256, .f32⟩
  | .hbm, ⟨31, _⟩ => ⟨S256x4x128, .f32⟩
  | .hbm, ⟨32, _⟩ => ⟨S8192x4x256, .bf16⟩
  | .hbm, ⟨33, _⟩ => ⟨S4x8192x8448, .f32⟩
  | .hbm, ⟨34, _⟩ => ⟨S_, .f32⟩
  | .hbm, ⟨35, _⟩ => ⟨S_, .f32⟩
  | .hbm, ⟨36, _⟩ => ⟨S4x8192x8448, .f32⟩
  | .hbm, ⟨37, _⟩ => ⟨S4x8192x8448, .f32⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S4x8192, .f32⟩
  | .hbm, ⟨43, _⟩ => ⟨S4x8192x1, .f32⟩
  | .hbm, ⟨44, _⟩ => ⟨S4x8192x8448, .f32⟩
  | .hbm, ⟨45, _⟩ => ⟨S4x8192x8448, .f32⟩
  | .hbm, ⟨46, _⟩ => ⟨S4x8192x8448, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S4x8192x8448, .f32⟩
  | .hbm, ⟨51, _⟩ => ⟨S4x8192x8448, .f32⟩
  | .hbm, ⟨52, _⟩ => ⟨S4x8192x8448, .bf16⟩
  | .hbm, ⟨53, _⟩ => ⟨S4x128x8192, .f32⟩
  | .hbm, ⟨54, _⟩ => ⟨S8192x4x128, .f32⟩
  | .hbm, ⟨55, _⟩ => ⟨S8448x4x128, .f32⟩
  | .hbm, ⟨56, _⟩ => ⟨S8448x512, .f32⟩
  | .hbm, ⟨57, _⟩ => ⟨S8448x4x256, .bf16⟩
  | .hbm, ⟨58, _⟩ => ⟨S8448x4x256, .bf16⟩
  | .hbm, ⟨59, _⟩ => ⟨S256x4x256, .bf16⟩
  | .hbm, ⟨60, _⟩ => ⟨S256x4x256, .bf16⟩
  | .hbm, ⟨61, _⟩ => ⟨S4x256x256, .f32⟩
  | .hbm, ⟨62, _⟩ => ⟨S_, .f32⟩
  | .hbm, ⟨63, _⟩ => ⟨S_, .f32⟩
  | .hbm, ⟨64, _⟩ => ⟨S4x256x256, .f32⟩
  | .hbm, ⟨65, _⟩ => ⟨S4x256x256, .f32⟩
  | .hbm, ⟨66, _⟩ => ⟨S4x256x256, .f32⟩
  | .hbm, ⟨67, _⟩ => ⟨S_, .f32⟩
  | .hbm, ⟨68, _⟩ => ⟨S4x256, .f32⟩
  | .hbm, ⟨69, _⟩ => ⟨S4x256, .f32⟩
  | .hbm, ⟨70, _⟩ => ⟨S_, .f32⟩
  | .hbm, ⟨71, _⟩ => ⟨S_, .f32⟩
  | .hbm, ⟨72, _⟩ => ⟨S4x256, .f32⟩
  | .hbm, ⟨73, _⟩ => ⟨S4x256, .f32⟩
  | .hbm, ⟨74, _⟩ => ⟨S8192x4x256, .bf16⟩
  | .hbm, ⟨75, _⟩ => ⟨S4x8192x8448, .f32⟩
  | .hbm, ⟨76, _⟩ => ⟨S_, .f32⟩
  | .hbm, ⟨77, _⟩ => ⟨S_, .f32⟩
  | .hbm, ⟨78, _⟩ => ⟨S4x8192x8448, .f32⟩
  | .hbm, ⟨79, _⟩ => ⟨S4x8192x8448, .f32⟩
  | .hbm, ⟨80, _⟩ => ⟨S4x8192x8448, .f32⟩
  | .hbm, ⟨81, _⟩ => ⟨S_, .f32⟩
  | .hbm, ⟨82, _⟩ => ⟨S4x8192, .f32⟩
  | .hbm, ⟨83, _⟩ => ⟨S4x8192, .f32⟩
  | .hbm, ⟨84, _⟩ => ⟨S_, .f32⟩
  | .hbm, ⟨85, _⟩ => ⟨S_, .f32⟩
  | .hbm, ⟨86, _⟩ => ⟨S4x8192, .f32⟩
  | .hbm, ⟨87, _⟩ => ⟨S4x8192, .f32⟩
  | .hbm, ⟨88, _⟩ => ⟨S4x8448, .f32⟩
  | .hbm, ⟨89, _⟩ => ⟨S8448x4, .f32⟩
  | .hbm, ⟨90, _⟩ => ⟨S8448x4x128, .f32⟩
  | .hbm, ⟨91, _⟩ => ⟨S8448x512, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_4 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_6 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_7 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_8 : Ref sig .tc := ⟨.hbm, 67, rfl⟩
abbrev main_v55 : Ref sig .tc := ⟨.hbm, 68, rfl⟩
abbrev main_v56 : Ref sig .tc := ⟨.hbm, 69, rfl⟩
abbrev main_cst_9 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_10 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_11 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩

abbrev nD : Nat := 1
abbrev τ : Topo := Topo.v7x

variable {F : FTy → Type} [FloatOps F]
-- ==== Proof.Conds.lean ====
/- The branch conditions of the flash backward body in closed form over the grid points, the staging memrefs at a
   point, and where the inputs' windows are live: what the body's runs and the launch are stated over. -/
module

public import proofs.«01_k».proof.Proof.Gen.KernelIdeal.Frame
public import proofs.«01_k».proof.Proof.Gen.KernelIdeal.Skeleton

@[expose] public section

set_option maxRecDepth 16384

noncomputable section

namespace Cert.KernelIdeal.Bwd

open Idealize.ShloMosaic Idealize.ShloMosaic.TcCoe Idealize.ShloMosaic.Tactic
open Idealize.SL Idealize.SL.Sem
open Cert.KernelIdeal.Gen

/-- The grid coordinates of point `t`: head, key tile, query tile. -/
theorem coords_eq (t : Fin cfg0.N) : (grid0.coords t 0).val = t.val / 33 % 4 ∧ (grid0.coords t 1).val = t.val / 3 % 11
    ∧ (grid0.coords t 2).val = t.val / 1 % 3 :=
  ⟨Pipeline.Grid.coords_val t 0 (by decide) rfl, Pipeline.Grid.coords_val t 1 (by decide) rfl, Pipeline.Grid.coords_val t 2 (by decide) rfl⟩

/-- Condition 0 of the body at point `t`, as arithmetic of the point. -/
theorem cond_0 (t : Fin cfg0.N) : k0_cond1 (grid0.coords t) = 1#1 ↔ t.val % 3 = 0 := by
  have ht : t.val < 132 := Nat.lt_of_lt_of_eq t.isLt N_0
  obtain ⟨e0, e1, e2⟩ := coords_eq t
  simp only [k0_cond1, e0, e1, e2]
  word_cmp

/-- Condition 1 of the body at point `t`, as arithmetic of the point. -/
theorem cond_1 (t : Fin cfg0.N) : k0_cond2 (grid0.coords t) = 1#1 ↔ t.val % 3 = 0 := by
  have ht : t.val < 132 := Nat.lt_of_lt_of_eq t.isLt N_0
  obtain ⟨e0, e1, e2⟩ := coords_eq t
  simp only [k0_cond2, e0, e1, e2]
  word_cmp

/-- Condition 2 of the body at point `t`, as arithmetic of the point. -/
theorem cond_2 (t : Fin cfg0.N) : k0_cond3 (grid0.coords t) = 1#1 ↔ t.val / 3 % 11 = 0 := by
  have ht : t.val < 132 := Nat.lt_of_lt_of_eq t.isLt N_0
  obtain ⟨e0, e1, e2⟩ := coords_eq t
  simp only [k0_cond3, e0, e1, e2]
  word_cmp

/-- Condition 3 of the body at point `t`, as arithmetic of the point. -/
theorem cond_3 (t : Fin cfg0.N) : k0_cond4 (grid0.coords t) = 1#1 ↔ 1 ≤ t.val / 3 % 11 := by
  have ht : t.val < 132 := Nat.lt_of_lt_of_eq t.isLt N_0
  obtain ⟨e0, e1, e2⟩ := coords_eq t
  simp only [k0_cond4, e0, e1, e2]
  word_cmp

/-- Condition 4 of the body at point `t`, as arithmetic of the point. -/
theorem cond_4 (t : Fin cfg0.N) : k0_cond5 (grid0.coords t) = 1#1 ↔ 1 ≤ t.val % 3 := by
  have ht : t.val < 132 := Nat.lt_of_lt_of_eq t.isLt N_0
  obtain ⟨e0, e1, e2⟩ := coords_eq t
  simp only [k0_cond5, e0, e1, e2]
  word_cmp

/-- Condition 5 of the body at point `t`, as arithmetic of the point. -/
theorem cond_5 (t : Fin cfg0.N) : k0_cond6 (grid0.coords t) = 1#1 ↔ t.val / 3 % 11 = 0 := by
  have ht : t.val < 132 := Nat.lt_of_lt_of_eq t.isLt N_0
  obtain ⟨e0, e1, e2⟩ := coords_eq t
  simp only [k0_cond6, e0, e1, e2]
  word_cmp

/-- Condition 6 of the body at point `t`, as arithmetic of the point. -/
theorem cond_6 (t : Fin cfg0.N) : k0_cond7 (grid0.coords t) = 1#1 ↔ 1 ≤ t.val / 3 % 11 := by
  have ht : t.val < 132 := Nat.lt_of_lt_of_eq t.isLt N_0
  obtain ⟨e0, e1, e2⟩ := coords_eq t
  simp only [k0_cond7, e0, e1, e2]
  word_cmp

/-- Window 0's staging memref at point `t`. -/
abbrev ms_0 (t : Fin cfg0.N) : Memref sig .tc .vmem S2816x256 .bf16 := win0_0.stage (cfg0.slots t 0)
/-- Window 1's staging memref at point `t`. -/
abbrev ms_1 (t : Fin cfg0.N) : Memref sig .tc .vmem S768x256 .bf16 := win0_1.stage (cfg0.slots t 1)
/-- Window 2's staging memref at point `t`. -/
abbrev ms_2 (t : Fin cfg0.N) : Memref sig .tc .vmem S768x128 .bf16 := win0_2.stage (cfg0.slots t 2)
/-- Window 3's staging memref at point `t`. -/
abbrev ms_3 (t : Fin cfg0.N) : Memref sig .tc .vmem S2816x128 .f32 := win0_3.stage (cfg0.slots t 3)
/-- Window 4's staging memref at point `t`. -/
abbrev ms_4 (t : Fin cfg0.N) : Memref sig .tc .vmem S11x16x256 .f32 := win0_4.stage (cfg0.slots t 4)
/-- Window 5's staging memref at point `t`. -/
abbrev ms_5 (t : Fin cfg0.N) : Memref sig .tc .vmem S8448x256 .f32 := win0_5.stage (cfg0.slots t 5)
/-- Window 6's staging memref at point `t`. -/
abbrev ms_6 (t : Fin cfg0.N) : Memref sig .tc .vmem S768x256 .f32 := win0_6.stage (cfg0.slots t 6)
/-- Window 7's staging memref at point `t`. -/
abbrev ms_7 (t : Fin cfg0.N) : Memref sig .tc .vmem S768x128 .f32 := win0_7.stage (cfg0.slots t 7)

end Cert.KernelIdeal.Bwd

end
-- ==== Proof.Tile.lean ====
/- One grid point's tiles: the row of statistics, the two products each output block adds, and the loads read as parts of a block. -/
module

public import proofs.«01_k».proof.Proof.Conds
public import Idealize.ShloMosaic.Lib.VecWindow
public import Idealize.ShloMosaic.Lib.WholeRead
public import Idealize.ShloMosaic.Lib.PointwiseCore

@[expose] public section

set_option maxRecDepth 16384

noncomputable section

namespace Cert.KernelIdeal.Bwd

open Idealize.ShloMosaic Idealize.ShloMosaic.TcCoe
open Idealize.SL
open Cert.KernelIdeal.Gen

variable {F : FTy → Type} [FloatOps F] [Named F]

/-- One 256-query piece of a block of statistics: query tile `u`, sublane `s`. -/
def piece (x4 : Vec F S11x16x256 .f32) (u s : ℕ) : Vec F S1x1x256 .f32 :=
  fun j => x4 (ix3 (n0 := 11) (n1 := 16) (n2 := 256) ⟨u % 11, Nat.mod_lt _ (by decide)⟩ ⟨s % 16, Nat.mod_lt _ (by decide)⟩ (j 2))

/-- The row of one statistic over a block's 2816 queries: query `c` is lane `c % 256` of tile `c / 256`. -/
def row (x4 : Vec F S11x16x256 .f32) (s : ℕ) : FVec F S1x2816 .f32 :=
  fun j => x4 (ix3 (n0 := 11) (n1 := 16) (n2 := 256) ⟨(j 1).val / 256 % 11, Nat.mod_lt _ (by decide)⟩ ⟨s % 16, Nat.mod_lt _ (by decide)⟩
    ⟨(j 1).val % 256, Nat.mod_lt _ (by decide)⟩)

/-- A choice both of whose branches equal `r` equals `r`. -/
theorem dite_eq_of {α : Type} {c : Prop} [Decidable c] {f : c → α} {g : ¬c → α} {r : α} (hf : ∀ h, f h = r) (hg : ∀ h, g h = r) : dite c f g = r := by
  by_cases h : c
  · rw [dif_pos h]; exact hf h
  · rw [dif_neg h]; exact hg h

/-- An entry of a block of statistics by the position of its query in the block. -/
theorem at_row (x4 : Vec F S11x16x256 .f32) (u : Fin 11) (s' : Fin 16) (l : Fin 256) (b : ℕ) (h : u.val * 256 + l.val = b) :
    x4 (ix3 u s' l) = x4 (ix3 (n0 := 11) (n1 := 16) (n2 := 256) ⟨b / 256 % 11, Nat.mod_lt _ (by decide)⟩ s' ⟨b % 256, Nat.mod_lt _ (by decide)⟩) := by
  have hu := u.isLt
  have hl := l.isLt
  have e1 : u = ⟨b / 256 % 11, Nat.mod_lt _ (by decide)⟩ := Fin.ext (by show u.val = b / 256 % 11; omega)
  have e2 : l = ⟨b % 256, Nat.mod_lt _ (by decide)⟩ := Fin.ext (by show l.val = b % 256; omega)
  rw [← e1, ← e2]

set_option maxHeartbeats 1000000 in
/-- The eleven pieces, each a row of 256, laid side by side are the row. -/
theorem row_eq (x4 : Vec F S11x16x256 .f32) (s : ℕ) :
    k0_pay16 (F := F) (k0_pay7 (piece x4 0 s)) (k0_pay8 (piece x4 1 s)) (k0_pay9 (piece x4 2 s)) (k0_pay10 (piece x4 3 s)) (k0_pay11 (piece x4 4 s))
      (k0_pay12 (piece x4 5 s)) (k0_pay13 (piece x4 6 s)) (k0_pay14 (piece x4 7 s)) (k0_pay15 (piece x4 8 s)) (piece x4 9 s) (piece x4 10 s)
      = row x4 s := by
  funext j
  obtain ⟨a, b, rfl⟩ : ∃ (a : Fin 1) (b : Fin 2816), j = ix2 a b := ⟨j 0, j 1, eq_ix2 j⟩
  have hb := b.isLt
  pointwise [k0_pay16, k0_pay7, k0_pay8, k0_pay9, k0_pay10, k0_pay11, k0_pay12, k0_pay13, k0_pay14, k0_pay15, row, piece]
  refine dite_eq_of (fun h => at_row x4 _ _ _ b.val (by show 0 * 256 + _ = _; dsimp only; omega)) fun h0 => ?_
  refine dite_eq_of (fun h => at_row x4 _ _ _ b.val (by show 1 * 256 + _ = _; dsimp only; omega)) fun h1 => ?_
  refine dite_eq_of (fun h => at_row x4 _ _ _ b.val (by show 2 * 256 + _ = _; dsimp only; omega)) fun h2 => ?_
  refine dite_eq_of (fun h => at_row x4 _ _ _ b.val (by show 3 * 256 + _ = _; dsimp only; omega)) fun h3 => ?_
  refine dite_eq_of (fun h => at_row x4 _ _ _ b.val (by show 4 * 256 + _ = _; dsimp only; omega)) fun h4 => ?_
  refine dite_eq_of (fun h => at_row x4 _ _ _ b.val (by show 5 * 256 + _ = _; dsimp only; omega)) fun h5 => ?_
  refine dite_eq_of (fun h => at_row x4 _ _ _ b.val (by show 6 * 256 + _ = _; dsimp only; omega)) fun h6 => ?_
  refine dite_eq_of (fun h => at_row x4 _ _ _ b.val (by show 7 * 256 + _ = _; dsimp only; omega)) fun h7 => ?_
  refine dite_eq_of (fun h => at_row x4 _ _ _ b.val (by show 8 * 256 + _ = _; dsimp only; omega)) fun h8 => ?_
  refine dite_eq_of (fun h => at_row x4 _ _ _ b.val (by show 9 * 256 + _ = _; dsimp only; omega)) fun h9 => ?_
  exact at_row x4 _ _ _ b.val (by show 10 * 256 + _ = _; dsimp only; omega)

set_option maxHeartbeats 1000000 in
/-- The same eleven pieces read by the other branch. -/
theorem row_eq' (x4 : Vec F S11x16x256 .f32) (s : ℕ) :
    k0_pay42 (F := F) (k0_pay33 (piece x4 0 s)) (k0_pay34 (piece x4 1 s)) (k0_pay35 (piece x4 2 s)) (k0_pay36 (piece x4 3 s)) (k0_pay37 (piece x4 4 s))
      (k0_pay38 (piece x4 5 s)) (k0_pay39 (piece x4 6 s)) (k0_pay40 (piece x4 7 s)) (k0_pay41 (piece x4 8 s)) (piece x4 9 s) (piece x4 10 s)
      = row x4 s := row_eq x4 s

/-- A load of one piece, of a block held at contents that read `x4`. -/
theorem readAt_piece (m : Memref sig .tc .vmem S11x16x256 .f32) (h : m.IsWhole) (x4 : Vec F S11x16x256 .f32) (u s : ℕ)
    (inb : ∀ a, (![u, s, 0] : Fin 3 → ℕ) a + S1x1x256.size a ≤ S11x16x256.size a) :
    View.readAt (Elt F) m.view (Rect.unit (s := S11x16x256) ![u, s, 0] S1x1x256.size inb).toLoadRect (h.unread x4) = piece x4 u s := by
  funext j
  rw [h.readAt_unread]
  unfold piece
  congr 1
  have h0 := inb 0
  have h1 := inb 1
  simp only [Matrix.cons_val_zero, Matrix.cons_val_one] at h0 h1
  have q0 : (j 0).val < 1 := (j 0).isLt
  have q1 : (j 1).val < 1 := (j 1).isLt
  change u + 1 ≤ 11 at h0
  change s + 1 ≤ 16 at h1
  funext a
  fin_cases a
  · exact Fin.ext (by show u + 1 * (j 0).val = u % 11; omega)
  · exact Fin.ext (by show s + 1 * (j 1).val = s % 16; omega)
  · exact Fin.ext (by show 0 + 1 * (j 2).val = (j 2).val; omega)

/-- What a key block's tile of weighted score gradients is, from the weights `p`, the values, the cotangent and the row of `delta`. -/
def dsOf (p : FVec F S768x2816 .f32) (v : Vec F S768x128 .bf16) (d : FVec F S2816x128 .bf16) (dl : FVec F S1x2816 .f32) : FVec F S768x2816 .bf16 :=
  truncf .bf16 (mulf p (subf (matmul dot_S768x128_S2816x128_S768x2816_1_1_0_0_n_n none v d (constant S768x2816 .f32 0x00000000#32))
    (broadcastTo S768x2816 dl broadcasts_S1x2816_S768x2816))) bitsLt_bf16_f32

/-- What the gradient of the values becomes. -/
def dvOf (p : FVec F S768x2816 .f32) (d : FVec F S2816x128 .bf16) (old : Vec F S768x128 .f32) : FVec F S768x128 .f32 :=
  addf (shapeCast S768x128 old shapeCasts_S768x128_S768x128)
    (matmul dot_S768x2816_S2816x128_S768x128_1_0_0_1_n_n none (truncf .bf16 p bitsLt_bf16_f32) d (constant S768x128 .f32 0x00000000#32))

/-- What the gradient of the keys becomes. -/
def dkOf (ds : FVec F S768x2816 .bf16) (q : Vec F S2816x256 .bf16) (old : Vec F S768x256 .f32) : FVec F S768x256 .f32 :=
  addf (shapeCast S768x256 old shapeCasts_S768x256_S768x256)
    (mulf (broadcast S768x256 (Named.named κ "log2" 0x3F317218#32))
      (matmul dot_S768x2816_S2816x256_S768x256_1_0_0_1_n_n none ds q (constant S768x256 .f32 0x00000000#32)))

/-- What a key block adds to the gradient of a block of queries. -/
def dqOf (ds : FVec F S768x2816 .bf16) (k : Vec F S768x256 .bf16) : FVec F S2816x256 .f32 :=
  mulf (broadcast S2816x256 (Named.named κ "log2" 0x3F317218#32))
    (matmul dot_S768x2816_S768x256_S2816x256_0_0_1_1_n_n none ds k (constant S2816x256 .f32 0x00000000#32))

/-- The weights of the block with the context queries, key block `w`. -/
abbrev pA (w : BitVec 32) (x0 : Vec F S2816x256 .bf16) (x1 : Vec F S768x256 .bf16) (x4 : Vec F S11x16x256 .f32) : FVec F S768x2816 .f32 :=
  k0_pay27 w x0 x1 (row x4 0)

/-- The weights of the other blocks. -/
abbrev pB (x0 : Vec F S2816x256 .bf16) (x1 : Vec F S768x256 .bf16) (x4 : Vec F S11x16x256 .f32) : FVec F S768x2816 .f32 :=
  k0_pay53 x0 x1 (row x4 0)

/-- The score gradients of a tile with weights `p`. -/
abbrev dsP (p : FVec F S768x2816 .f32) (x2 : Vec F S768x128 .bf16) (x3 : Vec F S2816x128 .f32) (x4 : Vec F S11x16x256 .f32) : FVec F S768x2816 .bf16 :=
  dsOf p x2 (k0_pay6 x3) (row x4 8)

/-- The key gradient stored with the context queries. -/
theorem pay30_eq (w : BitVec 32) (x0 : Vec F S2816x256 .bf16) (x1 : Vec F S768x256 .bf16) (x2 : Vec F S768x128 .bf16) (d : FVec F S2816x128 .bf16)
    (l : FVec F S1x2816 .f32) (x4 : Vec F S11x16x256 .f32) (s : ℕ) (y : Vec F S768x256 .f32) :
    k0_pay30 (F := F) w x0 x1 x2 d l (k0_pay17 (piece x4 0 s)) (k0_pay18 (piece x4 1 s)) (k0_pay19 (piece x4 2 s)) (k0_pay20 (piece x4 3 s)) (k0_pay21 (piece x4 4 s)) (k0_pay22 (piece x4 5 s)) (k0_pay23 (piece x4 6 s)) (k0_pay24 (piece x4 7 s)) (k0_pay25 (piece x4 8 s)) (k0_pay26 (piece x4 9 s)) (piece x4 10 s) y
      = dkOf (dsOf (k0_pay27 w x0 x1 l) x2 d (row x4 s)) x0 y := by
  rw [← row_eq x4 s]; rfl

/-- The query gradient added with the context queries. -/
theorem pay31_eq (w : BitVec 32) (x0 : Vec F S2816x256 .bf16) (x1 : Vec F S768x256 .bf16) (x2 : Vec F S768x128 .bf16) (d : FVec F S2816x128 .bf16)
    (l : FVec F S1x2816 .f32) (x4 : Vec F S11x16x256 .f32) (s : ℕ) :
    k0_pay3 (k0_pay31 (F := F) w x0 x1 x2 d l (k0_pay17 (piece x4 0 s)) (k0_pay18 (piece x4 1 s)) (k0_pay19 (piece x4 2 s)) (k0_pay20 (piece x4 3 s)) (k0_pay21 (piece x4 4 s)) (k0_pay22 (piece x4 5 s)) (k0_pay23 (piece x4 6 s)) (k0_pay24 (piece x4 7 s)) (k0_pay25 (piece x4 8 s)) (k0_pay26 (piece x4 9 s)) (piece x4 10 s))
      = dqOf (dsOf (k0_pay27 w x0 x1 l) x2 d (row x4 s)) x1 := by
  rw [← row_eq x4 s]; rfl

/-- The key gradient stored by the other branch. -/
theorem pay56_eq (x0 : Vec F S2816x256 .bf16) (x1 : Vec F S768x256 .bf16) (x2 : Vec F S768x128 .bf16) (d : FVec F S2816x128 .bf16)
    (l : FVec F S1x2816 .f32) (x4 : Vec F S11x16x256 .f32) (s : ℕ) (y : Vec F S768x256 .f32) :
    k0_pay56 (F := F) x0 x1 x2 d l (k0_pay43 (piece x4 0 s)) (k0_pay44 (piece x4 1 s)) (k0_pay45 (piece x4 2 s)) (k0_pay46 (piece x4 3 s)) (k0_pay47 (piece x4 4 s)) (k0_pay48 (piece x4 5 s)) (k0_pay49 (piece x4 6 s)) (k0_pay50 (piece x4 7 s)) (k0_pay51 (piece x4 8 s)) (k0_pay52 (piece x4 9 s)) (piece x4 10 s) y
      = dkOf (dsOf (k0_pay53 x0 x1 l) x2 d (row x4 s)) x0 y := by
  rw [← row_eq x4 s]; rfl

/-- The query gradient added by the other branch. -/
theorem pay57_eq (x0 : Vec F S2816x256 .bf16) (x1 : Vec F S768x256 .bf16) (x2 : Vec F S768x128 .bf16) (d : FVec F S2816x128 .bf16)
    (l : FVec F S1x2816 .f32) (x4 : Vec F S11x16x256 .f32) (s : ℕ) :
    k0_pay57 (F := F) x0 x1 x2 d l (k0_pay43 (piece x4 0 s)) (k0_pay44 (piece x4 1 s)) (k0_pay45 (piece x4 2 s)) (k0_pay46 (piece x4 3 s)) (k0_pay47 (piece x4 4 s)) (k0_pay48 (piece x4 5 s)) (k0_pay49 (piece x4 6 s)) (k0_pay50 (piece x4 7 s)) (k0_pay51 (piece x4 8 s)) (k0_pay52 (piece x4 9 s)) (piece x4 10 s)
      = dqOf (dsOf (k0_pay53 x0 x1 l) x2 d (row x4 s)) x1 := by
  rw [← row_eq x4 s]; rfl

end Cert.KernelIdeal.Bwd

end
-- ==== Proof.Data.lean ====
/- What the output blocks hold point by point: the accumulated tiles, the relations the body keeps, and one step of each. -/
module

public import proofs.«01_k».proof.Proof.Tile
public import Idealize.ShloMosaic.Lib.Pipeline.DatRel

@[expose] public section

set_option maxRecDepth 16384

noncomputable section

namespace Cert.KernelIdeal.Bwd

open Idealize.ShloMosaic Idealize.ShloMosaic.TcCoe
open Idealize.SL Idealize.SL.RA Idealize.SL.BI
open Cert.KernelIdeal.Gen
open Idealize.ShloMosaic.Pipeline (Dat Cfg Window RDat)

variable {F : FTy → Type} [FloatOps F] [Named F]

variable (m : (ℓ : Loc nD τ sig) → Buf (Elt F) ℓ)

/-- The point numbered `n`. -/
def T (n : ℕ) : Fin cfg0.N := ⟨n % 132, Nat.lt_of_lt_of_eq (Nat.mod_lt _ (by decide)) N_0.symm⟩

theorem T_val (t : Fin cfg0.N) {n : ℕ} (h : n = t.val) : T n = t := by
  have ht : t.val < 132 := Nat.lt_of_lt_of_eq t.isLt N_0
  exact Fin.ext (by show n % 132 = t.val; omega)

/-- The weights of the tile of point `t`. -/
def pT (c : Dev nD) (t : Fin cfg0.N) : FVec F S768x2816 .f32 :=
  if t.val % 3 = 0 then pA (BitVec.ofNat 32 (grid0.coords t 1).val) (iblk m c 0 t) (iblk m c 1 t) (iblk m c 4 t)
  else pB (iblk m c 0 t) (iblk m c 1 t) (iblk m c 4 t)

/-- The weighted score gradients of the tile of point `t`. -/
def dsT (c : Dev nD) (t : Fin cfg0.N) : FVec F S768x2816 .bf16 := dsP (pT m c t) (iblk m c 2 t) (iblk m c 3 t) (iblk m c 4 t)

/-- What point `t` adds to its rows of the gradient of the queries. -/
def dqT (c : Dev nD) (t : Fin cfg0.N) : FVec F S2816x256 .f32 := dqOf (dsT m c t) (iblk m c 1 t)

/-- The gradient of the values after point `t` over what it was before. -/
def dvT (c : Dev nD) (t : Fin cfg0.N) (old : Vec F S768x128 .f32) : FVec F S768x128 .f32 := dvOf (pT m c t) (k0_pay6 (iblk m c 3 t)) old

/-- The gradient of the keys after point `t` over what it was before. -/
def dkT (c : Dev nD) (t : Fin cfg0.N) (old : Vec F S768x256 .f32) : FVec F S768x256 .f32 := dkOf (dsT m c t) (iblk m c 0 t) old

/-- The gradient of the values of key block `b` (heads outermost) after its query blocks up to `i`. -/
def dvAcc (c : Dev nD) (b : ℕ) : ℕ → FVec F S768x128 .f32
  | 0 => dvT m c (T (3 * b)) k0_pay2
  | i + 1 => dvT m c (T (3 * b + (i + 1))) (dvAcc c b i)

/-- The gradient of the keys of key block `b` after its query blocks up to `i`. -/
def dkAcc (c : Dev nD) (b : ℕ) : ℕ → FVec F S768x256 .f32
  | 0 => dkT m c (T (3 * b)) k0_pay1
  | i + 1 => dkT m c (T (3 * b + (i + 1))) (dkAcc c b i)

/-- The gradient of query block `i` of head `h` after the head's key blocks up to `j`. -/
def dqAcc (c : Dev nD) (h i : ℕ) : ℕ → FVec F S2816x256 .f32
  | 0 => dqT m c (T (33 * h + i))
  | j + 1 => k0_pay5 (dqT m c (T (33 * h + 3 * (j + 1) + i))) (dqAcc c h i j)

/-- Query block `i`'s rows of a head's block of the gradient of the queries. -/
def rowsOf (X : Vec F S8448x256 .f32) (i : ℕ) : Vec F S2816x256 .f32 :=
  fun j => X (ix2 (n0 := 8448) (n1 := 256) ⟨(2816 * i + (j 0).val) % 8448, Nat.mod_lt _ (by decide)⟩ (j 1))

/-- What is known of a head's block of the gradient of the queries after point `t`. -/
def Holds5 (c : Dev nD) (t : Fin cfg0.N) (X : Vec F S8448x256 .f32) : Prop :=
  ∀ i, i < 3 → (i ≤ t.val % 3 → rowsOf X i = dqAcc m c (t.val / 33) i (t.val / 3 % 11))
    ∧ (t.val % 3 < i → ∀ j, t.val / 3 % 11 = j + 1 → rowsOf X i = dqAcc m c (t.val / 33) i j)

/-- What the body leaves in the output blocks. -/
def Rl (c : Dev nD) : (w : Fin cfg0.W) → Fin cfg0.N → ((cfg0.win w).block.Idx → Elt F (cfg0.win w).elt) → Prop
  | ⟨5, _⟩ => fun t X => Holds5 m c t X
  | ⟨6, _⟩ => fun t X => X = dkAcc m c (t.val / 3) (t.val % 3)
  | ⟨7, _⟩ => fun t X => X = dvAcc m c (t.val / 3) (t.val % 3)
  | _ => fun _ _ => True

/-- The windows held to a relation: the outputs. -/
def marked : Fin 8 → Bool := fun w => w.val == 5 || w.val == 6 || w.val == 7

/-- The proof data: the arrays as the region finds them, the inputs' blocks left in place. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The same data with the outputs held to their relations. -/
def rdats (c : Dev nD) : RDat τ (Elt F) Unit ℕ (UR sig nD τ) ℕ cfg0 c := (dats m 0 c).toRRel marked (Rl m c)

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What the body finds in an output block is what it left at the point before, the block not having been written back there. -/
theorem leaves_of_finds (c : Dev nD) (w : Fin cfg0.W) (hm : marked w = true) (hf : ∀ t, (cfg0.win w).fetch t = false) (t : Fin cfg0.N) (ht : t.val ≠ 0)
    (hfl : (cfg0.win w).flush ⟨t.val - 1, Nat.lt_of_le_of_lt (Nat.sub_le _ _) t.isLt⟩ = false) (X) (h : (rdats m c).Finds w t X) :
    Rl m c w ⟨t.val - 1, Nat.lt_of_le_of_lt (Nat.sub_le _ _) t.isLt⟩ X := by
  rcases (RDat.finds_of_pos _ (hf t) ht X).mp h with h | h
  · rw [hfl] at h; exact absurd h (by decide)
  · exact Dat.toRRel_leaves (dats m 0 c) hm h

theorem found6 (c : Dev nD) (t : Fin cfg0.N) (ht : 1 ≤ t.val % 3) (X : Vec F S768x256 .f32) (h : (rdats m c).Finds 6 t X) :
    X = dkAcc m c (t.val / 3) (t.val % 3 - 1) := by
  have e := leaves_of_finds m c 6 rfl (fun _ => rfl) t (by omega)
    (Bool.eq_false_iff.mpr fun e => by have := (flush0_6 _).mp e; simp only at this; omega) X h
  change X = dkAcc m c ((t.val - 1) / 3) ((t.val - 1) % 3) at e
  rwa [show (t.val - 1) / 3 = t.val / 3 by omega, show (t.val - 1) % 3 = t.val % 3 - 1 by omega] at e

theorem found7 (c : Dev nD) (t : Fin cfg0.N) (ht : 1 ≤ t.val % 3) (X : Vec F S768x128 .f32) (h : (rdats m c).Finds 7 t X) :
    X = dvAcc m c (t.val / 3) (t.val % 3 - 1) := by
  have e := leaves_of_finds m c 7 rfl (fun _ => rfl) t (by omega)
    (Bool.eq_false_iff.mpr fun e => by have := (flush0_7 _).mp e; simp only at this; omega) X h
  change X = dvAcc m c ((t.val - 1) / 3) ((t.val - 1) % 3) at e
  rwa [show (t.val - 1) / 3 = t.val / 3 by omega, show (t.val - 1) % 3 = t.val % 3 - 1 by omega] at e

theorem found5 (c : Dev nD) (t : Fin cfg0.N) (ht : t.val % 33 ≠ 0) (X : Vec F S8448x256 .f32) (h : (rdats m c).Finds 5 t X) :
    Holds5 m c ⟨t.val - 1, Nat.lt_of_le_of_lt (Nat.sub_le _ _) t.isLt⟩ X :=
  leaves_of_finds m c 5 rfl (fun _ => rfl) t (by omega)
    (Bool.eq_false_iff.mpr fun e => by have := (flush0_5 _).mp e; simp only at this; omega) X h

/-! ## One step of each accumulation -/

theorem pT_first (c : Dev nD) (t : Fin cfg0.N) (ht : t.val % 3 = 0) :
    pT m c t = pA (BitVec.ofNat 32 (grid0.coords t 1).val) (iblk m c 0 t) (iblk m c 1 t) (iblk m c 4 t) := if_pos ht

theorem pT_later (c : Dev nD) (t : Fin cfg0.N) (ht : 1 ≤ t.val % 3) :
    pT m c t = pB (iblk m c 0 t) (iblk m c 1 t) (iblk m c 4 t) := if_neg (by omega)

theorem dvAcc_first (c : Dev nD) (t : Fin cfg0.N) (ht : t.val % 3 = 0) : dvT m c t k0_pay2 = dvAcc m c (t.val / 3) (t.val % 3) := by
  rw [ht]; show _ = dvT m c (T _) _; rw [T_val t (by omega)]

theorem dvAcc_later (c : Dev nD) (t : Fin cfg0.N) (ht : 1 ≤ t.val % 3) :
    dvT m c t (dvAcc m c (t.val / 3) (t.val % 3 - 1)) = dvAcc m c (t.val / 3) (t.val % 3) := by
  obtain ⟨i, hi⟩ : ∃ i, t.val % 3 = i + 1 := ⟨t.val % 3 - 1, by omega⟩
  rw [hi]; show _ = dvT m c (T _) _; rw [T_val t (by omega)]; rfl

theorem dkAcc_first (c : Dev nD) (t : Fin cfg0.N) (ht : t.val % 3 = 0) : dkT m c t k0_pay1 = dkAcc m c (t.val / 3) (t.val % 3) := by
  rw [ht]; show _ = dkT m c (T _) _; rw [T_val t (by omega)]

theorem dkAcc_later (c : Dev nD) (t : Fin cfg0.N) (ht : 1 ≤ t.val % 3) :
    dkT m c t (dkAcc m c (t.val / 3) (t.val % 3 - 1)) = dkAcc m c (t.val / 3) (t.val % 3) := by
  obtain ⟨i, hi⟩ : ∃ i, t.val % 3 = i + 1 := ⟨t.val % 3 - 1, by omega⟩
  rw [hi]; show _ = dkT m c (T _) _; rw [T_val t (by omega)]; rfl

/-- Rows written over rows: the block's own rows read what was written. -/
theorem rowsOf_put_same (X : Vec F S8448x256 .f32) (off : Fin 2 → ℕ) (i : ℕ) (hi : i < 3) (hoff : off = ![2816 * i, 0]) (w : Vec F S2816x256 .f32) :
    rowsOf (VecWindow.put X off S2816x256.size w) i = w := by
  subst hoff
  funext j
  have h0 : (j 0).val < 2816 := (j 0).isLt
  have h1 : (j 1).val < 256 := (j 1).isLt
  unfold rowsOf VecWindow.put
  rw [dif_pos]
  · refine congrArg w (funext fun a => ?_)
    fin_cases a
    · exact Fin.ext (by show (2816 * i + (j 0).val) % 8448 - 2816 * i = (j 0).val; omega)
    · exact Fin.ext (by show (j 1).val - 0 = (j 1).val; omega)
  · intro a
    fin_cases a
    · show 2816 * i ≤ (2816 * i + (j 0).val) % 8448 ∧ (2816 * i + (j 0).val) % 8448 < 2816 * i + 2816; omega
    · show 0 ≤ (j 1).val ∧ (j 1).val < 0 + 256; omega

/-- Rows written over other rows leave these as they were. -/
theorem rowsOf_put_other (X : Vec F S8448x256 .f32) (off : Fin 2 → ℕ) (i i' : ℕ) (hi : i < 3) (hi' : i' < 3) (hne : i' ≠ i) (hoff : off = ![2816 * i, 0])
    (w : Vec F S2816x256 .f32) : rowsOf (VecWindow.put X off S2816x256.size w) i' = rowsOf X i' := by
  subst hoff
  funext j
  have h0 : (j 0).val < 2816 := (j 0).isLt
  unfold rowsOf VecWindow.put
  rw [dif_neg]
  intro h
  have := h 0
  change 2816 * i ≤ (2816 * i' + (j 0).val) % 8448 ∧ (2816 * i' + (j 0).val) % 8448 < 2816 * i + 2816 at this
  omega

/-- A window at a query block's rows reads those rows. -/
theorem window_eq_rowsOf (X : Vec F S8448x256 .f32) (off : Fin 2 → ℕ) (inb) (i : ℕ) (hi : i < 3) (hoff : off = ![2816 * i, 0]) :
    VecWindow.window X off S2816x256.size inb = rowsOf X i := by
  subst hoff
  funext j
  have h0 : (j 0).val < 2816 := (j 0).isLt
  unfold rowsOf VecWindow.window
  refine congrArg X (funext fun a => ?_)
  fin_cases a
  · exact Fin.ext (by show 2816 * i + 1 * (j 0).val = (2816 * i + (j 0).val) % 8448; omega)
  · exact Fin.ext (by show 0 + 1 * (j 1).val = (j 1).val; omega)

/-- The first key block's step: the point's rows are written, and the rows of the blocks before it stand. -/
theorem holds5_write (c : Dev nD) (t : Fin cfg0.N) (hj : t.val / 3 % 11 = 0) (Y : Vec F S8448x256 .f32)
    (hY : t.val % 3 ≠ 0 → Holds5 m c ⟨t.val - 1, Nat.lt_of_le_of_lt (Nat.sub_le _ _) t.isLt⟩ Y) (off : Fin 2 → ℕ) (hoff : off = ![2816 * (t.val % 3), 0]) :
    Holds5 m c t (VecWindow.put Y off S2816x256.size (dqT m c t)) := by
  intro i hi
  refine ⟨fun hle => ?_, fun _ j hj' => by omega⟩
  by_cases he : i = t.val % 3
  · subst he
    rw [rowsOf_put_same _ _ _ hi hoff, hj]
    show _ = dqT m c (T _)
    rw [T_val t (by omega)]
  · rw [rowsOf_put_other _ _ _ _ (by omega) hi he hoff]
    have h := (hY (by omega) i hi).1 (by simp only; omega)
    rw [h]
    simp only
    rw [show (t.val - 1) / 33 = t.val / 33 by omega, show (t.val - 1) / 3 % 11 = t.val / 3 % 11 by omega]

/-- A later key block's step: the point's rows are added to, and the others stand. -/
theorem holds5_add (c : Dev nD) (t : Fin cfg0.N) (hj : 1 ≤ t.val / 3 % 11) (Y : Vec F S8448x256 .f32)
    (hY : Holds5 m c ⟨t.val - 1, Nat.lt_of_le_of_lt (Nat.sub_le _ _) t.isLt⟩ Y) (off : Fin 2 → ℕ) (inb) (hoff : off = ![2816 * (t.val % 3), 0]) :
    Holds5 m c t (VecWindow.put Y off S2816x256.size (k0_pay5 (dqT m c t) (VecWindow.window Y off S2816x256.size inb))) := by
  obtain ⟨j, hj'⟩ : ∃ j, t.val / 3 % 11 = j + 1 := ⟨t.val / 3 % 11 - 1, by omega⟩
  have old : ∀ i, i < 3 → t.val % 3 ≤ i → rowsOf Y i = dqAcc m c (t.val / 33) i j := fun i hi hle => by
    by_cases h0 : t.val % 3 = 0
    · have h := (hY i hi).1 (by simp only; omega)
      simp only at h
      rwa [show (t.val - 1) / 33 = t.val / 33 by omega, show (t.val - 1) / 3 % 11 = j by omega] at h
    · have h := (hY i hi).2 (by simp only; omega) j (by simp only; omega)
      simp only at h
      rwa [show (t.val - 1) / 33 = t.val / 33 by omega] at h
  intro i hi
  refine ⟨fun hle => ?_, fun hlt j₂ hj₂ => ?_⟩
  · by_cases he : i = t.val % 3
    · subst he
      rw [rowsOf_put_same _ _ _ hi hoff, window_eq_rowsOf _ _ _ _ hi hoff, old _ hi (Nat.le_refl _), hj']
      show _ = k0_pay5 (dqT m c (T _)) _
      rw [T_val t (by omega)]
    · rw [rowsOf_put_other _ _ _ _ (by omega) hi he hoff]
      have h := (hY i hi).1 (by simp only; omega)
      rw [h]
      simp only
      rw [show (t.val - 1) / 33 = t.val / 33 by omega, show (t.val - 1) / 3 % 11 = t.val / 3 % 11 by omega]
  · rw [rowsOf_put_other _ _ _ _ (by omega) hi (by omega) hoff, show j₂ = j by omega]
    exact old i hi (by omega)

/-! ## The offsets of the stores into a head's block -/

theorem off1_eq (t : Fin cfg0.N) : k0_off1 (grid0.coords t) = ![2816 * (t.val % 3), 0] := by
  obtain ⟨e0, e1, e2⟩ := coords_eq t
  have h : t.val % 3 < 3 := Nat.mod_lt _ (by decide)
  simp only [k0_off1, e2, Nat.div_one]
  generalize t.val % 3 = n at h
  interval_cases n <;> rfl

theorem off2_eq (t : Fin cfg0.N) : k0_off2 (grid0.coords t) = ![2816 * (t.val % 3), 0] := off1_eq t
theorem off3_eq (t : Fin cfg0.N) : k0_off3 (grid0.coords t) = ![2816 * (t.val % 3), 0] := off1_eq t
theorem off4_eq (t : Fin cfg0.N) : k0_off4 (grid0.coords t) = ![2816 * (t.val % 3), 0] := off1_eq t

end Cert.KernelIdeal.Bwd

end
-- ==== Proof.RunA.lean ====
/- The kernel body at one kind of grid point (A): what it leaves in its output blocks. -/
module

public import proofs.«01_k».proof.Proof.Tile
public import Idealize.ShloMosaic.Lib.Pipeline.FrameBody
public import Idealize.ShloMosaic.Lib.Tactic
public import Idealize.ShloMosaic.Lib.Tactic.Stretches

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 1000000 in
/-- The first block of queries and the first key block: the query rows are written, the other two gradients start from zero. -/
theorem runA (c : Dev nD) (i : grid0.Coords) (arg3 : Memref sig .tc .vmem S2816x256 .bf16) (harg3 : arg3.IsWhole) (arg4 : Memref sig .tc .vmem S768x256 .bf16) (harg4 : arg4.IsWhole) (arg5 : Memref sig .tc .vmem S768x128 .bf16) (harg5 : arg5.IsWhole) (arg6 : Memref sig .tc .vmem S2816x128 .f32) (harg6 : arg6.IsWhole) (arg7 : Memref sig .tc .vmem S11x16x256 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (hc0 : k0_cond1 i = 1#1) (hc1 : k0_cond2 i = 1#1) (hc2 : k0_cond3 i = 1#1) (hc3 : ¬k0_cond4 i = 1#1) (hc4 : ¬k0_cond5 i = 1#1)
    (x0 : Vec F S2816x256 .bf16) (x1 : Vec F S768x256 .bf16) (x2 : Vec F S768x128 .bf16) (x3 : Vec F S2816x128 .f32) (x4 : Vec F S11x16x256 .f32) (y5 : Vec F S8448x256 .f32) (y6 : Vec F S768x256 .f32) (y7 : Vec F S768x128 .f32) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (VecWindow.put y5 (k0_off1 i) S2816x256.size (dqOf (dsP (pA (BitVec.ofNat 32 (i 1).val) x0 x1 x4) x2 x3 x4) x1)) ∗ owns (c : Thread nD τ) arg9 fullShare (dkOf (dsP (pA (BitVec.ofNat 32 (i 1).val) x0 x1 x4) x2 x3 x4) x0 k0_pay1) ∗ owns (c : Thread nD τ) arg10 fullShare (dvOf (pA (BitVec.ofNat 32 (i 1).val) x0 x1 x4) (k0_pay6 x3) k0_pay2)) -∗ K ⟨⟩))
        ⊢ wp frame (wpE (defs₀ (F := F)) Variants.none c none) E (cc0_mla_flash_bwd i arg3 harg3 arg4 harg4 arg5 harg5 arg6 harg6 arg7 harg7 arg8 harg8 arg9 harg9 arg10 harg10) K := by
  intro E K
  simp only [cc0_mla_flash_bwd_eq_skeleton]; unfold cc0_mla_flash_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7
  sl_exec (disch := first | sl_exact hc0 | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_cons_put _ _ _ _ _ rfl, View.writes_nil, Memref.IsWhole.read_unread]
    refine congrArg (VecWindow.put y5 (k0_off1 i) S2816x256.size) ?_
    sl_open_run
    repeat rw [View.readCov_full]
    repeat rw [View.readAt_writes_full]
    repeat rw [View.readAt_full]
    simp only [Memref.IsWhole.read_unread]
    repeat rw [readAt_piece]
    rw [row_eq, pay31_eq]
    all_goals rfl
  isplitl [H6]
  · iexists _; isplitr; swap; · iexact H6
    ipureintro
    rw [View.read_writes_full]
    sl_open_run
    repeat rw [View.readCov_full]
    repeat rw [View.readAt_writes_full]
    repeat rw [View.readAt_full]
    simp only [Memref.IsWhole.read_unread]
    repeat rw [readAt_piece]
    rw [row_eq, pay30_eq]
    all_goals rfl
  iexists _; isplitr; swap; · iexact H7
  ipureintro
  rw [View.read_writes_full]
  sl_open_run
  repeat rw [View.readCov_full]
  repeat rw [View.readAt_writes_full]
  repeat rw [View.readAt_full]
  simp only [Memref.IsWhole.read_unread]
  repeat rw [readAt_piece]
  rw [row_eq]
  all_goals rfl

end Cert.KernelIdeal.Bwd

end
-- ==== Proof.RunB.lean ====
/- The kernel body at one kind of grid point (B): what it leaves in its output blocks. -/
module

public import proofs.«01_k».proof.Proof.Tile
public import Idealize.ShloMosaic.Lib.Pipeline.FrameBody
public import Idealize.ShloMosaic.Lib.Tactic
public import Idealize.ShloMosaic.Lib.Tactic.Stretches

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

set_option maxHeartbeats 1000000 in
/-- A later block of queries and the first key block: the query rows are written, the other two gradients are added to. -/
theorem runB (c : Dev nD) (i : grid0.Coords) (arg3 : Memref sig .tc .vmem S2816x256 .bf16) (harg3 : arg3.IsWhole) (arg4 : Memref sig .tc .vmem S768x256 .bf16) (harg4 : arg4.IsWhole) (arg5 : Memref sig .tc .vmem S768x128 .bf16) (harg5 : arg5.IsWhole) (arg6 : Memref sig .tc .vmem S2816x128 .f32) (harg6 : arg6.IsWhole) (arg7 : Memref sig .tc .vmem S11x16x256 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (hc0 : ¬k0_cond1 i = 1#1) (hc1 : ¬k0_cond2 i = 1#1) (hc4 : k0_cond5 i = 1#1) (hc5 : k0_cond6 i = 1#1) (hc6 : ¬k0_cond7 i = 1#1)
    (x0 : Vec F S2816x256 .bf16) (x1 : Vec F S768x256 .bf16) (x2 : Vec F S768x128 .bf16) (x3 : Vec F S2816x128 .f32) (x4 : Vec F S11x16x256 .f32) (y5 : Vec F S8448x256 .f32) (y6 : Vec F S768x256 .f32) (y7 : Vec F S768x128 .f32) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (VecWindow.put y5 (k0_off3 i) S2816x256.size (dqOf (dsP (pB x0 x1 x4) x2 x3 x4) x1)) ∗ owns (c : Thread nD τ) arg9 fullShare (dkOf (dsP (pB x0 x1 x4) x2 x3 x4) x0 y6) ∗ owns (c : Thread nD τ) arg10 fullShare (dvOf (pB x0 x1 x4) (k0_pay6 x3) y7)) -∗ K ⟨⟩))
        ⊢ wp frame (wpE (defs₀ (F := F)) Variants.none c none) E (cc0_mla_flash_bwd i arg3 harg3 arg4 harg4 arg5 harg5 arg6 harg6 arg7 harg7 arg8 harg8 arg9 harg9 arg10 harg10) K := by
  intro E K
  simp only [cc0_mla_flash_bwd_eq_skeleton]; unfold cc0_mla_flash_bwd_skel
  simp only [k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7
  sl_exec (disch := first | sl_exact hc0 | sl_exact hc1 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_cons_put _ _ _ _ _ rfl, View.writes_nil, Memref.IsWhole.read_unread]
    refine congrArg (VecWindow.put y5 (k0_off3 i) S2816x256.size) ?_
    sl_open_run
    repeat rw [View.readCov_full]
    repeat rw [View.readAt_writes_full]
    repeat rw [View.readAt_full]
    simp only [Memref.IsWhole.read_unread]
    repeat rw [readAt_piece]
    rw [row_eq', pay57_eq]
    all_goals rfl
  isplitl [H6]
  · iexists _; isplitr; swap; · iexact H6
    ipureintro
    rw [View.read_writes_full]
    sl_open_run
    repeat rw [View.readCov_full]
    repeat rw [View.readAt_writes_full]
    repeat rw [View.readAt_full]
    simp only [Memref.IsWhole.read_unread]
    repeat rw [readAt_piece]
    rw [row_eq', pay56_eq]
    all_goals rfl
  iexists _; isplitr; swap; · iexact H7
  ipureintro
  rw [View.read_writes_full]
  sl_open_run
  repeat rw [View.readCov_full]
  repeat rw [View.readAt_writes_full]
  repeat rw [View.readAt_full]
  simp only [Memref.IsWhole.read_unread]
  repeat rw [readAt_piece]
  rw [row_eq']
  all_goals rfl

end Cert.KernelIdeal.Bwd

end
-- ==== Proof.RunC.lean ====
/- The kernel body at one kind of grid point (C): what it leaves in its output blocks. -/
module

public import proofs.«01_k».proof.Proof.Tile
public import Idealize.ShloMosaic.Lib.Pipeline.FrameBody
public import Idealize.ShloMosaic.Lib.Tactic
public import Idealize.ShloMosaic.Lib.Tactic.Stretches

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- A load of the rows a block of queries adds to. -/
theorem hw2 (arg8 : Memref sig .tc .vmem S8448x256 .f32) (harg8 : arg8.IsWhole) (i : grid0.Coords) (h : k0_cond2 i = 1#1) (h' : k0_cond4 i = 1#1) (y5 : Vec F S8448x256 .f32) :
    View.readAt (Elt F) arg8.view (Rect.unit (s := S8448x256) (k0_off2 i) S2816x256.size (k0_off2_inb i h h')).toLoadRect (harg8.unread y5)
      = VecWindow.window y5 (k0_off2 i) S2816x256.size (k0_off2_inb i h h') := by
  rw [View.readAt_unit _ _ _ rfl, Memref.IsWhole.read_unread]

set_option maxHeartbeats 1000000 in
/-- The first block of queries and a later key block: the query rows are added to, the other two gradients start from zero. -/
theorem runC (c : Dev nD) (i : grid0.Coords) (arg3 : Memref sig .tc .vmem S2816x256 .bf16) (harg3 : arg3.IsWhole) (arg4 : Memref sig .tc .vmem S768x256 .bf16) (harg4 : arg4.IsWhole) (arg5 : Memref sig .tc .vmem S768x128 .bf16) (harg5 : arg5.IsWhole) (arg6 : Memref sig .tc .vmem S2816x128 .f32) (harg6 : arg6.IsWhole) (arg7 : Memref sig .tc .vmem S11x16x256 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (hc0 : k0_cond1 i = 1#1) (hc1 : k0_cond2 i = 1#1) (hc2 : ¬k0_cond3 i = 1#1) (hc3 : k0_cond4 i = 1#1) (hc4 : ¬k0_cond5 i = 1#1)
    (x0 : Vec F S2816x256 .bf16) (x1 : Vec F S768x256 .bf16) (x2 : Vec F S768x128 .bf16) (x3 : Vec F S2816x128 .f32) (x4 : Vec F S11x16x256 .f32) (y5 : Vec F S8448x256 .f32) (y6 : Vec F S768x256 .f32) (y7 : Vec F S768x128 .f32) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (VecWindow.put y5 (k0_off2 i) S2816x256.size (k0_pay5 (dqOf (dsP (pA (BitVec.ofNat 32 (i 1).val) x0 x1 x4) x2 x3 x4) x1) (VecWindow.window y5 (k0_off2 i) S2816x256.size (k0_off2_inb i hc1 hc3)))) ∗ owns (c : Thread nD τ) arg9 fullShare (dkOf (dsP (pA (BitVec.ofNat 32 (i 1).val) x0 x1 x4) x2 x3 x4) x0 k0_pay1) ∗ owns (c : Thread nD τ) arg10 fullShare (dvOf (pA (BitVec.ofNat 32 (i 1).val) x0 x1 x4) (k0_pay6 x3) k0_pay2)) -∗ K ⟨⟩))
        ⊢ wp frame (wpE (defs₀ (F := F)) Variants.none c none) E (cc0_mla_flash_bwd i arg3 harg3 arg4 harg4 arg5 harg5 arg6 harg6 arg7 harg7 arg8 harg8 arg9 harg9 arg10 harg10) K := by
  intro E K
  simp only [cc0_mla_flash_bwd_eq_skeleton]; unfold cc0_mla_flash_bwd_skel
  simp only [k0_part1_eq_skeleton, k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7
  sl_exec (disch := first | sl_exact hc0 | sl_exact hc1 | sl_exact hc2 | sl_exact hc3 | sl_exact hc4)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_cons_put _ _ _ _ _ rfl, View.writes_nil, Memref.IsWhole.read_unread]
    refine congrArg (VecWindow.put y5 (k0_off2 i) S2816x256.size) ?_
    rw [← hw2 arg8 harg8 i hc1 hc3 y5]
    sl_open_run
    repeat rw [View.readCov_full]
    repeat rw [View.readAt_writes_full]
    repeat rw [View.readAt_full]
    simp only [Memref.IsWhole.read_unread]
    repeat rw [readAt_piece]
    change k0_pay5 (k0_pay3 _) _ = _
    rw [row_eq, pay31_eq]
    all_goals rfl
  isplitl [H6]
  · iexists _; isplitr; swap; · iexact H6
    ipureintro
    rw [View.read_writes_full]
    sl_open_run
    repeat rw [View.readCov_full]
    repeat rw [View.readAt_writes_full]
    repeat rw [View.readAt_full]
    simp only [Memref.IsWhole.read_unread]
    repeat rw [readAt_piece]
    rw [row_eq, pay30_eq]
    all_goals rfl
  iexists _; isplitr; swap; · iexact H7
  ipureintro
  rw [View.read_writes_full]
  sl_open_run
  repeat rw [View.readCov_full]
  repeat rw [View.readAt_writes_full]
  repeat rw [View.readAt_full]
  simp only [Memref.IsWhole.read_unread]
  repeat rw [readAt_piece]
  rw [row_eq]
  all_goals rfl

end Cert.KernelIdeal.Bwd

end
-- ==== Proof.RunD.lean ====
/- The kernel body at one kind of grid point (D): what it leaves in its output blocks. -/
module

public import proofs.«01_k».proof.Proof.Tile
public import Idealize.ShloMosaic.Lib.Pipeline.FrameBody
public import Idealize.ShloMosaic.Lib.Tactic
public import Idealize.ShloMosaic.Lib.Tactic.Stretches

@[expose] public section

set_option maxRecDepth 16384

noncomputable section

namespace Cert.KernelIdeal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

local notation "𝕄" => MT nD τ sig Unit (Elt F) ℕ (UR sig nD τ) ℕ

/-- A load of the rows a block of queries adds to. -/
theorem hw4 (arg8 : Memref sig .tc .vmem S8448x256 .f32) (harg8 : arg8.IsWhole) (i : grid0.Coords) (h : k0_cond5 i = 1#1) (h' : k0_cond7 i = 1#1) (y5 : Vec F S8448x256 .f32) :
    View.readAt (Elt F) arg8.view (Rect.unit (s := S8448x256) (k0_off4 i) S2816x256.size (k0_off4_inb i h h')).toLoadRect (harg8.unread y5)
      = VecWindow.window y5 (k0_off4 i) S2816x256.size (k0_off4_inb i h h') := by
  rw [View.readAt_unit _ _ _ rfl, Memref.IsWhole.read_unread]

set_option maxHeartbeats 1000000 in
/-- A later block of queries and a later key block: all three are added to. -/
theorem runD (c : Dev nD) (i : grid0.Coords) (arg3 : Memref sig .tc .vmem S2816x256 .bf16) (harg3 : arg3.IsWhole) (arg4 : Memref sig .tc .vmem S768x256 .bf16) (harg4 : arg4.IsWhole) (arg5 : Memref sig .tc .vmem S768x128 .bf16) (harg5 : arg5.IsWhole) (arg6 : Memref sig .tc .vmem S2816x128 .f32) (harg6 : arg6.IsWhole) (arg7 : Memref sig .tc .vmem S11x16x256 .f32) (harg7 : arg7.IsWhole) (arg8 : Memref sig .tc .vmem S8448x256 .f32) (harg8 : arg8.IsWhole) (arg9 : Memref sig .tc .vmem S768x256 .f32) (harg9 : arg9.IsWhole) (arg10 : Memref sig .tc .vmem S768x128 .f32) (harg10 : arg10.IsWhole) (hc0 : ¬k0_cond1 i = 1#1) (hc1 : ¬k0_cond2 i = 1#1) (hc4 : k0_cond5 i = 1#1) (hc5 : ¬k0_cond6 i = 1#1) (hc6 : k0_cond7 i = 1#1)
    (x0 : Vec F S2816x256 .bf16) (x1 : Vec F S768x256 .bf16) (x2 : Vec F S768x128 .bf16) (x3 : Vec F S2816x128 .f32) (x4 : Vec F S11x16x256 .f32) (y5 : Vec F S8448x256 .f32) (y6 : Vec F S768x256 .f32) (y7 : Vec F S768x128 .f32) :
    ∀ (E : Set ℕ) (K : PUnit → sProp 𝕄),
      iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare y5 ∗ owns (c : Thread nD τ) arg9 fullShare y6 ∗ owns (c : Thread nD τ) arg10 fullShare y7
          ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (VecWindow.put y5 (k0_off4 i) S2816x256.size (k0_pay5 (dqOf (dsP (pB x0 x1 x4) x2 x3 x4) x1) (VecWindow.window y5 (k0_off4 i) S2816x256.size (k0_off4_inb i hc4 hc6)))) ∗ owns (c : Thread nD τ) arg9 fullShare (dkOf (dsP (pB x0 x1 x4) x2 x3 x4) x0 y6) ∗ owns (c : Thread nD τ) arg10 fullShare (dvOf (pB x0 x1 x4) (k0_pay6 x3) y7)) -∗ K ⟨⟩))
        ⊢ wp frame (wpE (defs₀ (F := F)) Variants.none c none) E (cc0_mla_flash_bwd i arg3 harg3 arg4 harg4 arg5 harg5 arg6 harg6 arg7 harg7 arg8 harg8 arg9 harg9 arg10 harg10) K := by
  intro E K
  simp only [cc0_mla_flash_bwd_eq_skeleton]; unfold cc0_mla_flash_bwd_skel
  simp only [k0_part4_eq_skeleton, k0_part5_eq_skeleton, k0_part6_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg3.eq_unread hf0; obtain rfl := harg4.eq_unread hf1; obtain rfl := harg5.eq_unread hf2; obtain rfl := harg6.eq_unread hf3; obtain rfl := harg7.eq_unread hf4
  obtain rfl := harg8.eq_unread hf5; obtain rfl := harg9.eq_unread hf6; obtain rfl := harg10.eq_unread hf7
  sl_exec (disch := first | sl_exact hc0 | sl_exact hc1 | sl_exact hc4 | sl_exact hc5 | sl_exact hc6)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; swap; · iexact H5
    ipureintro
    rw [View.read_writes_cons_put _ _ _ _ _ rfl, View.writes_nil, Memref.IsWhole.read_unread]
    refine congrArg (VecWindow.put y5 (k0_off4 i) S2816x256.size) ?_
    rw [← hw4 arg8 harg8 i hc4 hc6 y5]
    sl_open_run
    repeat rw [View.readCov_full]
    repeat rw [View.readAt_writes_full]
    repeat rw [View.readAt_full]
    simp only [Memref.IsWhole.read_unread]
    repeat rw [readAt_piece]
    rw [row_eq', pay57_eq]
    all_goals rfl
  isplitl [H6]
  · iexists _; isplitr; swap; · iexact H6
    ipureintro
    rw [View.read_writes_full]
    sl_open_run
    repeat rw [View.readCov_full]
    repeat rw [View.readAt_writes_full]
    repeat rw [View.readAt_full]
    simp only [Memref.IsWhole.read_unread]
    repeat rw [readAt_piece]
    rw [row_eq', pay56_eq]
    all_goals rfl
  iexists _; isplitr; swap; · iexact H7
  ipureintro
  rw [View.read_writes_full]
  sl_open_run
  repeat rw [View.readCov_full]
  repeat rw [View.readAt_writes_full]
  repeat rw [View.readAt_full]
  simp only [Memref.IsWhole.read_unread]
  repeat rw [readAt_piece]
  rw [row_eq']
  all_goals rfl

end Cert.KernelIdeal.Bwd

end
-- ==== Proof.Body.lean ====
/- The body's obligation at every point, and the launch: every execution ends with the arrays as the kept relations allow. -/
module

public import proofs.«01_k».proof.Proof.Data
public import proofs.«01_k».proof.Proof.RunA
public import proofs.«01_k».proof.Proof.RunB
public import proofs.«01_k».proof.Proof.RunC
public import proofs.«01_k».proof.Proof.RunD
public import Idealize.ShloMosaic.Lib.Pipeline.ArrRel
public import Idealize.ShloMosaic.Lib.Claim

@[expose] public section

set_option maxRecDepth 16384
set_option pp.maxSteps 400

noncomputable section

namespace Cert.KernelIdeal.Bwd

open Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open Rounds
open Cert.KernelIdeal.Gen
open Idealize.ShloMosaic.Pipeline (Dat Cfg Window RDat BodyObligation BodyObligationRel cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ Y, ⌜(rdats m c).Finds 5 t Y⌝ ∗ owns (c : Thread nD τ) (ms_5 t) fullShare Y)
    ∗ (∃ Y, ⌜(rdats m c).Finds 6 t Y⌝ ∗ owns (c : Thread nD τ) (ms_6 t) fullShare Y)
    ∗ (∃ Y, ⌜(rdats m c).Finds 7 t Y⌝ ∗ owns (c : Thread nD τ) (ms_7 t) fullShare Y))

/-- What the body returns at point `t`. -/
def bodyPost (c : Dev nD) (t : Fin cfg0.N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t)
    ∗ owns (c : Thread nD τ) (ms_4 t) fullShare ((dats m 0 c).after 4 t)
    ∗ (∃ X, ⌜Rl m c 5 t X⌝ ∗ owns (c : Thread nD τ) (ms_5 t) fullShare X)
    ∗ (∃ X, ⌜Rl m c 6 t X⌝ ∗ owns (c : Thread nD τ) (ms_6 t) fullShare X)
    ∗ (∃ X, ⌜Rl m c 7 t X⌝ ∗ owns (c : Thread nD τ) (ms_7 t) fullShare X))

set_option maxHeartbeats 3200000 in
/-- The body at any point takes the relations of the point before to its own: the four cases of a first or later query block at a first or later key block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, after_0, after_1, after_2, after_3, after_4]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%y5, %h5, H5⟩, ⟨%y6, %h6, H6⟩, ⟨%y7, %h7, H7⟩⟩
  by_cases hi : t.val % 3 = 0
  · have hp := pT_first m c t hi
    by_cases hj : t.val / 3 % 11 = 0
    · iapply ((runA c (grid0.coords t) _ _ _ _ _ _ _ _ _ _ _ _ _ _ _ _ ((cond_0 t).mpr (by omega)) ((cond_1 t).mpr (by omega)) ((cond_2 t).mpr (by omega)) (fun h => by have := (cond_3 t).mp h; omega) (fun h => by have := (cond_4 t).mp h; omega) (iblk m c 0 t) (iblk m c 1 t) (iblk m c 2 t) (iblk m c 3 t) (iblk m c 4 t) y5 y6 y7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      rw [← hp]
      isplitl [H5]
      · iexists _; isplitr; swap; · iexact H5
        ipureintro; exact holds5_write m c t hj y5 (fun h => absurd hi h) _ (off1_eq t)
      isplitl [H6]
      · iexists _; isplitr; swap; · iexact H6
        ipureintro; exact dkAcc_first m c t hi
      iexists _; isplitr; swap; · iexact H7
      ipureintro; exact dvAcc_first m c t hi
    · iapply ((runC c (grid0.coords t) _ _ _ _ _ _ _ _ _ _ _ _ _ _ _ _ ((cond_0 t).mpr (by omega)) ((cond_1 t).mpr (by omega)) (fun h => by have := (cond_2 t).mp h; omega) ((cond_3 t).mpr (by omega)) (fun h => by have := (cond_4 t).mp h; omega) (iblk m c 0 t) (iblk m c 1 t) (iblk m c 2 t) (iblk m c 3 t) (iblk m c 4 t) y5 y6 y7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      rw [← hp]
      isplitl [H5]
      · iexists _; isplitr; swap; · iexact H5
        ipureintro; exact holds5_add m c t (by omega) y5 (found5 m c t (by omega) y5 h5) _ _ (off2_eq t)
      isplitl [H6]
      · iexists _; isplitr; swap; · iexact H6
        ipureintro; exact dkAcc_first m c t hi
      iexists _; isplitr; swap; · iexact H7
      ipureintro; exact dvAcc_first m c t hi
  · have hi1 : 1 ≤ t.val % 3 := by omega
    have hp := pT_later m c t hi1
    have e6 := found6 m c t hi1 y6 h6
    have e7 := found7 m c t hi1 y7 h7
    have e5 := found5 m c t (by omega) y5 h5
    by_cases hj : t.val / 3 % 11 = 0
    · iapply ((runB c (grid0.coords t) _ _ _ _ _ _ _ _ _ _ _ _ _ _ _ _ (fun h => by have := (cond_0 t).mp h; omega) (fun h => by have := (cond_1 t).mp h; omega) ((cond_4 t).mpr (by omega)) ((cond_5 t).mpr (by omega)) (fun h => by have := (cond_6 t).mp h; omega) (iblk m c 0 t) (iblk m c 1 t) (iblk m c 2 t) (iblk m c 3 t) (iblk m c 4 t) y5 y6 y7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      rw [← hp]
      isplitl [H5]
      · iexists _; isplitr; swap; · iexact H5
        ipureintro; exact holds5_write m c t hj y5 (fun _ => e5) _ (off3_eq t)
      isplitl [H6]
      · iexists _; isplitr; swap; · iexact H6
        ipureintro; exact (congrArg (dkT m c t) e6).trans (dkAcc_later m c t hi1)
      iexists _; isplitr; swap; · iexact H7
      ipureintro; exact (congrArg (dvT m c t) e7).trans (dvAcc_later m c t hi1)
    · iapply ((runD c (grid0.coords t) _ _ _ _ _ _ _ _ _ _ _ _ _ _ _ _ (fun h => by have := (cond_0 t).mp h; omega) (fun h => by have := (cond_1 t).mp h; omega) ((cond_4 t).mpr (by omega)) (fun h => by have := (cond_5 t).mp h; omega) ((cond_6 t).mpr (by omega)) (iblk m c 0 t) (iblk m c 1 t) (iblk m c 2 t) (iblk m c 3 t) (iblk m c 4 t) y5 y6 y7) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iintro ⟨H0, H1, H2, H3, H4, H5, H6, H7⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      rw [← hp]
      isplitl [H5]
      · iexists _; isplitr; swap; · iexact H5
        ipureintro; exact holds5_add m c t (by omega) y5 e5 _ _ (off4_eq t)
      isplitl [H6]
      · iexists _; isplitr; swap; · iexact H6
        ipureintro; exact (congrArg (dkT m c t) e6).trans (dkAcc_later m c t hi1)
      iexists _; isplitr; swap; · iexact H7
      ipureintro; exact (congrArg (dvT m c t) e7).trans (dvAcc_later m c t hi1)

theorem defs₀_row (t : Fin cfg0.N) :
    defs₀ (F := F) .tc cfg0.body (cfg0.bodyArgs t (cfg0.slots t)) = bodyAt0 t := by
  unfold defs₀; rw [Defs.onTc_tc]

/-- The obligation of the body at every point. -/
theorem body_obligation (c : Dev nD) : BodyObligationRel (dats (F := F) m 0 c) (defs₀ (F := F)) Variants.none () Set.univ marked (Rl m c) := fun t => by
  rw [bigSep_W0, bigSep_W0, defs₀_row]
  exact triple_restated (sound_body m c t) rfl .rfl fun _ => .rfl

set_option backward.isDefEq.respectTransparency.types false in
/-- Every execution ends, with the arrays as the relations allow and every counter at zero. -/
theorem run_main : θ_run defs (onTc (τ := τ) (main (F := F))) (s₀ m ρ) (fun r => (Pipeline.RDat.FramePost (cfgs 0) (rdats m) (V m)) r ∧ r.2.sem = fun _ => 0) :=
  Pipeline.RDat.θ_run_frame (Q' := _) cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)

set_option maxHeartbeats 1600000 in
/-- A final state as the run leaves it has the arguments unchanged. -/
theorem args_of_post (r : PUnit × MemSt nD τ sig (Elt F)) (h : Pipeline.RDat.FramePost (cfgs 0) (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine ⟨?_, ?_, ?_, ?_⟩
  · have e := Pipeline.RDat.FramePost.arr_in h c 0 rfl
    exact e.trans ((A_eq m c 0).trans (V_main_arg0 m c))
  · have e := Pipeline.RDat.FramePost.arr_in h c 1 rfl
    exact e.trans ((A_eq m c 1).trans (V_main_arg1 m c))
  · have e := Pipeline.RDat.FramePost.arr_in h c 2 rfl
    exact e.trans ((A_eq m c 2).trans (V_main_arg2 m c))
  · have e := Pipeline.RDat.FramePost.arr_in h c 3 rfl
    exact e.trans ((A_eq m c 3).trans (V_main_arg3 m c))

/-- The argument arrays end unchanged, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_of_post m r h.1, h.2⟩) (run_main m ρ)

end Cert.KernelIdeal.Bwd

end
-- ==== Proof.Final.lean ====
/- The three result arrays after the run, and each input block as a part of its array. -/
module

public import proofs.«01_k».proof.Proof.Body
public import Idealize.ShloMosaic.Lib.Pipeline.ValueKit

@[expose] public section

set_option maxRecDepth 16384
set_option pp.maxSteps 2000

noncomputable section

namespace Cert.KernelIdeal.Bwd

open Idealize.ShloMosaic Idealize.ShloMosaic.TcCoe
open Idealize.SL Idealize.SL.RA Idealize.SL.BI
open Cert.KernelIdeal.Gen
open Idealize.ShloMosaic.Pipeline (Dat Cfg Window RDat)

variable {F : FTy → Type} [FloatOps F] [Named F]

variable (m : (ℓ : Loc nD τ sig) → Buf (Elt F) ℓ)

/-! ## Which block each window is on -/

theorem index_0 : ∀ t : Fin cfg0.N, win0_0.index t = ![t.val % 3, t.val / 33] := (by decide +kernel : ∀ t : Fin grid0.N, win0_0.index t = ![t.val % 3, t.val / 33])
theorem index_1 : ∀ t : Fin cfg0.N, win0_1.index t = ![t.val / 3 % 11, t.val / 33] := (by decide +kernel : ∀ t : Fin grid0.N, win0_1.index t = ![t.val / 3 % 11, t.val / 33])
theorem index_2 : ∀ t : Fin cfg0.N, win0_2.index t = ![t.val / 3 % 11, 4 + t.val / 33] := (by decide +kernel : ∀ t : Fin grid0.N, win0_2.index t = ![t.val / 3 % 11, 4 + t.val / 33])
theorem index_3 : ∀ t : Fin cfg0.N, win0_3.index t = ![t.val % 3, 4 + t.val / 33] := (by decide +kernel : ∀ t : Fin grid0.N, win0_3.index t = ![t.val % 3, 4 + t.val / 33])
theorem index_4 : ∀ t : Fin cfg0.N, win0_4.index t = ![t.val % 3, t.val / 33, 0] := (by decide +kernel : ∀ t : Fin grid0.N, win0_4.index t = ![t.val % 3, t.val / 33, 0])
theorem index_5 : ∀ t : Fin cfg0.N, win0_5.index t = ![0, t.val / 33] := (by decide +kernel : ∀ t : Fin grid0.N, win0_5.index t = ![0, t.val / 33])
theorem index_6 : ∀ t : Fin cfg0.N, win0_6.index t = ![t.val / 3 % 11, t.val / 33] := (by decide +kernel : ∀ t : Fin grid0.N, win0_6.index t = ![t.val / 3 % 11, t.val / 33])
theorem index_7 : ∀ t : Fin cfg0.N, win0_7.index t = ![t.val / 3 % 11, t.val / 33] := (by decide +kernel : ∀ t : Fin grid0.N, win0_7.index t = ![t.val / 3 % 11, t.val / 33])

/-- An entry of a matrix by natural numbers, taken modulo the extents. -/
def at2 {α : Type} {a b : ℕ} (ha : 0 < a) (hb : 0 < b) (X : (⟨2, ![a, b]⟩ : Shape).Idx → α) (i j : ℕ) : α :=
  X (ix2 (n0 := a) (n1 := b) ⟨i % a, Nat.mod_lt _ ha⟩ ⟨j % b, Nat.mod_lt _ hb⟩)

/-- An entry of an array of 8448 rows and 1024 columns. -/
abbrev atW {α : Type} (X : S8448x1024.Idx → α) (i j : ℕ) : α := at2 (a := 8448) (b := 1024) (by decide) (by decide) X i j

/-- An entry of the array of statistics. -/
def atS {α : Type} (X : S33x64x256.Idx → α) (u r l : ℕ) : α :=
  X (ix3 (n0 := 33) (n1 := 64) (n2 := 256) ⟨u % 33, Nat.mod_lt _ (by decide)⟩ ⟨r % 64, Nat.mod_lt _ (by decide)⟩ ⟨l % 256, Nat.mod_lt _ (by decide)⟩)

theorem iblk_0 (c : Dev nD) (t : Fin cfg0.N) (r : Fin 2816) (d : Fin 256) :
    (iblk m c 0 t : Vec F S2816x256 .bf16) (ix2 r d) = atW (V m c main_arg0) (2816 * (t.val % 3) + r.val) (256 * (t.val / 33) + d.val) := by
  have ht : t.val < 132 := Nat.lt_of_lt_of_eq t.isLt N_0
  have hr := r.isLt
  have hd := d.isLt
  show V m c main_arg0 (((cfg0.win 0).blk t).view.emb (ix2 r d)) = _
  refine congrArg (V m c main_arg0) (funext fun a => ?_)
  fin_cases a
  · have e : (((cfg0.win 0).blk t).view.emb (ix2 r d) (0 : Fin 2)).val = win0_0.index t 0 * 2816 + r.val := by blk_simp
    rw [index_0 t] at e
    exact Fin.ext (e.trans (by show (t.val % 3) * 2816 + r.val = (2816 * (t.val % 3) + r.val) % 8448; omega))
  · have e : (((cfg0.win 0).blk t).view.emb (ix2 r d) (1 : Fin 2)).val = win0_0.index t 1 * 256 + d.val := by blk_simp
    rw [index_0 t] at e
    exact Fin.ext (e.trans (by show (t.val / 33) * 256 + d.val = (256 * (t.val / 33) + d.val) % 1024; omega))

theorem iblk_1 (c : Dev nD) (t : Fin cfg0.N) (r : Fin 768) (d : Fin 256) :
    (iblk m c 1 t : Vec F S768x256 .bf16) (ix2 r d) = atW (V m c main_arg1) (768 * (t.val / 3 % 11) + r.val) (256 * (t.val / 33) + d.val) := by
  have ht : t.val < 132 := Nat.lt_of_lt_of_eq t.isLt N_0
  have hr := r.isLt
  have hd := d.isLt
  show V m c main_arg1 (((cfg0.win 1).blk t).view.emb (ix2 r d)) = _
  refine congrArg (V m c main_arg1) (funext fun a => ?_)
  fin_cases a
  · have e : (((cfg0.win 1).blk t).view.emb (ix2 r d) (0 : Fin 2)).val = win0_1.index t 0 * 768 + r.val := by blk_simp
    rw [index_1 t] at e
    exact Fin.ext (e.trans (by show (t.val / 3 % 11) * 768 + r.val = (768 * (t.val / 3 % 11) + r.val) % 8448; omega))
  · have e : (((cfg0.win 1).blk t).view.emb (ix2 r d) (1 : Fin 2)).val = win0_1.index t 1 * 256 + d.val := by blk_simp
    rw [index_1 t] at e
    exact Fin.ext (e.trans (by show (t.val / 33) * 256 + d.val = (256 * (t.val / 33) + d.val) % 1024; omega))

theorem iblk_2 (c : Dev nD) (t : Fin cfg0.N) (r : Fin 768) (d : Fin 128) :
    (iblk m c 2 t : Vec F S768x128 .bf16) (ix2 r d) = atW (V m c main_arg2) (768 * (t.val / 3 % 11) + r.val) ((512 + 128 * (t.val / 33)) + d.val) := by
  have ht : t.val < 132 := Nat.lt_of_lt_of_eq t.isLt N_0
  have hr := r.isLt
  have hd := d.isLt
  show V m c main_arg2 (((cfg0.win 2).blk t).view.emb (ix2 r d)) = _
  refine congrArg (V m c main_arg2) (funext fun a => ?_)
  fin_cases a
  · have e : (((cfg0.win 2).blk t).view.emb (ix2 r d) (0 : Fin 2)).val = win0_2.index t 0 * 768 + r.val := by blk_simp
    rw [index_2 t] at e
    exact Fin.ext (e.trans (by show (t.val / 3 % 11) * 768 + r.val = (768 * (t.val / 3 % 11) + r.val) % 8448; omega))
  · have e : (((cfg0.win 2).blk t).view.emb (ix2 r d) (1 : Fin 2)).val = win0_2.index t 1 * 128 + d.val := by blk_simp
    rw [index_2 t] at e
    exact Fin.ext (e.trans (by show (4 + t.val / 33) * 128 + d.val = ((512 + 128 * (t.val / 33)) + d.val) % 1024; omega))

theorem iblk_3 (c : Dev nD) (t : Fin cfg0.N) (r : Fin 2816) (d : Fin 128) :
    (iblk m c 3 t : Vec F S2816x128 .f32) (ix2 r d) = atW (V m c main_arg3) (2816 * (t.val % 3) + r.val) ((512 + 128 * (t.val / 33)) + d.val) := by
  have ht : t.val < 132 := Nat.lt_of_lt_of_eq t.isLt N_0
  have hr := r.isLt
  have hd := d.isLt
  show V m c main_arg3 (((cfg0.win 3).blk t).view.emb (ix2 r d)) = _
  refine congrArg (V m c main_arg3) (funext fun a => ?_)
  fin_cases a
  · have e : (((cfg0.win 3).blk t).view.emb (ix2 r d) (0 : Fin 2)).val = win0_3.index t 0 * 2816 + r.val := by blk_simp
    rw [index_3 t] at e
    exact Fin.ext (e.trans (by show (t.val % 3) * 2816 + r.val = (2816 * (t.val % 3) + r.val) % 8448; omega))
  · have e : (((cfg0.win 3).blk t).view.emb (ix2 r d) (1 : Fin 2)).val = win0_3.index t 1 * 128 + d.val := by blk_simp
    rw [index_3 t] at e
    exact Fin.ext (e.trans (by show (4 + t.val / 33) * 128 + d.val = ((512 + 128 * (t.val / 33)) + d.val) % 1024; omega))

theorem iblk_4 (c : Dev nD) (t : Fin cfg0.N) (u : Fin 11) (r : Fin 16) (l : Fin 256) :
    (iblk m c 4 t : Vec F S11x16x256 .f32) (ix3 u r l) = atS (V m c main_v64) (11 * (t.val % 3) + u.val) (16 * (t.val / 33) + r.val) l.val := by
  have ht : t.val < 132 := Nat.lt_of_lt_of_eq t.isLt N_0
  have hu := u.isLt
  have hr := r.isLt
  have hl := l.isLt
  show V m c main_v64 (((cfg0.win 4).blk t).view.emb (ix3 u r l)) = _
  refine congrArg (V m c main_v64) (funext fun a => ?_)
  fin_cases a
  · have e : (((cfg0.win 4).blk t).view.emb (ix3 u r l) (0 : Fin 3)).val = win0_4.index t 0 * 11 + u.val := by blk_simp
    rw [index_4 t] at e
    exact Fin.ext (e.trans (by show t.val % 3 * 11 + u.val = (11 * (t.val % 3) + u.val) % 33; omega))
  · have e : (((cfg0.win 4).blk t).view.emb (ix3 u r l) (1 : Fin 3)).val = win0_4.index t 1 * 16 + r.val := by blk_simp
    rw [index_4 t] at e
    exact Fin.ext (e.trans (by show t.val / 33 * 16 + r.val = (16 * (t.val / 33) + r.val) % 64; omega))
  · have e : (((cfg0.win 4).blk t).view.emb (ix3 u r l) (2 : Fin 3)).val = win0_4.index t 2 * 256 + l.val := by blk_simp
    rw [index_4 t] at e
    exact Fin.ext (e.trans (by show 0 * 256 + l.val = l.val % 256; omega))

/-! ## The result arrays -/

/-- The gradient of the queries: row `2816 i + r` of head `h` is row `r` of what query block `i` accumulated over all key blocks. -/
def dqArr (c : Dev nD) : Vec F S8448x1024 .f32 := fun y =>
  dqAcc m c ((y 1).val / 256) ((y 0).val / 2816) 10
    (ix2 (n0 := 2816) (n1 := 256) ⟨(y 0).val % 2816, Nat.mod_lt _ (by decide)⟩ ⟨(y 1).val % 256, Nat.mod_lt _ (by decide)⟩)

/-- The gradient of the keys: row `768 j + r` of head `h` is row `r` of what key block `j` accumulated over all query blocks. -/
def dkArr (c : Dev nD) : Vec F S8448x1024 .f32 := fun y =>
  dkAcc m c (11 * ((y 1).val / 256) + (y 0).val / 768) 2
    (ix2 (n0 := 768) (n1 := 256) ⟨(y 0).val % 768, Nat.mod_lt _ (by decide)⟩ ⟨(y 1).val % 256, Nat.mod_lt _ (by decide)⟩)

/-- The gradient of the values, likewise. -/
def dvArr (c : Dev nD) : Vec F S8448x512 .f32 := fun y =>
  dvAcc m c (11 * ((y 1).val / 128) + (y 0).val / 768) 2
    (ix2 (n0 := 768) (n1 := 128) ⟨(y 0).val % 768, Nat.mod_lt _ (by decide)⟩ ⟨(y 1).val % 128, Nat.mod_lt _ (by decide)⟩)

theorem arr_7 (c : Dev nD) (after : (w' : Fin cfg0.W) → Fin cfg0.N → (cfg0.win w').block.Idx → Elt F (cfg0.win w').elt)
    (h : ∀ u : Fin cfg0.N, (cfg0.win 7).flush u = true → after 7 u = dvAcc m c (u.val / 3) (u.val % 3)) :
    ((rdats m c).withAfter after).arrAt 7 cfg0.N = dvArr m c := by
  refine Dat.arrAt_eq_of_covers _ 7 _ (by decide +kernel) fun t hf y => ?_
  obtain ⟨r, d, rfl⟩ : ∃ (r : Fin 768) (d : Fin 128), y = ix2 r d := ⟨y 0, y 1, eq_ix2 y⟩
  have ht : t.val < 132 := Nat.lt_of_lt_of_eq t.isLt N_0
  have hf' := (flush0_7 t).mp hf
  have hr := r.isLt
  have hd := d.isLt
  have e0 : (((cfg0.win 7).blk t).view.emb (ix2 r d) (0 : Fin 2)).val = win0_7.index t 0 * 768 + r.val := by blk_simp
  have e1 : (((cfg0.win 7).blk t).view.emb (ix2 r d) (1 : Fin 2)).val = win0_7.index t 1 * 128 + d.val := by blk_simp
  rw [index_7 t] at e0 e1
  change _ = t.val / 3 % 11 * 768 + r.val at e0
  change _ = t.val / 33 * 128 + d.val at e1
  show after 7 t (ix2 r d) = dvArr m c (((cfg0.win 7).blk t).view.emb (ix2 r d))
  rw [h t hf, hf']
  generalize ((cfg0.win 7).blk t).view.emb (ix2 r d) = z at e0 e1
  unfold dvArr
  rw [show 11 * ((z 1).val / 128) + (z 0).val / 768 = t.val / 3 by omega]
  exact congrArg _ (congrArg₂ ix2 (Fin.ext (by show r.val = (z 0).val % 768; omega)) (Fin.ext (by show d.val = (z 1).val % 128; omega)))

theorem arr_6 (c : Dev nD) (after : (w' : Fin cfg0.W) → Fin cfg0.N → (cfg0.win w').block.Idx → Elt F (cfg0.win w').elt)
    (h : ∀ u : Fin cfg0.N, (cfg0.win 6).flush u = true → after 6 u = dkAcc m c (u.val / 3) (u.val % 3)) :
    ((rdats m c).withAfter after).arrAt 6 cfg0.N = dkArr m c := by
  refine Dat.arrAt_eq_of_covers _ 6 _ (by decide +kernel) fun t hf y => ?_
  obtain ⟨r, d, rfl⟩ : ∃ (r : Fin 768) (d : Fin 256), y = ix2 r d := ⟨y 0, y 1, eq_ix2 y⟩
  have ht : t.val < 132 := Nat.lt_of_lt_of_eq t.isLt N_0
  have hf' := (flush0_6 t).mp hf
  have hr := r.isLt
  have hd := d.isLt
  have e0 : (((cfg0.win 6).blk t).view.emb (ix2 r d) (0 : Fin 2)).val = win0_6.index t 0 * 768 + r.val := by blk_simp
  have e1 : (((cfg0.win 6).blk t).view.emb (ix2 r d) (1 : Fin 2)).val = win0_6.index t 1 * 256 + d.val := by blk_simp
  rw [index_6 t] at e0 e1
  change _ = t.val / 3 % 11 * 768 + r.val at e0
  change _ = t.val / 33 * 256 + d.val at e1
  show after 6 t (ix2 r d) = dkArr m c (((cfg0.win 6).blk t).view.emb (ix2 r d))
  rw [h t hf, hf']
  generalize ((cfg0.win 6).blk t).view.emb (ix2 r d) = z at e0 e1
  unfold dkArr
  rw [show 11 * ((z 1).val / 256) + (z 0).val / 768 = t.val / 3 by omega]
  exact congrArg _ (congrArg₂ ix2 (Fin.ext (by show r.val = (z 0).val % 768; omega)) (Fin.ext (by show d.val = (z 1).val % 256; omega)))

theorem arr_5 (c : Dev nD) (after : (w' : Fin cfg0.W) → Fin cfg0.N → (cfg0.win w').block.Idx → Elt F (cfg0.win w').elt)
    (h : ∀ u : Fin cfg0.N, (cfg0.win 5).flush u = true → Holds5 m c u (after 5 u)) :
    ((rdats m c).withAfter after).arrAt 5 cfg0.N = dqArr m c := by
  refine Dat.arrAt_eq_of_covers _ 5 _ (by decide +kernel) fun t hf y => ?_
  obtain ⟨r, d, rfl⟩ : ∃ (r : Fin 8448) (d : Fin 256), y = ix2 r d := ⟨y 0, y 1, eq_ix2 y⟩
  have ht : t.val < 132 := Nat.lt_of_lt_of_eq t.isLt N_0
  have hf' := (flush0_5 t).mp hf
  have hr := r.isLt
  have hd := d.isLt
  have e0 : (((cfg0.win 5).blk t).view.emb (ix2 r d) (0 : Fin 2)).val = win0_5.index t 0 * 8448 + r.val := by blk_simp
  have e1 : (((cfg0.win 5).blk t).view.emb (ix2 r d) (1 : Fin 2)).val = win0_5.index t 1 * 256 + d.val := by blk_simp
  rw [index_5 t] at e0 e1
  change _ = 0 * 8448 + r.val at e0
  change _ = t.val / 33 * 256 + d.val at e1
  show after 5 t (ix2 r d) = dqArr m c (((cfg0.win 5).blk t).view.emb (ix2 r d))
  generalize ((cfg0.win 5).blk t).view.emb (ix2 r d) = z at e0 e1
  have hh := (h t hf (r.val / 2816) (by omega)).1 (by omega)
  have hh' := congrFun hh (ix2 (n0 := 2816) (n1 := 256) ⟨r.val % 2816, Nat.mod_lt _ (by decide)⟩ d)
  unfold dqArr
  rw [show (z 1).val / 256 = t.val / 33 by omega, show (z 0).val / 2816 = r.val / 2816 by omega]
  rw [show t.val / 3 % 11 = 10 by omega] at hh'
  refine Eq.trans ?_ (hh'.trans ?_)
  · exact congrArg (after 5 t) (congrArg₂ ix2 (Fin.ext (by show r.val = (2816 * (r.val / 2816) + r.val % 2816) % 8448; omega)) rfl)
  · exact congrArg _ (congrArg₂ ix2 (Fin.ext (by show r.val % 2816 = (z 0).val % 2816; omega)) (Fin.ext (by show d.val = (z 1).val % 256; omega)))

set_option maxHeartbeats 1600000 in
/-- What the three result buffers hold at the end. -/
theorem results_of_post (r : PUnit × MemSt nD τ sig (Elt F)) (h : Pipeline.RDat.FramePost (cfgs 0) (rdats m) (V m) r) (c : Dev nD) :
      r.2.mem ((c.tc : Thread nD τ).loc main_v65_0) = dqArr m c
      ∧ r.2.mem ((c.tc : Thread nD τ).loc main_v65_1) = dkArr m c
      ∧ r.2.mem ((c.tc : Thread nD τ).loc main_v65_2) = dvArr m c := by
  obtain ⟨after, hL, hA⟩ := Pipeline.RDat.FramePost.exists_exact h c
  refine ⟨?_, ?_, ?_⟩
  · have e := hA 5
    exact e.trans (arr_5 m c after fun u hu => Dat.toRRel_leaves (dats m 0 c) (rfl : marked 5 = true) (hL 5 u hu))
  · have e := hA 6
    exact e.trans (arr_6 m c after fun u hu => Dat.toRRel_leaves (dats m 0 c) (rfl : marked 6 = true) (hL 6 u hu))
  · have e := hA 7
    exact e.trans (arr_7 m c after fun u hu => Dat.toRRel_leaves (dats m 0 c) (rfl : marked 7 = true) (hL 7 u hu))

end Cert.KernelIdeal.Bwd

end
-- ==== Proof.Spec.lean ====
/- Attention's backward pass over real numbers: the quantities that both programs compute, and the few facts about sums and softmax rows that relate the two ways of
   writing them. -/
module

public import Idealize.ShloMosaic.Lib.Claim
public import Idealize.ShloMosaic.Lib.IdealHost

@[expose] public section

noncomputable section

namespace Cert.Attn

open Idealize.ShloMosaic
open Finset

/-! ## The backward pass over the reals -/

/-- The number of keys that query `n` attends to: the first 256 queries see the first 256 keys, a later query sees all 8448. -/
def nk (n : ℕ) : ℕ := if n < 256 then 256 else 8448

theorem nk_pos (n : ℕ) : 0 < nk n := by unfold nk; split <;> norm_num

theorem nk_le (n : ℕ) : nk n ≤ 8448 := by unfold nk; split <;> norm_num

variable (q k v d : ℕ → ℕ → ℝ)

/-- The score of query `n` and key `j` in head `h`. -/
def sc (h n j : ℕ) : ℝ := ∑ x ∈ range 256, q n (256 * h + x) * k j (256 * h + x)

/-- The normalizer of query `n`'s row. -/
def Z (h n : ℕ) : ℝ := ∑ j ∈ range (nk n), (2 : ℝ) ^ sc q k h n j

/-- The weight of key `j` in query `n`'s row. -/
def pr (h n j : ℕ) : ℝ := if j < nk n then (2 : ℝ) ^ sc q k h n j / Z q k h n else 0

/-- The gradient of the weight of key `j` in query `n`'s row. -/
def dpr (h n j : ℕ) : ℝ := ∑ x ∈ range 128, v j (128 * h + x) * d n (128 * h + x)

/-- The mean of the weights' gradients in query `n`'s row. -/
def del (h n : ℕ) : ℝ := ∑ j ∈ range 8448, pr q k h n j * dpr v d h n j

/-- The gradient of the score of query `n` and key `j`, but for the factor `log 2`. -/
def dsr (h n j : ℕ) : ℝ := pr q k h n j * (dpr v d h n j - del q k v d h n)

/-- The gradient of the queries. -/
def dQ (h n e : ℕ) : ℝ := Real.log 2 * ∑ j ∈ range 8448, dsr q k v d h n j * k j (256 * h + e)

/-- The gradient of the keys. -/
def dK (h j e : ℕ) : ℝ := Real.log 2 * ∑ n ∈ range 8448, dsr q k v d h n j * q n (256 * h + e)

/-- The gradient of the values. -/
def dV (h j e : ℕ) : ℝ := ∑ n ∈ range 8448, pr q k h n j * d n (128 * h + e)

theorem Z_pos (h n : ℕ) : 0 < Z q k h n :=
  sum_pos (fun j _ => Real.rpow_pos_of_pos (by norm_num) _) ⟨0, mem_range.2 (nk_pos n)⟩

theorem pr_in {h n j : ℕ} (hj : j < nk n) : pr q k h n j = (2 : ℝ) ^ sc q k h n j / Z q k h n := if_pos hj

theorem pr_out {h n j : ℕ} (hj : ¬ j < nk n) : pr q k h n j = 0 := if_neg hj

/-- The mean of a row, summed over the keys of the row alone. -/
theorem del_eq (h n : ℕ) : del q k v d h n = ∑ j ∈ range (nk n), pr q k h n j * dpr v d h n j := by
  unfold del
  refine (sum_subset (range_subset_range.2 (nk_le n)) fun j _ hj => ?_).symm
  rw [pr_out q k fun hlt => hj (mem_range.2 hlt), zero_mul]

/-- A key outside a row takes no gradient from it. -/
theorem dsr_out {h n j : ℕ} (hj : ¬ j < nk n) : dsr q k v d h n j = 0 := by
  rw [dsr, pr_out q k hj, zero_mul]

/-! ## One row of softmax -/

theorem two_rpow (x : ℝ) : (2 : ℝ) ^ x = Real.exp (x * Real.log 2) := by
  rw [Real.rpow_def_of_pos (by norm_num), mul_comm]

/-- A row's exponentials below its shift `M`, summed. -/
theorem shifted_sum (h n : ℕ) (M : ℝ) :
    ∑ j ∈ range (nk n), Real.exp (sc q k h n j * Real.log 2 - M) = Z q k h n / Real.exp M := by
  unfold Z
  rw [sum_div]
  exact sum_congr rfl fun j _ => by rw [two_rpow, Real.exp_sub]

/-- A shifted exponential over the shifted sum is the weight, whatever the shift. -/
theorem shifted_weight {h n j : ℕ} (hj : j < nk n) (M : ℝ) :
    Real.exp (sc q k h n j * Real.log 2 - M) / (Z q k h n / Real.exp M) = pr q k h n j := by
  have hz := (Z_pos q k h n).ne'
  have hM := (Real.exp_pos M).ne'
  rw [pr_in q k hj, two_rpow, Real.exp_sub]
  field_simp

/-- The row's logarithm in base two of its normalizer. -/
def lse (h n : ℕ) : ℝ := Real.log (Z q k h n) / Real.log 2

theorem shifted_lse (h n : ℕ) (M : ℝ) : (M + Real.log (Z q k h n / Real.exp M)) / Real.log 2 = lse q k h n := by
  rw [Real.log_div (Z_pos q k h n).ne' (Real.exp_pos M).ne', Real.log_exp, lse]
  congr 1
  ring

/-- Two to the score less the row's logarithm is the weight. -/
theorem rpow_sub_lse {h n j : ℕ} (hj : j < nk n) : (2 : ℝ) ^ (sc q k h n j - lse q k h n) = pr q k h n j := by
  have h2 : Real.log 2 ≠ 0 := (Real.log_pos (by norm_num)).ne'
  rw [pr_in q k hj, two_rpow, sub_mul, lse, div_mul_cancel₀ _ h2, Real.exp_sub, Real.exp_log (Z_pos q k h n), ← two_rpow]

/-- The mean of a row from the row's output: the output's product with the gradient is the mean. -/
theorem out_dot (h n : ℕ) :
    ∑ x ∈ range 128, d n (128 * h + x) * ∑ j ∈ range (nk n), pr q k h n j * v j (128 * h + x) = del q k v d h n := by
  rw [del_eq]
  simp only [dpr, mul_sum]
  rw [sum_comm]
  exact sum_congr rfl fun j _ => sum_congr rfl fun x _ => by ring

/-- The gradient of a score as the derivative of a quotient writes it: `e` the exponentials, `l` their sum. -/
theorem quotient_grad {h n j : ℕ} (hj : j < nk n) (M : ℝ) :
    (dpr v d h n j / (Z q k h n / Real.exp M)
        + -∑ i ∈ range (nk n), dpr v d h n i * (1 / ((Z q k h n / Real.exp M) * (Z q k h n / Real.exp M)))
            * Real.exp (sc q k h n i * Real.log 2 - M)) * Real.exp (sc q k h n j * Real.log 2 - M)
      = dsr q k v d h n j := by
  have hz := (Z_pos q k h n).ne'
  have hM := (Real.exp_pos M).ne'
  have hl : Z q k h n / Real.exp M ≠ 0 := div_ne_zero hz hM
  have e : ∀ i ∈ range (nk n), dpr v d h n i * (1 / ((Z q k h n / Real.exp M) * (Z q k h n / Real.exp M)))
            * Real.exp (sc q k h n i * Real.log 2 - M) = (pr q k h n i * dpr v d h n i) / (Z q k h n / Real.exp M) := fun i hi => by
    rw [← shifted_weight q k (mem_range.1 hi) M]
    field_simp
  rw [sum_congr rfl e, ← sum_div, ← del_eq, dsr, ← shifted_weight q k hj M]
  field_simp
  ring

/-! ## Finite extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- A sum over an extent of reals, as a sum over the naturals below it. -/
theorem sum_fin {n : ℕ} (a : Fin n → EReal) (f : ℕ → ℝ) (e : ∀ x : Fin n, a x = (f x.val : EReal)) :
    ∑ x, a x = ((∑ x ∈ range n, f x : ℝ) : EReal) := by
  rw [coe_sum, ← Fin.sum_univ_eq_sum_range (fun x => (f x : EReal)) n]
  exact sum_congr rfl fun x _ => e x

/-- A product of rows of reals. -/
theorem dot_fin {n : ℕ} (a b : Fin n → EReal) (f g : ℕ → ℝ) (ea : ∀ x : Fin n, a x = (f x.val : EReal))
    (eb : ∀ x : Fin n, b x = (g x.val : EReal)) : ∑ x, a x * b x = ((∑ x ∈ range n, f x * g x : ℝ) : EReal) :=
  sum_fin _ (fun x => f x * g x) fun x => by rw [ea, eb, EReal.coe_mul]

/-- The largest of a row of reals is a real. -/
theorem fold_max_real {n : ℕ} (hn : 0 < n) (a : Fin n → EReal) (f : ℕ → ℝ) (e : ∀ x : Fin n, a x = (f x.val : EReal)) :
    ∃ M : ℝ, (univ : Finset (Fin n)).fold max ⊥ a = (M : EReal) := by
  haveI : Nonempty (Fin n) := ⟨⟨0, hn⟩⟩
  obtain ⟨i, _, hi⟩ := Finset.exists_mem_eq_sup (univ : Finset (Fin n)) univ_nonempty a
  exact ⟨f i.val, (show _ = (univ : Finset (Fin n)).sup a from rfl).trans (hi.trans (e i))⟩

theorem div_real {x y : ℝ} (hy : y ≠ 0) : Ideal.div (x : EReal) (y : EReal) = ((x / y : ℝ) : EReal) := by
  rw [Ideal.div, if_neg (by exact_mod_cast hy), div_eq_mul_inv, EReal.coe_mul, EReal.coe_inv]

theorem exp_real (x : ℝ) : Ideal.exp (x : EReal) = ((Real.exp x : ℝ) : EReal) := rfl

theorem log_real {x : ℝ} (hx : 0 < x) : Ideal.log (x : EReal) = ((Real.log x : ℝ) : EReal) := by
  show (if x ≤ 0 then (⊥ : EReal) else ((Real.log x : ℝ) : EReal)) = _
  exact if_neg (not_le.2 hx)

theorem exp2_real (x : ℝ) : Ideal.exp2 (x : EReal) = (((2 : ℝ) ^ x : ℝ) : EReal) := rfl

theorem exp2_bot : Ideal.exp2 (⊥ : EReal) = 0 := rfl

/-- The pattern of minus infinity. -/
theorem ofBits_bot : Ideal.ofBits .f32 4286578688#32 = (⊥ : EReal) := by simp [Ideal.ofBits, Ideal.ieee]

/-- The logarithm of the pattern of two. -/
theorem log_two_bits : Ideal.log (Ideal.ofBits .f32 1073741824#32) = ((Real.log 2 : ℝ) : EReal) := by
  have e : Ideal.ofBits .f32 1073741824#32 = ((2 : ℝ) : EReal) := by
    simp [Ideal.ofBits, Ideal.ieee, -EReal.coe_mul]; norm_num
  rw [e, log_real (by norm_num)]

/-! ## One row of softmax over extended reals whose scores are reals -/

section Row

variable {N : ℕ} {h n : ℕ} (hN : nk n = N) (a : Fin N → EReal) (ha : ∀ x : Fin N, a x = ((sc q k h n x.val * Real.log 2 : ℝ) : EReal))

include hN ha

/-- A row's shift is a real, and below it the row's exponentials and their sum are reals. -/
theorem row_shift : ∃ M : ℝ, (univ : Finset (Fin N)).fold max ⊥ a = (M : EReal)
    ∧ (∀ x : Fin N, Ideal.exp (a x - (M : EReal)) = ((Real.exp (sc q k h n x.val * Real.log 2 - M) : ℝ) : EReal))
    ∧ (∑ x : Fin N, Ideal.exp (a x - (M : EReal))) = ((Z q k h n / Real.exp M : ℝ) : EReal) := by
  obtain ⟨M, hM⟩ := fold_max_real (hN ▸ nk_pos n) a (fun x => sc q k h n x * Real.log 2) ha
  have hx : ∀ x : Fin N, Ideal.exp (a x - (M : EReal)) = ((Real.exp (sc q k h n x.val * Real.log 2 - M) : ℝ) : EReal) := fun x => by
    rw [ha, ← EReal.coe_sub, exp_real]
  refine ⟨M, hM, hx, (sum_fin _ (fun x => Real.exp (sc q k h n x * Real.log 2 - M)) hx).trans ?_⟩
  rw [← shifted_sum, hN]

theorem shifted_pos (M : ℝ) : 0 < Z q k h n / Real.exp M := div_pos (Z_pos q k h n) (Real.exp_pos M)

/-- The row's logarithm in base two. -/
theorem row_lse : Ideal.div ((univ : Finset (Fin N)).fold max ⊥ a
      + Ideal.log (∑ x : Fin N, Ideal.exp (a x - (univ : Finset (Fin N)).fold max ⊥ a))) ((Real.log 2 : ℝ) : EReal)
    = ((lse q k h n : ℝ) : EReal) := by
  obtain ⟨M, hM, _, hs⟩ := row_shift q k hN a ha
  rw [hM, hs, log_real (shifted_pos q k hN a ha M), ← EReal.coe_add, div_real (Real.log_pos (by norm_num)).ne', shifted_lse]

/-- The row's weights. -/
theorem row_weight (x : Fin N) : Ideal.div (Ideal.exp (a x - (univ : Finset (Fin N)).fold max ⊥ a))
      (∑ y : Fin N, Ideal.exp (a y - (univ : Finset (Fin N)).fold max ⊥ a))
    = ((pr q k h n x.val : ℝ) : EReal) := by
  obtain ⟨M, hM, hx, hs⟩ := row_shift q k hN a ha
  rw [hM, hs, hx, div_real (shifted_pos q k hN a ha M).ne', shifted_weight q k (hN ▸ x.isLt)]

/-- The row's output in one column. -/
theorem row_out (b : Fin N → EReal) (g : ℕ → ℝ) (hb : ∀ x : Fin N, b x = (g x.val : EReal)) :
    (∑ x : Fin N, Ideal.div (Ideal.exp (a x - (univ : Finset (Fin N)).fold max ⊥ a))
      (∑ y : Fin N, Ideal.exp (a y - (univ : Finset (Fin N)).fold max ⊥ a)) * b x)
    = ((∑ j ∈ range (nk n), pr q k h n j * g j : ℝ) : EReal) := by
  rw [hN]
  exact dot_fin _ b (fun j => pr q k h n j) g (row_weight q k hN a ha) hb

end Row

end Cert.Attn

end
-- ==== Proof.Stats.lean ====
/- What the host lines in front of the kernel leave in the array of statistics: each query's logarithm of the normalizer and mean of the weights' gradients. -/
module

public import proofs.«01_k».proof.Proof.Final
public import proofs.«01_k».proof.Proof.Spec
public import Idealize.ShloMosaic.Lib.Pointwise
public import Idealize.ShloMosaic.Lib.StableHlo.ReadAt

@[expose] public section

set_option maxRecDepth 16384
set_option pp.maxSteps 2000

noncomputable section

namespace Cert.KernelIdeal.Bwd

open Idealize.ShloMosaic Idealize.ShloMosaic.TcCoe
open Idealize.SL Idealize.SL.RA Idealize.SL.BI
open Cert.KernelIdeal.Gen Cert.Attn

theorem eq_atW {α : Type} (X : S8448x1024.Idx → α) (a : Fin 8448) (b : Fin 1024) : X (ix2 a b) = atW X a.val b.val := by
  unfold atW at2
  congr 1
  exact congrArg₂ ix2 (Fin.ext (Nat.mod_eq_of_lt a.isLt).symm) (Fin.ext (Nat.mod_eq_of_lt b.isLt).symm)

variable (W : Valuation τ sig (Elt Ideal)) (q k v d : ℕ → ℕ → ℝ)
variable (hq : ∀ i j, atW (W (Proc.devRef .tc main_arg0) : Vec Ideal S8448x1024 .bf16) i j = ((q i j : ℝ) : EReal))
variable (hk : ∀ i j, atW (W (Proc.devRef .tc main_arg1) : Vec Ideal S8448x1024 .bf16) i j = ((k i j : ℝ) : EReal))
variable (hv : ∀ i j, j < 512 → atW (W (Proc.devRef .tc main_arg2) : Vec Ideal S8448x1024 .bf16) i (512 + j) = ((v i j : ℝ) : EReal))
variable (hd : ∀ i j, j < 512 → atW (W (Proc.devRef .tc main_arg3) : Vec Ideal S8448x1024 .f32) i (512 + j) = ((d i j : ℝ) : EReal))

set_option maxHeartbeats 4000000

open StableHlo

/-- A score in base e, from the arrays' entries. -/
theorem score_real (A B : S8448x1024.Idx → EReal) (hA : ∀ i j, atW A i j = ((q i j : ℝ) : EReal)) (hB : ∀ i j, atW B i j = ((k i j : ℝ) : EReal))
    (h n : ℕ) (N : ℕ) (hN : N ≤ 8448) (hn : n < 8448) (hh : h < 4) (x : Fin N) :
    (∑ y : Fin 256, A (ix2 ⟨n, hn⟩ ⟨h * 256 + y.val, by omega⟩) * B (ix2 ⟨x.val, by omega⟩ ⟨h * 256 + y.val, by omega⟩)) * ((Real.log 2 : ℝ) : EReal)
      = ((sc q k h n x.val * Real.log 2 : ℝ) : EReal) := by
  rw [EReal.coe_mul]
  congr 1
  refine dot_fin _ _ (fun y => q n (256 * h + y)) (fun y => k x.val (256 * h + y)) (fun y => ?_) fun y => ?_
  · exact (eq_atW A _ _).trans ((hA _ _).trans (by simp only [Nat.mul_comm h 256]))
  · exact (eq_atW B _ _).trans ((hB _ _).trans (by simp only [Nat.mul_comm h 256]))

include hq hk in
/-- The logarithms of the first 256 queries. -/
theorem v27_real (h : Fin 4) (n : Fin 256) :
    (upto hostOps0 W 59 (Proc.devRef .tc main_v27) : Vec Ideal S4x256 .f32) (ix2 h n) = ((lse q k h.val n.val : ℝ) : EReal) := by
  have hn : n.val < 8448 := by omega
  after_reads_at
  rw [ofBits_bot, log_two_bits]
  exact row_lse q k (if_pos n.isLt) _ fun x => score_real q k _ _ hq hk h.val n.val 256 (by norm_num) hn h.isLt x

include hq hk hv in
/-- The outputs of the first 256 queries. -/
theorem v21_real (h : Fin 4) (n : Fin 256) (e : Fin 128) :
    (upto hostOps0 W 58 (Proc.devRef .tc main_v21) : Vec Ideal S4x256x128 .f32) (ix3 h n e)
      = ((∑ j ∈ Finset.range (nk n.val), pr q k h.val n.val j * v j (128 * h.val + e.val) : ℝ) : EReal) := by
  have hn : n.val < 8448 := by omega
  after_reads_at
  rw [ofBits_bot, log_two_bits]
  refine row_out q k (if_pos n.isLt) _ (fun x => score_real q k _ _ hq hk h.val n.val 256 (by norm_num) hn h.isLt x) _ (fun j => v j (128 * h.val + e.val)) fun x => ?_
  exact (eq_atW _ _ _).trans ((hv x.val (h.val * 128 + e.val) (by omega)).trans (by simp only [Nat.mul_comm h.val 128]))

include hq hk hv in
/-- The outputs of the later queries. -/
theorem v43_real (h : Fin 4) (n : Fin 8192) (e : Fin 128) :
    (upto hostOps0 W 58 (Proc.devRef .tc main_v43) : Vec Ideal S4x8192x128 .f32) (ix3 h n e)
      = ((∑ j ∈ Finset.range (nk (256 + n.val)), pr q k h.val (256 + n.val) j * v j (128 * h.val + e.val) : ℝ) : EReal) := by
  have hn : 256 + n.val < 8448 := by omega
  after_reads_at
  rw [ofBits_bot, log_two_bits]
  refine row_out q k (if_neg (by omega)) _ (fun x => score_real q k _ _ hq hk h.val (256 + n.val) 8448 le_rfl hn h.isLt x) _ (fun j => v j (128 * h.val + e.val)) fun x => ?_
  exact (eq_atW _ _ _).trans ((hv x.val (h.val * 128 + e.val) (by omega)).trans (by simp only [Nat.mul_comm h.val 128]))

/-- The later queries' logarithms, from each row's shift and sum. -/
theorem v49_of :
    (upto hostOps0 W 59 (Proc.devRef .tc main_v49) : Vec Ideal S4x8192 .f32)
     = Host.divf (F := Ideal) (s := S4x8192) (φ := .f32) (shapeCast S4x8192 (addf (F := Ideal) (s := S4x8192x1) (φ := .f32)
          (broadcastInDim S4x8192x1 ![0, 1] bcast_S4x8192_S4x8192x1_0_1 (upto hostOps0 W 52 (Proc.devRef .tc main_v33) : Vec Ideal S4x8192 .f32))
          (Host.log (F := Ideal) (s := S4x8192x1) (φ := .f32) (broadcastInDim S4x8192x1 ![0, 1] bcast_S4x8192_S4x8192x1_0_1
            (upto hostOps0 W 52 (Proc.devRef .tc main_v38) : Vec Ideal S4x8192 .f32)))) shapeCasts_S4x8192x1_S4x8192)
       (broadcastInDim S4x8192 ![] bcast_S_S4x8192 (Host.log (F := Ideal) (s := S_) (φ := .f32) (constant S_ .f32 0x40000000#32))) := by
  after_reads_simp
  rfl

/-- A later query's scores in base e. -/
def rowA (A B : S8448x1024.Idx → EReal) (h : Fin 4) (n : Fin 8192) (x : Fin 8448) : EReal :=
  (∑ y : Fin 256, A (ix2 ⟨256 + n.val, by omega⟩ ⟨h.val * 256 + y.val, by omega⟩) * B (ix2 x ⟨h.val * 256 + y.val, by omega⟩)) * ((Real.log 2 : ℝ) : EReal)

/-- A later query's shift. -/
theorem v33_at (h : Fin 4) (n : Fin 8192) :
    (upto hostOps0 W 52 (Proc.devRef .tc main_v33) : Vec Ideal S4x8192 .f32) (ix2 h n)
      = (Finset.univ : Finset (Fin 8448)).fold max ⊥ (rowA (W (Proc.devRef .tc main_arg0)) (W (Proc.devRef .tc main_arg1)) h n) := by
  after_reads_at
  rw [ofBits_bot, log_two_bits]
  rfl

/-- A later query's scores. -/
theorem v32_at (h : Fin 4) (n : Fin 8192) (x : Fin 8448) :
    (upto hostOps0 W 52 (Proc.devRef .tc main_v32) : Vec Ideal S4x8192x8448 .f32) (ix3 h n x)
      = rowA (W (Proc.devRef .tc main_arg0)) (W (Proc.devRef .tc main_arg1)) h n x := by
  after_reads_at
  rw [log_two_bits]
  rfl

/-- The later queries' sums, from the scores and each row's shift. -/
theorem v38_of :
    (upto hostOps0 W 52 (Proc.devRef .tc main_v38) : Vec Ideal S4x8192 .f32)
     = Host.reduceAdd (F := Ideal) (s := S4x8192x8448) (φ := .f32) (Host.exp (F := Ideal) (s := S4x8192x8448) (φ := .f32)
         (subf (F := Ideal) (s := S4x8192x8448) (φ := .f32) (upto hostOps0 W 52 (Proc.devRef .tc main_v32) : Vec Ideal S4x8192x8448 .f32)
           (broadcastInDim S4x8192x8448 ![0, 1, 2] bcast_S4x8192x1_S4x8192x8448_0_1_2
             (broadcastInDim S4x8192x1 ![0, 1] bcast_S4x8192_S4x8192x1_0_1 (upto hostOps0 W 52 (Proc.devRef .tc main_v33) : Vec Ideal S4x8192 .f32)))))
        (constant S_ .f32 0x00000000#32) reducesTo_S4x8192x8448_S4x8192_d2 h_S_ := by
  after_reads_simp

/-- A later query's sum. -/
theorem v38_at (h : Fin 4) (n : Fin 8192) :
    (upto hostOps0 W 52 (Proc.devRef .tc main_v38) : Vec Ideal S4x8192 .f32) (ix2 h n)
      = (∑ x : Fin 8448, Ideal.exp (rowA (W (Proc.devRef .tc main_arg0)) (W (Proc.devRef .tc main_arg1)) h n x
          - (Finset.univ : Finset (Fin 8448)).fold max ⊥ (rowA (W (Proc.devRef .tc main_arg0)) (W (Proc.devRef .tc main_arg1)) h n)) : EReal) := by
  rw [v38_of W]
  pointwise
  rw [v33_at]
  exact @Finset.sum_congr (Fin 8448) EReal _ _ _ _ _ rfl fun x _ => congrArg Ideal.exp (congrArg (fun a : EReal => a - _) (v32_at W h n x))

/-- The last lines of a row's logarithm, at one query. -/
theorem tail_at (x y : Vec Ideal S4x8192 .f32) (h : Fin 4) (n : Fin 8192) :
    Host.divf (F := Ideal) (s := S4x8192) (φ := .f32) (shapeCast S4x8192 (addf (F := Ideal) (s := S4x8192x1) (φ := .f32)
          (broadcastInDim S4x8192x1 ![0, 1] bcast_S4x8192_S4x8192x1_0_1 x)
          (Host.log (F := Ideal) (s := S4x8192x1) (φ := .f32) (broadcastInDim S4x8192x1 ![0, 1] bcast_S4x8192_S4x8192x1_0_1 y))) shapeCasts_S4x8192x1_S4x8192)
       (broadcastInDim S4x8192 ![] bcast_S_S4x8192 (Host.log (F := Ideal) (s := S_) (φ := .f32) (constant S_ .f32 0x40000000#32))) (ix2 h n)
      = Ideal.div (x (ix2 h n) + Ideal.log (y (ix2 h n))) (Ideal.log (Ideal.ofBits FTy.f32 1073741824#32)) := by
  pointwise

include hq hk in
/-- A later query's logarithm from its row's shift and sum. -/
theorem v49_row (h : Fin 4) (n : Fin 8192) (x y : EReal)
    (ex : x = (Finset.univ : Finset (Fin 8448)).fold max ⊥ (rowA (W (Proc.devRef .tc main_arg0)) (W (Proc.devRef .tc main_arg1)) h n))
    (ey : y = ∑ i : Fin 8448, Ideal.exp (rowA (W (Proc.devRef .tc main_arg0)) (W (Proc.devRef .tc main_arg1)) h n i
          - (Finset.univ : Finset (Fin 8448)).fold max ⊥ (rowA (W (Proc.devRef .tc main_arg0)) (W (Proc.devRef .tc main_arg1)) h n))) :
    Ideal.div (x + Ideal.log y) (Ideal.log (Ideal.ofBits FTy.f32 1073741824#32)) = ((lse q k h.val (256 + n.val) : ℝ) : EReal) := by
  have hn : 256 + n.val < 8448 := by omega
  rw [ex, ey, log_two_bits]
  exact row_lse q k (if_neg (by omega)) _ fun x => score_real q k _ _ hq hk h.val (256 + n.val) 8448 le_rfl hn h.isLt x

include hq hk in
/-- The logarithms of the later queries. -/
theorem v49_real (h : Fin 4) (n : Fin 8192) :
    (upto hostOps0 W 59 (Proc.devRef .tc main_v49) : Vec Ideal S4x8192 .f32) (ix2 h n) = ((lse q k h.val (256 + n.val) : ℝ) : EReal) :=
  (congrFun (v49_of W) (ix2 h n)).trans ((tail_at _ _ h n).trans (v49_row W q k hq hk h n _ _ (v33_at W h n) (v38_at W h n)))

include hq hk in
/-- The row of logarithms. -/
theorem v57_real (h : Fin 4) (n : Fin 8448) :
    (upto hostOps0 W 68 (Proc.devRef .tc main_v57) : Vec Ideal S4x1x8448 .f32) (ix3 h 0 n) = ((lse q k h.val n.val : ℝ) : EReal) := by
  after_reads_at
  split
  · exact v27_real W q k hq hk h ⟨n.val, by assumption⟩
  · refine (v49_real W q k hq hk h ⟨n.val - 256, by omega⟩).trans ?_
    rw [show 256 + (n.val - 256) = n.val by omega]

include hq hk hv hd in
/-- The row of means. -/
theorem v58_real (h : Fin 4) (n : Fin 8448) :
    (upto hostOps0 W 68 (Proc.devRef .tc main_v58) : Vec Ideal S4x1x8448 .f32) (ix3 h 0 n) = ((del q k v d h.val n.val : ℝ) : EReal) := by
  after_reads_at
  rw [← out_dot]
  refine dot_fin _ _ (fun x => d n.val (128 * h.val + x)) (fun x => ∑ j ∈ Finset.range (nk n.val), pr q k h.val n.val j * v j (128 * h.val + x)) (fun x => ?_) fun x => ?_
  · exact (eq_atW _ _ _).trans ((hd n.val (h.val * 128 + x.val) (by omega)).trans (by simp only [Nat.mul_comm h.val 128]))
  · split
    · exact v21_real W q k v hq hk hv h ⟨n.val, by assumption⟩ x
    · refine (v43_real W q k v hq hk hv h ⟨n.val - 256, by omega⟩ x).trans ?_
      rw [show 256 + (n.val - 256) = n.val by omega]

include hq hk in
/-- The statistics' rows of logarithms. -/
theorem stats_lse (u : Fin 33) (h : Fin 4) (s : Fin 8) (l : Fin 256) :
    atS (after hostOps0 W (Proc.devRef .tc main_v64) : Vec Ideal S33x64x256 .f32) u.val (16 * h.val + s.val) l.val
      = ((lse q k h.val (256 * u.val + l.val) : ℝ) : EReal) := by
  unfold atS
  after_reads_at
  rw [dif_pos (by omega)]
  refine Eq.trans (congrArg _ (?_ : _ = ix3 h 0 ⟨256 * u.val + l.val, by omega⟩)) (v57_real W q k hq hk h ⟨256 * u.val + l.val, by omega⟩)
  refine congr (congrArg₂ ix3 (Fin.ext ?_) (Fin.ext ?_)) (Fin.ext ?_) <;> simp only [Fin.val_zero] <;> omega

include hq hk hv hd in
/-- The statistics' rows of means. -/
theorem stats_del (u : Fin 33) (h : Fin 4) (s : Fin 8) (l : Fin 256) :
    atS (after hostOps0 W (Proc.devRef .tc main_v64) : Vec Ideal S33x64x256 .f32) u.val (16 * h.val + (8 + s.val)) l.val
      = ((del q k v d h.val (256 * u.val + l.val) : ℝ) : EReal) := by
  unfold atS
  after_reads_at
  rw [dif_neg (by omega)]
  refine Eq.trans (congrArg _ (?_ : _ = ix3 h 0 ⟨256 * u.val + l.val, by omega⟩)) (v58_real W q k v d hq hk hv hd h ⟨256 * u.val + l.val, by omega⟩)
  refine congr (congrArg₂ ix3 (Fin.ext ?_) (Fin.ext ?_)) (Fin.ext ?_) <;> simp only [Fin.val_zero] <;> omega

end Cert.KernelIdeal.Bwd

end
-- ==== Proof.Value.lean ====
/- What the kernel leaves in its three results, over finite arguments: the gradients of the queries, the keys and the values as real sums. -/
module

public import proofs.«01_k».proof.Proof.Stats

@[expose] public section

set_option maxRecDepth 16384
set_option pp.maxSteps 2000

noncomputable section

namespace Cert.KernelIdeal.Bwd

open Idealize.ShloMosaic Idealize.ShloMosaic.TcCoe
open Idealize.SL Idealize.SL.RA Idealize.SL.BI
open Cert.KernelIdeal.Gen Cert.Attn
open Finset (range)

/-! ## A tile's values at an index -/

theorem mask_bot : Named.named (F := Ideal) κ "mask" (φ := .f32) 0xF149F2CA#32 = (⊥ : EReal) := rfl

theorem log2_real : Named.named (F := Ideal) κ "log2" (φ := .f32) 0x3F317218#32 = ((Real.log 2 : ℝ) : EReal) := rfl

theorem pB_at (x0 : Vec Ideal S2816x256 .bf16) (x1 : Vec Ideal S768x256 .bf16) (x4 : Vec Ideal S11x16x256 .f32) (r : Fin 768) (n : Fin 2816) :
    pB x0 x1 x4 (ix2 r n)
      = Ideal.exp2 ((∑ y : Fin 256, x1 (ix2 r y) * x0 (ix2 n y)) - row x4 0 (ix2 0 n)) := by
  pointwise [pB, k0_pay53]
  rfl

/-- The mask's condition, as arithmetic of the tile's query and key. -/
theorem mask_cond {α : Type} (j r n : ℕ) (hj : j < 11) (hr : r < 768) (hn : n < 2816) (a b : α) :
    Scalar.select (IntOp.andi (IntOp.cmpi .slt (BitVec.ofNat 32 n) 256#32)
        (IntOp.cmpi .sge (IntOp.addi (Scalar.muli (BitVec.ofNat 32 j) 768#32) (BitVec.ofNat 32 r)) 256#32)) a b
      = if n < 256 ∧ 256 ≤ 768 * j + r then a else b := by
  have e : IntOp.andi (IntOp.cmpi .slt (BitVec.ofNat 32 n) 256#32)
        (IntOp.cmpi .sge (IntOp.addi (Scalar.muli (BitVec.ofNat 32 j) 768#32) (BitVec.ofNat 32 r)) 256#32) = 1#1 ↔ (n < 256 ∧ 256 ≤ 768 * j + r) := by
    have e1 : IntOp.cmpi .slt (BitVec.ofNat 32 n) 256#32 = BitVec.ofBool (decide (n < 256)) := by word_cmp
    have e2 : IntOp.addi (Scalar.muli (BitVec.ofNat 32 j) 768#32) (BitVec.ofNat 32 r) = BitVec.ofNat 32 (768 * j + r) := by
      show BitVec.ofNat 32 j * 768#32 + BitVec.ofNat 32 r = _
      apply BitVec.eq_of_toNat_eq
      simp only [BitVec.toNat_add, BitVec.toNat_mul, BitVec.toNat_ofNat]
      omega
    have e3 : IntOp.cmpi .sge (BitVec.ofNat 32 (768 * j + r)) 256#32 = BitVec.ofBool (decide (256 ≤ 768 * j + r)) := by word_cmp
    rw [e2, e1, e3]
    by_cases h1 : n < 256 <;> by_cases h2 : 256 ≤ 768 * j + r <;> simp [h1, h2, IntOp.andi]
  unfold Scalar.select
  by_cases h : n < 256 ∧ 256 ≤ 768 * j + r
  · exact (if_pos (e.2 h)).trans (if_pos h).symm
  · exact (if_neg fun h' => h (e.1 h')).trans (if_neg h).symm

theorem pA_at (j : ℕ) (hj : j < 11) (x0 : Vec Ideal S2816x256 .bf16) (x1 : Vec Ideal S768x256 .bf16) (x4 : Vec Ideal S11x16x256 .f32) (r : Fin 768) (n : Fin 2816) :
    pA (BitVec.ofNat 32 j) x0 x1 x4 (ix2 r n)
      = Ideal.exp2 ((if n.val < 256 ∧ 256 ≤ 768 * j + r.val then ⊥ else ∑ y : Fin 256, x1 (ix2 r y) * x0 (ix2 n y)) - row x4 0 (ix2 0 n)) := by
  pointwise [pA, k0_pay27]
  rw [mask_cond j r.val n.val hj r.isLt n.isLt]
  rfl

theorem dsP_at (p : FVec Ideal S768x2816 .f32) (x2 : Vec Ideal S768x128 .bf16) (x3 : Vec Ideal S2816x128 .f32) (x4 : Vec Ideal S11x16x256 .f32) (r : Fin 768) (n : Fin 2816) :
    dsP p x2 x3 x4 (ix2 r n) = (p (ix2 r n) : EReal) * ((∑ y : Fin 128, x2 (ix2 r y) * x3 (ix2 n y)) - row x4 8 (ix2 0 n)) := by
  pointwise [dsP, dsOf, k0_pay6]

theorem dvOf_at (p : FVec Ideal S768x2816 .f32) (x3 : Vec Ideal S2816x128 .f32) (old : Vec Ideal S768x128 .f32) (r : Fin 768) (e : Fin 128) :
    dvOf p (k0_pay6 x3) old (ix2 r e) = (old (ix2 r e) : EReal) + ∑ n : Fin 2816, p (ix2 r n) * x3 (ix2 n e) := by
  pointwise [dvOf, k0_pay6]

theorem dkOf_at (ds : FVec Ideal S768x2816 .bf16) (x0 : Vec Ideal S2816x256 .bf16) (old : Vec Ideal S768x256 .f32) (r : Fin 768) (e : Fin 256) :
    dkOf ds x0 old (ix2 r e) = (old (ix2 r e) : EReal) + ((Real.log 2 : ℝ) : EReal) * ∑ n : Fin 2816, ds (ix2 r n) * x0 (ix2 n e) := by
  pointwise [dkOf]
  rfl

theorem dqOf_at (ds : FVec Ideal S768x2816 .bf16) (x1 : Vec Ideal S768x256 .bf16) (n : Fin 2816) (e : Fin 256) :
    dqOf ds x1 (ix2 n e) = ((Real.log 2 : ℝ) : EReal) * ∑ r : Fin 768, ds (ix2 r n) * x1 (ix2 r e) := by
  pointwise [dqOf]
  rfl

theorem pay5_at (a b : Vec Ideal S2816x256 .f32) (n : Fin 2816) (e : Fin 256) : k0_pay5 a b (ix2 n e) = (b (ix2 n e) : EReal) + a (ix2 n e) := by
  pointwise [k0_pay5]

theorem pay1_at (r : Fin 768) (e : Fin 256) : k0_pay1 (F := Ideal) (ix2 r e) = (0 : EReal) := by
  pointwise [k0_pay1]

theorem pay2_at (r : Fin 768) (e : Fin 128) : k0_pay2 (F := Ideal) (ix2 r e) = (0 : EReal) := by
  pointwise [k0_pay2]

/-! ## A tile over finite arguments -/

variable (m : (ℓ : Loc nD τ sig) → Buf (Elt Ideal) ℓ) (c : Dev nD) (q k v d : ℕ → ℕ → ℝ)
variable (hq : ∀ i j, atW (m (c, Proc.devRef .tc main_arg0) : Vec Ideal S8448x1024 .bf16) i j = ((q i j : ℝ) : EReal))
variable (hk : ∀ i j, atW (m (c, Proc.devRef .tc main_arg1) : Vec Ideal S8448x1024 .bf16) i j = ((k i j : ℝ) : EReal))
variable (hv : ∀ i j, j < 512 → atW (m (c, Proc.devRef .tc main_arg2) : Vec Ideal S8448x1024 .bf16) i (512 + j) = ((v i j : ℝ) : EReal))
variable (hd : ∀ i j, j < 512 → atW (m (c, Proc.devRef .tc main_arg3) : Vec Ideal S8448x1024 .f32) i (512 + j) = ((d i j : ℝ) : EReal))

/-- The query that column `n` of point `t`'s tile is about. -/
abbrev qn (t : Fin cfg0.N) (n : ℕ) : ℕ := 2816 * (t.val % 3) + n
/-- The key that row `r` of point `t`'s tile is about. -/
abbrev kn (t : Fin cfg0.N) (r : ℕ) : ℕ := 768 * (t.val / 3 % 11) + r

include hq in
theorem blk0_real (t : Fin cfg0.N) (n : Fin 2816) (y : Fin 256) :
    (iblk m c 0 t : Vec Ideal S2816x256 .bf16) (ix2 n y) = ((q (qn t n.val) (256 * (t.val / 33) + y.val) : ℝ) : EReal) := by
  rw [iblk_0, V_main_arg0]; exact hq _ _

include hk in
theorem blk1_real (t : Fin cfg0.N) (r : Fin 768) (y : Fin 256) :
    (iblk m c 1 t : Vec Ideal S768x256 .bf16) (ix2 r y) = ((k (kn t r.val) (256 * (t.val / 33) + y.val) : ℝ) : EReal) := by
  rw [iblk_1, V_main_arg1]; exact hk _ _

include hv in
theorem blk2_real (t : Fin cfg0.N) (r : Fin 768) (y : Fin 128) :
    (iblk m c 2 t : Vec Ideal S768x128 .bf16) (ix2 r y) = ((v (kn t r.val) (128 * (t.val / 33) + y.val) : ℝ) : EReal) := by
  have ht : t.val < 132 := Nat.lt_of_lt_of_eq t.isLt N_0
  rw [iblk_2, V_main_arg2, Nat.add_assoc]; exact hv _ _ (by omega)

include hd in
theorem blk3_real (t : Fin cfg0.N) (n : Fin 2816) (y : Fin 128) :
    (iblk m c 3 t : Vec Ideal S2816x128 .f32) (ix2 n y) = ((d (qn t n.val) (128 * (t.val / 33) + y.val) : ℝ) : EReal) := by
  have ht : t.val < 132 := Nat.lt_of_lt_of_eq t.isLt N_0
  rw [iblk_3, V_main_arg3, Nat.add_assoc]; exact hd _ _ (by omega)

theorem row_at (t : Fin cfg0.N) (s : ℕ) (hs : s < 16) (n : Fin 2816) :
    row (iblk m c 4 t : Vec Ideal S11x16x256 .f32) s (ix2 0 n)
      = atS (V m c main_v64 : Vec Ideal S33x64x256 .f32) (11 * (t.val % 3) + n.val / 256) (16 * (t.val / 33) + s) (n.val % 256) := by
  have e1 : n.val / 256 % 11 = n.val / 256 := by omega
  have e := iblk_4 m c t ⟨n.val / 256 % 11, by omega⟩ ⟨s % 16, by omega⟩ ⟨n.val % 256, by omega⟩
  refine Eq.trans e ?_
  show atS _ (11 * (t.val % 3) + n.val / 256 % 11) (16 * (t.val / 33) + s % 16) (n.val % 256) = _
  rw [e1, Nat.mod_eq_of_lt hs]

include hq hk in
theorem row0_real (t : Fin cfg0.N) (n : Fin 2816) :
    row (iblk m c 4 t : Vec Ideal S11x16x256 .f32) 0 (ix2 0 n) = ((lse q k (t.val / 33) (qn t n.val) : ℝ) : EReal) := by
  have ht : t.val < 132 := Nat.lt_of_lt_of_eq t.isLt N_0
  have hn := n.isLt
  have e := stats_lse (fun b => m (c, b)) q k hq hk ⟨11 * (t.val % 3) + n.val / 256, by omega⟩ ⟨t.val / 33, by omega⟩ 0 ⟨n.val % 256, by omega⟩
  exact (row_at m c t 0 (by norm_num) n).trans (e.trans (by rw [show 256 * (11 * (t.val % 3) + n.val / 256) + n.val % 256 = qn t n.val by unfold qn; omega]))

include hq hk hv hd in
theorem row8_real (t : Fin cfg0.N) (n : Fin 2816) :
    row (iblk m c 4 t : Vec Ideal S11x16x256 .f32) 8 (ix2 0 n) = ((del q k v d (t.val / 33) (qn t n.val) : ℝ) : EReal) := by
  have ht : t.val < 132 := Nat.lt_of_lt_of_eq t.isLt N_0
  have hn := n.isLt
  have e := stats_del (fun b => m (c, b)) q k v d hq hk hv hd ⟨11 * (t.val % 3) + n.val / 256, by omega⟩ ⟨t.val / 33, by omega⟩ 0 ⟨n.val % 256, by omega⟩
  exact (row_at m c t 8 (by norm_num) n).trans (e.trans (by rw [show 256 * (11 * (t.val % 3) + n.val / 256) + n.val % 256 = qn t n.val by unfold qn; omega]))

theorem score_tile (h a b : ℕ) (x0 : Vec Ideal S2816x256 .bf16) (x1 : Vec Ideal S768x256 .bf16) (r : Fin 768) (n : Fin 2816)
    (h0 : ∀ y : Fin 256, x0 (ix2 n y) = ((q a (256 * h + y.val) : ℝ) : EReal)) (h1 : ∀ y : Fin 256, x1 (ix2 r y) = ((k b (256 * h + y.val) : ℝ) : EReal)) :
    (∑ y : Fin 256, x1 (ix2 r y) * x0 (ix2 n y) : EReal) = ((sc q k h a b : ℝ) : EReal) := by
  refine (dot_fin _ _ (fun y => k b (256 * h + y)) (fun y => q a (256 * h + y)) h1 h0).trans ?_
  simp only [sc, mul_comm]

include hq hk in
/-- A tile's weights. -/
theorem pT_real (t : Fin cfg0.N) (r : Fin 768) (n : Fin 2816) :
    pT m c t (ix2 r n) = ((pr q k (t.val / 33) (qn t n.val) (kn t r.val) : ℝ) : EReal) := by
  have ht : t.val < 132 := Nat.lt_of_lt_of_eq t.isLt N_0
  have hr := r.isLt
  have hn := n.isLt
  unfold pT
  by_cases h : t.val % 3 = 0
  · rw [if_pos h, (coords_eq t).2.1, pA_at _ (by omega), row0_real m c q k hq hk, score_tile q k _ _ _ _ _ r n (blk0_real m c q hq t n) (blk1_real m c k hk t r)]
    by_cases hm : n.val < 256 ∧ 256 ≤ 768 * (t.val / 3 % 11) + r.val
    · rw [if_pos hm, pr_out q k (by unfold nk qn kn; rw [if_pos (by omega)]; omega)]
      rfl
    · rw [if_neg hm, ← EReal.coe_sub, exp2_real, rpow_sub_lse q k (by unfold nk qn kn; split <;> omega)]
  · rw [if_neg h, pB_at, row0_real m c q k hq hk, score_tile q k _ _ _ _ _ r n (blk0_real m c q hq t n) (blk1_real m c k hk t r), ← EReal.coe_sub, exp2_real,
      rpow_sub_lse q k (by unfold nk qn kn; rw [if_neg (by omega)]; omega)]

include hq hk hv hd in
/-- A tile's score gradients. -/
theorem dsT_real (t : Fin cfg0.N) (r : Fin 768) (n : Fin 2816) :
    dsT m c t (ix2 r n) = ((dsr q k v d (t.val / 33) (qn t n.val) (kn t r.val) : ℝ) : EReal) := by
  unfold dsT
  rw [dsP_at, pT_real m c q k hq hk, row8_real m c q k v d hq hk hv hd,
    dot_fin _ _ (fun y => v (kn t r.val) (128 * (t.val / 33) + y)) (fun y => d (qn t n.val) (128 * (t.val / 33) + y))
      (fun y => blk2_real m c v hv t r y) (fun y => blk3_real m c d hd t n y), ← EReal.coe_sub, ← EReal.coe_mul]
  rfl

include hq hk hd in
theorem dvT_real (t : Fin cfg0.N) (old : Vec Ideal S768x128 .f32) (r : Fin 768) (e : Fin 128) :
    dvT m c t old (ix2 r e) = (old (ix2 r e) : EReal)
      + ((∑ n ∈ range 2816, pr q k (t.val / 33) (qn t n) (kn t r.val) * d (qn t n) (128 * (t.val / 33) + e.val) : ℝ) : EReal) := by
  unfold dvT
  rw [dvOf_at]
  exact congrArg _ (dot_fin _ _ (fun n => pr q k (t.val / 33) (qn t n) (kn t r.val)) (fun n => d (qn t n) (128 * (t.val / 33) + e.val))
      (fun n => pT_real m c q k hq hk t r n) (fun n => blk3_real m c d hd t n e))

include hq hk hv hd in
theorem dkT_real (t : Fin cfg0.N) (old : Vec Ideal S768x256 .f32) (r : Fin 768) (e : Fin 256) :
    dkT m c t old (ix2 r e) = (old (ix2 r e) : EReal)
      + ((Real.log 2 * ∑ n ∈ range 2816, dsr q k v d (t.val / 33) (qn t n) (kn t r.val) * q (qn t n) (256 * (t.val / 33) + e.val) : ℝ) : EReal) := by
  unfold dkT
  rw [dkOf_at, EReal.coe_mul]
  exact congrArg (fun z : EReal => _ + _ * z) (dot_fin _ _ (fun n => dsr q k v d (t.val / 33) (qn t n) (kn t r.val)) (fun n => q (qn t n) (256 * (t.val / 33) + e.val))
      (fun n => dsT_real m c q k v d hq hk hv hd t r n) (fun n => blk0_real m c q hq t n e))

include hq hk hv hd in
theorem dqT_real (t : Fin cfg0.N) (n : Fin 2816) (e : Fin 256) :
    dqT m c t (ix2 n e)
      = ((Real.log 2 * ∑ r ∈ range 768, dsr q k v d (t.val / 33) (qn t n.val) (kn t r) * k (kn t r) (256 * (t.val / 33) + e.val) : ℝ) : EReal) := by
  unfold dqT
  rw [dqOf_at, EReal.coe_mul]
  exact congrArg (fun z : EReal => _ * z) (dot_fin _ _ (fun r => dsr q k v d (t.val / 33) (qn t n.val) (kn t r)) (fun r => k (kn t r) (256 * (t.val / 33) + e.val))
      (fun r => dsT_real m c q k v d hq hk hv hd t r n) (fun r => blk1_real m c k hk t r e))

/-! ## The accumulators -/

theorem T_at {n : ℕ} (hn : n < 132) : (T n).val = n := Nat.mod_eq_of_lt hn

/-- A sum over the blocks up to `i + 1` is the sum up to `i` and the next block. -/
theorem sum_block (f : ℕ → ℝ) (w i : ℕ) : ∑ n ∈ range (w * (i + 1)), f n = ∑ n ∈ range (w * i), f n + ∑ n ∈ range w, f (w * i + n) := by
  rw [Nat.mul_succ, Finset.sum_range_add]

include hq hk hd in
/-- The gradient of the values after the query blocks up to `i`. -/
theorem dvAcc_real (h j : ℕ) (hh : h < 4) (hj : j < 11) (r : Fin 768) (e : Fin 128) : ∀ i, i < 3 →
    dvAcc m c (11 * h + j) i (ix2 r e)
      = ((∑ n ∈ range (2816 * (i + 1)), pr q k h n (768 * j + r.val) * d n (128 * h + e.val) : ℝ) : EReal)
  | 0, hi => by
    have e0 : (T (3 * (11 * h + j))).val = 3 * (11 * h + j) := T_at (by omega)
    unfold dvAcc
    rw [dvT_real m c q k d hq hk hd, pay2_at, zero_add]
    unfold qn kn
    rw [e0, show 3 * (11 * h + j) / 33 = h by omega, show 3 * (11 * h + j) % 3 = 0 by omega, show 3 * (11 * h + j) / 3 % 11 = j by omega]
    simp only [Nat.mul_zero, Nat.zero_add, Nat.mul_one]
  | i + 1, hi => by
    have e0 : (T (3 * (11 * h + j) + (i + 1))).val = 3 * (11 * h + j) + (i + 1) := T_at (by omega)
    unfold dvAcc
    rw [dvT_real m c q k d hq hk hd, dvAcc_real h j hh hj r e i (by omega), sum_block _ _ (i + 1), EReal.coe_add]
    unfold qn kn
    rw [e0, show (3 * (11 * h + j) + (i + 1)) / 33 = h by omega, show (3 * (11 * h + j) + (i + 1)) % 3 = i + 1 by omega,
      show (3 * (11 * h + j) + (i + 1)) / 3 % 11 = j by omega]

include hq hk hv hd in
/-- The gradient of the keys after the query blocks up to `i`. -/
theorem dkAcc_real (h j : ℕ) (hh : h < 4) (hj : j < 11) (r : Fin 768) (e : Fin 256) : ∀ i, i < 3 →
    dkAcc m c (11 * h + j) i (ix2 r e)
      = ((Real.log 2 * ∑ n ∈ range (2816 * (i + 1)), dsr q k v d h n (768 * j + r.val) * q n (256 * h + e.val) : ℝ) : EReal)
  | 0, hi => by
    have e0 : (T (3 * (11 * h + j))).val = 3 * (11 * h + j) := T_at (by omega)
    unfold dkAcc
    rw [dkT_real m c q k v d hq hk hv hd, pay1_at, zero_add]
    unfold qn kn
    rw [e0, show 3 * (11 * h + j) / 33 = h by omega, show 3 * (11 * h + j) % 3 = 0 by omega, show 3 * (11 * h + j) / 3 % 11 = j by omega]
    simp only [Nat.mul_zero, Nat.zero_add, Nat.mul_one]
  | i + 1, hi => by
    have e0 : (T (3 * (11 * h + j) + (i + 1))).val = 3 * (11 * h + j) + (i + 1) := T_at (by omega)
    unfold dkAcc
    rw [dkT_real m c q k v d hq hk hv hd, dkAcc_real h j hh hj r e i (by omega), sum_block _ _ (i + 1), mul_add (Real.log 2), EReal.coe_add]
    unfold qn kn
    rw [e0, show (3 * (11 * h + j) + (i + 1)) / 33 = h by omega, show (3 * (11 * h + j) + (i + 1)) % 3 = i + 1 by omega,
      show (3 * (11 * h + j) + (i + 1)) / 3 % 11 = j by omega]

include hq hk hv hd in
/-- The gradient of a block of queries after the key blocks up to `j`. -/
theorem dqAcc_real (h i : ℕ) (hh : h < 4) (hi : i < 3) (n : Fin 2816) (e : Fin 256) : ∀ j, j < 11 →
    dqAcc m c h i j (ix2 n e)
      = ((Real.log 2 * ∑ x ∈ range (768 * (j + 1)), dsr q k v d h (2816 * i + n.val) x * k x (256 * h + e.val) : ℝ) : EReal)
  | 0, hj => by
    have e0 : (T (33 * h + i)).val = 33 * h + i := T_at (by omega)
    unfold dqAcc
    rw [dqT_real m c q k v d hq hk hv hd]
    unfold qn kn
    rw [e0, show (33 * h + i) / 33 = h by omega, show (33 * h + i) % 3 = i by omega, show (33 * h + i) / 3 % 11 = 0 by omega]
    simp only [Nat.mul_zero, Nat.zero_add, Nat.mul_one]
  | j + 1, hj => by
    have e0 : (T (33 * h + 3 * (j + 1) + i)).val = 33 * h + 3 * (j + 1) + i := T_at (by omega)
    unfold dqAcc
    rw [pay5_at, dqT_real m c q k v d hq hk hv hd, dqAcc_real h i hh hi n e j (by omega), sum_block _ _ (j + 1), mul_add (Real.log 2), EReal.coe_add]
    unfold qn kn
    rw [e0, show (33 * h + 3 * (j + 1) + i) / 33 = h by omega, show (33 * h + 3 * (j + 1) + i) % 3 = i by omega,
      show (33 * h + 3 * (j + 1) + i) / 3 % 11 = j + 1 by omega]

/-! ## The three results -/

include hq hk hv hd in
/-- The gradient of the queries. -/
theorem dqArr_real (n : Fin 8448) (x : Fin 1024) :
    dqArr m c (ix2 n x) = ((dQ q k v d (x.val / 256) n.val (x.val % 256) : ℝ) : EReal) := by
  refine (dqAcc_real m c q k v d hq hk hv hd (x.val / 256) (n.val / 2816) (by omega) (by omega) ⟨n.val % 2816, by omega⟩ ⟨x.val % 256, by omega⟩ 10 (by norm_num)).trans ?_
  simp only [dQ, Nat.div_add_mod]

include hq hk hv hd in
/-- The gradient of the keys. -/
theorem dkArr_real (n : Fin 8448) (x : Fin 1024) :
    dkArr m c (ix2 n x) = ((dK q k v d (x.val / 256) n.val (x.val % 256) : ℝ) : EReal) := by
  refine (dkAcc_real m c q k v d hq hk hv hd (x.val / 256) (n.val / 768) (by omega) (by omega) ⟨n.val % 768, by omega⟩ ⟨x.val % 256, by omega⟩ 2 (by norm_num)).trans ?_
  simp only [dK, Nat.div_add_mod]

include hq hk hd in
/-- The gradient of the values. -/
theorem dvArr_real (n : Fin 8448) (x : Fin 512) :
    dvArr m c (ix2 n x) = ((dV q k d (x.val / 128) n.val (x.val % 128) : ℝ) : EReal) := by
  refine (dvAcc_real m c q k d hq hk hd (x.val / 128) (n.val / 768) (by omega) (by omega) ⟨n.val % 768, by omega⟩ ⟨x.val % 128, by omega⟩ 2 (by norm_num)).trans ?_
  simp only [dV, Nat.div_add_mod]

end Cert.KernelIdeal.Bwd

end
-- ==== Proof.RefValue.lean ====
/- The results of the reference over finite arguments. -/
module

public import proofs.«01_k».proof.Proof.Spec
public import proofs.«01_k».proof.Proof.Gen.ReferenceIdeal.Read
public import Idealize.ShloMosaic.Lib.Pointwise

@[expose] public section

set_option maxRecDepth 16384
set_option pp.maxSteps 2000

noncomputable section

namespace Cert.ReferenceIdeal.Bwd

open Idealize.ShloMosaic Idealize.ShloMosaic.TcCoe
open Cert.ReferenceIdeal Cert.ReferenceIdeal.Gen Cert.ReferenceIdeal.Read Cert.Attn
open Finset (range)

/-- A column of the values and of their gradients, which are the later half of their arrays' columns. -/
abbrev lateCol (j : Fin 512) : Fin 1024 := ⟨512 + j.val, by omega⟩

variable (x0 x1 x2 : Vec Ideal S8448x1024 .bf16) (x3 : Vec Ideal S8448x1024 .f32) (q k v d : ℕ → ℕ → ℝ)
variable (hq : ∀ (i : Fin 8448) (j : Fin 1024), x0 (ix2 i j) = ((q i.val j.val : ℝ) : EReal))
variable (hk : ∀ (i : Fin 8448) (j : Fin 1024), x1 (ix2 i j) = ((k i.val j.val : ℝ) : EReal))
variable (hv : ∀ (i : Fin 8448) (j : Fin 512), x2 (ix2 i (lateCol j)) = ((v i.val j.val : ℝ) : EReal))
variable (hd : ∀ (i : Fin 8448) (j : Fin 512), x3 (ix2 i (lateCol j)) = ((d i.val j.val : ℝ) : EReal))

set_option maxHeartbeats 1000000

/-! ## What both halves share -/

/-- The queries, the late ones first. -/
theorem split_rows (f : ℕ → ℝ) : ∑ n ∈ range 8192, f (256 + n) + ∑ n ∈ range 256, f n = ∑ n ∈ range 8448, f n := by
  rw [show (8448 : ℕ) = 256 + 8192 from rfl, Finset.sum_range_add, add_comm]

theorem early_nk {n : ℕ} (hn : n < 256) : nk n = 256 := if_pos hn

theorem late_nk (n : ℕ) : nk (256 + n) = 8448 := if_neg (by omega)

include hq hk in
/-- A score in base e. -/
theorem score_at (h : Fin 4) (n j : Fin 8448) :
    (∑ y : Fin 256, x0 (ix2 n ⟨h.val * 256 + y.val, by omega⟩) * x1 (ix2 j ⟨h.val * 256 + y.val, by omega⟩) : EReal)
      * Ideal.log (Ideal.ofBits FTy.f32 1073741824#32) = ((sc q k h.val n.val j.val * Real.log 2 : ℝ) : EReal) := by
  rw [log_two_bits, EReal.coe_mul]
  refine congrArg (fun a : EReal => a * _) (dot_fin _ _ (fun y => q n.val (256 * h.val + y)) (fun y => k j.val (256 * h.val + y)) (fun y => ?_) fun y => ?_)
  · exact (hq n ⟨h.val * 256 + y.val, by omega⟩).trans (by simp only [Nat.mul_comm h.val 256])
  · exact (hk j ⟨h.val * 256 + y.val, by omega⟩).trans (by simp only [Nat.mul_comm h.val 256])

include hv hd in
/-- A weight's gradient. -/
theorem weight_at (h : Fin 4) (n j : Fin 8448) :
    (∑ y : Fin 128, x3 (ix2 n ⟨512 + (h.val * 128 + y.val), by omega⟩) * x2 (ix2 j ⟨512 + (h.val * 128 + y.val), by omega⟩) : EReal)
      = ((dpr v d h.val n.val j.val : ℝ) : EReal) := by
  refine sum_fin _ (fun y => v j.val (128 * h.val + y) * d n.val (128 * h.val + y)) fun y => ?_
  refine (congrArg₂ (fun a b : EReal => a * b) (hd n ⟨h.val * 128 + y.val, by omega⟩) (hv j ⟨h.val * 128 + y.val, by omega⟩)).trans ?_
  rw [← EReal.coe_mul]
  simp only [Nat.mul_comm h.val 128]
  exact congrArg _ (mul_comm _ _)

/-- A score's gradient from its row's exponentials and their sum, by the rule of the quotient. -/
theorem grad_row {N : ℕ} {h n : ℕ} (hN : nk n = N) (g e : Fin N → EReal) (w l : EReal) (M : ℝ)
    (hg : ∀ x, g x = ((dpr v d h n x.val : ℝ) : EReal))
    (he : ∀ x, e x = ((Real.exp (sc q k h n x.val * Real.log 2 - M) : ℝ) : EReal))
    (hl : l = ((Z q k h n / Real.exp M : ℝ) : EReal))
    (hw : w = ((1 / ((Z q k h n / Real.exp M) * (Z q k h n / Real.exp M)) : ℝ) : EReal)) (x : Fin N) :
    (Ideal.div (g x) l + ∑ _u : Fin 1, -∑ y, g y * w * e y) * e x * ((Real.log 2 : ℝ) : EReal)
      = ((dsr q k v d h n x.val * Real.log 2 : ℝ) : EReal) := by
  have hz : Z q k h n / Real.exp M ≠ 0 := (div_pos (Z_pos q k h n) (Real.exp_pos M)).ne'
  subst hN
  have hs : ∑ y, g y * w * e y = ((∑ y ∈ range (nk n), dpr v d h n y * (1 / ((Z q k h n / Real.exp M) * (Z q k h n / Real.exp M)))
      * Real.exp (sc q k h n y * Real.log 2 - M) : ℝ) : EReal) :=
    sum_fin _ (fun y => dpr v d h n y * (1 / ((Z q k h n / Real.exp M) * (Z q k h n / Real.exp M)))
      * Real.exp (sc q k h n y * Real.log 2 - M)) fun y => by rw [hg, hw, he, EReal.coe_mul, EReal.coe_mul]
  rw [Fin.sum_univ_one, hs, hg, hl, he, div_real hz, ← EReal.coe_neg, ← EReal.coe_add, ← EReal.coe_mul, ← EReal.coe_mul,
    quotient_grad q k v d x.isLt]

/-- The weight of a key from its row's exponentials and their sum. -/
theorem weight_row {h n j : ℕ} (hj : j < nk n) (e l : EReal) (M : ℝ)
    (he : e = ((Real.exp (sc q k h n j * Real.log 2 - M) : ℝ) : EReal))
    (hl : l = ((Z q k h n / Real.exp M : ℝ) : EReal)) : Ideal.div e l = ((pr q k h n j : ℝ) : EReal) := by
  rw [he, hl, div_real (div_pos (Z_pos q k h n) (Real.exp_pos M)).ne', shifted_weight q k hj]

/-- One over the square of a row's sum. -/
theorem square_row {h n : ℕ} (l : EReal) (M : ℝ) (hl : l = ((Z q k h n / Real.exp M : ℝ) : EReal)) :
    Ideal.div 1 (l * l) = ((1 / ((Z q k h n / Real.exp M) * (Z q k h n / Real.exp M)) : ℝ) : EReal) := by
  have hz : Z q k h n / Real.exp M ≠ 0 := (div_pos (Z_pos q k h n) (Real.exp_pos M)).ne'
  rw [hl, ← EReal.coe_mul, show (1 : EReal) = ((1 : ℝ) : EReal) from rfl, div_real (mul_ne_zero hz hz)]

/-! ## The early queries -/

include hq hk in
theorem early_score (h : Fin 4) (n : Fin 256) (x : Fin 256) :
    val_main_v10 (F := Ideal) x0 x1 (ix3 h n x) = ((sc q k h.val (n.val) x.val * Real.log 2 : ℝ) : EReal) := by
  refine Eq.trans ?_ (score_at x0 x1 q k hq hk h ⟨n.val, by omega⟩ ⟨x.val, by omega⟩)
  pointwise [val_main_v10, val_main_v7, val_main_v9, val_main_v8, val_main_v4, val_main_v5, val_main_v1, val_main_v2, val_main_cst]

theorem early_most (h : Fin 4) (n : Fin 256) :
    val_main_v11 (F := Ideal) x0 x1 (ix2 h n)
      = (Finset.univ : Finset (Fin 256)).fold max ⊥ (fun x => val_main_v10 (F := Ideal) x0 x1 (ix3 h n x)) := by
  pointwise [val_main_v11, val_main_cst_0]
  rw [ofBits_bot]

theorem early_floor (i : S4x256.Idx) : val_main_v17 (F := Ideal) i = (⊥ : EReal) := by
  pointwise [val_main_v17, val_main_cst_2]
  exact ofBits_bot

theorem early_shift (h : Fin 4) (n : Fin 256) :
    val_main_v18 (F := Ideal) x0 x1 (ix2 h n)
      = (Finset.univ : Finset (Fin 256)).fold max ⊥ (fun x => val_main_v10 (F := Ideal) x0 x1 (ix3 h n x)) :=
  (val_main_v18_apply x0 x1 (ix2 h n)).trans ((congrArg₂ (fun a b : EReal => max a b) (early_floor (ix2 h n)) (early_most x0 x1 h n)).trans
    (max_eq_right bot_le))

theorem early_exp (h : Fin 4) (n : Fin 256) (x : Fin 256) :
    (val_main_v31 (F := Ideal) x0 x1 (ix3 h n x) : EReal)
      = Ideal.exp ((val_main_v10 (F := Ideal) x0 x1 (ix3 h n x) : EReal) - (val_main_v18 (F := Ideal) x0 x1 (ix2 h n) : EReal)) := by
  pointwise [val_main_v31, val_main_v30, val_main_v29, val_main_v28]

theorem early_sum (h : Fin 4) (n : Fin 256) :
    val_main_v32 (F := Ideal) x0 x1 (ix2 h n) = (∑ x : Fin 256, val_main_v31 (F := Ideal) x0 x1 (ix3 h n x) : EReal) := by
  pointwise [val_main_v32, val_main_cst_8]

include hq hk in
/-- A row's exponentials and their sum, over the row's own shift. -/
theorem early_row (h : Fin 4) (n : Fin 256) : ∃ M : ℝ,
    (∀ x : Fin 256, val_main_v31 (F := Ideal) x0 x1 (ix3 h n x) = ((Real.exp (sc q k h.val (n.val) x.val * Real.log 2 - M) : ℝ) : EReal))
    ∧ val_main_v32 (F := Ideal) x0 x1 (ix2 h n) = ((Z q k h.val (n.val) / Real.exp M : ℝ) : EReal) := by
  obtain ⟨M, hM, hx, hs⟩ := row_shift q k (early_nk n.isLt) (fun x : Fin 256 => (val_main_v10 (F := Ideal) x0 x1 (ix3 h n x) : EReal)) (early_score x0 x1 q k hq hk h n)
  have hsh := (early_shift x0 x1 h n).trans hM
  have he : ∀ x : Fin 256, val_main_v31 (F := Ideal) x0 x1 (ix3 h n x) = ((Real.exp (sc q k h.val (n.val) x.val * Real.log 2 - M) : ℝ) : EReal) :=
    fun x => (early_exp x0 x1 h n x).trans ((congrArg (fun a : EReal => Ideal.exp ((val_main_v10 (F := Ideal) x0 x1 (ix3 h n x) : EReal) - a)) hsh).trans (hx x))
  exact ⟨M, he, (early_sum x0 x1 h n).trans ((@Finset.sum_congr (Fin 256) EReal _ _ _ _ _ rfl fun x _ => (he x).trans (hx x).symm).trans hs)⟩

theorem early_quot (h : Fin 4) (n : Fin 256) (x : Fin 256) :
    val_main_v39 (F := Ideal) x0 x1 (ix3 h n x)
      = Ideal.div (val_main_v31 (F := Ideal) x0 x1 (ix3 h n x)) (val_main_v32 (F := Ideal) x0 x1 (ix2 h n)) := by
  pointwise [val_main_v39, val_main_v35, val_main_v34, val_main_v33]

include hq hk in
/-- The weights. -/
theorem early_pr (h : Fin 4) (n : Fin 256) (x : Fin 256) :
    val_main_v39 (F := Ideal) x0 x1 (ix3 h n x) = ((pr q k h.val (n.val) x.val : ℝ) : EReal) := by
  obtain ⟨M, he, hs⟩ := early_row x0 x1 q k hq hk h n
  have hx : x.val < nk (n.val) := by rw [early_nk n.isLt]; exact x.isLt
  exact (early_quot x0 x1 h n x).trans (weight_row q k hx _ _ M (he x) hs)

theorem early_square (h : Fin 4) (n : Fin 256) :
    (val_main_v38 (F := Ideal) x0 x1 (ix3 h n 0) : EReal)
      = Ideal.div 1 ((val_main_v32 (F := Ideal) x0 x1 (ix2 h n) : EReal) * (val_main_v32 (F := Ideal) x0 x1 (ix2 h n) : EReal)) := by
  pointwise [val_main_v38, val_main_v37, val_main_v36, val_main_v33, val_main_cst_9]

include hv hd in
/-- The weights' gradients. -/
theorem early_dpr (h : Fin 4) (n : Fin 256) (x : Fin 256) :
    val_main_v118 (F := Ideal) x2 x3 (ix3 h n x) = ((dpr v d h.val (n.val) x.val : ℝ) : EReal) := by
  refine Eq.trans ?_ (weight_at x2 x3 v d hv hd h ⟨n.val, by omega⟩ ⟨x.val, by omega⟩)
  pointwise [val_main_v118, val_main_v114, val_main_v113, val_main_v112, val_main_v82, val_main_v81, val_main_v80, val_main_v6, val_main_v3, val_main_v0]

theorem early_grad (h : Fin 4) (n : Fin 256) (x : Fin 256) :
    (val_main_v132 (F := Ideal) x0 x1 x2 x3 (ix3 h n x) : EReal)
      = (Ideal.div (val_main_v118 (F := Ideal) x2 x3 (ix3 h n x)) (val_main_v32 (F := Ideal) x0 x1 (ix2 h n))
          + ∑ _u : Fin 1, -∑ y : Fin 256, (val_main_v118 (F := Ideal) x2 x3 (ix3 h n y) : EReal) * (val_main_v38 (F := Ideal) x0 x1 (ix3 h n 0) : EReal)
              * (val_main_v31 (F := Ideal) x0 x1 (ix3 h n y) : EReal))
        * (val_main_v31 (F := Ideal) x0 x1 (ix3 h n x) : EReal) * Ideal.log (Ideal.ofBits FTy.f32 1073741824#32) := by
  pointwise [val_main_v132, val_main_v131, val_main_v130, val_main_v129, val_main_v128, val_main_v127, val_main_v126, val_main_v125, val_main_v124, val_main_v123, val_main_v122, val_main_v121, val_main_v120, val_main_v119, val_main_v33, val_main_v8, val_main_cst, val_main_cst_24, val_main_cst_25]

include hq hk hv hd in
/-- The scores' gradients. -/
theorem early_dsr (h : Fin 4) (n : Fin 256) (x : Fin 256) :
    val_main_v132 (F := Ideal) x0 x1 x2 x3 (ix3 h n x) = ((dsr q k v d h.val (n.val) x.val * Real.log 2 : ℝ) : EReal) := by
  obtain ⟨M, he, hs⟩ := early_row x0 x1 q k hq hk h n
  refine (early_grad x0 x1 x2 x3 h n x).trans ?_
  rw [log_two_bits]
  exact grad_row q k v d (early_nk n.isLt) _ _ _ _ M (early_dpr x2 x3 v d hv hd h n) he hs ((early_square x0 x1 h n).trans (square_row q k _ M hs)) x

/-! ## The late queries -/

include hq hk in
theorem late_score (h : Fin 4) (n : Fin 8192) (x : Fin 8448) :
    val_main_v46 (F := Ideal) x0 x1 (ix3 h n x) = ((sc q k h.val (256 + n.val) x.val * Real.log 2 : ℝ) : EReal) := by
  refine Eq.trans ?_ (score_at x0 x1 q k hq hk h ⟨256 + n.val, by omega⟩ x)
  pointwise [val_main_v46, val_main_v43, val_main_v45, val_main_v44, val_main_v42, val_main_v1, val_main_v2, val_main_cst_10]

theorem late_most (h : Fin 4) (n : Fin 8192) :
    val_main_v47 (F := Ideal) x0 x1 (ix2 h n)
      = (Finset.univ : Finset (Fin 8448)).fold max ⊥ (fun x => val_main_v46 (F := Ideal) x0 x1 (ix3 h n x)) := by
  pointwise [val_main_v47, val_main_cst_11]
  rw [ofBits_bot]

theorem late_floor (i : S4x8192.Idx) : val_main_v53 (F := Ideal) i = (⊥ : EReal) := by
  pointwise [val_main_v53, val_main_cst_13]
  exact ofBits_bot

theorem late_shift (h : Fin 4) (n : Fin 8192) :
    val_main_v54 (F := Ideal) x0 x1 (ix2 h n)
      = (Finset.univ : Finset (Fin 8448)).fold max ⊥ (fun x => val_main_v46 (F := Ideal) x0 x1 (ix3 h n x)) :=
  (val_main_v54_apply x0 x1 (ix2 h n)).trans ((congrArg₂ (fun a b : EReal => max a b) (late_floor (ix2 h n)) (late_most x0 x1 h n)).trans
    (max_eq_right bot_le))

theorem late_exp (h : Fin 4) (n : Fin 8192) (x : Fin 8448) :
    (val_main_v67 (F := Ideal) x0 x1 (ix3 h n x) : EReal)
      = Ideal.exp ((val_main_v46 (F := Ideal) x0 x1 (ix3 h n x) : EReal) - (val_main_v54 (F := Ideal) x0 x1 (ix2 h n) : EReal)) := by
  pointwise [val_main_v67, val_main_v66, val_main_v65, val_main_v64]

theorem late_sum (h : Fin 4) (n : Fin 8192) :
    val_main_v68 (F := Ideal) x0 x1 (ix2 h n) = (∑ x : Fin 8448, val_main_v67 (F := Ideal) x0 x1 (ix3 h n x) : EReal) := by
  pointwise [val_main_v68, val_main_cst_19]

include hq hk in
/-- A row's exponentials and their sum, over the row's own shift. -/
theorem late_row (h : Fin 4) (n : Fin 8192) : ∃ M : ℝ,
    (∀ x : Fin 8448, val_main_v67 (F := Ideal) x0 x1 (ix3 h n x) = ((Real.exp (sc q k h.val (256 + n.val) x.val * Real.log 2 - M) : ℝ) : EReal))
    ∧ val_main_v68 (F := Ideal) x0 x1 (ix2 h n) = ((Z q k h.val (256 + n.val) / Real.exp M : ℝ) : EReal) := by
  obtain ⟨M, hM, hx, hs⟩ := row_shift q k (late_nk n.val) (fun x : Fin 8448 => (val_main_v46 (F := Ideal) x0 x1 (ix3 h n x) : EReal)) (late_score x0 x1 q k hq hk h n)
  have hsh := (late_shift x0 x1 h n).trans hM
  have he : ∀ x : Fin 8448, val_main_v67 (F := Ideal) x0 x1 (ix3 h n x) = ((Real.exp (sc q k h.val (256 + n.val) x.val * Real.log 2 - M) : ℝ) : EReal) :=
    fun x => (late_exp x0 x1 h n x).trans ((congrArg (fun a : EReal => Ideal.exp ((val_main_v46 (F := Ideal) x0 x1 (ix3 h n x) : EReal) - a)) hsh).trans (hx x))
  exact ⟨M, he, (late_sum x0 x1 h n).trans ((@Finset.sum_congr (Fin 8448) EReal _ _ _ _ _ rfl fun x _ => (he x).trans (hx x).symm).trans hs)⟩

theorem late_quot (h : Fin 4) (n : Fin 8192) (x : Fin 8448) :
    val_main_v75 (F := Ideal) x0 x1 (ix3 h n x)
      = Ideal.div (val_main_v67 (F := Ideal) x0 x1 (ix3 h n x)) (val_main_v68 (F := Ideal) x0 x1 (ix2 h n)) := by
  pointwise [val_main_v75, val_main_v71, val_main_v70, val_main_v69]

include hq hk in
/-- The weights. -/
theorem late_pr (h : Fin 4) (n : Fin 8192) (x : Fin 8448) :
    val_main_v75 (F := Ideal) x0 x1 (ix3 h n x) = ((pr q k h.val (256 + n.val) x.val : ℝ) : EReal) := by
  obtain ⟨M, he, hs⟩ := late_row x0 x1 q k hq hk h n
  have hx : x.val < nk (256 + n.val) := by rw [late_nk n.val]; exact x.isLt
  exact (late_quot x0 x1 h n x).trans (weight_row q k hx _ _ M (he x) hs)

theorem late_square (h : Fin 4) (n : Fin 8192) :
    (val_main_v74 (F := Ideal) x0 x1 (ix3 h n 0) : EReal)
      = Ideal.div 1 ((val_main_v68 (F := Ideal) x0 x1 (ix2 h n) : EReal) * (val_main_v68 (F := Ideal) x0 x1 (ix2 h n) : EReal)) := by
  pointwise [val_main_v74, val_main_v73, val_main_v72, val_main_v69, val_main_cst_20]

include hv hd in
/-- The weights' gradients. -/
theorem late_dpr (h : Fin 4) (n : Fin 8192) (x : Fin 8448) :
    val_main_v90 (F := Ideal) x2 x3 (ix3 h n x) = ((dpr v d h.val (256 + n.val) x.val : ℝ) : EReal) := by
  refine Eq.trans ?_ (weight_at x2 x3 v d hv hd h ⟨256 + n.val, by omega⟩ x)
  pointwise [val_main_v90, val_main_v86, val_main_v85, val_main_v84, val_main_v83, val_main_v81, val_main_v80, val_main_v3, val_main_v0]

theorem late_grad (h : Fin 4) (n : Fin 8192) (x : Fin 8448) :
    (val_main_v104 (F := Ideal) x0 x1 x2 x3 (ix3 h n x) : EReal)
      = (Ideal.div (val_main_v90 (F := Ideal) x2 x3 (ix3 h n x)) (val_main_v68 (F := Ideal) x0 x1 (ix2 h n))
          + ∑ _u : Fin 1, -∑ y : Fin 8448, (val_main_v90 (F := Ideal) x2 x3 (ix3 h n y) : EReal) * (val_main_v74 (F := Ideal) x0 x1 (ix3 h n 0) : EReal)
              * (val_main_v67 (F := Ideal) x0 x1 (ix3 h n y) : EReal))
        * (val_main_v67 (F := Ideal) x0 x1 (ix3 h n x) : EReal) * Ideal.log (Ideal.ofBits FTy.f32 1073741824#32) := by
  pointwise [val_main_v104, val_main_v103, val_main_v102, val_main_v101, val_main_v100, val_main_v99, val_main_v98, val_main_v97, val_main_v96, val_main_v95, val_main_v94, val_main_v93, val_main_v92, val_main_v91, val_main_v69, val_main_v44, val_main_cst_10, val_main_cst_21, val_main_cst_22]

include hq hk hv hd in
/-- The scores' gradients. -/
theorem late_dsr (h : Fin 4) (n : Fin 8192) (x : Fin 8448) :
    val_main_v104 (F := Ideal) x0 x1 x2 x3 (ix3 h n x) = ((dsr q k v d h.val (256 + n.val) x.val * Real.log 2 : ℝ) : EReal) := by
  obtain ⟨M, he, hs⟩ := late_row x0 x1 q k hq hk h n
  refine (late_grad x0 x1 x2 x3 h n x).trans ?_
  rw [log_two_bits]
  exact grad_row q k v d (late_nk n.val) _ _ _ _ M (late_dpr x2 x3 v d hv hd h n) he hs ((late_square x0 x1 h n).trans (square_row q k _ M hs)) x

/-! ## The operands of the last products, by head -/

include hk in
theorem keys_at (j : Fin 8448) (h : Fin 4) (e : Fin 256) :
    val_main_v2 (F := Ideal) x1 (ix3 j h e) = ((k j.val (256 * h.val + e.val) : ℝ) : EReal) := by
  pointwise [val_main_v2]
  exact (hk j ⟨h.val * 256 + e.val, by omega⟩).trans (by simp only [Nat.mul_comm h.val 256])

include hk in
theorem early_keys_at (j : Fin 256) (h : Fin 4) (e : Fin 256) :
    val_main_v5 (F := Ideal) x1 (ix3 j h e) = ((k j.val (256 * h.val + e.val) : ℝ) : EReal) := by
  pointwise [val_main_v5, val_main_v2]
  exact (hk ⟨j.val, by omega⟩ ⟨h.val * 256 + e.val, by omega⟩).trans (by simp only [Nat.mul_comm h.val 256])

include hq in
theorem early_queries_at (n : Fin 256) (h : Fin 4) (e : Fin 256) :
    val_main_v4 (F := Ideal) x0 (ix3 n h e) = ((q n.val (256 * h.val + e.val) : ℝ) : EReal) := by
  pointwise [val_main_v4, val_main_v1]
  exact (hq ⟨n.val, by omega⟩ ⟨h.val * 256 + e.val, by omega⟩).trans (by simp only [Nat.mul_comm h.val 256])

include hq in
theorem late_queries_at (n : Fin 8192) (h : Fin 4) (e : Fin 256) :
    val_main_v42 (F := Ideal) x0 (ix3 n h e) = ((q (256 + n.val) (256 * h.val + e.val) : ℝ) : EReal) := by
  pointwise [val_main_v42, val_main_v1]
  exact (hq ⟨256 + n.val, by omega⟩ ⟨h.val * 256 + e.val, by omega⟩).trans (by simp only [Nat.mul_comm h.val 256])

include hd in
theorem early_cot_at (h : Fin 4) (e : Fin 128) (n : Fin 256) :
    val_main_v112 (F := Ideal) x3 (ix3 h e n) = ((d n.val (128 * h.val + e.val) : ℝ) : EReal) := by
  pointwise [val_main_v112, val_main_v82, val_main_v81, val_main_v80]
  exact (hd ⟨n.val, by omega⟩ ⟨h.val * 128 + e.val, by omega⟩).trans (by simp only [Nat.mul_comm h.val 128])

include hd in
theorem late_cot_at (h : Fin 4) (e : Fin 128) (n : Fin 8192) :
    val_main_v84 (F := Ideal) x3 (ix3 h e n) = ((d (256 + n.val) (128 * h.val + e.val) : ℝ) : EReal) := by
  pointwise [val_main_v84, val_main_v83, val_main_v81, val_main_v80]
  exact (hd ⟨256 + n.val, by omega⟩ ⟨h.val * 128 + e.val, by omega⟩).trans (by simp only [Nat.mul_comm h.val 128])

/-! ## The results -/

/-- Late and early queries' shares of a sum over the queries. -/
theorem both_halves (f : ℕ → ℝ) (a b : EReal) (ha : a = ((∑ n ∈ range 8192, f (256 + n) : ℝ) : EReal))
    (hb : b = ((∑ n ∈ range 256, f n : ℝ) : EReal)) : a + b = ((∑ n ∈ range 8448, f n : ℝ) : EReal) := by
  rw [ha, hb, ← EReal.coe_add, split_rows]

/-- The factor of a score's base, taken out of a sum. -/
theorem log_out (N : ℕ) (f g : ℕ → ℝ) :
    ∑ x ∈ range N, f x * Real.log 2 * g x = Real.log 2 * ∑ x ∈ range N, f x * g x := by
  rw [Finset.mul_sum]
  exact Finset.sum_congr rfl fun x _ => by ring

include hq hk hv hd in
/-- The gradient of the queries. -/
theorem dQ_at (n : Fin 8448) (c : Fin 1024) :
    val_main_v148 (F := Ideal) x0 x1 x2 x3 (ix2 n c) = ((dQ q k v d (c.val / 256) n.val (c.val % 256) : ℝ) : EReal) := by
  pointwise [val_main_v148, val_main_v147, val_main_v144, val_main_v111, val_main_v143, val_main_v110, val_main_v109, val_main_v108, val_main_v138, val_main_v137, val_main_v136, val_main_cst_23, val_main_cst_28]
  refine Eq.trans ?_ (congrArg (fun r : ℝ => (r : EReal)) (log_out 8448 (fun j => dsr q k v d (c.val / 256) n.val j) fun j => k j (256 * (c.val / 256) + c.val % 256)))
  split
  · split
    · omega
    · rw [add_zero]
      have hn : 256 ≤ n.val := by omega
      have e : 256 + (n.val - 256) = n.val := by omega
      exact dot_fin _ _ (fun j => dsr q k v d (c.val / 256) n.val j * Real.log 2) (fun j => k j (256 * (c.val / 256) + c.val % 256))
        (fun j => (late_dsr x0 x1 x2 x3 q k v d hq hk hv hd ⟨c.val / 256, by omega⟩ ⟨n.val - 256, by omega⟩ j).trans (by simp only [e]))
        (fun j => keys_at x1 k hk j ⟨c.val / 256, by omega⟩ ⟨c.val % 256, by omega⟩)
  · split
    · have hn : n.val < 256 := by omega
      have e : (∑ j ∈ range 256, dsr q k v d (c.val / 256) n.val j * Real.log 2 * k j (256 * (c.val / 256) + c.val % 256))
          = ∑ j ∈ range 8448, dsr q k v d (c.val / 256) n.val j * Real.log 2 * k j (256 * (c.val / 256) + c.val % 256) := by
        refine Finset.sum_subset (Finset.range_subset_range.2 (by norm_num)) fun j _ hj => ?_
        rw [dsr_out q k v d fun hlt => hj (Finset.mem_range.2 (by rwa [early_nk hn] at hlt)), zero_mul, zero_mul]
      rw [zero_add, ← e]
      exact dot_fin _ _ (fun j => dsr q k v d (c.val / 256) n.val j * Real.log 2) (fun j => k j (256 * (c.val / 256) + c.val % 256))
        (early_dsr x0 x1 x2 x3 q k v d hq hk hv hd ⟨c.val / 256, by omega⟩ ⟨n.val, hn⟩)
        (fun j => early_keys_at x1 k hk j ⟨c.val / 256, by omega⟩ ⟨c.val % 256, by omega⟩)
    · omega

include hq hk hv hd in
/-- The gradient of the keys. -/
theorem dK_at (j : Fin 8448) (c : Fin 1024) :
    val_main_v149 (F := Ideal) x0 x1 x2 x3 (ix2 j c) = ((dK q k v d (c.val / 256) j.val (c.val % 256) : ℝ) : EReal) := by
  pointwise [val_main_v149, val_main_v146, val_main_v142, val_main_v107, val_main_v106, val_main_v105, val_main_v141, val_main_v135, val_main_v134, val_main_v133, val_main_cst_27]
  rw [dK, ← log_out]
  refine both_halves (fun n => dsr q k v d (c.val / 256) n j.val * Real.log 2 * q n (256 * (c.val / 256) + c.val % 256)) _ _ ?_ ?_
  · exact dot_fin _ _ (fun n => dsr q k v d (c.val / 256) (256 + n) j.val * Real.log 2) (fun n => q (256 + n) (256 * (c.val / 256) + c.val % 256))
      (fun n => late_dsr x0 x1 x2 x3 q k v d hq hk hv hd ⟨c.val / 256, by omega⟩ n j)
      (fun n => late_queries_at x0 q hq n ⟨c.val / 256, by omega⟩ ⟨c.val % 256, by omega⟩)
  · by_cases hj : j.val < 256
    · rw [dif_pos ⟨hj, by omega, by omega⟩]
      exact dot_fin _ _ (fun n => dsr q k v d (c.val / 256) n j.val * Real.log 2) (fun n => q n (256 * (c.val / 256) + c.val % 256))
        (fun n => early_dsr x0 x1 x2 x3 q k v d hq hk hv hd ⟨c.val / 256, by omega⟩ n ⟨j.val, hj⟩)
        (fun n => early_queries_at x0 q hq n ⟨c.val / 256, by omega⟩ ⟨c.val % 256, by omega⟩)
    · rw [dif_neg (by omega), Finset.sum_eq_zero fun n hn => ?_, EReal.coe_zero]
      rw [dsr_out q k v d (by rw [early_nk (Finset.mem_range.1 hn)]; exact hj), zero_mul, zero_mul]

include hq hk hd in
/-- The gradient of the values. -/
theorem dV_at (j : Fin 8448) (c : Fin 512) :
    val_main_v150 (F := Ideal) x0 x1 x3 (ix2 j c) = ((dV q k d (c.val / 128) j.val (c.val % 128) : ℝ) : EReal) := by
  pointwise [val_main_v150, val_main_v145, val_main_v140, val_main_v89, val_main_v88, val_main_v87, val_main_v139, val_main_v117, val_main_v116, val_main_v115, val_main_cst_26]
  rw [dV]
  simp only [mul_comm (pr q k _ _ _)]
  refine both_halves (fun n => d n (128 * (c.val / 128) + c.val % 128) * pr q k (c.val / 128) n j.val) _ _ ?_ ?_
  · exact dot_fin _ _ (fun n => d (256 + n) (128 * (c.val / 128) + c.val % 128)) (fun n => pr q k (c.val / 128) (256 + n) j.val)
      (fun n => late_cot_at x3 d hd ⟨c.val / 128, by omega⟩ ⟨c.val % 128, by omega⟩ n)
      (fun n => late_pr x0 x1 q k hq hk ⟨c.val / 128, by omega⟩ n j)
  · by_cases hj : j.val < 256
    · rw [dif_pos ⟨hj, by omega, by omega⟩]
      exact dot_fin _ _ (fun n => d n (128 * (c.val / 128) + c.val % 128)) (fun n => pr q k (c.val / 128) n j.val)
        (fun n => early_cot_at x3 d hd ⟨c.val / 128, by omega⟩ ⟨c.val % 128, by omega⟩ n)
        (fun n => early_pr x0 x1 q k hq hk ⟨c.val / 128, by omega⟩ n ⟨j.val, hj⟩)
    · rw [dif_neg (by omega), Finset.sum_eq_zero fun n hn => ?_, EReal.coe_zero]
      rw [pr_out q k (by rw [early_nk (Finset.mem_range.1 hn)]; exact hj), mul_zero]

end Cert.ReferenceIdeal.Bwd

end
-- ==== Proof.Finite.lean ====
/- The precondition's meaning: an array whose magnitudes are all below infinity is one of reals. -/
module

public import proofs.«01_k».proof.Proof.Spec
public import proofs.«01_k».proof.Proof.Gen.Pre_finite
public import Idealize.ShloMosaic.Lib.ReduceAll
public import Idealize.ShloMosaic.Lib.Pointwise

@[expose] public section

set_option maxRecDepth 16384

noncomputable section

namespace Cert.Attn

open Idealize.ShloMosaic Cert.Pre_finite

/-- The pattern of infinity. -/
theorem ofBits_top : Ideal.ofBits .f32 2139095040#32 = (⊤ : EReal) := by simp [Ideal.ofBits, Ideal.ieee]

/-- An extended real whose magnitude is below infinity is a real. -/
theorem real_of_abs_lt (x : EReal) (h : max x (-x) < ⊤) : x = ((x.toReal : ℝ) : EReal) := by
  refine (EReal.coe_toReal (fun e => ?_) fun e => ?_).symm
  · rw [e] at h; exact absurd h (by simp)
  · rw [e] at h; exact absurd h (by simp)

instance : Subsingleton S_.Idx := ⟨fun a b => funext fun i => i.elim0⟩

/-- An array whose magnitudes compare below infinity at every index has real entries. -/
theorem real_of_all {s : Shape} {axes : List (Fin s.rank)} (X : FVec Ideal s .f32) (hb : S_.BroadcastsInDim s (![] : Fin 0 → Fin s.rank))
    (hr : s.ReducesTo axes S_) (hS : 0 < S_.numel)
    (h : Host.reduce IntOp.andi (cmpf .olt (Host.absf X) (broadcastInDim s ![] hb (constant S_ .f32 0x7F800000#32))) (constantI S_ 1 1#1) hr hS
      = fun _ => 1#1) (i : s.Idx) : (X i : EReal) = (((X i : EReal).toReal : ℝ) : EReal) := by
  have e := Host.reduce_andi_all _ _ hr hS (fun a => a.elim0) (congrFun h _) i
  refine real_of_abs_lt (X i) ?_
  rw [← ofBits_top]
  have e' : BitVec.ofBool (decide ((max (X i : EReal) (-(X i : EReal))) < Ideal.ofBits .f32 2139095040#32)) = 1#1 := e
  by_contra hn
  rw [decide_eq_false hn] at e'
  exact absurd e' (by decide)

end Cert.Attn

end
-- ==== Proof.Meet.lean ====
/- Over finite arguments the kernel's results and the reference's are the same arrays. -/
module

public import proofs.«01_k».proof.Proof.Value
public import proofs.«01_k».proof.Proof.RefValue
public import proofs.«01_k».proof.Proof.Finite

@[expose] public section

set_option maxRecDepth 16384
set_option pp.maxSteps 2000

noncomputable section

namespace Cert.KernelIdeal.Bwd

open Idealize.ShloMosaic Idealize.ShloMosaic.TcCoe
open Cert.KernelIdeal Cert.KernelIdeal.Gen Cert.Attn
open Cert.ReferenceIdeal.Read

/-- The precondition of four arrays. -/
def Fin4 (x0 x1 x2 : Vec Ideal S8448x1024 .bf16) (x3 : Vec Ideal S8448x1024 .f32) : Prop :=
  (Cert.Pre_finite.fn (F := Ideal) x0 x1 x2 x3).1 = (fun _ => 1#1)
    ∧ (Cert.Pre_finite.fn (F := Ideal) x0 x1 x2 x3).2.1 = (fun _ => 1#1)
    ∧ (Cert.Pre_finite.fn (F := Ideal) x0 x1 x2 x3).2.2.1 = (fun _ => 1#1)
    ∧ (Cert.Pre_finite.fn (F := Ideal) x0 x1 x2 x3).2.2.2 = (fun _ => 1#1)

variable (x0 x1 x2 : Vec Ideal S8448x1024 .bf16) (x3 : Vec Ideal S8448x1024 .f32)

theorem all_arg0 (h : Fin4 x0 x1 x2 x3) (i : Cert.Pre_finite.S8448x1024.Idx) :
    (x0 i : EReal) = ((((x0 i : EReal)).toReal : ℝ) : EReal) := by
  have e := h.1
  dsimp only [Cert.Pre_finite.fn, Cert.Pre_finite.fn_part1] at e
  exact real_of_all (s := Cert.Pre_finite.S8448x1024) (extf .f32 x0 Cert.Pre_finite.Gen.bitsLt_bf16_f32) _ _ _ e i

theorem all_arg1 (h : Fin4 x0 x1 x2 x3) (i : Cert.Pre_finite.S8448x1024.Idx) :
    (x1 i : EReal) = ((((x1 i : EReal)).toReal : ℝ) : EReal) := by
  have e := h.2.1
  dsimp only [Cert.Pre_finite.fn, Cert.Pre_finite.fn_part1] at e
  exact real_of_all (s := Cert.Pre_finite.S8448x1024) (extf .f32 x1 Cert.Pre_finite.Gen.bitsLt_bf16_f32) _ _ _ e i

theorem all_arg2 (h : Fin4 x0 x1 x2 x3) (i : Cert.Pre_finite.S8448x512.Idx) :
    ((extractStridedSlice Cert.Pre_finite.S8448x512 ![0, 512] x2 Cert.Pre_finite.Gen.slices_S8448x1024_S8448x512_0_512) i : EReal) = (((((extractStridedSlice Cert.Pre_finite.S8448x512 ![0, 512] x2 Cert.Pre_finite.Gen.slices_S8448x1024_S8448x512_0_512) i : EReal)).toReal : ℝ) : EReal) := by
  have e := h.2.2.1
  dsimp only [Cert.Pre_finite.fn, Cert.Pre_finite.fn_part1] at e
  have r := real_of_all _ _ _ _ e
  exact r i

theorem all_arg3 (h : Fin4 x0 x1 x2 x3) (i : Cert.Pre_finite.S8448x512.Idx) :
    ((extractStridedSlice Cert.Pre_finite.S8448x512 ![0, 512] x3 Cert.Pre_finite.Gen.slices_S8448x1024_S8448x512_0_512) i : EReal) = (((((extractStridedSlice Cert.Pre_finite.S8448x512 ![0, 512] x3 Cert.Pre_finite.Gen.slices_S8448x1024_S8448x512_0_512) i : EReal)).toReal : ℝ) : EReal) := by
  have e := h.2.2.2
  dsimp only [Cert.Pre_finite.fn, Cert.Pre_finite.fn_part1] at e
  have r := real_of_all _ _ _ _ e
  exact r i

theorem real_arg0 (h : Fin4 x0 x1 x2 x3) (i j : ℕ) : (atW x0 i j : EReal) = (((atW x0 i j : EReal).toReal : ℝ) : EReal) :=
  all_arg0 x0 x1 x2 x3 h _

theorem real_arg1 (h : Fin4 x0 x1 x2 x3) (i j : ℕ) : (atW x1 i j : EReal) = (((atW x1 i j : EReal).toReal : ℝ) : EReal) :=
  all_arg1 x0 x1 x2 x3 h _

/-- An entry in the later columns, through the slice of them. -/
theorem slice_at (x : S8448x1024.Idx → EReal) (i j : ℕ) (hj : j < 512) :
    (extractStridedSlice Cert.Pre_finite.S8448x512 ![0, 512] x Cert.Pre_finite.Gen.slices_S8448x1024_S8448x512_0_512
      (ix2 (n0 := 8448) (n1 := 512) ⟨i % 8448, Nat.mod_lt _ (by decide)⟩ ⟨j, hj⟩) : EReal) = atW x i (512 + j) := by
  pointwise
  have hm : (512 + j) % 1024 = 512 + j := Nat.mod_eq_of_lt (by omega)
  simp only [atW, at2, hm]

theorem real_arg2 (h : Fin4 x0 x1 x2 x3) (i j : ℕ) (hj : j < 512) :
    (atW x2 i (512 + j) : EReal) = (((atW x2 i (512 + j) : EReal).toReal : ℝ) : EReal) :=
  slice_at x2 i j hj ▸ all_arg2 x0 x1 x2 x3 h _

theorem real_arg3 (h : Fin4 x0 x1 x2 x3) (i j : ℕ) (hj : j < 512) :
    (atW x3 i (512 + j) : EReal) = (((atW x3 i (512 + j) : EReal).toReal : ℝ) : EReal) :=
  slice_at x3 i j hj ▸ all_arg3 x0 x1 x2 x3 h _

/-- An array's entries as reals. -/
def realW (x : S8448x1024.Idx → EReal) (o i j : ℕ) : ℝ := (atW x i (o + j) : EReal).toReal

variable (m : (ℓ : Loc nD τ sig) → Buf (Elt Ideal) ℓ) (c : Dev nD)

theorem meet (e0 : x0 = m (c, Proc.devRef .tc main_arg0)) (e1 : x1 = m (c, Proc.devRef .tc main_arg1))
    (e2 : x2 = m (c, Proc.devRef .tc main_arg2)) (e3 : x3 = m (c, Proc.devRef .tc main_arg3)) (h : Fin4 x0 x1 x2 x3) :
    val_main_v148 (F := Ideal) x0 x1 x2 x3 = dqArr m c ∧ val_main_v149 (F := Ideal) x0 x1 x2 x3 = dkArr m c
      ∧ val_main_v150 (F := Ideal) x0 x1 x3 = dvArr m c := by
  have hq : ∀ i j, (atW x0 i j : EReal) = ((realW x0 0 i j : ℝ) : EReal) := fun i j => (real_arg0 x0 x1 x2 x3 h i j).trans (by rw [realW, zero_add])
  have hk : ∀ i j, (atW x1 i j : EReal) = ((realW x1 0 i j : ℝ) : EReal) := fun i j => (real_arg1 x0 x1 x2 x3 h i j).trans (by rw [realW, zero_add])
  have hv : ∀ i j, j < 512 → (atW x2 i (512 + j) : EReal) = ((realW x2 512 i j : ℝ) : EReal) := real_arg2 x0 x1 x2 x3 h
  have hd : ∀ i j, j < 512 → (atW x3 i (512 + j) : EReal) = ((realW x3 512 i j : ℝ) : EReal) := real_arg3 x0 x1 x2 x3 h
  have rq : ∀ (i : Fin 8448) (j : Fin 1024), (x0 (ix2 i j) : EReal) = ((realW x0 0 i.val j.val : ℝ) : EReal) := fun i j => (eq_atW x0 i j).trans (hq _ _)
  have rk : ∀ (i : Fin 8448) (j : Fin 1024), (x1 (ix2 i j) : EReal) = ((realW x1 0 i.val j.val : ℝ) : EReal) := fun i j => (eq_atW x1 i j).trans (hk _ _)
  have rv : ∀ (i : Fin 8448) (j : Fin 512), (x2 (ix2 i (Cert.ReferenceIdeal.Bwd.lateCol j)) : EReal) = ((realW x2 512 i.val j.val : ℝ) : EReal) :=
    fun i j => (eq_atW x2 i _).trans (hv _ _ j.isLt)
  have rd : ∀ (i : Fin 8448) (j : Fin 512), (x3 (ix2 i (Cert.ReferenceIdeal.Bwd.lateCol j)) : EReal) = ((realW x3 512 i.val j.val : ℝ) : EReal) :=
    fun i j => (eq_atW x3 i _).trans (hd _ _ j.isLt)
  refine ⟨funext fun i => ?_, funext fun i => ?_, funext fun i => ?_⟩
  · rw [eq_ix2 i]
    exact (Cert.ReferenceIdeal.Bwd.dQ_at x0 x1 x2 x3 _ _ _ _ rq rk rv rd (i 0) (i 1)).trans
      (dqArr_real m c _ _ _ _ (e0 ▸ hq) (e1 ▸ hk) (e2 ▸ hv) (e3 ▸ hd) (i 0) (i 1)).symm
  · rw [eq_ix2 i]
    exact (Cert.ReferenceIdeal.Bwd.dK_at x0 x1 x2 x3 _ _ _ _ rq rk rv rd (i 0) (i 1)).trans
      (dkArr_real m c _ _ _ _ (e0 ▸ hq) (e1 ▸ hk) (e2 ▸ hv) (e3 ▸ hd) (i 0) (i 1)).symm
  · rw [eq_ix2 i]
    exact (Cert.ReferenceIdeal.Bwd.dV_at x0 x1 x3 _ _ _ rq rk rd (i 0) (i 1)).trans
      (dvArr_real m c _ _ _ (e0 ▸ hq) (e1 ▸ hk) (e3 ▸ hd) (i 0) (i 1)).symm

end Cert.KernelIdeal.Bwd

end
-- ==== Proof.Products.lean ====
/- Products of two matrices of extended reals: by rows of both, by columns of both, and rows by columns. -/
module

public import Idealize.ShloMosaic.Lib.Pipeline.ValueKit
public import Idealize.ShloMosaic.Lib.Pointwise
public import Idealize.ShloMosaic.Adequacy

@[expose] public section

noncomputable section

namespace Cert.Products

open Idealize.ShloMosaic

/-- A matrix of `a` rows and `b` columns. -/
abbrev Mat (a b : ℕ) : Type := (⟨2, ![a, b]⟩ : Shape).Idx → EReal

/-- Rows of `x` with rows of `w`: the gradient of a product with respect to its left factor. -/
def rowsRows {a b n : ℕ} (x : Mat a n) (w : Mat b n) : Mat a b := fun i =>
  ∑ k : Fin n, x (ix2 (n0 := a) (n1 := n) (i 0) k) * w (ix2 (n0 := b) (n1 := n) (i 1) k)

/-- Columns of `x` with columns of `y`: the gradient of a product with respect to its right factor. -/
def colsCols {a b n : ℕ} (x : Mat n a) (y : Mat n b) : Mat a b := fun i =>
  ∑ r : Fin n, x (ix2 (n0 := n) (n1 := a) r (i 0)) * y (ix2 (n0 := n) (n1 := b) r (i 1))

/-- Rows of `x` with columns of `w`: the product itself. -/
def rowsCols {a b n : ℕ} (x : Mat a n) (w : Mat n b) : Mat a b := fun i =>
  ∑ k : Fin n, x (ix2 (n0 := a) (n1 := n) (i 0) k) * w (ix2 (n0 := n) (n1 := b) k (i 1))

/-- The positive part, entry by entry. -/
def positive {a b : ℕ} (u : Mat a b) : Mat a b := fun i => max (u i) 0

/-- The square, entry by entry. -/
def square {a b : ℕ} (u : Mat a b) : Mat a b := fun i => u i * u i

/-- The square of the positive part, entry by entry. -/
def squarePos {a b : ℕ} (u : Mat a b) : Mat a b := fun i => max (u i) 0 * max (u i) 0

/-- Twice the positive part, entry by entry. -/
def twicePos {a b : ℕ} (u : Mat a b) : Mat a b := fun i => 2 * max (u i) 0

/-- A product with twice a number is the sum of the two products. -/
theorem mul_two_mul (x a : EReal) : x * (2 * a) = a * x + x * a := by
  rw [mul_left_comm, ← one_add_one_eq_two, EReal.right_distrib_of_nonneg zero_le_one zero_le_one, one_mul, mul_comm a x]

/-- The constant two, as a number. -/
theorem ofBits_two : Ideal.ofBits .f32 1073741824#32 = (2 : EReal) := by
  have e : Ideal.ofBits .f32 1073741824#32 = ((2 : ℝ) : EReal) := by
    simp [Ideal.ofBits, Ideal.ieee, -EReal.coe_mul]; norm_num
  exact e

end Cert.Products

end
-- ==== Proof.Ff1WValue.lean ====
/- The gradient of the feed-forward part's first product with respect to the weight: a sum over blocks of rows. -/
module

public import proofs.«01_k».proof.Defs
public import proofs.«01_k».proof.Proof.Gen.Ff1W
public import proofs.«01_k».proof.Proof.Gen.Ff1W.Frame
public import proofs.«01_k».proof.Proof.Gen.Ff1WIdeal
public import proofs.«01_k».proof.Proof.Gen.Ff1WIdeal.Frame
public import proofs.«01_k».proof.Proof.Gen.Ff1WIdeal.Value
public import proofs.«01_k».proof.Proof.Gen.Ff1WRefIdeal
public import proofs.«01_k».proof.Proof.Gen.Ff1WRefIdeal.Run
public import proofs.«01_k».proof.Proof.Products

@[expose] public section

set_option maxRecDepth 16384

noncomputable section

namespace Cert.Ff1WIdeal.Grad

open Idealize.ShloMosaic Idealize.ShloMosaic.TcCoe Idealize.SL.Sem Cert.Products
open Cert.Ff1WIdeal Cert.Ff1WIdeal.Gen

variable (m : (ℓ : Loc nD τ sig) → Buf (Elt Ideal) ℓ)

/-- The block of each window at a grid point. -/
theorem idx : ∀ t : Fin cfg0.N, win0_0.index t = ![t.val % 11, 0] ∧ win0_1.index t = ![t.val % 11, t.val / 11] ∧ win0_2.index t = ![0, t.val / 11] :=
  (by decide +kernel : ∀ t : Fin grid0.N, win0_0.index t = ![t.val % 11, 0] ∧ win0_1.index t = ![t.val % 11, t.val / 11] ∧ win0_2.index t = ![0, t.val / 11])

/-- The result array is the product of the input's columns with the gradient's columns. -/
theorem final (c : Dev nD) : (dats m 0 c).arrAt 2 cfg0.N
    = colsCols (a := 1024) (b := 4096) (n := 8448) (m ((c : Thread nD τ).loc main_arg0)) (m ((c : Thread nD τ).loc main_arg2)) := by
  refine (dats m 0 c).arrAt_eq_of_covers 2 _ (by decide +kernel) fun t hf y => ?_
  blk_simp
  rw [after0_2]
  refine (Pipeline.eq_sum_fin_of_reset_step_apply_of_flush (fun n h => outsAt0 m c n h) 11 (fun _ => 0) _
    (fun t h j => by rw [outsAt0_A m c t h]; frame_out; pointwise [k0_pay2, k0_pay1]; rfl)
    (fun t h j => by rw [outsAt0_B m c t h]; frame_out; pointwise [k0_pay2]) t ((flush0_2 t).mp hf) _).trans ?_
  rw [zero_add]
  dsimp only [colsCols]
  refine Fin.sum_mul_add_congr fun s k hl => ?_
  have hs : (11 * (t.val / 11) + s.val) % 11 = s.val := by have := s.isLt; omega
  have hd : (11 * (t.val / 11) + s.val) / 11 = t.val / 11 := by have := s.isLt; omega
  congr 1 <;> blk_ext [iblk, V, (idx t).1, (idx t).2.1, (idx t).2.2, (idx ⟨11 * (t.val / 11) + s.val, _⟩).1, (idx ⟨11 * (t.val / 11) + s.val, _⟩).2.1, hs, hd]

end Cert.Ff1WIdeal.Grad

namespace Cert.Ff1WRefIdeal.Grad

open Idealize.ShloMosaic Idealize.ShloMosaic.TcCoe Idealize.SL.Sem Cert.Products
open Cert.Ff1WRefIdeal Cert.Ff1WRefIdeal.Gen

/-- The reference's result is the same product. -/
theorem value (x : FVec Ideal S8448x1024 .bf16) (ct : FVec Ideal S8448x4096 .bf16) :
    transpose S1024x4096 [1, 0] (Host.dotGeneral dot_S8448x4096_S8448x1024_S4096x1024_0_0_1_1_n_n none (extf .f32 ct bitsLt_bf16_f32) (extf .f32 x bitsLt_bf16_f32)) transposes_S4096x1024_S1024x4096_1_0
      = colsCols (a := 1024) (b := 4096) (n := 8448) x ct := by
  funext i
  pointwise [colsCols]
  exact Finset.sum_congr rfl fun k _ => mul_comm _ _

end Cert.Ff1WRefIdeal.Grad

namespace Cert.Ff1W.Grad

open Idealize.ShloMosaic Idealize.ShloMosaic.TcCoe Idealize.SL.Sem

theorem kernel_frame : Cert.quiescent_Ff1W (hFf1W := Cert.Ff1W.Gen.facts) := fun m g _ => Cert.Ff1W.Gen.frame m g

theorem ideal_frame : Cert.quiescent_Ff1WIdeal (hFf1WIdeal := Cert.Ff1WIdeal.Gen.facts) := fun m g _ => Cert.Ff1WIdeal.Gen.frame m g

theorem reference_frame : Cert.quiescent_Ff1WRefIdeal (hFf1WRefIdeal := Cert.Ff1WRefIdeal.Gen.facts) :=
  fun m g _ => (θ_run _ _ _).mono (fun r h => ⟨fun c => (h c).2, sem_eq_zero_of_no_sems (by decide) r.2⟩) (Cert.Ff1WRefIdeal.Value.run m g)

theorem equal_results : Cert.algebraic_Ff1WIdeal_Ff1WRefIdeal (hFf1WIdeal := Cert.Ff1WIdeal.Gen.facts) (hFf1WRefIdeal := Cert.Ff1WRefIdeal.Gen.facts) := by
  intro m g m' g' _ hag
  refine ⟨fun c => _, (θ_run _ _ _).mono (fun r h c => ⟨(h c).1.trans (Cert.Ff1WIdeal.Grad.final m c), (h c).2⟩) (Cert.Ff1WIdeal.Value.run_blocks m g), ?_⟩
  refine (θ_run _ _ _).mono (fun r h c => ⟨(h c).1.trans ?_, (h c).2⟩) (Cert.Ff1WRefIdeal.Value.run m' g')
  obtain ⟨a0, _, a2⟩ := hag c
  exact (Cert.Ff1WRefIdeal.Grad.value _ _).trans (by rw [a0, a2])

end Cert.Ff1W.Grad

end
-- ==== Proof.Ff1XValue.lean ====
/- The gradient of the feed-forward part's first product with respect to its input: a block of rows at each grid point. -/
module

public import proofs.«01_k».proof.Defs
public import proofs.«01_k».proof.Proof.Gen.Ff1X
public import proofs.«01_k».proof.Proof.Gen.Ff1X.Frame
public import proofs.«01_k».proof.Proof.Gen.Ff1XIdeal
public import proofs.«01_k».proof.Proof.Gen.Ff1XIdeal.Frame
public import proofs.«01_k».proof.Proof.Gen.Ff1XIdeal.Value
public import proofs.«01_k».proof.Proof.Gen.Ff1XRefIdeal
public import proofs.«01_k».proof.Proof.Gen.Ff1XRefIdeal.Run
public import proofs.«01_k».proof.Proof.Products

@[expose] public section

set_option maxRecDepth 16384

noncomputable section

namespace Cert.Ff1XIdeal.Grad

open Idealize.ShloMosaic Idealize.ShloMosaic.TcCoe Idealize.SL.Sem Cert.Products
open Cert.Ff1XIdeal Cert.Ff1XIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The result array is the product of the gradient's rows with the weight's rows. -/
theorem final (c : Dev nD) : (dats m 0 c).arrAt 2 cfg0.N
    = rowsRows (a := 8448) (b := 1024) (n := 4096) (m ((c : Thread nD τ).loc main_arg2)) (m ((c : Thread nD τ).loc main_arg1)) := by
  refine (dats m 0 c).arrAt_eq_of_covers 2 _ (by decide +kernel) fun t hf y => ?_
  blk_simp
  rw [after0_2]
  frame_out
  pointwise [k0_pay1, rowsRows]
  blk_point [iblk, V, (idx t).1, (idx t).2.1, (idx t).2.2]

end Cert.Ff1XIdeal.Grad

namespace Cert.Ff1XRefIdeal.Grad

open Idealize.ShloMosaic Idealize.ShloMosaic.TcCoe Idealize.SL.Sem Cert.Products
open Cert.Ff1XRefIdeal Cert.Ff1XRefIdeal.Gen

/-- The reference's result is the same product. -/
theorem value (ct : FVec Ideal S8448x4096 .bf16) (w : FVec Ideal S1024x4096 .bf16) :
    Host.dotGeneral dot_S8448x4096_S1024x4096_S8448x1024_1_1_0_0_n_n none (extf .f32 ct bitsLt_bf16_f32) (extf .f32 w bitsLt_bf16_f32)
      = rowsRows (a := 8448) (b := 1024) (n := 4096) ct w := by
  funext i
  pointwise [rowsRows]

end Cert.Ff1XRefIdeal.Grad

namespace Cert.Ff1X.Grad

open Idealize.ShloMosaic Idealize.ShloMosaic.TcCoe Idealize.SL.Sem

theorem kernel_frame : Cert.quiescent_Ff1X (hFf1X := Cert.Ff1X.Gen.facts) := fun m g _ => Cert.Ff1X.Gen.frame m g

theorem ideal_frame : Cert.quiescent_Ff1XIdeal (hFf1XIdeal := Cert.Ff1XIdeal.Gen.facts) := fun m g _ => Cert.Ff1XIdeal.Gen.frame m g

theorem reference_frame : Cert.quiescent_Ff1XRefIdeal (hFf1XRefIdeal := Cert.Ff1XRefIdeal.Gen.facts) :=
  fun m g _ => (θ_run _ _ _).mono (fun r h => ⟨fun c => (h c).2, sem_eq_zero_of_no_sems (by decide) r.2⟩) (Cert.Ff1XRefIdeal.Value.run m g)

theorem equal_results : Cert.algebraic_Ff1XIdeal_Ff1XRefIdeal (hFf1XIdeal := Cert.Ff1XIdeal.Gen.facts) (hFf1XRefIdeal := Cert.Ff1XRefIdeal.Gen.facts) := by
  intro m g m' g' _ hag
  refine ⟨fun c => _, (θ_run _ _ _).mono (fun r h c => ⟨(h c).1.trans (Cert.Ff1XIdeal.Grad.final m c), (h c).2⟩) (Cert.Ff1XIdeal.Value.run_blocks m g), ?_⟩
  refine (θ_run _ _ _).mono (fun r h c => ⟨(h c).1.trans ?_, (h c).2⟩) (Cert.Ff1XRefIdeal.Value.run m' g')
  obtain ⟨_, a1, a2⟩ := hag c
  exact (Cert.Ff1XRefIdeal.Grad.value _ _).trans (by rw [a1, a2])

end Cert.Ff1X.Grad

end
-- ==== Proof.Ff2WValue.lean ====
/- The gradient of the feed-forward part's second product with respect to the weight: a sum over blocks of rows of the squares. -/
module

public import proofs.«01_k».proof.Defs
public import proofs.«01_k».proof.Proof.Gen.Ff2W
public import proofs.«01_k».proof.Proof.Gen.Ff2W.Frame
public import proofs.«01_k».proof.Proof.Gen.Ff2WIdeal
public import proofs.«01_k».proof.Proof.Gen.Ff2WIdeal.Frame
public import proofs.«01_k».proof.Proof.Gen.Ff2WIdeal.Value
public import proofs.«01_k».proof.Proof.Gen.Ff2WRefIdeal
public import proofs.«01_k».proof.Proof.Gen.Ff2WRefIdeal.Run
public import proofs.«01_k».proof.Proof.Products
public import Idealize.ShloMosaic.Lib.StableHlo.ReadAt

@[expose] public section

set_option maxRecDepth 16384

noncomputable section

namespace Cert.Ff2WIdeal.Grad

open Idealize.ShloMosaic Idealize.ShloMosaic.TcCoe Idealize.SL.Sem Cert.Products
open Cert.Ff2WIdeal Cert.Ff2WIdeal.Gen

variable (m : (ℓ : Loc nD τ sig) → Buf (Elt Ideal) ℓ)

/-- The block of each window at a grid point. -/
theorem idx : ∀ t : Fin cfg0.N, win0_0.index t = ![t.val % 11, t.val / 11] ∧ win0_1.index t = ![t.val % 11, 0] ∧ win0_2.index t = ![t.val / 11, 0] :=
  (by decide +kernel : ∀ t : Fin grid0.N, win0_0.index t = ![t.val % 11, t.val / 11] ∧ win0_1.index t = ![t.val % 11, 0] ∧ win0_2.index t = ![t.val / 11, 0])

/-- The first operand that the host forms is the positive part. -/
theorem act (c : Dev nD) : V m c main_v1 = positive (a := 8448) (b := 4096) (m ((c : Thread nD τ).loc main_arg0)) := by
  funext i
  unfold V
  dsimp only [hostOps0, hostOps0_1, List.flatten, List.append]
  after_reads_at
  rfl

/-- The result array is the product of the squares' columns with the gradient's columns. -/
theorem final (c : Dev nD) : (dats m 0 c).arrAt 2 cfg0.N
    = colsCols (a := 4096) (b := 1024) (n := 8448) (squarePos (m ((c : Thread nD τ).loc main_arg0))) (m ((c : Thread nD τ).loc main_arg2)) := by
  refine (dats m 0 c).arrAt_eq_of_covers 2 _ (by decide +kernel) fun t hf y => ?_
  blk_simp
  rw [after0_2]
  refine (Pipeline.eq_sum_fin_of_reset_step_apply_of_flush (fun n h => outsAt0 m c n h) 11 (fun _ => 0) _
    (fun t h j => by rw [outsAt0_A m c t h]; frame_out; pointwise [k0_pay2, k0_pay1]; rfl)
    (fun t h j => by rw [outsAt0_B m c t h]; frame_out; pointwise [k0_pay2]) t ((flush0_2 t).mp hf) _).trans ?_
  rw [zero_add]
  dsimp only [colsCols, squarePos]
  refine Fin.sum_mul_add_congr fun s k hl => ?_
  have hs : (11 * (t.val / 11) + s.val) % 11 = s.val := by have := s.isLt; omega
  have hd : (11 * (t.val / 11) + s.val) / 11 = t.val / 11 := by have := s.isLt; omega
  have ha := congrFun (act m c) (ix2 ⟨s.val * 768 + k.val, hl⟩ (((View.whole main_v2).slice (win0_2.rect t)).emb y 0))
  dsimp only [positive] at ha
  rw [← ha]
  congr 1
  · congr 1 <;> blk_ext [iblk, (idx t).1, (idx t).2.1, (idx t).2.2, (idx ⟨11 * (t.val / 11) + s.val, _⟩).1, (idx ⟨11 * (t.val / 11) + s.val, _⟩).2.1, hs, hd]
  · blk_ext [iblk, V, (idx t).1, (idx t).2.1, (idx t).2.2, (idx ⟨11 * (t.val / 11) + s.val, _⟩).1, (idx ⟨11 * (t.val / 11) + s.val, _⟩).2.1, hs, hd]

end Cert.Ff2WIdeal.Grad

namespace Cert.Ff2WRefIdeal.Grad

open Idealize.ShloMosaic Idealize.ShloMosaic.TcCoe Idealize.SL.Sem Cert.Products
open Cert.Ff2WRefIdeal Cert.Ff2WRefIdeal.Gen

/-- The reference's result is the same product. -/
theorem value (u : FVec Ideal S8448x4096 .f32) (ct : FVec Ideal S8448x1024 .bf16) :
    transpose S4096x1024 [1, 0] (Host.dotGeneral dot_S8448x1024_S8448x4096_S1024x4096_0_0_1_1_n_n none (extf .f32 ct bitsLt_bf16_f32) (mulf (maximumf u (broadcastInDim S8448x4096 ![] bcast_S_S8448x4096 (constant S_ .f32 0x00000000#32))) (maximumf u (broadcastInDim S8448x4096 ![] bcast_S_S8448x4096 (constant S_ .f32 0x00000000#32))))) transposes_S1024x4096_S4096x1024_1_0
      = colsCols (a := 4096) (b := 1024) (n := 8448) (squarePos u) ct := by
  funext i
  pointwise [colsCols, squarePos]
  exact Finset.sum_congr rfl fun k _ => mul_comm _ _

end Cert.Ff2WRefIdeal.Grad

namespace Cert.Ff2W.Grad

open Idealize.ShloMosaic Idealize.ShloMosaic.TcCoe Idealize.SL.Sem

theorem kernel_frame : Cert.quiescent_Ff2W (hFf2W := Cert.Ff2W.Gen.facts) := fun m g _ => Cert.Ff2W.Gen.frame m g

theorem ideal_frame : Cert.quiescent_Ff2WIdeal (hFf2WIdeal := Cert.Ff2WIdeal.Gen.facts) := fun m g _ => Cert.Ff2WIdeal.Gen.frame m g

theorem reference_frame : Cert.quiescent_Ff2WRefIdeal (hFf2WRefIdeal := Cert.Ff2WRefIdeal.Gen.facts) :=
  fun m g _ => (θ_run _ _ _).mono (fun r h => ⟨fun c => (h c).2, sem_eq_zero_of_no_sems (by decide) r.2⟩) (Cert.Ff2WRefIdeal.Value.run m g)

theorem equal_results : Cert.algebraic_Ff2WIdeal_Ff2WRefIdeal (hFf2WIdeal := Cert.Ff2WIdeal.Gen.facts) (hFf2WRefIdeal := Cert.Ff2WRefIdeal.Gen.facts) := by
  intro m g m' g' _ hag
  refine ⟨fun c => _, (θ_run _ _ _).mono (fun r h c => ⟨(h c).1.trans (Cert.Ff2WIdeal.Grad.final m c), (h c).2⟩) (Cert.Ff2WIdeal.Value.run_blocks m g), ?_⟩
  refine (θ_run _ _ _).mono (fun r h c => ⟨(h c).1.trans ?_, (h c).2⟩) (Cert.Ff2WRefIdeal.Value.run m' g')
  obtain ⟨a0, _, a2⟩ := hag c
  exact (Cert.Ff2WRefIdeal.Grad.value _ _).trans (by rw [a0, a2])

end Cert.Ff2W.Grad

end
-- ==== Proof.Ff2XValue.lean ====
/- The gradient of the feed-forward part's second product with respect to the first product, through the square of its positive part: a block of rows at each grid point. -/
module

public import proofs.«01_k».proof.Defs
public import proofs.«01_k».proof.Proof.Gen.Ff2X
public import proofs.«01_k».proof.Proof.Gen.Ff2X.Frame
public import proofs.«01_k».proof.Proof.Gen.Ff2XIdeal
public import proofs.«01_k».proof.Proof.Gen.Ff2XIdeal.Frame
public import proofs.«01_k».proof.Proof.Gen.Ff2XIdeal.Value
public import proofs.«01_k».proof.Proof.Gen.Ff2XRefIdeal
public import proofs.«01_k».proof.Proof.Gen.Ff2XRefIdeal.Run
public import proofs.«01_k».proof.Proof.Products
public import Idealize.ShloMosaic.Lib.StableHlo.ReadAt

@[expose] public section

set_option maxRecDepth 16384

noncomputable section

namespace Cert.Ff2XIdeal.Grad

open Idealize.ShloMosaic Idealize.ShloMosaic.TcCoe Idealize.SL.Sem Cert.Products
open Cert.Ff2XIdeal Cert.Ff2XIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, win0_0.index t = ![t.val, 0] ∧ win0_1.index t = ![0, 0] ∧ win0_2.index t = ![t.val, 0] ∧ win0_3.index t = ![t.val, 0])

/-- The operand that the host forms is the positive part. -/
theorem act (c : Dev nD) : V m c main_v1 = positive (a := 8448) (b := 4096) (m ((c : Thread nD τ).loc main_arg0)) := by
  funext i
  unfold V
  dsimp only [hostOps0, hostOps0_1, List.flatten, List.append]
  after_reads_at
  rfl

/-- The result array is the gradient's rows with the weight's rows, times twice the positive part. -/
theorem final (c : Dev nD) : (dats m 0 c).arrAt 3 cfg0.N
    = fun i => rowsRows (a := 8448) (b := 4096) (n := 1024) (m ((c : Thread nD τ).loc main_arg2)) (m ((c : Thread nD τ).loc main_arg1)) i * twicePos (a := 8448) (b := 4096) (m ((c : Thread nD τ).loc main_arg0)) i := by
  refine (dats m 0 c).arrAt_eq_of_covers 3 _ (by decide +kernel) fun t hf y => ?_
  blk_simp
  rw [after0_3]
  frame_out
  have ha := congrFun (act m c) (((View.whole main_v2).slice (win0_3.rect t)).emb y)
  dsimp only [positive] at ha
  canon_tiles x h <;> (open_payloads; pointwise [rowsRows, twicePos]; rw [← ha, ofBits_two]; blk_point [iblk, V, (idx t).1, (idx t).2.1, (idx t).2.2.1, (idx t).2.2.2])

end Cert.Ff2XIdeal.Grad

namespace Cert.Ff2XRefIdeal.Grad

open Idealize.ShloMosaic Idealize.ShloMosaic.TcCoe Idealize.SL.Sem Cert.Products
open Cert.Ff2XRefIdeal Cert.Ff2XRefIdeal.Gen

/-- The reference's result is the same product. -/
theorem value (u : FVec Ideal S8448x4096 .f32) (w : FVec Ideal S4096x1024 .bf16) (ct : FVec Ideal S8448x1024 .bf16) :
    truncf .bf16 (select (cmpf .ogt u (broadcastInDim S8448x4096 ![] bcast_S_S8448x4096 (constant S_ .f32 0x00000000#32))) (addf (mulf (maximumf u (broadcastInDim S8448x4096 ![] bcast_S_S8448x4096 (constant S_ .f32 0x00000000#32))) (Host.dotGeneral dot_S8448x1024_S4096x1024_S8448x4096_1_1_0_0_n_n none (extf .f32 ct bitsLt_bf16_f32) (extf .f32 w bitsLt_bf16_f32))) (mulf (Host.dotGeneral dot_S8448x1024_S4096x1024_S8448x4096_1_1_0_0_n_n none (extf .f32 ct bitsLt_bf16_f32) (extf .f32 w bitsLt_bf16_f32)) (maximumf u (broadcastInDim S8448x4096 ![] bcast_S_S8448x4096 (constant S_ .f32 0x00000000#32))))) (broadcastInDim S8448x4096 ![] bcast_S_S8448x4096 (constant S_ .f32 0x00000000#32))) bitsLt_bf16_f32
      = fun i => rowsRows (a := 8448) (b := 4096) (n := 1024) ct w i * twicePos (a := 8448) (b := 4096) u i := by
  funext i
  pointwise [rowsRows, twicePos]
  split_ifs with h
  · exact (mul_two_mul _ _).symm
  · rw [max_eq_right (not_lt.mp h), mul_zero, mul_zero]

end Cert.Ff2XRefIdeal.Grad

namespace Cert.Ff2X.Grad

open Idealize.ShloMosaic Idealize.ShloMosaic.TcCoe Idealize.SL.Sem

theorem kernel_frame : Cert.quiescent_Ff2X (hFf2X := Cert.Ff2X.Gen.facts) := fun m g _ => Cert.Ff2X.Gen.frame m g

theorem ideal_frame : Cert.quiescent_Ff2XIdeal (hFf2XIdeal := Cert.Ff2XIdeal.Gen.facts) := fun m g _ => Cert.Ff2XIdeal.Gen.frame m g

theorem reference_frame : Cert.quiescent_Ff2XRefIdeal (hFf2XRefIdeal := Cert.Ff2XRefIdeal.Gen.facts) :=
  fun m g _ => (θ_run _ _ _).mono (fun r h => ⟨fun c => (h c).2, sem_eq_zero_of_no_sems (by decide) r.2⟩) (Cert.Ff2XRefIdeal.Value.run m g)

theorem equal_results : Cert.algebraic_Ff2XIdeal_Ff2XRefIdeal (hFf2XIdeal := Cert.Ff2XIdeal.Gen.facts) (hFf2XRefIdeal := Cert.Ff2XRefIdeal.Gen.facts) := by
  intro m g m' g' _ hag
  refine ⟨fun c => _, (θ_run _ _ _).mono (fun r h c => ⟨(h c).1.trans (Cert.Ff2XIdeal.Grad.final m c), (h c).2⟩) (Cert.Ff2XIdeal.Value.run_blocks m g), ?_⟩
  refine (θ_run _ _ _).mono (fun r h c => ⟨(h c).1.trans ?_, (h c).2⟩) (Cert.Ff2XRefIdeal.Value.run m' g')
  obtain ⟨a0, a1, a2⟩ := hag c
  exact (Cert.Ff2XRefIdeal.Grad.value _ _ _).trans (by rw [a0, a1, a2])

end Cert.Ff2X.Grad

end
-- ==== Proof.OutIn.lean ====
/- The gradients of the first and the last projection of a layer's mixing part, with respect to their weights and inputs. -/
module

public import proofs.«01_k».proof.Defs
public import proofs.«01_k».proof.Proof.Gen.OutW
public import proofs.«01_k».proof.Proof.Gen.OutW.Frame
public import proofs.«01_k».proof.Proof.Gen.OutWIdeal
public import proofs.«01_k».proof.Proof.Gen.OutWIdeal.Frame
public import proofs.«01_k».proof.Proof.Gen.OutWIdeal.Value
public import proofs.«01_k».proof.Proof.Gen.OutWRefIdeal
public import proofs.«01_k».proof.Proof.Gen.OutWRefIdeal.Run
public import proofs.«01_k».proof.Proof.Gen.OutX
public import proofs.«01_k».proof.Proof.Gen.OutX.Frame
public import proofs.«01_k».proof.Proof.Gen.OutXIdeal
public import proofs.«01_k».proof.Proof.Gen.OutXIdeal.Frame
public import proofs.«01_k».proof.Proof.Gen.OutXIdeal.Value
public import proofs.«01_k».proof.Proof.Gen.OutXRefIdeal
public import proofs.«01_k».proof.Proof.Gen.OutXRefIdeal.Run
public import proofs.«01_k».proof.Proof.Gen.InW
public import proofs.«01_k».proof.Proof.Gen.InW.Frame
public import proofs.«01_k».proof.Proof.Gen.InWIdeal
public import proofs.«01_k».proof.Proof.Gen.InWIdeal.Frame
public import proofs.«01_k».proof.Proof.Gen.InWIdeal.Value
public import proofs.«01_k».proof.Proof.Gen.InWRefIdeal
public import proofs.«01_k».proof.Proof.Gen.InWRefIdeal.Run
public import proofs.«01_k».proof.Proof.Gen.InX
public import proofs.«01_k».proof.Proof.Gen.InX.Frame
public import proofs.«01_k».proof.Proof.Gen.InXIdeal
public import proofs.«01_k».proof.Proof.Gen.InXIdeal.Frame
public import proofs.«01_k».proof.Proof.Gen.InXIdeal.Value
public import proofs.«01_k».proof.Proof.Gen.InXRefIdeal
public import proofs.«01_k».proof.Proof.Gen.InXRefIdeal.Run
public import proofs.«01_k».proof.Proof.Products

@[expose] public section

set_option maxRecDepth 16384

noncomputable section

namespace Cert.OutWIdeal.Grad

open Idealize.ShloMosaic Idealize.ShloMosaic.TcCoe Idealize.SL.Sem Cert.Products Cert.OutWIdeal Cert.OutWIdeal.Gen

variable (m : (ℓ : Loc nD τ sig) → Buf (Elt Ideal) ℓ)

/-- The block of each window at a grid point. -/
theorem idx : ∀ t : Fin cfg0.N, win0_0.index t = ![t.val % 11, 0] ∧ win0_1.index t = ![t.val % 11, 0] ∧ win0_2.index t = ![0, 0] :=
  (by decide +kernel : ∀ t : Fin grid0.N, _)

/-- The result array is the product of the input's columns with the gradient's columns. -/
theorem final (c : Dev nD) : (dats m 0 c).arrAt 2 cfg0.N = colsCols (a := 1024) (b := 1024) (n := 8448) (m ((c : Thread nD τ).loc main_arg0)) (m ((c : Thread nD τ).loc main_arg2)) := by
  refine (dats m 0 c).arrAt_eq_of_covers 2 _ (by decide +kernel) fun t hf y => ?_
  blk_simp
  rw [after0_2]
  refine (Pipeline.eq_sum_fin_of_reset_step_apply_of_flush (fun n h => outsAt0 m c n h) 11 (fun _ => 0) _
    (fun t h j => by rw [outsAt0_A m c t h]; frame_out; pointwise [k0_pay2, k0_pay1]; rfl)
    (fun t h j => by rw [outsAt0_B m c t h]; frame_out; pointwise [k0_pay2]) t ((flush0_2 t).mp hf) _).trans ?_
  rw [zero_add]
  dsimp only [colsCols]
  refine Fin.sum_mul_add_congr fun s k hl => ?_
  have hs : (11 * (t.val / 11) + s.val) % 11 = s.val := by have := s.isLt; omega
  congr 1 <;> blk_ext [iblk, V, (idx t).2.2, (idx ⟨11 * (t.val / 11) + s.val, _⟩).1, (idx ⟨11 * (t.val / 11) + s.val, _⟩).2.1, hs]

end Cert.OutWIdeal.Grad

namespace Cert.OutW.Grad

open Idealize.ShloMosaic Idealize.ShloMosaic.TcCoe Idealize.SL.Sem Cert.Products

theorem kernel_frame : Cert.quiescent_OutW (hOutW := Cert.OutW.Gen.facts) := fun m g _ => Cert.OutW.Gen.frame m g

theorem ideal_frame : Cert.quiescent_OutWIdeal (hOutWIdeal := Cert.OutWIdeal.Gen.facts) := fun m g _ => Cert.OutWIdeal.Gen.frame m g

theorem reference_frame : Cert.quiescent_OutWRefIdeal (hOutWRefIdeal := Cert.OutWRefIdeal.Gen.facts) :=
  fun m g _ => (θ_run _ _ _).mono (fun r h => ⟨fun c => (h c).2, sem_eq_zero_of_no_sems (by decide) r.2⟩) (Cert.OutWRefIdeal.Value.run m g)

theorem equal_results : Cert.algebraic_OutWIdeal_OutWRefIdeal (hOutWIdeal := Cert.OutWIdeal.Gen.facts) (hOutWRefIdeal := Cert.OutWRefIdeal.Gen.facts) := by
  intro m g m' g' _ hag
  refine ⟨fun c => _, (θ_run _ _ _).mono (fun r h c => ⟨(h c).1.trans (Cert.OutWIdeal.Grad.final m c), (h c).2⟩) (Cert.OutWIdeal.Value.run_blocks m g), ?_⟩
  refine (θ_run _ _ _).mono (fun r h c => ⟨(h c).1.trans ?_, (h c).2⟩) (Cert.OutWRefIdeal.Value.run m' g')
  obtain ⟨a0, _, a2⟩ := hag c
  rw [a0, a2]
  funext i
  pointwise [colsCols]
  exact Finset.sum_congr rfl fun k _ => mul_comm _ _

end Cert.OutW.Grad

namespace Cert.OutXIdeal.Grad

open Idealize.ShloMosaic Idealize.ShloMosaic.TcCoe Idealize.SL.Sem Cert.Products Cert.OutXIdeal Cert.OutXIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the gradient's rows with the weight's rows. -/
theorem final (c : Dev nD) : (dats m 0 c).arrAt 2 cfg0.N = rowsRows (a := 8448) (b := 1024) (n := 1024) (m ((c : Thread nD τ).loc main_arg2)) (m ((c : Thread nD τ).loc main_arg1)) := by
  refine (dats m 0 c).arrAt_eq_of_covers 2 _ (by decide +kernel) fun t hf y => ?_
  blk_simp
  rw [after0_2]
  frame_out
  pointwise [k0_pay1, rowsRows]
  blk_point [iblk, V, (idx t).1, (idx t).2.1, (idx t).2.2]

end Cert.OutXIdeal.Grad

namespace Cert.OutX.Grad

open Idealize.ShloMosaic Idealize.ShloMosaic.TcCoe Idealize.SL.Sem Cert.Products

theorem kernel_frame : Cert.quiescent_OutX (hOutX := Cert.OutX.Gen.facts) := fun m g _ => Cert.OutX.Gen.frame m g

theorem ideal_frame : Cert.quiescent_OutXIdeal (hOutXIdeal := Cert.OutXIdeal.Gen.facts) := fun m g _ => Cert.OutXIdeal.Gen.frame m g

theorem reference_frame : Cert.quiescent_OutXRefIdeal (hOutXRefIdeal := Cert.OutXRefIdeal.Gen.facts) :=
  fun m g _ => (θ_run _ _ _).mono (fun r h => ⟨fun c => (h c).2, sem_eq_zero_of_no_sems (by decide) r.2⟩) (Cert.OutXRefIdeal.Value.run m g)

theorem equal_results : Cert.algebraic_OutXIdeal_OutXRefIdeal (hOutXIdeal := Cert.OutXIdeal.Gen.facts) (hOutXRefIdeal := Cert.OutXRefIdeal.Gen.facts) := by
  intro m g m' g' _ hag
  refine ⟨fun c => _, (θ_run _ _ _).mono (fun r h c => ⟨(h c).1.trans (Cert.OutXIdeal.Grad.final m c), (h c).2⟩) (Cert.OutXIdeal.Value.run_blocks m g), ?_⟩
  refine (θ_run _ _ _).mono (fun r h c => ⟨(h c).1.trans ?_, (h c).2⟩) (Cert.OutXRefIdeal.Value.run m' g')
  obtain ⟨_, a1, a2⟩ := hag c
  rw [a1, a2]
  funext i
  pointwise [rowsRows]

end Cert.OutX.Grad

namespace Cert.InWIdeal.Grad

open Idealize.ShloMosaic Idealize.ShloMosaic.TcCoe Idealize.SL.Sem Cert.Products Cert.InWIdeal Cert.InWIdeal.Gen

variable (m : (ℓ : Loc nD τ sig) → Buf (Elt Ideal) ℓ)

/-- The block of each window at a grid point. -/
theorem idx : ∀ t : Fin cfg0.N, win0_0.index t = ![t.val % 11, 0] ∧ win0_1.index t = ![t.val % 11, 0] ∧ win0_2.index t = ![0, 0] :=
  (by decide +kernel : ∀ t : Fin grid0.N, _)

/-- The result array is the product of the input's columns with the gradient's columns. -/
theorem final (c : Dev nD) : (dats m 0 c).arrAt 2 cfg0.N = colsCols (a := 1024) (b := 2048) (n := 8448) (m ((c : Thread nD τ).loc main_arg0)) (m ((c : Thread nD τ).loc main_arg2)) := by
  refine (dats m 0 c).arrAt_eq_of_covers 2 _ (by decide +kernel) fun t hf y => ?_
  blk_simp
  rw [after0_2]
  refine (Pipeline.eq_sum_fin_of_reset_step_apply_of_flush (fun n h => outsAt0 m c n h) 11 (fun _ => 0) _
    (fun t h j => by rw [outsAt0_A m c t h]; frame_out; pointwise [k0_pay2, k0_pay1]; rfl)
    (fun t h j => by rw [outsAt0_B m c t h]; frame_out; pointwise [k0_pay2]) t ((flush0_2 t).mp hf) _).trans ?_
  rw [zero_add]
  dsimp only [colsCols]
  refine Fin.sum_mul_add_congr fun s k hl => ?_
  have hs : (11 * (t.val / 11) + s.val) % 11 = s.val := by have := s.isLt; omega
  congr 1 <;> blk_ext [iblk, V, (idx t).2.2, (idx ⟨11 * (t.val / 11) + s.val, _⟩).1, (idx ⟨11 * (t.val / 11) + s.val, _⟩).2.1, hs]

end Cert.InWIdeal.Grad

namespace Cert.InW.Grad

open Idealize.ShloMosaic Idealize.ShloMosaic.TcCoe Idealize.SL.Sem Cert.Products

theorem kernel_frame : Cert.quiescent_InW (hInW := Cert.InW.Gen.facts) := fun m g _ => Cert.InW.Gen.frame m g

theorem ideal_frame : Cert.quiescent_InWIdeal (hInWIdeal := Cert.InWIdeal.Gen.facts) := fun m g _ => Cert.InWIdeal.Gen.frame m g

theorem reference_frame : Cert.quiescent_InWRefIdeal (hInWRefIdeal := Cert.InWRefIdeal.Gen.facts) :=
  fun m g _ => (θ_run _ _ _).mono (fun r h => ⟨fun c => (h c).2, sem_eq_zero_of_no_sems (by decide) r.2⟩) (Cert.InWRefIdeal.Value.run m g)

theorem equal_results : Cert.algebraic_InWIdeal_InWRefIdeal (hInWIdeal := Cert.InWIdeal.Gen.facts) (hInWRefIdeal := Cert.InWRefIdeal.Gen.facts) := by
  intro m g m' g' _ hag
  refine ⟨fun c => _, (θ_run _ _ _).mono (fun r h c => ⟨(h c).1.trans (Cert.InWIdeal.Grad.final m c), (h c).2⟩) (Cert.InWIdeal.Value.run_blocks m g), ?_⟩
  refine (θ_run _ _ _).mono (fun r h c => ⟨(h c).1.trans ?_, (h c).2⟩) (Cert.InWRefIdeal.Value.run m' g')
  obtain ⟨a0, _, a2⟩ := hag c
  rw [a0, a2]
  funext i
  pointwise [colsCols]
  exact Finset.sum_congr rfl fun k _ => mul_comm _ _

end Cert.InW.Grad

namespace Cert.InXIdeal.Grad

open Idealize.ShloMosaic Idealize.ShloMosaic.TcCoe Idealize.SL.Sem Cert.Products Cert.InXIdeal Cert.InXIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the gradient's rows with the weight's rows. -/
theorem final (c : Dev nD) : (dats m 0 c).arrAt 2 cfg0.N = rowsRows (a := 8448) (b := 1024) (n := 2048) (m ((c : Thread nD τ).loc main_arg2)) (m ((c : Thread nD τ).loc main_arg1)) := by
  refine (dats m 0 c).arrAt_eq_of_covers 2 _ (by decide +kernel) fun t hf y => ?_
  blk_simp
  rw [after0_2]
  frame_out
  pointwise [k0_pay1, rowsRows]
  blk_point [iblk, V, (idx t).1, (idx t).2.1, (idx t).2.2]

end Cert.InXIdeal.Grad

namespace Cert.InX.Grad

open Idealize.ShloMosaic Idealize.ShloMosaic.TcCoe Idealize.SL.Sem Cert.Products

theorem kernel_frame : Cert.quiescent_InX (hInX := Cert.InX.Gen.facts) := fun m g _ => Cert.InX.Gen.frame m g

theorem ideal_frame : Cert.quiescent_InXIdeal (hInXIdeal := Cert.InXIdeal.Gen.facts) := fun m g _ => Cert.InXIdeal.Gen.frame m g

theorem reference_frame : Cert.quiescent_InXRefIdeal (hInXRefIdeal := Cert.InXRefIdeal.Gen.facts) :=
  fun m g _ => (θ_run _ _ _).mono (fun r h => ⟨fun c => (h c).2, sem_eq_zero_of_no_sems (by decide) r.2⟩) (Cert.InXRefIdeal.Value.run m g)

theorem equal_results : Cert.algebraic_InXIdeal_InXRefIdeal (hInXIdeal := Cert.InXIdeal.Gen.facts) (hInXRefIdeal := Cert.InXRefIdeal.Gen.facts) := by
  intro m g m' g' _ hag
  refine ⟨fun c => _, (θ_run _ _ _).mono (fun r h c => ⟨(h c).1.trans (Cert.InXIdeal.Grad.final m c), (h c).2⟩) (Cert.InXIdeal.Value.run_blocks m g), ?_⟩
  refine (θ_run _ _ _).mono (fun r h c => ⟨(h c).1.trans ?_, (h c).2⟩) (Cert.InXRefIdeal.Value.run m' g')
  obtain ⟨_, a1, a2⟩ := hag c
  rw [a1, a2]
  funext i
  pointwise [rowsRows]

end Cert.InX.Grad

end
-- ==== Proof.Up.lean ====
/- The attention's two products from 256 columns to 1024, and their gradients. -/
module

public import proofs.«01_k».proof.Defs
public import proofs.«01_k».proof.Proof.Gen.UpW
public import proofs.«01_k».proof.Proof.Gen.UpW.Frame
public import proofs.«01_k».proof.Proof.Gen.UpWIdeal
public import proofs.«01_k».proof.Proof.Gen.UpWIdeal.Frame
public import proofs.«01_k».proof.Proof.Gen.UpWIdeal.Value
public import proofs.«01_k».proof.Proof.Gen.UpWRefIdeal
public import proofs.«01_k».proof.Proof.Gen.UpWRefIdeal.Run
public import proofs.«01_k».proof.Proof.Gen.UpX
public import proofs.«01_k».proof.Proof.Gen.UpX.Frame
public import proofs.«01_k».proof.Proof.Gen.UpXIdeal
public import proofs.«01_k».proof.Proof.Gen.UpXIdeal.Frame
public import proofs.«01_k».proof.Proof.Gen.UpXIdeal.Value
public import proofs.«01_k».proof.Proof.Gen.UpXRefIdeal
public import proofs.«01_k».proof.Proof.Gen.UpXRefIdeal.Run
public import proofs.«01_k».proof.Proof.Gen.KvUp
public import proofs.«01_k».proof.Proof.Gen.KvUp.Frame
public import proofs.«01_k».proof.Proof.Gen.KvUpIdeal
public import proofs.«01_k».proof.Proof.Gen.KvUpIdeal.Frame
public import proofs.«01_k».proof.Proof.Gen.KvUpIdeal.Value
public import proofs.«01_k».proof.Proof.Gen.KvUpRefIdeal
public import proofs.«01_k».proof.Proof.Gen.KvUpRefIdeal.Run
public import proofs.«01_k».proof.Proof.Gen.QUp
public import proofs.«01_k».proof.Proof.Gen.QUp.Frame
public import proofs.«01_k».proof.Proof.Gen.QUpIdeal
public import proofs.«01_k».proof.Proof.Gen.QUpIdeal.Frame
public import proofs.«01_k».proof.Proof.Gen.QUpIdeal.Value
public import proofs.«01_k».proof.Proof.Gen.QUpRefIdeal
public import proofs.«01_k».proof.Proof.Gen.QUpRefIdeal.Run
public import proofs.«01_k».proof.Proof.Products

@[expose] public section

set_option maxRecDepth 16384

noncomputable section

namespace Cert.UpWIdeal.Grad

open Idealize.ShloMosaic Idealize.ShloMosaic.TcCoe Idealize.SL.Sem Cert.Products Cert.UpWIdeal Cert.UpWIdeal.Gen

variable (m : (ℓ : Loc nD τ sig) → Buf (Elt Ideal) ℓ)

/-- The block of each window at a grid point. -/
theorem idx : ∀ t : Fin cfg0.N, win0_0.index t = ![t.val % 11, 0] ∧ win0_1.index t = ![t.val % 11, 0] ∧ win0_2.index t = ![0, 0] :=
  (by decide +kernel : ∀ t : Fin grid0.N, _)

/-- The result array is the product of the input's columns with the gradient's columns. -/
theorem final (c : Dev nD) : (dats m 0 c).arrAt 2 cfg0.N = colsCols (a := 256) (b := 1024) (n := 8448) (m ((c : Thread nD τ).loc main_arg0)) (m ((c : Thread nD τ).loc main_arg2)) := by
  refine (dats m 0 c).arrAt_eq_of_covers 2 _ (by decide +kernel) fun t hf y => ?_
  blk_simp
  rw [after0_2]
  refine (Pipeline.eq_sum_fin_of_reset_step_apply_of_flush (fun n h => outsAt0 m c n h) 11 (fun _ => 0) _
    (fun t h j => by rw [outsAt0_A m c t h]; frame_out; pointwise [k0_pay2, k0_pay1]; rfl)
    (fun t h j => by rw [outsAt0_B m c t h]; frame_out; pointwise [k0_pay2]) t ((flush0_2 t).mp hf) _).trans ?_
  rw [zero_add]
  dsimp only [colsCols]
  refine Fin.sum_mul_add_congr fun s k hl => ?_
  have hs : (11 * (t.val / 11) + s.val) % 11 = s.val := by have := s.isLt; omega
  congr 1 <;> blk_ext [iblk, V, (idx t).2.2, (idx ⟨11 * (t.val / 11) + s.val, _⟩).1, (idx ⟨11 * (t.val / 11) + s.val, _⟩).2.1, hs]

end Cert.UpWIdeal.Grad

namespace Cert.UpW.Grad

open Idealize.ShloMosaic Idealize.ShloMosaic.TcCoe Idealize.SL.Sem Cert.Products

theorem kernel_frame : Cert.quiescent_UpW (hUpW := Cert.UpW.Gen.facts) := fun m g _ => Cert.UpW.Gen.frame m g

theorem ideal_frame : Cert.quiescent_UpWIdeal (hUpWIdeal := Cert.UpWIdeal.Gen.facts) := fun m g _ => Cert.UpWIdeal.Gen.frame m g

theorem reference_frame : Cert.quiescent_UpWRefIdeal (hUpWRefIdeal := Cert.UpWRefIdeal.Gen.facts) :=
  fun m g _ => (θ_run _ _ _).mono (fun r h => ⟨fun c => (h c).2, sem_eq_zero_of_no_sems (by decide) r.2⟩) (Cert.UpWRefIdeal.Value.run m g)

theorem equal_results : Cert.algebraic_UpWIdeal_UpWRefIdeal (hUpWIdeal := Cert.UpWIdeal.Gen.facts) (hUpWRefIdeal := Cert.UpWRefIdeal.Gen.facts) := by
  intro m g m' g' _ hag
  refine ⟨fun c => _, (θ_run _ _ _).mono (fun r h c => ⟨(h c).1.trans (Cert.UpWIdeal.Grad.final m c), (h c).2⟩) (Cert.UpWIdeal.Value.run_blocks m g), ?_⟩
  refine (θ_run _ _ _).mono (fun r h c => ⟨(h c).1.trans ?_, (h c).2⟩) (Cert.UpWRefIdeal.Value.run m' g')
  obtain ⟨a0, _, a2⟩ := hag c
  rw [a0, a2]
  funext i
  pointwise [colsCols]
  exact Finset.sum_congr rfl fun k _ => mul_comm _ _

end Cert.UpW.Grad

namespace Cert.UpXIdeal.Grad

open Idealize.ShloMosaic Idealize.ShloMosaic.TcCoe Idealize.SL.Sem Cert.Products Cert.UpXIdeal Cert.UpXIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the gradient's rows with the weight's rows. -/
theorem final (c : Dev nD) : (dats m 0 c).arrAt 2 cfg0.N = rowsRows (a := 8448) (b := 256) (n := 1024) (m ((c : Thread nD τ).loc main_arg2)) (m ((c : Thread nD τ).loc main_arg1)) := by
  refine (dats m 0 c).arrAt_eq_of_covers 2 _ (by decide +kernel) fun t hf y => ?_
  blk_simp
  rw [after0_2]
  frame_out
  pointwise [k0_pay1, rowsRows]
  blk_point [iblk, V, (idx t).1, (idx t).2.1, (idx t).2.2]

end Cert.UpXIdeal.Grad

namespace Cert.UpX.Grad

open Idealize.ShloMosaic Idealize.ShloMosaic.TcCoe Idealize.SL.Sem Cert.Products

theorem kernel_frame : Cert.quiescent_UpX (hUpX := Cert.UpX.Gen.facts) := fun m g _ => Cert.UpX.Gen.frame m g

theorem ideal_frame : Cert.quiescent_UpXIdeal (hUpXIdeal := Cert.UpXIdeal.Gen.facts) := fun m g _ => Cert.UpXIdeal.Gen.frame m g

theorem reference_frame : Cert.quiescent_UpXRefIdeal (hUpXRefIdeal := Cert.UpXRefIdeal.Gen.facts) :=
  fun m g _ => (θ_run _ _ _).mono (fun r h => ⟨fun c => (h c).2, sem_eq_zero_of_no_sems (by decide) r.2⟩) (Cert.UpXRefIdeal.Value.run m g)

theorem equal_results : Cert.algebraic_UpXIdeal_UpXRefIdeal (hUpXIdeal := Cert.UpXIdeal.Gen.facts) (hUpXRefIdeal := Cert.UpXRefIdeal.Gen.facts) := by
  intro m g m' g' _ hag
  refine ⟨fun c => _, (θ_run _ _ _).mono (fun r h c => ⟨(h c).1.trans (Cert.UpXIdeal.Grad.final m c), (h c).2⟩) (Cert.UpXIdeal.Value.run_blocks m g), ?_⟩
  refine (θ_run _ _ _).mono (fun r h c => ⟨(h c).1.trans ?_, (h c).2⟩) (Cert.UpXRefIdeal.Value.run m' g')
  obtain ⟨_, a1, a2⟩ := hag c
  rw [a1, a2]
  funext i
  pointwise [rowsRows]

end Cert.UpX.Grad

namespace Cert.KvUpIdeal.Grad

open Idealize.ShloMosaic Idealize.ShloMosaic.TcCoe Idealize.SL.Sem Cert.Products Cert.KvUpIdeal Cert.KvUpIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the input's rows with the weight's columns. -/
theorem final (c : Dev nD) : (dats m 0 c).arrAt 2 cfg0.N = rowsCols (a := 8448) (b := 1024) (n := 256) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rowsCols]
  blk_point [iblk, V, (idx t).1, (idx t).2.1, (idx t).2.2]

end Cert.KvUpIdeal.Grad

namespace Cert.KvUp.Grad

open Idealize.ShloMosaic Idealize.ShloMosaic.TcCoe Idealize.SL.Sem Cert.Products

theorem kernel_frame : Cert.quiescent_KvUp (hKvUp := Cert.KvUp.Gen.facts) := fun m g _ => Cert.KvUp.Gen.frame m g

theorem ideal_frame : Cert.quiescent_KvUpIdeal (hKvUpIdeal := Cert.KvUpIdeal.Gen.facts) := fun m g _ => Cert.KvUpIdeal.Gen.frame m g

theorem reference_frame : Cert.quiescent_KvUpRefIdeal (hKvUpRefIdeal := Cert.KvUpRefIdeal.Gen.facts) :=
  fun m g _ => (θ_run _ _ _).mono (fun r h => ⟨fun c => (h c).2, sem_eq_zero_of_no_sems (by decide) r.2⟩) (Cert.KvUpRefIdeal.Value.run m g)

theorem equal_results : Cert.algebraic_KvUpIdeal_KvUpRefIdeal (hKvUpIdeal := Cert.KvUpIdeal.Gen.facts) (hKvUpRefIdeal := Cert.KvUpRefIdeal.Gen.facts) := by
  intro m g m' g' _ hag
  refine ⟨fun c => _, (θ_run _ _ _).mono (fun r h c => ⟨(h c).1.trans (Cert.KvUpIdeal.Grad.final m c), (h c).2⟩) (Cert.KvUpIdeal.Value.run_blocks m g), ?_⟩
  refine (θ_run _ _ _).mono (fun r h c => ⟨(h c).1.trans ?_, (h c).2⟩) (Cert.KvUpRefIdeal.Value.run m' g')
  obtain ⟨a0, a1⟩ := hag c
  rw [a0, a1]
  funext i
  pointwise [rowsCols]

end Cert.KvUp.Grad

namespace Cert.QUpIdeal.Grad

open Idealize.ShloMosaic Idealize.ShloMosaic.TcCoe Idealize.SL.Sem Cert.Products Cert.QUpIdeal Cert.QUpIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the input's rows with the weight's columns. -/
theorem final (c : Dev nD) : (dats m 0 c).arrAt 2 cfg0.N = rowsCols (a := 8448) (b := 1024) (n := 256) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rowsCols]
  blk_point [iblk, V, (idx t).1, (idx t).2.1, (idx t).2.2]

end Cert.QUpIdeal.Grad

namespace Cert.QUp.Grad

open Idealize.ShloMosaic Idealize.ShloMosaic.TcCoe Idealize.SL.Sem Cert.Products

theorem kernel_frame : Cert.quiescent_QUp (hQUp := Cert.QUp.Gen.facts) := fun m g _ => Cert.QUp.Gen.frame m g

theorem ideal_frame : Cert.quiescent_QUpIdeal (hQUpIdeal := Cert.QUpIdeal.Gen.facts) := fun m g _ => Cert.QUpIdeal.Gen.frame m g

theorem reference_frame : Cert.quiescent_QUpRefIdeal (hQUpRefIdeal := Cert.QUpRefIdeal.Gen.facts) :=
  fun m g _ => (θ_run _ _ _).mono (fun r h => ⟨fun c => (h c).2, sem_eq_zero_of_no_sems (by decide) r.2⟩) (Cert.QUpRefIdeal.Value.run m g)

theorem equal_results : Cert.algebraic_QUpIdeal_QUpRefIdeal (hQUpIdeal := Cert.QUpIdeal.Gen.facts) (hQUpRefIdeal := Cert.QUpRefIdeal.Gen.facts) := by
  intro m g m' g' _ hag
  refine ⟨fun c => _, (θ_run _ _ _).mono (fun r h c => ⟨(h c).1.trans (Cert.QUpIdeal.Grad.final m c), (h c).2⟩) (Cert.QUpIdeal.Value.run_blocks m g), ?_⟩
  refine (θ_run _ _ _).mono (fun r h c => ⟨(h c).1.trans ?_, (h c).2⟩) (Cert.QUpRefIdeal.Value.run m' g')
  obtain ⟨a0, a1⟩ := hag c
  rw [a0, a1]
  funext i
  pointwise [rowsCols]

end Cert.QUp.Grad

end
-- ==== Proof.Forward.lean ====
/- The forward products of the feed-forward part and of the first and last projection. -/
module

public import proofs.«01_k».proof.Defs
public import proofs.«01_k».proof.Proof.Gen.Ff1
public import proofs.«01_k».proof.Proof.Gen.Ff1.Frame
public import proofs.«01_k».proof.Proof.Gen.Ff1Ideal
public import proofs.«01_k».proof.Proof.Gen.Ff1Ideal.Frame
public import proofs.«01_k».proof.Proof.Gen.Ff1Ideal.Value
public import proofs.«01_k».proof.Proof.Gen.Ff1RefIdeal
public import proofs.«01_k».proof.Proof.Gen.Ff1RefIdeal.Run
public import proofs.«01_k».proof.Proof.Gen.Ff2
public import proofs.«01_k».proof.Proof.Gen.Ff2.Frame
public import proofs.«01_k».proof.Proof.Gen.Ff2Ideal
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Products

@[expose] public section

set_option maxRecDepth 16384

noncomputable section

namespace Cert.Ff1Ideal.Grad

open Idealize.ShloMosaic Idealize.ShloMosaic.TcCoe Idealize.SL.Sem Cert.Products Cert.Ff1Ideal Cert.Ff1Ideal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the input's rows with the weight's columns. -/
theorem final (c : Dev nD) : (dats m 0 c).arrAt 2 cfg0.N = positive (a := 8448) (b := 4096) (rowsCols (a := 8448) (b := 4096) (n := 1024) (m ((c : Thread nD τ).loc main_arg0)) (m ((c : Thread nD τ).loc main_arg1))) := by
  refine (dats m 0 c).arrAt_eq_of_covers 2 _ (by decide +kernel) fun t hf y => ?_
  blk_simp
  rw [after0_2]
  frame_out
  canon_tiles x h <;> (open_payloads; pointwise [positive, rowsCols]; blk_point [iblk, V, (idx t).1, (idx t).2.1, (idx t).2.2])

end Cert.Ff1Ideal.Grad

namespace Cert.Ff1.Grad

open Idealize.ShloMosaic Idealize.ShloMosaic.TcCoe Idealize.SL.Sem Cert.Products

theorem kernel_frame : Cert.quiescent_Ff1 (hFf1 := Cert.Ff1.Gen.facts) := fun m g _ => Cert.Ff1.Gen.frame m g

theorem ideal_frame : Cert.quiescent_Ff1Ideal (hFf1Ideal := Cert.Ff1Ideal.Gen.facts) := fun m g _ => Cert.Ff1Ideal.Gen.frame m g

theorem reference_frame : Cert.quiescent_Ff1RefIdeal (hFf1RefIdeal := Cert.Ff1RefIdeal.Gen.facts) :=
  fun m g _ => (θ_run _ _ _).mono (fun r h => ⟨fun c => (h c).2, sem_eq_zero_of_no_sems (by decide) r.2⟩) (Cert.Ff1RefIdeal.Value.run m g)

theorem equal_results : Cert.algebraic_Ff1Ideal_Ff1RefIdeal (hFf1Ideal := Cert.Ff1Ideal.Gen.facts) (hFf1RefIdeal := Cert.Ff1RefIdeal.Gen.facts) := by
  intro m g m' g' _ hag
  refine ⟨fun c => _, (θ_run _ _ _).mono (fun r h c => ⟨(h c).1.trans (Cert.Ff1Ideal.Grad.final m c), (h c).2⟩) (Cert.Ff1Ideal.Value.run_blocks m g), ?_⟩
  refine (θ_run _ _ _).mono (fun r h c => ⟨(h c).1.trans ?_, (h c).2⟩) (Cert.Ff1RefIdeal.Value.run m' g')
  obtain ⟨a0, a1⟩ := hag c
  rw [a0, a1]
  funext i
  pointwise [positive, rowsCols]

end Cert.Ff1.Grad

namespace Cert.Ff2Ideal.Grad

open Idealize.ShloMosaic Idealize.ShloMosaic.TcCoe Idealize.SL.Sem Cert.Products Cert.Ff2Ideal Cert.Ff2Ideal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the input's rows with the weight's columns. -/
theorem final (c : Dev nD) : (dats m 0 c).arrAt 2 cfg0.N = rowsCols (a := 8448) (b := 1024) (n := 4096) (square (a := 8448) (b := 4096) (m ((c : Thread nD τ).loc main_arg0))) (m ((c : Thread nD τ).loc main_arg1)) := by
  refine (dats m 0 c).arrAt_eq_of_covers 2 _ (by decide +kernel) fun t hf y => ?_
  blk_simp
  rw [after0_2]
  frame_out
  pointwise [k0_pay1, rowsCols, square]
  blk_point [iblk, V, (idx t).1, (idx t).2.1, (idx t).2.2]

end Cert.Ff2Ideal.Grad

namespace Cert.Ff2.Grad

open Idealize.ShloMosaic Idealize.ShloMosaic.TcCoe Idealize.SL.Sem Cert.Products

theorem kernel_frame : Cert.quiescent_Ff2 (hFf2 := Cert.Ff2.Gen.facts) := fun m g _ => Cert.Ff2.Gen.frame m g

theorem ideal_frame : Cert.quiescent_Ff2Ideal (hFf2Ideal := Cert.Ff2Ideal.Gen.facts) := fun m g _ => Cert.Ff2Ideal.Gen.frame m g

theorem reference_frame : Cert.quiescent_Ff2RefIdeal (hFf2RefIdeal := Cert.Ff2RefIdeal.Gen.facts) :=
  fun m g _ => (θ_run _ _ _).mono (fun r h => ⟨fun c => (h c).2, sem_eq_zero_of_no_sems (by decide) r.2⟩) (Cert.Ff2RefIdeal.Value.run m g)

theorem equal_results : Cert.algebraic_Ff2Ideal_Ff2RefIdeal (hFf2Ideal := Cert.Ff2Ideal.Gen.facts) (hFf2RefIdeal := Cert.Ff2RefIdeal.Gen.facts) := by
  intro m g m' g' _ hag
  refine ⟨fun c => _, (θ_run _ _ _).mono (fun r h c => ⟨(h c).1.trans (Cert.Ff2Ideal.Grad.final m c), (h c).2⟩) (Cert.Ff2Ideal.Value.run_blocks m g), ?_⟩
  refine (θ_run _ _ _).mono (fun r h c => ⟨(h c).1.trans ?_, (h c).2⟩) (Cert.Ff2RefIdeal.Value.run m' g')
  obtain ⟨a0, a1⟩ := hag c
  rw [a0, a1]
  funext i
  pointwise [rowsCols, square]

end Cert.Ff2.Grad

namespace Cert.InProjIdeal.Grad

open Idealize.ShloMosaic Idealize.ShloMosaic.TcCoe Idealize.SL.Sem Cert.Products Cert.InProjIdeal Cert.InProjIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the input's rows with the weight's columns. -/
theorem final (c : Dev nD) : (dats m 0 c).arrAt 2 cfg0.N = rowsCols (a := 8448) (b := 2048) (n := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  canon_tiles x h <;> (open_payloads; pointwise [rowsCols]; blk_point [iblk, V, (idx t).1, (idx t).2.1, (idx t).2.2])

end Cert.InProjIdeal.Grad

namespace Cert.InProj.Grad

open Idealize.ShloMosaic Idealize.ShloMosaic.TcCoe Idealize.SL.Sem Cert.Products

theorem kernel_frame : Cert.quiescent_InProj (hInProj := Cert.InProj.Gen.facts) := fun m g _ => Cert.InProj.Gen.frame m g

theorem ideal_frame : Cert.quiescent_InProjIdeal (hInProjIdeal := Cert.InProjIdeal.Gen.facts) := fun m g _ => Cert.InProjIdeal.Gen.frame m g

theorem reference_frame : Cert.quiescent_InProjRefIdeal (hInProjRefIdeal := Cert.InProjRefIdeal.Gen.facts) :=
  fun m g _ => (θ_run _ _ _).mono (fun r h => ⟨fun c => (h c).2, sem_eq_zero_of_no_sems (by decide) r.2⟩) (Cert.InProjRefIdeal.Value.run m g)

theorem equal_results : Cert.algebraic_InProjIdeal_InProjRefIdeal (hInProjIdeal := Cert.InProjIdeal.Gen.facts) (hInProjRefIdeal := Cert.InProjRefIdeal.Gen.facts) := by
  intro m g m' g' _ hag
  refine ⟨fun c => _, (θ_run _ _ _).mono (fun r h c => ⟨(h c).1.trans (Cert.InProjIdeal.Grad.final m c), (h c).2⟩) (Cert.InProjIdeal.Value.run_blocks m g), ?_⟩
  refine (θ_run _ _ _).mono (fun r h c => ⟨(h c).1.trans ?_, (h c).2⟩) (Cert.InProjRefIdeal.Value.run m' g')
  obtain ⟨a0, a1⟩ := hag c
  rw [a0, a1]
  funext i
  pointwise [rowsCols]

end Cert.InProj.Grad

namespace Cert.OutProjIdeal.Grad

open Idealize.ShloMosaic Idealize.ShloMosaic.TcCoe Idealize.SL.Sem Cert.Products Cert.OutProjIdeal Cert.OutProjIdeal.Gen

variable (m : (ℓ : Loc nD τ sig) → Buf (Elt Ideal) ℓ)

/-- The block of each window at a grid point. -/
theorem idx : ∀ t : Fin cfg0.N, win0_0.index t = ![t.val, 0] ∧ win0_1.index t = ![0, 0] ∧ win0_2.index t = ![t.val, 0] :=
  (by decide +kernel : ∀ t : Fin grid0.N, _)

/-- The result array is the product of the input's rows with the weight's columns. -/
theorem final (c : Dev nD) : (dats m 0 c).arrAt 2 cfg0.N = rowsCols (a := 8448) (b := 1024) (n := 1024) (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, rowsCols]
  blk_point [iblk, V, (idx t).1, (idx t).2.1, (idx t).2.2]

end Cert.OutProjIdeal.Grad

namespace Cert.OutProj.Grad

open Idealize.ShloMosaic Idealize.ShloMosaic.TcCoe Idealize.SL.Sem Cert.Products

theorem kernel_frame : Cert.quiescent_OutProj (hOutProj := Cert.OutProj.Gen.facts) := fun m g _ => Cert.OutProj.Gen.frame m g

theorem ideal_frame : Cert.quiescent_OutProjIdeal (hOutProjIdeal := Cert.OutProjIdeal.Gen.facts) := fun m g _ => Cert.OutProjIdeal.Gen.frame m g

theorem reference_frame : Cert.quiescent_OutProjRefIdeal (hOutProjRefIdeal := Cert.OutProjRefIdeal.Gen.facts) :=
  fun m g _ => (θ_run _ _ _).mono (fun r h => ⟨fun c => (h c).2, sem_eq_zero_of_no_sems (by decide) r.2⟩) (Cert.OutProjRefIdeal.Value.run m g)

theorem equal_results : Cert.algebraic_OutProjIdeal_OutProjRefIdeal (hOutProjIdeal := Cert.OutProjIdeal.Gen.facts) (hOutProjRefIdeal := Cert.OutProjRefIdeal.Gen.facts) := by
  intro m g m' g' _ hag
  refine ⟨fun c => _, (θ_run _ _ _).mono (fun r h c => ⟨(h c).1.trans (Cert.OutProjIdeal.Grad.final m c), (h c).2⟩) (Cert.OutProjIdeal.Value.run_blocks m g), ?_⟩
  refine (θ_run _ _ _).mono (fun r h c => ⟨(h c).1.trans ?_, (h c).2⟩) (Cert.OutProjRefIdeal.Value.run m' g')
  obtain ⟨a0, a1⟩ := hag c
  rw [a0, a1]
  funext i
  pointwise [rowsCols]

end Cert.OutProj.Grad

end
-- ==== Proof.FwdRow.lean ====
/- One row of a softmax gone through in three tiles: a running maximum, a running sum and a running weighted sum, and what they are after the last tile. -/
module

public import proofs.«01_k».proof.Proof.Spec

@[expose] public section

noncomputable section

namespace Cert.Attn

open Idealize.ShloMosaic
open Finset

/-! ## One tile's step -/

/-- The running maximum after a tile of scores `f`. -/
def stepM (m : EReal) (f : Fin 2816 → EReal) : EReal := max m ((univ : Finset (Fin 2816)).fold max ⊥ f)

/-- The running sum after a tile. -/
def stepL (m l : EReal) (f : Fin 2816 → EReal) : EReal := Ideal.exp2 (m - stepM m f) * l + ∑ j, Ideal.exp2 (f j - stepM m f)

/-- The running weighted sum of the values `g` after a tile. -/
def stepA (m a : EReal) (f g : Fin 2816 → EReal) : EReal := Ideal.exp2 (m - stepM m f) * a + ∑ j, Ideal.exp2 (f j - stepM m f) * g j

/-! ## Sums of nonnegative reals times extended reals -/

theorem coe_mul_sum {ι : Type} (s : Finset ι) (r : ℝ) (hr : 0 ≤ r) (f : ι → EReal) : (r : EReal) * ∑ i ∈ s, f i = ∑ i ∈ s, (r : EReal) * f i := by
  classical
  induction s using Finset.induction_on with
  | empty => simp
  | insert a s ha ih =>
    rw [sum_insert ha, sum_insert ha, EReal.left_distrib_of_nonneg_of_ne_top (by exact_mod_cast hr) (EReal.coe_ne_top r), ih]

theorem sum_tile {β : Type} [AddCommMonoid β] (c : ℕ) (f : ℕ → β) :
    ∑ j ∈ range (2816 * (c + 1)), f j = ∑ j ∈ range (2816 * c), f j + ∑ j : Fin 2816, f (2816 * c + j.val) := by
  rw [mul_add, mul_one, sum_range_add, Fin.sum_univ_eq_sum_range (fun j => f (2816 * c + j)) 2816]

variable (q k : ℕ → ℕ → ℝ)

/-- The score of query `n` and key `j`, or `⊥` where the key is not in the query's row. -/
def sk (h n j : ℕ) : EReal := if j < nk n then (sc q k h n j : EReal) else ⊥

/-- The unnormalized weight below the shift `M`. -/
def wt (M : ℝ) (h n j : ℕ) : ℝ := if j < nk n then (2 : ℝ) ^ (sc q k h n j - M) else 0

theorem wt_nonneg (M : ℝ) (h n j : ℕ) : 0 ≤ wt q k M h n j := by
  unfold wt; split
  · positivity
  · exact le_rfl

theorem exp2_sk (M : ℝ) (h n j : ℕ) : Ideal.exp2 (sk q k h n j - (M : EReal)) = (wt q k M h n j : EReal) := by
  unfold sk wt
  split
  · rw [← EReal.coe_sub, exp2_real]
  · rw [EReal.bot_sub, exp2_bot, EReal.coe_zero]

theorem wt_shift (M M' : ℝ) (h n j : ℕ) : (2 : ℝ) ^ (M - M') * wt q k M h n j = wt q k M' h n j := by
  unfold wt
  split
  · rw [← Real.rpow_add (by norm_num)]; congr 1; ring
  · exact mul_zero _

/-- What the three running quantities are after the first `c` tiles, with shift `M`. -/
def Held (h n : ℕ) (b : ℕ → EReal) (c : ℕ) (M : ℝ) (m l a : EReal) : Prop :=
  m = (M : EReal) ∧ l = ((∑ j ∈ range (2816 * c), wt q k M h n j : ℝ) : EReal) ∧ a = ∑ j ∈ range (2816 * c), (wt q k M h n j : EReal) * b j

/-- The largest score of a tile is a real or `⊥`. -/
theorem fold_sk (h n : ℕ) (c : ℕ) (f : Fin 2816 → EReal) (hf : ∀ j, f j = sk q k h n (2816 * c + j.val)) :
    (∃ M : ℝ, (univ : Finset (Fin 2816)).fold max ⊥ f = (M : EReal)) ∨ (univ : Finset (Fin 2816)).fold max ⊥ f = ⊥ := by
  obtain ⟨i, _, hi⟩ := Finset.exists_mem_eq_sup (univ : Finset (Fin 2816)) univ_nonempty f
  have e : (univ : Finset (Fin 2816)).fold max ⊥ f = f i := (show _ = (univ : Finset (Fin 2816)).sup f from rfl).trans hi
  rw [e, hf]
  unfold sk
  split
  · exact .inl ⟨_, rfl⟩
  · exact .inr rfl

/-- The sums of a tile whose shift is `M'`. -/
theorem tile_sums (h n c : ℕ) (M' : ℝ) (f g : Fin 2816 → EReal) (b : ℕ → EReal) (hf : ∀ j, f j = sk q k h n (2816 * c + j.val))
    (hg : ∀ j, g j = b (2816 * c + j.val)) :
    (∑ j, Ideal.exp2 (f j - (M' : EReal)) = ((∑ j : Fin 2816, wt q k M' h n (2816 * c + j.val) : ℝ) : EReal))
      ∧ (∑ j, Ideal.exp2 (f j - (M' : EReal)) * g j = ∑ j : Fin 2816, (wt q k M' h n (2816 * c + j.val) : EReal) * b (2816 * c + j.val)) := by
  constructor
  · rw [coe_sum]
    exact sum_congr rfl fun j _ => by rw [hf, exp2_sk]
  · exact sum_congr rfl fun j _ => by rw [hf, exp2_sk, hg]

/-- The first tile. -/
theorem held_first (h n : ℕ) (b : ℕ → EReal) (f g : Fin 2816 → EReal) (hf : ∀ j, f j = sk q k h n (2816 * 0 + j.val))
    (hg : ∀ j, g j = b (2816 * 0 + j.val)) : ∃ M, Held q k h n b 1 M (stepM ⊥ f) (stepL ⊥ 0 f) (stepA ⊥ 0 f g) := by
  have h0 : f 0 ≤ (univ : Finset (Fin 2816)).fold max ⊥ f := by
    rw [show (univ : Finset (Fin 2816)).fold max ⊥ f = (univ : Finset (Fin 2816)).sup f from rfl]
    exact Finset.le_sup (mem_univ 0)
  rcases fold_sk q k h n 0 f hf with ⟨M, hM⟩ | hb
  · have e : stepM ⊥ f = (M : EReal) := by rw [stepM, hM]; exact max_eq_right bot_le
    obtain ⟨t1, t2⟩ := tile_sums q k h n 0 M f g b hf hg
    refine ⟨M, e, ?_, ?_⟩
    · rw [stepL, e, t1, sum_tile 0, mul_zero, zero_add, mul_zero, range_zero, sum_empty, zero_add]
    · rw [stepA, e, t2, sum_tile 0, mul_zero, zero_add, mul_zero, range_zero, sum_empty, zero_add]
  · rw [hb, hf] at h0
    have : sk q k h n (2816 * 0 + (0 : Fin 2816).val) = (sc q k h n 0 : EReal) := if_pos (nk_pos n)
    rw [this] at h0
    exact absurd (le_bot_iff.1 h0) (EReal.coe_ne_bot _)

/-- A later tile. -/
theorem held_next (h n : ℕ) (b : ℕ → EReal) (c : ℕ) (M : ℝ) (m l a : EReal) (H : Held q k h n b c M m l a) (f g : Fin 2816 → EReal)
    (hf : ∀ j, f j = sk q k h n (2816 * c + j.val)) (hg : ∀ j, g j = b (2816 * c + j.val)) :
    ∃ M', Held q k h n b (c + 1) M' (stepM m f) (stepL m l f) (stepA m a f g) := by
  obtain ⟨rfl, rfl, rfl⟩ := H
  have e : ∃ M' : ℝ, stepM (M : EReal) f = (M' : EReal) := by
    rcases fold_sk q k h n c f hf with ⟨N, hN⟩ | hb
    · exact ⟨max M N, by rw [stepM, hN, EReal.coe_strictMono.monotone.map_max]⟩
    · exact ⟨M, by rw [stepM, hb]; exact max_eq_left bot_le⟩
  obtain ⟨M', e⟩ := e
  obtain ⟨t1, t2⟩ := tile_sums q k h n c M' f g b hf hg
  refine ⟨M', e, ?_, ?_⟩
  · rw [stepL, e, t1, ← EReal.coe_sub, exp2_real, ← EReal.coe_mul, ← EReal.coe_add, sum_tile, mul_sum]
    simp only [wt_shift]
  · rw [stepA, e, t2, ← EReal.coe_sub, exp2_real, sum_tile, coe_mul_sum _ _ (by positivity)]
    simp only [← mul_assoc, ← EReal.coe_mul, wt_shift]

/-! ## After the last tile -/

theorem three_tiles : (2816 : ℕ) * 3 = 8448 := by norm_num

theorem wt_sum (M : ℝ) (h n : ℕ) : ∑ j ∈ range 8448, wt q k M h n j = Z q k h n / (2 : ℝ) ^ M := by
  rw [← sum_subset (range_subset_range.2 (nk_le n)) (f := wt q k M h n) fun j _ hj => if_neg fun hlt => hj (mem_range.2 hlt), Z, sum_div]
  exact sum_congr rfl fun j hj => by rw [wt, if_pos (mem_range.1 hj), Real.rpow_sub (by norm_num)]

theorem wt_over (M : ℝ) (h n j : ℕ) : (Z q k h n / (2 : ℝ) ^ M)⁻¹ * wt q k M h n j = pr q k h n j := by
  have hz := (Z_pos q k h n).ne'
  have hM : (2 : ℝ) ^ M ≠ 0 := (Real.rpow_pos_of_pos (by norm_num) M).ne'
  unfold wt pr
  split
  · rw [Real.rpow_sub (by norm_num)]; field_simp
  · exact mul_zero _

/-- The output of query `n` in head `h`, for a column of values `b`. -/
def outr (h n : ℕ) (b : ℕ → EReal) : EReal := ∑ j ∈ range 8448, (pr q k h n j : EReal) * b j

/-- The weighted sum over the sum is the output. -/
theorem held_out {h n : ℕ} {b : ℕ → EReal} {M : ℝ} {m l a : EReal} (H : Held q k h n b 3 M m l a) : Ideal.div a l = outr q k h n b := by
  obtain ⟨em, el, ea⟩ := H
  have hp : 0 < Z q k h n / (2 : ℝ) ^ M := div_pos (Z_pos q k h n) (Real.rpow_pos_of_pos (by norm_num) M)
  rw [three_tiles] at el ea
  rw [ea, el, wt_sum, Ideal.div, if_neg (by exact_mod_cast hp.ne'), ← EReal.coe_inv, mul_comm,
    coe_mul_sum _ _ (inv_nonneg.2 hp.le), outr]
  simp only [← mul_assoc, ← EReal.coe_mul, wt_over]

/-- The shift and the sum's logarithm are the row's log-sum. -/
theorem held_lse {h n : ℕ} {b : ℕ → EReal} {M : ℝ} {m l a : EReal} (H : Held q k h n b 3 M m l a) :
    m + Ideal.log l * (((Real.log 2)⁻¹ : ℝ) : EReal) = ((lse q k h n : ℝ) : EReal) := by
  obtain ⟨em, el, ea⟩ := H
  have hm : (0 : ℝ) < (2 : ℝ) ^ M := Real.rpow_pos_of_pos (by norm_num) M
  have h2 : Real.log 2 ≠ 0 := (Real.log_pos (by norm_num)).ne'
  rw [three_tiles] at el
  rw [em, el, wt_sum, log_real (div_pos (Z_pos q k h n) hm), ← EReal.coe_mul, ← EReal.coe_add,
    Real.log_div (Z_pos q k h n).ne' hm.ne', Real.log_rpow (by norm_num), lse]
  congr 1
  field_simp
  ring

/-! ## The same row, not in tiles -/

section Row

variable {N : ℕ} {h n : ℕ} (hN : nk n = N) (a : Fin N → EReal) (ha : ∀ x : Fin N, a x = ((sc q k h n x.val * Real.log 2 : ℝ) : EReal))

include hN ha

/-- The row's output in one column, whatever the values. -/
theorem row_outr (v : Fin N → EReal) (b : ℕ → EReal) (hb : ∀ x : Fin N, v x = b x.val) :
    (∑ x : Fin N, Ideal.div (Ideal.exp (a x - (univ : Finset (Fin N)).fold max ⊥ a))
      (∑ y : Fin N, Ideal.exp (a y - (univ : Finset (Fin N)).fold max ⊥ a)) * v x) = outr q k h n b := by
  have e : ∀ x ∈ (univ : Finset (Fin N)), Ideal.div (Ideal.exp (a x - (univ : Finset (Fin N)).fold max ⊥ a))
      (∑ y : Fin N, Ideal.exp (a y - (univ : Finset (Fin N)).fold max ⊥ a)) * v x = (pr q k h n x.val : EReal) * b x.val := fun x _ => by
    rw [row_weight q k hN a ha, hb]
  rw [sum_congr rfl e, Fin.sum_univ_eq_sum_range (fun j => (pr q k h n j : EReal) * b j) N, outr, ← hN]
  refine sum_subset (range_subset_range.2 (nk_le n)) fun j _ hj => ?_
  rw [pr_out q k fun hlt => hj (mem_range.2 hlt), EReal.coe_zero, zero_mul]

/-- The row's log-sum, with no shift. -/
theorem row_log_sum : Ideal.div (Ideal.log (∑ x : Fin N, Ideal.exp (a x))) ((Real.log 2 : ℝ) : EReal) = ((lse q k h n : ℝ) : EReal) := by
  have e : (∑ x : Fin N, Ideal.exp (a x)) = ((Z q k h n : ℝ) : EReal) := by
    refine (sum_fin _ (fun x => (2 : ℝ) ^ sc q k h n x) fun x => ?_).trans (by rw [Z, hN])
    rw [ha, exp_real, two_rpow]
  rw [e, log_real (Z_pos q k h n), div_real (Real.log_pos (by norm_num)).ne', lse]

end Row

end Cert.Attn

end
-- ==== Proof.FwdPay.lean ====
/- The values one grid point of the forward attention stores, from the values it loads. -/
module

public import proofs.«01_k».proof.Proof.FwdRow
public import proofs.«01_k».proof.Proof.Gen.FwdIdeal.Value
public import Idealize.ShloMosaic.Lib.Pointwise
public import Idealize.ShloMosaic.Lib.WritesUnit
public import Idealize.ShloMosaic.Lib.WholeRead
public import Idealize.ShloMosaic.Lib.VecWindow

@[expose] public section

set_option maxRecDepth 16384
set_option pp.maxSteps 3000

noncomputable section

namespace Cert.FwdIdeal.Fwd

open Idealize.ShloMosaic Idealize.ShloMosaic.TcCoe
open Cert.FwdIdeal Cert.FwdIdeal.Gen Cert.Attn

/-! ## The values stored, from the values loaded -/

section Pay

variable (s : FVec Ideal S256x2816 .f32) (m l : Vec Ideal S256x1 .f32) (v : Vec Ideal S2816x128 .bf16) (acc : Vec Ideal S256x128 .f32)

theorem pay16_at (a : Fin 256) : (k0_pay16 (F := Ideal) s m (ix2 a 0) : EReal) = stepM (m (ix2 a 0)) (fun j => s (ix2 a j)) := by
  pointwise [k0_pay16, stepM]
  rw [ofBits_bot]

theorem pay22_at (a : Fin 256) : (k0_pay22 (F := Ideal) s m (ix2 a 0) : EReal) = stepM (m (ix2 a 0)) (fun j => s (ix2 a j)) := pay16_at s m a

theorem pay20_at (a : Fin 256) : (k0_pay20 (F := Ideal) s m (ix2 a 0) : EReal) = stepM (m (ix2 a 0)) (fun j => s (ix2 a j)) := by
  rw [← pay16_at]
  pointwise [k0_pay20]

theorem pay18_at (a : Fin 256) (j : Fin 2816) : (k0_pay18 (F := Ideal) s m (ix2 a j) : EReal) = Ideal.exp2 (s (ix2 a j) - stepM (m (ix2 a 0)) (fun j => s (ix2 a j))) := by
  rw [← pay16_at]
  pointwise [k0_pay18]
  rfl

theorem pay17_at (a : Fin 256) : (k0_pay17 (F := Ideal) s m (ix2 a 0) : EReal) = Ideal.exp2 (m (ix2 a 0) - stepM (m (ix2 a 0)) (fun j => s (ix2 a j))) := by
  rw [← pay16_at]
  pointwise [k0_pay17]
  rfl

theorem pay19_at (a : Fin 256) : (k0_pay19 (F := Ideal) s m l (ix2 a 0) : EReal) = stepL (m (ix2 a 0)) (l (ix2 a 0)) (fun j => s (ix2 a j)) := by
  unfold stepL
  rw [← pay17_at]
  simp only [← pay18_at]
  pointwise [k0_pay19]

theorem pay28_at (a : Fin 256) (e : Fin 128) : (k0_pay28 (F := Ideal) v (k0_pay17 s m) (k0_pay21 s m) acc (ix2 a e) : EReal)
    = stepA (m (ix2 a 0)) (acc (ix2 a e)) (fun j => s (ix2 a j)) (fun j => v (ix2 j e)) := by
  unfold stepA
  rw [← pay17_at]
  simp only [← pay18_at]
  pointwise [k0_pay28, k0_pay21]

end Pay

/-- The mask's condition, as arithmetic of the tile's queries and a key. -/
theorem mask_cond {α : Type} (n g r : ℕ) (hn : n < 11) (hg : g < 3) (hr : r < 2816) (x y : α) :
    Scalar.select (IntOp.andi (Scalar.cmpi .eq (BitVec.ofNat 32 n) 0#32)
        (IntOp.cmpi .sge (IntOp.addi (Scalar.muli (BitVec.ofNat 32 g) 2816#32) (BitVec.ofNat 32 r)) 256#32)) x y
      = if n = 0 ∧ 256 ≤ 2816 * g + r then x else y := by
  have e : IntOp.andi (Scalar.cmpi .eq (BitVec.ofNat 32 n) 0#32)
        (IntOp.cmpi .sge (IntOp.addi (Scalar.muli (BitVec.ofNat 32 g) 2816#32) (BitVec.ofNat 32 r)) 256#32) = 1#1 ↔ (n = 0 ∧ 256 ≤ 2816 * g + r) := by
    have e1 : Scalar.cmpi .eq (BitVec.ofNat 32 n) 0#32 = BitVec.ofBool (decide (n = 0)) := by
      interval_cases n <;> decide
    have e2 : IntOp.addi (Scalar.muli (BitVec.ofNat 32 g) 2816#32) (BitVec.ofNat 32 r) = BitVec.ofNat 32 (2816 * g + r) := by
      show BitVec.ofNat 32 g * 2816#32 + BitVec.ofNat 32 r = _
      apply BitVec.eq_of_toNat_eq
      simp only [BitVec.toNat_add, BitVec.toNat_mul, BitVec.toNat_ofNat]
      omega
    have e3 : IntOp.cmpi .sge (BitVec.ofNat 32 (2816 * g + r)) 256#32 = BitVec.ofBool (decide (256 ≤ 2816 * g + r)) := by word_cmp
    rw [e2, e1, e3]
    by_cases h1 : n = 0 <;> by_cases h2 : 256 ≤ 2816 * g + r <;> simp [h1, h2, IntOp.andi]
  unfold Scalar.select
  by_cases h : n = 0 ∧ 256 ≤ 2816 * g + r
  · exact (if_pos (e.2 h)).trans (if_pos h).symm
  · exact (if_neg fun h' => h (e.1 h')).trans (if_neg h).symm

section First

variable (i : grid0.Coords) (k : Vec Ideal S2816x256 .bf16) (q : Vec Ideal S256x256 .bf16)
variable (m l : Vec Ideal S256x1 .f32) (v : Vec Ideal S2816x128 .bf16) (acc : Vec Ideal S256x128 .f32)

theorem pay10_eq : k0_pay10 (F := Ideal) i k q m = k0_pay16 (k0_pay7 i k q) m := rfl
theorem pay14_at (a : Fin 256) : (k0_pay14 (F := Ideal) (k0_pay10 i k q m) (ix2 a 0) : EReal) = stepM (m (ix2 a 0)) (fun j => k0_pay7 (F := Ideal) i k q (ix2 a j)) :=
  pay20_at (k0_pay7 (F := Ideal) i k q) m a
theorem pay13_at (a : Fin 256) : (k0_pay13 (F := Ideal) (k0_pay11 i k q m) (k0_pay12 i k q m) l (ix2 a 0) : EReal)
    = stepL (m (ix2 a 0)) (l (ix2 a 0)) (fun j => k0_pay7 (F := Ideal) i k q (ix2 a j)) :=
  pay19_at (k0_pay7 (F := Ideal) i k q) m l a
theorem pay27_at (a : Fin 256) (e : Fin 128) : (k0_pay27 (F := Ideal) v (k0_pay11 i k q m) (k0_pay15 (k0_pay12 i k q m)) acc (ix2 a e) : EReal)
    = stepA (m (ix2 a 0)) (acc (ix2 a e)) (fun j => k0_pay7 (F := Ideal) i k q (ix2 a j)) (fun j => v (ix2 j e)) :=
  pay28_at (k0_pay7 (F := Ideal) i k q) m v acc a e

/-- A score of the second 256 rows. -/
theorem pay8_at (a : Fin 256) (j : Fin 2816) : (k0_pay8 (F := Ideal) k q (ix2 a j) : EReal) = ∑ x : Fin 256, q (ix2 a x) * k (ix2 j x) := by
  pointwise [k0_pay8]

theorem pay9_at (a : Fin 256) (j : Fin 2816) : (k0_pay9 (F := Ideal) k q (ix2 a j) : EReal) = ∑ x : Fin 256, q (ix2 a x) * k (ix2 j x) := by
  pointwise [k0_pay9]

/-- A score of the first 256 rows. -/
theorem pay7_at (a : Fin 256) (j : Fin 2816) : (k0_pay7 (F := Ideal) i k q (ix2 a j) : EReal)
    = if (i 1).val = 0 ∧ 256 ≤ 2816 * (i 2).val + j.val then ⊥ else ∑ x : Fin 256, q (ix2 a x) * k (ix2 j x) := by
  pointwise [k0_pay7]
  exact mask_cond (i 1).val (i 2).val j.val (i 1).isLt (i 2).isLt j.isLt _ _

end First

section Last

variable (s : FVec Ideal S256x2816 .f32) (m l : Vec Ideal S256x1 .f32) (v : Vec Ideal S2816x128 .bf16) (acc : Vec Ideal S256x128 .f32)

theorem pay26_at (a : Fin 256) : (k0_pay26 (F := Ideal) (k0_pay22 s m) (ix2 a 0) : EReal) = stepM (m (ix2 a 0)) (fun j => s (ix2 a j)) := pay20_at s m a
theorem pay25_at (a : Fin 256) : (k0_pay25 (F := Ideal) s (k0_pay22 s m) (k0_pay23 s m) l (ix2 a 0) : EReal)
    = stepL (m (ix2 a 0)) (l (ix2 a 0)) (fun j => s (ix2 a j)) := pay19_at s m l a
theorem pay29_at (a : Fin 256) (e : Fin 128) : (k0_pay1 (F := Ideal) (k0_pay29 v s (k0_pay22 s m) (k0_pay23 s m) acc) (ix2 a e) : EReal)
    = stepA (m (ix2 a 0)) (acc (ix2 a e)) (fun j => s (ix2 a j)) (fun j => v (ix2 j e)) := pay28_at s m v acc a e

theorem pay2_at (acc : Vec Ideal S768x128 .f32) (l : Vec Ideal S768x1 .f32) (a : Fin 768) (e : Fin 128) :
    (k0_pay2 (F := Ideal) acc l (ix2 a e) : EReal) = Ideal.div (acc (ix2 a e)) (l (ix2 a 0)) := by
  pointwise [k0_pay2]

theorem pay3_at (m l : Vec Ideal S768x1 .f32) (a : Fin 768) (e : Fin 128) :
    (k0_pay3 (F := Ideal) m l (ix2 a e) : EReal) = m (ix2 a 0) + Ideal.log (l (ix2 a 0)) * (((Real.log 2)⁻¹ : ℝ) : EReal) := by
  pointwise [k0_pay3]
  rfl

theorem pay4_at (a : Fin 768) : (k0_pay4 (F := Ideal) (ix2 a 0) : EReal) = ⊥ := by
  pointwise [k0_pay4]
  rfl

theorem pay5_at (a : Fin 768) : (k0_pay5 (F := Ideal) (ix2 a 0) : EReal) = 0 := by
  pointwise [k0_pay5]

theorem pay6_at (a : Fin 768) (e : Fin 128) : (k0_pay6 (F := Ideal) (ix2 a e) : EReal) = 0 := by
  pointwise [k0_pay6]

end Last

end Cert.FwdIdeal.Fwd

end
-- ==== Proof.FwdTile.lean ====
/- What one grid point of the forward attention leaves in its three running quantities, entry by entry. -/
module

public import proofs.«01_k».proof.Proof.FwdPay
public import proofs.«01_k».proof.Proof.Gen.FwdIdeal.Value
public import Idealize.ShloMosaic.Lib.Pointwise
public import Idealize.ShloMosaic.Lib.WritesUnit
public import Idealize.ShloMosaic.Lib.WholeRead
public import Idealize.ShloMosaic.Lib.VecWindow
public import Idealize.ShloMosaic.Lib.Tactic.Stretches

@[expose] public section

set_option maxRecDepth 16384
set_option pp.maxSteps 3000

noncomputable section

namespace Cert.FwdIdeal.Fwd

open Idealize.ShloMosaic Idealize.ShloMosaic.TcCoe
open Cert.FwdIdeal Cert.FwdIdeal.Gen Cert.Attn

/-! ## Rows of a block -/

/-- The 256 rows of a block that start at row `o`. -/
def rowsOf {α : Type} {D : ℕ} (X : (⟨2, ![768, D]⟩ : Shape).Idx → α) (o : ℕ) : (⟨2, ![256, D]⟩ : Shape).Idx → α :=
  fun j => X (ix2 (n0 := 768) (n1 := D) ⟨(o + (j 0).val) % 768, Nat.mod_lt _ (by norm_num)⟩ (j 1))

theorem rowsOf_at {α : Type} {D : ℕ} (X : (⟨2, ![768, D]⟩ : Shape).Idx → α) (o : ℕ) (a : Fin 256) (b : Fin D) (r : Fin 768) (h : r.val = o + a.val) :
    rowsOf X o (ix2 a b) = X (ix2 r b) := by
  unfold rowsOf
  congr 1
  exact congrArg₂ ix2 (Fin.ext (by show (o + a.val) % 768 = r.val; omega)) rfl

theorem rect_rows {D o : ℕ} (inb : ∀ a, (![o, 0] : Fin 2 → ℕ) a + (![256, D] : Fin 2 → ℕ) a ≤ (![768, D] : Fin 2 → ℕ) a)
    (j : (⟨2, ![256, D]⟩ : Shape).Idx) :
    (Rect.unit (s := ⟨2, ![768, D]⟩) ![o, 0] ![256, D] inb).toLoadRect.idx j = ix2 (n0 := 768) (n1 := D) ⟨(o + (j 0).val) % 768, Nat.mod_lt _ (by norm_num)⟩ (j 1) := by
  have h0 := inb 0
  have hj : (j 0).val < 256 := (j 0).isLt
  have h0' : o + 256 ≤ 768 := h0
  funext a
  refine Fin.ext ?_
  match a with
  | 0 => show o + 1 * (j 0).val = (o + (j 0).val) % 768; omega
  | 1 => show 0 + 1 * (j 1).val = (j 1).val; omega

/-- A load of 256 rows of a block. -/
theorem load_rows {e : EltTy} {D o : ℕ} (mr : Memref sig .tc .vmem (⟨2, ![768, D]⟩ : Shape) e) (h : mr.IsWhole) (X : (⟨2, ![768, D]⟩ : Shape).Idx → Elt Ideal e)
    (inb : ∀ a, (![o, 0] : Fin 2 → ℕ) a + (![256, D] : Fin 2 → ℕ) a ≤ (![768, D] : Fin 2 → ℕ) a) :
    View.readAt (Elt Ideal) mr.view (Rect.unit (s := ⟨2, ![768, D]⟩) ![o, 0] ![256, D] inb).toLoadRect (h.unread X) = rowsOf X o := by
  funext j
  rw [h.readAt_unread, rect_rows]
  rfl

/-- A load of 256 rows after a store of the whole block. -/
theorem load_rows_stored {e : EltTy} {D o : ℕ} (v : View sig .tc .vmem (⟨2, ![768, D]⟩ : Shape) e) (X : (⟨2, ![768, D]⟩ : Shape).Idx → Elt Ideal e)
    (inb : ∀ a, (![o, 0] : Fin 2 → ℕ) a + (![256, D] : Fin 2 → ℕ) a ≤ (![768, D] : Fin 2 → ℕ) a)
    (inb' : ∀ a, (![0, 0] : Fin 2 → ℕ) a + (![768, D] : Fin 2 → ℕ) a ≤ (![768, D] : Fin 2 → ℕ) a) (L : List (View.Piece (Elt Ideal) (⟨2, ![768, D]⟩ : Shape) e)) :
    v.readCov (⟨Rect.unit (s := ⟨2, ![768, D]⟩) ![0, 0] ![768, D] inb', X⟩ :: L) (Rect.unit (s := ⟨2, ![768, D]⟩) ![o, 0] ![256, D] inb).toLoadRect = rowsOf X o := by
  funext j
  unfold View.readCov
  rw [View.readAt_apply, rect_rows]
  exact View.read_writes_cons_rows_of_mem _ _ _ _ _ _ (ix2 (n0 := 768) (n1 := D) ⟨(o + (j 0).val) % 768, Nat.mod_lt _ (by norm_num)⟩ (j 1)) rfl (Nat.zero_add _).symm rfl

/-- A load of 256 rows after a store of other rows above them. -/
theorem load_rows_skip {e : EltTy} {D o o' : ℕ} (ho : o' + 256 ≤ o) (v : View sig .tc .vmem (⟨2, ![768, D]⟩ : Shape) e)
    (inb : ∀ a, (![o, 0] : Fin 2 → ℕ) a + (![256, D] : Fin 2 → ℕ) a ≤ (![768, D] : Fin 2 → ℕ) a)
    (inb' : ∀ a, (![o', 0] : Fin 2 → ℕ) a + (![256, D] : Fin 2 → ℕ) a ≤ (![768, D] : Fin 2 → ℕ) a)
    (w : (⟨2, ![256, D]⟩ : Shape).Idx → Elt Ideal e) (L : List (View.Piece (Elt Ideal) (⟨2, ![768, D]⟩ : Shape) e)) :
    v.readCov (⟨Rect.unit (s := ⟨2, ![768, D]⟩) ![o', 0] ![256, D] inb', w⟩ :: L) (Rect.unit (s := ⟨2, ![768, D]⟩) ![o, 0] ![256, D] inb).toLoadRect
      = v.readCov L (Rect.unit (s := ⟨2, ![768, D]⟩) ![o, 0] ![256, D] inb).toLoadRect := by
  funext j
  unfold View.readCov
  rw [View.readAt_apply, View.readAt_apply, rect_rows]
  have h0 : o + 256 ≤ 768 := inb 0
  have hj : (j 0).val < 256 := (j 0).isLt
  refine View.read_writes_cons_rows_of_not_mem (W := 256) (off := ![o', 0]) (size := ![256, D]) (o := o') v _ inb' w L _ rfl rfl (.inr ?_)
  show o' + 256 ≤ (o + (j 0).val) % 768
  omega

/-- A load of a whole block after stores. -/
theorem load_whole {e : EltTy} {D : ℕ} (v : View sig .tc .vmem (⟨2, ![768, D]⟩ : Shape) e)
    (inb : ∀ a, (![0, 0] : Fin 2 → ℕ) a + (![768, D] : Fin 2 → ℕ) a ≤ (![768, D] : Fin 2 → ℕ) a) (L : List (View.Piece (Elt Ideal) (⟨2, ![768, D]⟩ : Shape) e)) :
    v.readCov L (Rect.unit (s := ⟨2, ![768, D]⟩) ![0, 0] ![768, D] inb).toLoadRect = v.read (Elt Ideal) (v.writes (Elt Ideal) v.junk L) := by
  unfold View.readCov
  exact View.readAt_full _ _ _

/-- Three stores of 256 rows each. -/
theorem stored_rows {e : EltTy} {D : ℕ} (v : View sig .tc .vmem (⟨2, ![768, D]⟩ : Shape) e) (f : v.ty.Contents (Elt Ideal))
    (inb0 : ∀ a, (![0, 0] : Fin 2 → ℕ) a + (![256, D] : Fin 2 → ℕ) a ≤ (![768, D] : Fin 2 → ℕ) a)
    (inb1 : ∀ a, (![256, 0] : Fin 2 → ℕ) a + (![256, D] : Fin 2 → ℕ) a ≤ (![768, D] : Fin 2 → ℕ) a)
    (inb2 : ∀ a, (![512, 0] : Fin 2 → ℕ) a + (![256, D] : Fin 2 → ℕ) a ≤ (![768, D] : Fin 2 → ℕ) a)
    (w0 w1 w2 : (⟨2, ![256, D]⟩ : Shape).Idx → Elt Ideal e) (L : List (View.Piece (Elt Ideal) (⟨2, ![768, D]⟩ : Shape) e))
    (G : (⟨2, ![768, D]⟩ : Shape).Idx → Elt Ideal e)
    (h0 : ∀ (a : Fin 256) (b : Fin D) (r : Fin 768), r.val = 0 + a.val → w0 (ix2 a b) = G (ix2 r b))
    (h1 : ∀ (a : Fin 256) (b : Fin D) (r : Fin 768), r.val = 256 + a.val → w1 (ix2 a b) = G (ix2 r b))
    (h2 : ∀ (a : Fin 256) (b : Fin D) (r : Fin 768), r.val = 512 + a.val → w2 (ix2 a b) = G (ix2 r b)) :
    v.read (Elt Ideal) (v.writes (Elt Ideal) f (⟨Rect.unit (s := ⟨2, ![768, D]⟩) ![512, 0] ![256, D] inb2, w2⟩
      :: ⟨Rect.unit (s := ⟨2, ![768, D]⟩) ![256, 0] ![256, D] inb1, w1⟩ :: ⟨Rect.unit (s := ⟨2, ![768, D]⟩) ![0, 0] ![256, D] inb0, w0⟩ :: L)) = G := by
  funext y
  obtain ⟨r, b, rfl⟩ : ∃ (r : Fin 768) (b : Fin D), y = ix2 r b := ⟨y 0, y 1, eq_ix2 y⟩
  by_cases c2 : 512 ≤ r.val
  · have hr : r.val - 512 < 256 := by omega
    exact (View.read_writes_cons_rows_of_mem (off := ![512, 0]) (size := ![256, D]) (o := 512) v f inb2 w2 _ (ix2 r b) (ix2 (n0 := 256) (n1 := D) ⟨r.val - 512, hr⟩ b) rfl (by show r.val = 512 + (r.val - 512); omega) rfl).trans
      (h2 ⟨r.val - 512, hr⟩ b r (by show r.val = 512 + (r.val - 512); omega))
  refine (View.read_writes_cons_rows_of_not_mem (W := 256) _ _ _ _ _ _ rfl rfl (.inl (by show r.val < 512; omega))).trans ?_
  by_cases c1 : 256 ≤ r.val
  · have hr : r.val - 256 < 256 := by omega
    exact (View.read_writes_cons_rows_of_mem (off := ![256, 0]) (size := ![256, D]) (o := 256) v f inb1 w1 _ (ix2 r b) (ix2 (n0 := 256) (n1 := D) ⟨r.val - 256, hr⟩ b) rfl (by show r.val = 256 + (r.val - 256); omega) rfl).trans
      (h1 ⟨r.val - 256, hr⟩ b r (by show r.val = 256 + (r.val - 256); omega))
  refine (View.read_writes_cons_rows_of_not_mem (W := 256) _ _ _ _ _ _ rfl rfl (.inl (by show r.val < 256; omega))).trans ?_
  have hr : r.val < 256 := by omega
  exact (View.read_writes_cons_rows_of_mem (off := ![0, 0]) (size := ![256, D]) (o := 0) v f inb0 w0 _ (ix2 r b) (ix2 (n0 := 256) (n1 := D) ⟨r.val, hr⟩ b) rfl (Nat.zero_add _).symm rfl).trans
    (h0 ⟨r.val, hr⟩ b r (Nat.zero_add _).symm)

/-! ## The three running quantities after a grid point -/

section Step

variable (i : grid0.Coords) (x0 : Vec Ideal S768x256 .bf16) (x1 : Vec Ideal S2816x256 .bf16) (x2 : Vec Ideal S2816x128 .bf16)
variable (xs0 xs1 : Vec Ideal S768x1 .f32) (xs2 : Vec Ideal S768x128 .f32)

/-- The tile's scores for one query of its block. -/
def score (r : Fin 768) (j : Fin 2816) : EReal :=
  if (i 1).val = 0 ∧ r.val < 256 ∧ 256 ≤ 2816 * (i 2).val + j.val then ⊥ else ∑ x : Fin 256, x0 (ix2 r x) * x1 (ix2 j x)

def newM : Vec Ideal S768x1 .f32 := fun y => stepM (xs0 (ix2 (y 0) 0)) (score i x0 x1 (y 0))
def newL : Vec Ideal S768x1 .f32 := fun y => stepL (xs0 (ix2 (y 0) 0)) (xs1 (ix2 (y 0) 0)) (score i x0 x1 (y 0))
def newA : Vec Ideal S768x128 .f32 := fun y => stepA (xs0 (ix2 (y 0) 0)) (xs2 y) (score i x0 x1 (y 0)) (fun j => x2 (ix2 j (y 1)))

theorem score0 (a : Fin 256) (r : Fin 768) (h : r.val = 0 + a.val) :
    (fun j => (k0_pay7 (F := Ideal) i x1 (rowsOf x0 0) (ix2 a j) : EReal)) = score i x0 x1 r := by
  funext j
  have ha := a.isLt
  rw [pay7_at, score]
  simp only [rowsOf_at x0 0 a _ r h]
  exact if_congr (by constructor <;> (intro hh; omega)) rfl rfl

theorem score1 (a : Fin 256) (r : Fin 768) (h : r.val = 256 + a.val) :
    (fun j => (k0_pay8 (F := Ideal) x1 (rowsOf x0 256) (ix2 a j) : EReal)) = score i x0 x1 r := by
  funext j
  rw [pay8_at, score, if_neg (by omega)]
  simp only [rowsOf_at x0 256 a _ r h]

theorem score2 (a : Fin 256) (r : Fin 768) (h : r.val = 512 + a.val) :
    (fun j => (k0_pay9 (F := Ideal) x1 (rowsOf x0 512) (ix2 a j) : EReal)) = score i x0 x1 r := by
  funext j
  rw [pay9_at, score, if_neg (by omega)]
  simp only [rowsOf_at x0 512 a _ r h]

variable (inb0 : ∀ a, (![0, 0] : Fin 2 → ℕ) a + (![256, 1] : Fin 2 → ℕ) a ≤ (![768, 1] : Fin 2 → ℕ) a)
variable (inb1 : ∀ a, (![256, 0] : Fin 2 → ℕ) a + (![256, 1] : Fin 2 → ℕ) a ≤ (![768, 1] : Fin 2 → ℕ) a)
variable (inb2 : ∀ a, (![512, 0] : Fin 2 → ℕ) a + (![256, 1] : Fin 2 → ℕ) a ≤ (![768, 1] : Fin 2 → ℕ) a)
variable (jnb0 : ∀ a, (![0, 0] : Fin 2 → ℕ) a + (![256, 128] : Fin 2 → ℕ) a ≤ (![768, 128] : Fin 2 → ℕ) a)
variable (jnb1 : ∀ a, (![256, 0] : Fin 2 → ℕ) a + (![256, 128] : Fin 2 → ℕ) a ≤ (![768, 128] : Fin 2 → ℕ) a)
variable (jnb2 : ∀ a, (![512, 0] : Fin 2 → ℕ) a + (![256, 128] : Fin 2 → ℕ) a ≤ (![768, 128] : Fin 2 → ℕ) a)

theorem stored_M (v : View sig .tc .vmem S768x1 .f32) (f : v.ty.Contents (Elt Ideal)) (L : List (View.Piece (Elt Ideal) S768x1 .f32)) :
    v.read (Elt Ideal) (v.writes (Elt Ideal) f (⟨Rect.unit (s := S768x1) ![512, 0] S256x1.size inb2, k0_pay26 (k0_pay22 (k0_pay9 x1 (rowsOf x0 512)) (rowsOf xs0 512))⟩
      :: ⟨Rect.unit (s := S768x1) ![256, 0] S256x1.size inb1, k0_pay20 (k0_pay8 x1 (rowsOf x0 256)) (rowsOf xs0 256)⟩
      :: ⟨Rect.unit (s := S768x1) ![0, 0] S256x1.size inb0, k0_pay14 (k0_pay10 i x1 (rowsOf x0 0) (rowsOf xs0 0))⟩ :: L)) = newM i x0 x1 xs0 := by
  refine stored_rows v f inb0 inb1 inb2 _ _ _ L _ (fun a b r h => ?_) (fun a b r h => ?_) fun a b r h => ?_
  all_goals obtain rfl : b = 0 := Subsingleton.elim _ _
  · refine (pay14_at i x1 (rowsOf x0 0) _ a).trans ?_
    rw [score0 i x0 x1 a r h, rowsOf_at xs0 0 a 0 r h]; rfl
  · refine (pay20_at _ _ a).trans ?_
    rw [score1 i x0 x1 a r h, rowsOf_at xs0 256 a 0 r h]; rfl
  · refine (pay26_at _ _ a).trans ?_
    rw [score2 i x0 x1 a r h, rowsOf_at xs0 512 a 0 r h]; rfl

theorem stored_L (v : View sig .tc .vmem S768x1 .f32) (f : v.ty.Contents (Elt Ideal)) (L : List (View.Piece (Elt Ideal) S768x1 .f32)) :
    v.read (Elt Ideal) (v.writes (Elt Ideal) f (⟨Rect.unit (s := S768x1) ![512, 0] S256x1.size inb2, k0_pay25 (k0_pay9 x1 (rowsOf x0 512))
        (k0_pay22 (k0_pay9 x1 (rowsOf x0 512)) (rowsOf xs0 512)) (k0_pay23 (k0_pay9 x1 (rowsOf x0 512)) (rowsOf xs0 512)) (rowsOf xs1 512)⟩
      :: ⟨Rect.unit (s := S768x1) ![256, 0] S256x1.size inb1, k0_pay19 (k0_pay8 x1 (rowsOf x0 256)) (rowsOf xs0 256) (rowsOf xs1 256)⟩
      :: ⟨Rect.unit (s := S768x1) ![0, 0] S256x1.size inb0, k0_pay13 (k0_pay11 i x1 (rowsOf x0 0) (rowsOf xs0 0)) (k0_pay12 i x1 (rowsOf x0 0) (rowsOf xs0 0)) (rowsOf xs1 0)⟩ :: L))
      = newL i x0 x1 xs0 xs1 := by
  refine stored_rows v f inb0 inb1 inb2 _ _ _ L _ (fun a b r h => ?_) (fun a b r h => ?_) fun a b r h => ?_
  all_goals obtain rfl : b = 0 := Subsingleton.elim _ _
  · refine (pay13_at i x1 (rowsOf x0 0) _ _ a).trans ?_
    rw [score0 i x0 x1 a r h, rowsOf_at xs0 0 a 0 r h, rowsOf_at xs1 0 a 0 r h]; rfl
  · refine (pay19_at _ _ _ a).trans ?_
    rw [score1 i x0 x1 a r h, rowsOf_at xs0 256 a 0 r h, rowsOf_at xs1 256 a 0 r h]; rfl
  · refine (pay25_at _ _ _ a).trans ?_
    rw [score2 i x0 x1 a r h, rowsOf_at xs0 512 a 0 r h, rowsOf_at xs1 512 a 0 r h]; rfl

theorem stored_A (v : View sig .tc .vmem S768x128 .f32) (f : v.ty.Contents (Elt Ideal)) (L : List (View.Piece (Elt Ideal) S768x128 .f32)) :
    v.read (Elt Ideal) (v.writes (Elt Ideal) f (⟨Rect.unit (s := S768x128) ![512, 0] S256x128.size jnb2, k0_pay1 (k0_pay29 x2 (k0_pay9 x1 (rowsOf x0 512))
        (k0_pay22 (k0_pay9 x1 (rowsOf x0 512)) (rowsOf xs0 512)) (k0_pay23 (k0_pay9 x1 (rowsOf x0 512)) (rowsOf xs0 512)) (rowsOf xs2 512))⟩
      :: ⟨Rect.unit (s := S768x128) ![256, 0] S256x128.size jnb1, k0_pay28 x2 (k0_pay17 (k0_pay8 x1 (rowsOf x0 256)) (rowsOf xs0 256))
        (k0_pay21 (k0_pay8 x1 (rowsOf x0 256)) (rowsOf xs0 256)) (rowsOf xs2 256)⟩
      :: ⟨Rect.unit (s := S768x128) ![0, 0] S256x128.size jnb0, k0_pay27 x2 (k0_pay11 i x1 (rowsOf x0 0) (rowsOf xs0 0))
        (k0_pay15 (k0_pay12 i x1 (rowsOf x0 0) (rowsOf xs0 0))) (rowsOf xs2 0)⟩ :: L)) = newA i x0 x1 x2 xs0 xs2 := by
  refine stored_rows v f jnb0 jnb1 jnb2 _ _ _ L _ (fun a b r h => ?_) (fun a b r h => ?_) fun a b r h => ?_
  · refine (pay27_at i x1 (rowsOf x0 0) _ _ _ a b).trans ?_
    rw [score0 i x0 x1 a r h, rowsOf_at xs0 0 a 0 r h, rowsOf_at xs2 0 a b r h]; rfl
  · refine (pay28_at _ _ _ _ a b).trans ?_
    rw [score1 i x0 x1 a r h, rowsOf_at xs0 256 a 0 r h, rowsOf_at xs2 256 a b r h]; rfl
  · refine (pay29_at _ _ _ _ a b).trans ?_
    rw [score2 i x0 x1 a r h, rowsOf_at xs0 512 a 0 r h, rowsOf_at xs2 512 a b r h]; rfl

end Step

/-! ## A grid point's three cases -/

section Open

variable (c : Dev nD) (i : grid0.Coords) (arg3 : Memref sig .tc .vmem S768x256 .bf16) (harg3 : arg3.IsWhole) (arg4 : Memref sig .tc .vmem S2816x256 .bf16) (harg4 : arg4.IsWhole) (arg5 : Memref sig .tc .vmem S2816x128 .bf16) (harg5 : arg5.IsWhole) (arg6 : Memref sig .tc .vmem S768x128 .f32) (harg6 : arg6.IsWhole) (arg7 : Memref sig .tc .vmem S768x128 .f32) (harg7 : arg7.IsWhole) (arg8 : Memref sig .tc .vmem S768x1 .f32) (harg8 : arg8.IsWhole) (arg9 : Memref sig .tc .vmem S768x1 .f32) (harg9 : arg9.IsWhole) (arg10 : Memref sig .tc .vmem S768x128 .f32) (harg10 : arg10.IsWhole)
  (x0 : Vec Ideal S768x256 .bf16) (x1 : Vec Ideal S2816x256 .bf16) (x2 : Vec Ideal S2816x128 .bf16) (xs0 : Vec Ideal S768x1 .f32) (xs1 : Vec Ideal S768x1 .f32) (xs2 : Vec Ideal S768x128 .f32)

theorem leftB_0 (hc0 : ¬cond0_0 i) (hc1 : ¬cond0_1 i) :
    sout0_B_0 c i arg3 harg3 arg4 harg4 arg5 harg5 arg6 harg6 arg7 harg7 arg8 harg8 arg9 harg9 arg10 harg10 hc0 hc1 x0 x1 x2 xs0 xs1 xs2 = newM i x0 x1 xs0 := by
  unfold sout0_B_0
  dsimp only [kernelRun0_A, kernelRun0_B, kernelRun0_C]
  sl_open_run
  repeat rw [View.readAt_full]
  simp only [Memref.IsWhole.read_unread]
  repeat rw [load_rows]
  exact stored_M i x0 x1 xs0 _ _ _ _ _ _

theorem leftB_1 (hc0 : ¬cond0_0 i) (hc1 : ¬cond0_1 i) :
    sout0_B_1 c i arg3 harg3 arg4 harg4 arg5 harg5 arg6 harg6 arg7 harg7 arg8 harg8 arg9 harg9 arg10 harg10 hc0 hc1 x0 x1 x2 xs0 xs1 xs2 = newL i x0 x1 xs0 xs1 := by
  unfold sout0_B_1
  dsimp only [kernelRun0_A, kernelRun0_B, kernelRun0_C]
  sl_open_run
  repeat rw [View.readAt_full]
  simp only [Memref.IsWhole.read_unread]
  repeat rw [load_rows]
  exact stored_L i x0 x1 xs0 xs1 _ _ _ _ _ _

theorem leftB_2 (hc0 : ¬cond0_0 i) (hc1 : ¬cond0_1 i) :
    sout0_B_2 c i arg3 harg3 arg4 harg4 arg5 harg5 arg6 harg6 arg7 harg7 arg8 harg8 arg9 harg9 arg10 harg10 hc0 hc1 x0 x1 x2 xs0 xs1 xs2 = newA i x0 x1 x2 xs0 xs2 := by
  unfold sout0_B_2
  dsimp only [kernelRun0_A, kernelRun0_B, kernelRun0_C]
  sl_open_run
  repeat rw [View.readAt_full]
  simp only [Memref.IsWhole.read_unread]
  repeat rw [load_rows]
  exact stored_A i x0 x1 x2 xs0 xs2 _ _ _ _ _ _

theorem leftC_0 (hc0 : ¬cond0_0 i) (hc1 : cond0_1 i) :
    sout0_C_0 c i arg3 harg3 arg4 harg4 arg5 harg5 arg6 harg6 arg7 harg7 arg8 harg8 arg9 harg9 arg10 harg10 hc0 hc1 x0 x1 x2 xs0 xs1 xs2 = newM i x0 x1 xs0 := by
  unfold sout0_C_0
  dsimp only [kernelRun0_A, kernelRun0_B, kernelRun0_C]
  sl_open_run
  repeat rw [View.readAt_full]
  simp only [Memref.IsWhole.read_unread]
  repeat rw [load_rows]
  exact stored_M i x0 x1 xs0 _ _ _ _ _ _

theorem leftC_1 (hc0 : ¬cond0_0 i) (hc1 : cond0_1 i) :
    sout0_C_1 c i arg3 harg3 arg4 harg4 arg5 harg5 arg6 harg6 arg7 harg7 arg8 harg8 arg9 harg9 arg10 harg10 hc0 hc1 x0 x1 x2 xs0 xs1 xs2 = newL i x0 x1 xs0 xs1 := by
  unfold sout0_C_1
  dsimp only [kernelRun0_A, kernelRun0_B, kernelRun0_C]
  sl_open_run
  repeat rw [View.readAt_full]
  simp only [Memref.IsWhole.read_unread]
  repeat rw [load_rows]
  exact stored_L i x0 x1 xs0 xs1 _ _ _ _ _ _

theorem leftC_2 (hc0 : ¬cond0_0 i) (hc1 : cond0_1 i) :
    sout0_C_2 c i arg3 harg3 arg4 harg4 arg5 harg5 arg6 harg6 arg7 harg7 arg8 harg8 arg9 harg9 arg10 harg10 hc0 hc1 x0 x1 x2 xs0 xs1 xs2 = newA i x0 x1 x2 xs0 xs2 := by
  unfold sout0_C_2
  dsimp only [kernelRun0_A, kernelRun0_B, kernelRun0_C]
  sl_open_run
  repeat rw [View.readAt_full]
  simp only [Memref.IsWhole.read_unread]
  repeat rw [load_rows]
  exact stored_A i x0 x1 x2 xs0 xs2 _ _ _ _ _ _

theorem leftA_0 (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 = newM i x0 x1 (k0_pay4 (F := Ideal)) := by
  unfold sout0_A_0
  dsimp only [kernelRun0_A, kernelRun0_B, kernelRun0_C]
  sl_open_run
  repeat rw [View.readAt_full]
  simp only [Memref.IsWhole.read_unread]
  repeat rw [load_rows]
  repeat first
    | rw [load_rows_stored]
    | rw [load_rows_skip (o := 256) (o' := 0) (by decide)]
    | rw [load_rows_skip (o := 512) (o' := 256) (by decide)]
    | rw [load_rows_skip (o := 512) (o' := 0) (by decide)]
  exact stored_M i x0 x1 (k0_pay4 (F := Ideal)) _ _ _ _ _ _

theorem leftA_1 (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 = newL i x0 x1 (k0_pay4 (F := Ideal)) (k0_pay5 (F := Ideal)) := by
  unfold sout0_A_1
  dsimp only [kernelRun0_A, kernelRun0_B, kernelRun0_C]
  sl_open_run
  repeat rw [View.readAt_full]
  simp only [Memref.IsWhole.read_unread]
  repeat rw [load_rows]
  repeat first
    | rw [load_rows_stored]
    | rw [load_rows_skip (o := 256) (o' := 0) (by decide)]
    | rw [load_rows_skip (o := 512) (o' := 256) (by decide)]
    | rw [load_rows_skip (o := 512) (o' := 0) (by decide)]
  exact stored_L i x0 x1 (k0_pay4 (F := Ideal)) (k0_pay5 (F := Ideal)) _ _ _ _ _ _

theorem leftA_2 (hc0 : cond0_0 i) (hc1 : ¬cond0_1 i) :
    sout0_A_2 c i arg3 harg3 arg4 harg4 arg5 harg5 arg6 harg6 arg7 harg7 arg8 harg8 arg9 harg9 arg10 harg10 hc0 hc1 x0 x1 x2 = newA i x0 x1 x2 (k0_pay4 (F := Ideal)) (k0_pay6 (F := Ideal)) := by
  unfold sout0_A_2
  dsimp only [kernelRun0_A, kernelRun0_B, kernelRun0_C]
  sl_open_run
  repeat rw [View.readAt_full]
  simp only [Memref.IsWhole.read_unread]
  repeat rw [load_rows]
  repeat first
    | rw [load_rows_stored]
    | rw [load_rows_skip (o := 256) (o' := 0) (by decide)]
    | rw [load_rows_skip (o := 512) (o' := 256) (by decide)]
    | rw [load_rows_skip (o := 512) (o' := 0) (by decide)]
  exact stored_A i x0 x1 x2 (k0_pay4 (F := Ideal)) (k0_pay6 (F := Ideal)) _ _ _ _ _ _

theorem out_3 (hc0 : ¬cond0_0 i) (hc1 : cond0_1 i) :
    out0_C_3 c i arg3 harg3 arg4 harg4 arg5 harg5 arg6 harg6 arg7 harg7 arg8 harg8 arg9 harg9 arg10 harg10 hc0 hc1 x0 x1 x2 xs0 xs1 xs2 = k0_pay2 (newA i x0 x1 x2 xs0 xs2) (newL i x0 x1 xs0 xs1) := by
  unfold out0_C_3
  dsimp only [kernelRun0_A, kernelRun0_B, kernelRun0_C]
  sl_open_run
  repeat rw [View.readAt_full]
  simp only [Memref.IsWhole.read_unread]
  repeat rw [load_rows]
  rw [View.read_writes_full]
  rw [load_whole, load_whole, stored_A, stored_L]

theorem out_4 (hc0 : ¬cond0_0 i) (hc1 : cond0_1 i) :
    out0_C_4 c i arg3 harg3 arg4 harg4 arg5 harg5 arg6 harg6 arg7 harg7 arg8 harg8 arg9 harg9 arg10 harg10 hc0 hc1 x0 x1 x2 xs0 xs1 xs2 = k0_pay3 (newM i x0 x1 xs0) (newL i x0 x1 xs0 xs1) := by
  unfold out0_C_4
  dsimp only [kernelRun0_A, kernelRun0_B, kernelRun0_C]
  sl_open_run
  repeat rw [View.readAt_full]
  simp only [Memref.IsWhole.read_unread]
  repeat rw [load_rows]
  rw [View.read_writes_full]
  rw [load_whole, load_whole, stored_M, stored_L]

end Open

end Cert.FwdIdeal.Fwd

end
-- ==== Proof.FwdValue.lean ====
/- What the forward attention leaves in its two results, where the queries and keys are finite: the softmax rows' outputs and the logarithms of their sums. -/
module

public import proofs.«01_k».proof.Proof.FwdTile
public import Idealize.ShloMosaic.Lib.Pipeline.ValueKit

@[expose] public section

set_option maxRecDepth 16384
set_option pp.maxSteps 3000

noncomputable section

namespace Cert.Attn

open Idealize.ShloMosaic

/-- One column of a head's values, which are the later half of their array's columns. -/
def vcol (x : (⟨2, ![8448, 1024]⟩ : Shape).Idx → EReal) (h e j : ℕ) : EReal :=
  x (ix2 (n0 := 8448) (n1 := 1024) ⟨j % 8448, Nat.mod_lt _ (by norm_num)⟩ ⟨(512 + 128 * h + e) % 1024, Nat.mod_lt _ (by norm_num)⟩)

/-- The forward attention's outputs: the four heads' columns side by side. -/
def outArr (q k : ℕ → ℕ → ℝ) (x : (⟨2, ![8448, 1024]⟩ : Shape).Idx → EReal) : (⟨2, ![8448, 512]⟩ : Shape).Idx → EReal :=
  fun y => outr q k ((y 1).val / 128) (y 0).val (vcol x ((y 1).val / 128) ((y 1).val % 128))

/-- The rows' logarithms, each head's repeated over its 128 columns. -/
def lseArr (q k : ℕ → ℕ → ℝ) : (⟨2, ![8448, 512]⟩ : Shape).Idx → EReal := fun y => ((lse q k ((y 1).val / 128) (y 0).val : ℝ) : EReal)

end Cert.Attn

namespace Cert.FwdIdeal.Fwd

open Idealize.ShloMosaic Idealize.ShloMosaic.TcCoe
open Idealize.SL Idealize.SL.RA Idealize.SL.BI
open Cert.FwdIdeal Cert.FwdIdeal.Gen Cert.Attn

/-! ## The blocks at a grid point -/

theorem index_0 : ∀ t : Fin cfg0.N, win0_0.index t = ![t.val / 3 % 11, t.val / 33] := (by decide +kernel : ∀ t : Fin grid0.N, win0_0.index t = ![t.val / 3 % 11, t.val / 33])
theorem index_1 : ∀ t : Fin cfg0.N, win0_1.index t = ![t.val % 3, t.val / 33] := (by decide +kernel : ∀ t : Fin grid0.N, win0_1.index t = ![t.val % 3, t.val / 33])
theorem index_2 : ∀ t : Fin cfg0.N, win0_2.index t = ![t.val % 3, 4 + t.val / 33] := (by decide +kernel : ∀ t : Fin grid0.N, win0_2.index t = ![t.val % 3, 4 + t.val / 33])
theorem index_3 : ∀ t : Fin cfg0.N, win0_3.index t = ![t.val / 3 % 11, t.val / 33] := (by decide +kernel : ∀ t : Fin grid0.N, win0_3.index t = ![t.val / 3 % 11, t.val / 33])
theorem index_4 : ∀ t : Fin cfg0.N, win0_4.index t = ![t.val / 3 % 11, t.val / 33] := (by decide +kernel : ∀ t : Fin grid0.N, win0_4.index t = ![t.val / 3 % 11, t.val / 33])
theorem coord_1 : ∀ t : Fin cfg0.N, (grid0.coords t 1).val = t.val / 3 % 11 := (by decide +kernel : ∀ t : Fin grid0.N, (grid0.coords t 1).val = t.val / 3 % 11)
theorem coord_2 : ∀ t : Fin cfg0.N, (grid0.coords t 2).val = t.val % 3 := (by decide +kernel : ∀ t : Fin grid0.N, (grid0.coords t 2).val = t.val % 3)

theorem lt_132 (t : Fin cfg0.N) : t.val < 132 := Nat.lt_of_lt_of_eq t.isLt N_0

variable (m : (ℓ : Loc nD τ sig) → Buf (Elt Ideal) ℓ) (c : Dev nD)

theorem blk_0 (t : Fin cfg0.N) (r : Fin 768) (d : Fin 256) :
    (iblk m c 0 t : Vec Ideal S768x256 .bf16) (ix2 r d) = (m ((c : Thread nD τ).loc main_arg0) : Vec Ideal S8448x1024 .bf16)
      (ix2 ⟨768 * (t.val / 3 % 11) + r.val, by omega⟩ ⟨256 * (t.val / 33) + d.val, by have := lt_132 t; omega⟩) := by
  show (m ((c : Thread nD τ).loc main_arg0) : Vec Ideal S8448x1024 .bf16) (((cfg0.win 0).blk t).view.emb (ix2 r d)) = _
  refine congrArg (m ((c : Thread nD τ).loc main_arg0) : Vec Ideal S8448x1024 .bf16) (funext fun a => ?_)
  fin_cases a
  · have e : (((cfg0.win 0).blk t).view.emb (ix2 r d) (0 : Fin 2)).val = win0_0.index t 0 * 768 + r.val := by blk_simp
    rw [index_0 t] at e
    exact Fin.ext (e.trans (by show (t.val / 3 % 11) * 768 + r.val = 768 * (t.val / 3 % 11) + r.val; omega))
  · have e : (((cfg0.win 0).blk t).view.emb (ix2 r d) (1 : Fin 2)).val = win0_0.index t 1 * 256 + d.val := by blk_simp
    rw [index_0 t] at e
    exact Fin.ext (e.trans (by show (t.val / 33) * 256 + d.val = 256 * (t.val / 33) + d.val; omega))

theorem blk_1 (t : Fin cfg0.N) (r : Fin 2816) (d : Fin 256) :
    (iblk m c 1 t : Vec Ideal S2816x256 .bf16) (ix2 r d) = (m ((c : Thread nD τ).loc main_arg1) : Vec Ideal S8448x1024 .bf16)
      (ix2 ⟨2816 * (t.val % 3) + r.val, by omega⟩ ⟨256 * (t.val / 33) + d.val, by have := lt_132 t; omega⟩) := by
  show (m ((c : Thread nD τ).loc main_arg1) : Vec Ideal S8448x1024 .bf16) (((cfg0.win 1).blk t).view.emb (ix2 r d)) = _
  refine congrArg (m ((c : Thread nD τ).loc main_arg1) : Vec Ideal S8448x1024 .bf16) (funext fun a => ?_)
  fin_cases a
  · have e : (((cfg0.win 1).blk t).view.emb (ix2 r d) (0 : Fin 2)).val = win0_1.index t 0 * 2816 + r.val := by blk_simp
    rw [index_1 t] at e
    exact Fin.ext (e.trans (by show (t.val % 3) * 2816 + r.val = 2816 * (t.val % 3) + r.val; omega))
  · have e : (((cfg0.win 1).blk t).view.emb (ix2 r d) (1 : Fin 2)).val = win0_1.index t 1 * 256 + d.val := by blk_simp
    rw [index_1 t] at e
    exact Fin.ext (e.trans (by show (t.val / 33) * 256 + d.val = 256 * (t.val / 33) + d.val; omega))

theorem blk_2 (t : Fin cfg0.N) (r : Fin 2816) (d : Fin 128) :
    (iblk m c 2 t : Vec Ideal S2816x128 .bf16) (ix2 r d)
      = vcol (m ((c : Thread nD τ).loc main_arg2) : Vec Ideal S8448x1024 .bf16) (t.val / 33) d.val (2816 * (t.val % 3) + r.val) := by
  have ht := lt_132 t
  have hr := r.isLt
  have hd := d.isLt
  show (m ((c : Thread nD τ).loc main_arg2) : Vec Ideal S8448x1024 .bf16) (((cfg0.win 2).blk t).view.emb (ix2 r d)) = _
  refine congrArg (m ((c : Thread nD τ).loc main_arg2) : Vec Ideal S8448x1024 .bf16) (funext fun a => ?_)
  fin_cases a
  · have e : (((cfg0.win 2).blk t).view.emb (ix2 r d) (0 : Fin 2)).val = win0_2.index t 0 * 2816 + r.val := by blk_simp
    rw [index_2 t] at e
    exact Fin.ext (e.trans (by show (t.val % 3) * 2816 + r.val = (2816 * (t.val % 3) + r.val) % 8448; omega))
  · have e : (((cfg0.win 2).blk t).view.emb (ix2 r d) (1 : Fin 2)).val = win0_2.index t 1 * 128 + d.val := by blk_simp
    rw [index_2 t] at e
    exact Fin.ext (e.trans (by show (4 + t.val / 33) * 128 + d.val = (512 + 128 * (t.val / 33) + d.val) % 1024; omega))

variable (q k : ℕ → ℕ → ℝ)
variable (hq : ∀ (i : Fin 8448) (j : Fin 1024), (m ((c : Thread nD τ).loc main_arg0) : Vec Ideal S8448x1024 .bf16) (ix2 i j) = ((q i.val j.val : ℝ) : EReal))
variable (hk : ∀ (i : Fin 8448) (j : Fin 1024), (m ((c : Thread nD τ).loc main_arg1) : Vec Ideal S8448x1024 .bf16) (ix2 i j) = ((k i.val j.val : ℝ) : EReal))

include hq hk in
/-- A tile's score is its query's and key's. -/
theorem score_sk (t : Fin cfg0.N) (r : Fin 768) (j : Fin 2816) :
    score (grid0.coords t) (iblk m c 0 t) (iblk m c 1 t) r j = sk q k (t.val / 33) (768 * (t.val / 3 % 11) + r.val) (2816 * (t.val % 3) + j.val) := by
  have hr := r.isLt
  have hj := j.isLt
  unfold score sk nk
  rw [coord_1 t, coord_2 t]
  by_cases h : t.val / 3 % 11 = 0 ∧ r.val < 256 ∧ 256 ≤ 2816 * (t.val % 3) + j.val
  · rw [if_pos h, if_neg (by rw [if_pos (by omega)]; omega)]
  · rw [if_neg h, if_pos (by split <;> omega)]
    exact dot_fin _ _ (fun x => q (768 * (t.val / 3 % 11) + r.val) (256 * (t.val / 33) + x)) (fun x => k (2816 * (t.val % 3) + j.val) (256 * (t.val / 33) + x))
      (fun x => (blk_0 m c t r x).trans (hq _ _)) fun x => (blk_1 m c t j x).trans (hk _ _)

/-- The values' column that a query block's head reads. -/
abbrev colOf (t : Fin cfg0.N) (e : Fin 128) : ℕ → EReal := vcol (m ((c : Thread nD τ).loc main_arg2) : Vec Ideal S8448x1024 .bf16) (t.val / 33) e.val

/-! ## The three running quantities after each grid point -/

include hq hk in
theorem held_A (t : Fin cfg0.N) (h0 : t.val % 3 = 0) (r : Fin 768) (e : Fin 128) :
    ∃ M, Held q k (t.val / 33) (768 * (t.val / 3 % 11) + r.val) (colOf m c t e) 1 M ((outsAt0 m c t.val t.isLt).2.2.1 (ix2 r 0))
      ((outsAt0 m c t.val t.isLt).2.2.2.1 (ix2 r 0)) ((outsAt0 m c t.val t.isLt).2.2.2.2 (ix2 r e)) := by
  rw [outsAt0_A m c t h0 (by omega)]
  dsimp only
  rw [leftA_0, leftA_1, leftA_2]
  have H : ∀ m0 l0 a0 : EReal, m0 = ⊥ → l0 = 0 → a0 = 0 → ∃ M, Held q k (t.val / 33) (768 * (t.val / 3 % 11) + r.val) (colOf m c t e) 1 M
      (stepM m0 (score (grid0.coords t) (iblk m c 0 t) (iblk m c 1 t) r)) (stepL m0 l0 (score (grid0.coords t) (iblk m c 0 t) (iblk m c 1 t) r))
      (stepA m0 a0 (score (grid0.coords t) (iblk m c 0 t) (iblk m c 1 t) r) fun j => (iblk m c 2 t : Vec Ideal S2816x128 .bf16) (ix2 j e)) := by
    rintro _ _ _ rfl rfl rfl
    exact held_first q k _ _ _ _ _ (fun j => (score_sk m c q k hq hk t r j).trans (by rw [h0])) fun j => (blk_2 m c t j e).trans (by rw [h0])
  exact H _ _ _ (pay4_at r) (pay5_at r) (pay6_at r e)

include hq hk in
theorem held_B (t : Fin cfg0.N) (h1 : t.val % 3 = 1) (r : Fin 768) (e : Fin 128) :
    ∃ M, Held q k (t.val / 33) (768 * (t.val / 3 % 11) + r.val) (colOf m c t e) 2 M ((outsAt0 m c t.val t.isLt).2.2.1 (ix2 r 0))
      ((outsAt0 m c t.val t.isLt).2.2.2.1 (ix2 r 0)) ((outsAt0 m c t.val t.isLt).2.2.2.2 (ix2 r e)) := by
  have hb : t.val - 1 < cfg0.N := Nat.lt_of_le_of_lt (Nat.sub_le _ _) t.isLt
  obtain ⟨M, H⟩ := held_A m c q k hq hk ⟨t.val - 1, hb⟩ (by show (t.val - 1) % 3 = 0; omega) r e
  have e1 : (t.val - 1) / 33 = t.val / 33 := by omega
  have e2 : (t.val - 1) / 3 % 11 = t.val / 3 % 11 := by omega
  dsimp only [colOf] at H
  rw [e1, e2] at H
  rw [outsAt0_B m c t (by omega) (by omega)]
  dsimp only
  rw [leftB_0, leftB_1, leftB_2]
  exact held_next q k (t.val / 33) (768 * (t.val / 3 % 11) + r.val) (colOf m c t e) 1 M _ _ _ H (score (grid0.coords t) (iblk m c 0 t) (iblk m c 1 t) r)
    (fun j => (iblk m c 2 t : Vec Ideal S2816x128 .bf16) (ix2 j e))
    (fun j => (score_sk m c q k hq hk t r j).trans (by rw [h1])) fun j => (blk_2 m c t j e).trans (by rw [h1])

include hq hk in
/-- What the last key block's point leaves in the two results' blocks. -/
theorem left_C (t : Fin cfg0.N) (h2 : t.val % 3 = 2) (r : Fin 768) (e : Fin 128) :
    (outsAt0 m c t.val t.isLt).1 (ix2 r e) = outr q k (t.val / 33) (768 * (t.val / 3 % 11) + r.val) (colOf m c t e)
      ∧ (outsAt0 m c t.val t.isLt).2.1 (ix2 r e) = ((lse q k (t.val / 33) (768 * (t.val / 3 % 11) + r.val) : ℝ) : EReal) := by
  have hb : t.val - 1 < cfg0.N := Nat.lt_of_le_of_lt (Nat.sub_le _ _) t.isLt
  obtain ⟨M, H⟩ := held_B m c q k hq hk ⟨t.val - 1, hb⟩ (by show (t.val - 1) % 3 = 1; omega) r e
  have e1 : (t.val - 1) / 33 = t.val / 33 := by omega
  have e2 : (t.val - 1) / 3 % 11 = t.val / 3 % 11 := by omega
  dsimp only [colOf] at H
  rw [e1, e2] at H
  obtain ⟨M', H'⟩ := held_next q k (t.val / 33) (768 * (t.val / 3 % 11) + r.val) (colOf m c t e) 2 M _ _ _ H (score (grid0.coords t) (iblk m c 0 t) (iblk m c 1 t) r)
    (fun j => (iblk m c 2 t : Vec Ideal S2816x128 .bf16) (ix2 j e))
    (fun j => (score_sk m c q k hq hk t r j).trans (by rw [h2])) fun j => (blk_2 m c t j e).trans (by rw [h2])
  rw [outsAt0_C m c t (by omega) h2]
  dsimp only
  rw [out_3, out_4]
  exact ⟨(pay2_at _ _ r e).trans (held_out q k H'), (pay3_at _ _ r e).trans (held_lse q k H')⟩

/-! ## The two results -/

theorem emb_3 (t : Fin cfg0.N) (r : Fin 768) (e : Fin 128) : (win0_3.blk t).view.emb (ix2 r e)
    = ix2 (n0 := 8448) (n1 := 512) ⟨768 * (t.val / 3 % 11) + r.val, by omega⟩ ⟨128 * (t.val / 33) + e.val, by have := lt_132 t; omega⟩ := by
  funext a
  fin_cases a
  · have h : (((cfg0.win 3).blk t).view.emb (ix2 r e) (0 : Fin 2)).val = win0_3.index t 0 * 768 + r.val := by blk_simp
    rw [index_3 t] at h
    exact Fin.ext (h.trans (by show (t.val / 3 % 11) * 768 + r.val = 768 * (t.val / 3 % 11) + r.val; omega))
  · have h : (((cfg0.win 3).blk t).view.emb (ix2 r e) (1 : Fin 2)).val = win0_3.index t 1 * 128 + e.val := by blk_simp
    rw [index_3 t] at h
    exact Fin.ext (h.trans (by show (t.val / 33) * 128 + e.val = 128 * (t.val / 33) + e.val; omega))

theorem emb_4 (t : Fin cfg0.N) (r : Fin 768) (e : Fin 128) : (win0_4.blk t).view.emb (ix2 r e)
    = ix2 (n0 := 8448) (n1 := 512) ⟨768 * (t.val / 3 % 11) + r.val, by omega⟩ ⟨128 * (t.val / 33) + e.val, by have := lt_132 t; omega⟩ := by
  funext a
  fin_cases a
  · have h : (((cfg0.win 4).blk t).view.emb (ix2 r e) (0 : Fin 2)).val = win0_4.index t 0 * 768 + r.val := by blk_simp
    rw [index_4 t] at h
    exact Fin.ext (h.trans (by show (t.val / 3 % 11) * 768 + r.val = 768 * (t.val / 3 % 11) + r.val; omega))
  · have h : (((cfg0.win 4).blk t).view.emb (ix2 r e) (1 : Fin 2)).val = win0_4.index t 1 * 128 + e.val := by blk_simp
    rw [index_4 t] at h
    exact Fin.ext (h.trans (by show (t.val / 33) * 128 + e.val = 128 * (t.val / 33) + e.val; omega))

theorem head_of (t : Fin cfg0.N) (e : Fin 128) : (128 * (t.val / 33) + e.val) / 128 = t.val / 33 := by omega

theorem col_of (t : Fin cfg0.N) (e : Fin 128) : (128 * (t.val / 33) + e.val) % 128 = e.val := by omega

include hq hk in
theorem final_out : (dats m 0 c).arrAt 3 cfg0.N = outArr q k (m ((c : Thread nD τ).loc main_arg2) : Vec Ideal S8448x1024 .bf16) := by
  refine (dats m 0 c).arrAt_eq_of_covers 3 _ (by decide +kernel) fun t hf y => ?_
  obtain ⟨r, e, rfl⟩ : ∃ (r : Fin 768) (e : Fin 128), y = ix2 r e := ⟨y 0, y 1, eq_ix2 y⟩
  blk_simp
  rw [after0_3, emb_3]
  refine (left_C m c q k hq hk t ((flush0_3 t).mp hf) r e).1.trans ?_
  show _ = outr q k ((128 * (t.val / 33) + e.val) / 128) (768 * (t.val / 3 % 11) + r.val) (vcol _ ((128 * (t.val / 33) + e.val) / 128) ((128 * (t.val / 33) + e.val) % 128))
  rw [head_of, col_of]

include hq hk in
theorem final_lse : (dats m 0 c).arrAt 4 cfg0.N = lseArr q k := by
  refine (dats m 0 c).arrAt_eq_of_covers 4 _ (by decide +kernel) fun t hf y => ?_
  obtain ⟨r, e, rfl⟩ : ∃ (r : Fin 768) (e : Fin 128), y = ix2 r e := ⟨y 0, y 1, eq_ix2 y⟩
  blk_simp
  rw [after0_4, emb_4]
  refine (left_C m c q k hq hk t ((flush0_4 t).mp hf) r e).2.trans ?_
  show _ = ((lse q k ((128 * (t.val / 33) + e.val) / 128) (768 * (t.val / 3 % 11) + r.val) : ℝ) : EReal)
  rw [head_of]

end Cert.FwdIdeal.Fwd

end
-- ==== Proof.FwdRef.lean ====
/- The results of the forward attention's reference, where the queries and keys are finite. -/
module

public import proofs.«01_k».proof.Proof.FwdValue
public import proofs.«01_k».proof.Proof.Gen.FwdRefIdeal.Read
public import Idealize.ShloMosaic.Lib.Pointwise

@[expose] public section

set_option maxRecDepth 16384
set_option pp.maxSteps 2000

noncomputable section

namespace Cert.FwdRefIdeal.Fwd

open Idealize.ShloMosaic Idealize.ShloMosaic.TcCoe
open Cert.FwdRefIdeal Cert.FwdRefIdeal.Gen Cert.FwdRefIdeal.Read Cert.Attn

variable (x0 x1 x2 : Vec Ideal S8448x1024 .bf16) (q k : ℕ → ℕ → ℝ)
variable (hq : ∀ (i : Fin 8448) (j : Fin 1024), x0 (ix2 i j) = ((q i.val j.val : ℝ) : EReal))
variable (hk : ∀ (i : Fin 8448) (j : Fin 1024), x1 (ix2 i j) = ((k i.val j.val : ℝ) : EReal))

set_option maxHeartbeats 1000000

theorem early_nk {n : ℕ} (hn : n < 256) : nk n = 256 := if_pos hn

theorem late_nk (n : ℕ) : nk (256 + n) = 8448 := if_neg (by omega)

include hq hk in
/-- A score in base e. -/
theorem score_at (h : Fin 4) (n j : Fin 8448) :
    (∑ y : Fin 256, x0 (ix2 n ⟨h.val * 256 + y.val, by omega⟩) * x1 (ix2 j ⟨h.val * 256 + y.val, by omega⟩) : EReal)
      * Ideal.log (Ideal.ofBits FTy.f32 1073741824#32) = ((sc q k h.val n.val j.val * Real.log 2 : ℝ) : EReal) := by
  rw [log_two_bits, EReal.coe_mul]
  refine congrArg (fun a : EReal => a * _) (dot_fin _ _ (fun y => q n.val (256 * h.val + y)) (fun y => k j.val (256 * h.val + y)) (fun y => ?_) fun y => ?_)
  · exact (hq n ⟨h.val * 256 + y.val, by omega⟩).trans (by simp only [Nat.mul_comm h.val 256])
  · exact (hk j ⟨h.val * 256 + y.val, by omega⟩).trans (by simp only [Nat.mul_comm h.val 256])

/-- A column of the values, by head. -/
theorem col_at (j : Fin 8448) (h : Fin 4) (e : Fin 128) :
    x2 (ix2 j ⟨512 + (h.val * 128 + e.val), by omega⟩) = vcol x2 h.val e.val j.val := by
  have hj := j.isLt
  have hh := h.isLt
  have he := e.isLt
  refine congrArg x2 (congrArg₂ ix2 (Fin.ext ?_) (Fin.ext ?_))
  · show j.val = j.val % 8448; omega
  · show 512 + (h.val * 128 + e.val) = (512 + 128 * h.val + e.val) % 1024; omega

/-! ## The first queries' outputs -/

include hq hk in
theorem early_score (h : Fin 4) (n : Fin 256) (x : Fin 256) :
    val_main_v10 (F := Ideal) x0 x1 (ix3 h n x) = ((sc q k h.val n.val x.val * Real.log 2 : ℝ) : EReal) := by
  refine Eq.trans ?_ (score_at x0 x1 q k hq hk h ⟨n.val, by omega⟩ ⟨x.val, by omega⟩)
  pointwise [val_main_v10, val_main_v7, val_main_v9, val_main_v8, val_main_v4, val_main_v5, val_main_v1, val_main_v2, val_main_cst]

theorem early_most (h : Fin 4) (n : Fin 256) :
    val_main_v11 (F := Ideal) x0 x1 (ix2 h n)
      = (Finset.univ : Finset (Fin 256)).fold max ⊥ (fun x => val_main_v10 (F := Ideal) x0 x1 (ix3 h n x)) := by
  pointwise [val_main_v11, val_main_cst_0]
  rw [ofBits_bot]

theorem early_floor (i : S4x256.Idx) : val_main_v12 (F := Ideal) i = (⊥ : EReal) := by
  pointwise [val_main_v12, val_main_cst_1]
  exact ofBits_bot

theorem early_shift (h : Fin 4) (n : Fin 256) :
    val_main_v13 (F := Ideal) x0 x1 (ix2 h n)
      = (Finset.univ : Finset (Fin 256)).fold max ⊥ (fun x => val_main_v10 (F := Ideal) x0 x1 (ix3 h n x)) :=
  (val_main_v13_apply x0 x1 (ix2 h n)).trans ((congrArg₂ (fun a b : EReal => max a b) (early_floor (ix2 h n)) (early_most x0 x1 h n)).trans
    (max_eq_right bot_le))

theorem early_exp (h : Fin 4) (n : Fin 256) (x : Fin 256) :
    (val_main_v17 (F := Ideal) x0 x1 (ix3 h n x) : EReal)
      = Ideal.exp ((val_main_v10 (F := Ideal) x0 x1 (ix3 h n x) : EReal)
          - (Finset.univ : Finset (Fin 256)).fold max ⊥ (fun x => (val_main_v10 (F := Ideal) x0 x1 (ix3 h n x) : EReal))) := by
  refine Eq.trans ?_ (congrArg (fun a : EReal => Ideal.exp ((val_main_v10 (F := Ideal) x0 x1 (ix3 h n x) : EReal) - a)) (early_shift x0 x1 h n))
  pointwise [val_main_v17, val_main_v16, val_main_v15, val_main_v14]

theorem early_quot (h : Fin 4) (n : Fin 256) (x : Fin 256) :
    (val_main_v22 (F := Ideal) x0 x1 (ix3 h n x) : EReal)
      = Ideal.div (val_main_v17 (F := Ideal) x0 x1 (ix3 h n x)) (∑ x : Fin 256, val_main_v17 (F := Ideal) x0 x1 (ix3 h n x) : EReal) := by
  pointwise [val_main_v22, val_main_v21, val_main_v20, val_main_v19, val_main_v18, val_main_cst_2]

theorem early_wt (h : Fin 4) (n : Fin 256) (x : Fin 256) :
    (val_main_v22 (F := Ideal) x0 x1 (ix3 h n x) : EReal)
      = Ideal.div (Ideal.exp ((val_main_v10 (F := Ideal) x0 x1 (ix3 h n x) : EReal)
          - (Finset.univ : Finset (Fin 256)).fold max ⊥ (fun x => (val_main_v10 (F := Ideal) x0 x1 (ix3 h n x) : EReal))))
        (∑ y : Fin 256, Ideal.exp ((val_main_v10 (F := Ideal) x0 x1 (ix3 h n y) : EReal)
          - (Finset.univ : Finset (Fin 256)).fold max ⊥ (fun x => (val_main_v10 (F := Ideal) x0 x1 (ix3 h n x) : EReal)))) :=
  (early_quot x0 x1 h n x).trans (congrArg₂ (fun a b : EReal => Ideal.div a b) (early_exp x0 x1 h n x)
    (@Finset.sum_congr (Fin 256) EReal _ _ _ _ _ rfl fun y _ => early_exp x0 x1 h n y))

include hq hk in
theorem early_out (n : Fin 256) (h : Fin 4) (e : Fin 128) :
    (val_main_v24 (F := Ideal) x0 x1 x2 (ix3 n h e) : EReal) = outr q k h.val n.val (vcol x2 h.val e.val) := by
  have r := row_outr q k (early_nk n.isLt) (fun x : Fin 256 => (val_main_v10 (F := Ideal) x0 x1 (ix3 h n x) : EReal)) (early_score x0 x1 q k hq hk h n)
    (fun x : Fin 256 => x2 (ix2 (n0 := 8448) (n1 := 1024) ⟨x.val, by omega⟩ ⟨512 + (h.val * 128 + e.val), by omega⟩)) (vcol x2 h.val e.val)
    (fun x => col_at x2 ⟨x.val, by omega⟩ h e)
  refine Eq.trans ?_ r
  pointwise [val_main_v24, val_main_v23, val_main_v6, val_main_v3, val_main_v0]
  exact Finset.sum_congr rfl fun x _ => (mul_comm _ _).trans (congrArg (fun a : EReal => a * _) (early_wt x0 x1 h n x))

/-! ## The later queries' outputs -/

include hq hk in
theorem late_score (h : Fin 4) (n : Fin 8192) (x : Fin 8448) :
    val_main_v29 (F := Ideal) x0 x1 (ix3 h n x) = ((sc q k h.val (256 + n.val) x.val * Real.log 2 : ℝ) : EReal) := by
  refine Eq.trans ?_ (score_at x0 x1 q k hq hk h ⟨256 + n.val, by omega⟩ x)
  pointwise [val_main_v29, val_main_v26, val_main_v28, val_main_v27, val_main_v25, val_main_v1, val_main_v2, val_main_cst_3]

theorem late_most (h : Fin 4) (n : Fin 8192) :
    val_main_v30 (F := Ideal) x0 x1 (ix2 h n)
      = (Finset.univ : Finset (Fin 8448)).fold max ⊥ (fun x => val_main_v29 (F := Ideal) x0 x1 (ix3 h n x)) := by
  pointwise [val_main_v30, val_main_cst_4]
  rw [ofBits_bot]

theorem late_floor (i : S4x8192.Idx) : val_main_v31 (F := Ideal) i = (⊥ : EReal) := by
  pointwise [val_main_v31, val_main_cst_5]
  exact ofBits_bot

theorem late_shift (h : Fin 4) (n : Fin 8192) :
    val_main_v32 (F := Ideal) x0 x1 (ix2 h n)
      = (Finset.univ : Finset (Fin 8448)).fold max ⊥ (fun x => val_main_v29 (F := Ideal) x0 x1 (ix3 h n x)) :=
  (val_main_v32_apply x0 x1 (ix2 h n)).trans ((congrArg₂ (fun a b : EReal => max a b) (late_floor (ix2 h n)) (late_most x0 x1 h n)).trans
    (max_eq_right bot_le))

theorem late_exp (h : Fin 4) (n : Fin 8192) (x : Fin 8448) :
    (val_main_v36 (F := Ideal) x0 x1 (ix3 h n x) : EReal)
      = Ideal.exp ((val_main_v29 (F := Ideal) x0 x1 (ix3 h n x) : EReal)
          - (Finset.univ : Finset (Fin 8448)).fold max ⊥ (fun x => (val_main_v29 (F := Ideal) x0 x1 (ix3 h n x) : EReal))) := by
  refine Eq.trans ?_ (congrArg (fun a : EReal => Ideal.exp ((val_main_v29 (F := Ideal) x0 x1 (ix3 h n x) : EReal) - a)) (late_shift x0 x1 h n))
  pointwise [val_main_v36, val_main_v35, val_main_v34, val_main_v33]

theorem late_quot (h : Fin 4) (n : Fin 8192) (x : Fin 8448) :
    (val_main_v41 (F := Ideal) x0 x1 (ix3 h n x) : EReal)
      = Ideal.div (val_main_v36 (F := Ideal) x0 x1 (ix3 h n x)) (∑ x : Fin 8448, val_main_v36 (F := Ideal) x0 x1 (ix3 h n x) : EReal) := by
  pointwise [val_main_v41, val_main_v40, val_main_v39, val_main_v38, val_main_v37, val_main_cst_6]

theorem late_wt (h : Fin 4) (n : Fin 8192) (x : Fin 8448) :
    (val_main_v41 (F := Ideal) x0 x1 (ix3 h n x) : EReal)
      = Ideal.div (Ideal.exp ((val_main_v29 (F := Ideal) x0 x1 (ix3 h n x) : EReal)
          - (Finset.univ : Finset (Fin 8448)).fold max ⊥ (fun x => (val_main_v29 (F := Ideal) x0 x1 (ix3 h n x) : EReal))))
        (∑ y : Fin 8448, Ideal.exp ((val_main_v29 (F := Ideal) x0 x1 (ix3 h n y) : EReal)
          - (Finset.univ : Finset (Fin 8448)).fold max ⊥ (fun x => (val_main_v29 (F := Ideal) x0 x1 (ix3 h n x) : EReal)))) :=
  (late_quot x0 x1 h n x).trans (congrArg₂ (fun a b : EReal => Ideal.div a b) (late_exp x0 x1 h n x)
    (@Finset.sum_congr (Fin 8448) EReal _ _ _ _ _ rfl fun y _ => late_exp x0 x1 h n y))

include hq hk in
theorem late_out (n : Fin 8192) (h : Fin 4) (e : Fin 128) :
    (val_main_v43 (F := Ideal) x0 x1 x2 (ix3 n h e) : EReal) = outr q k h.val (256 + n.val) (vcol x2 h.val e.val) := by
  have r := row_outr q k (late_nk n.val) (fun x : Fin 8448 => (val_main_v29 (F := Ideal) x0 x1 (ix3 h n x) : EReal)) (late_score x0 x1 q k hq hk h n)
    (fun x : Fin 8448 => x2 (ix2 (n0 := 8448) (n1 := 1024) x ⟨512 + (h.val * 128 + e.val), by omega⟩)) (vcol x2 h.val e.val)
    (fun x => col_at x2 x h e)
  refine Eq.trans ?_ r
  pointwise [val_main_v43, val_main_v42, val_main_v3, val_main_v0]
  exact Finset.sum_congr rfl fun x _ => (mul_comm _ _).trans (congrArg (fun a : EReal => a * _) (late_wt x0 x1 h n x))

/-! ## The rows' logarithms -/

include hq hk in
theorem early_log (h : Fin 4) (n : Fin 256) :
    (val_main_v59 (F := Ideal) x0 x1 (ix2 h n) : EReal) = ((lse q k h.val n.val : ℝ) : EReal) := by
  have hs : ∀ x : Fin 256, (val_main_v53 (F := Ideal) x0 x1 (ix3 h n x) : EReal) = ((sc q k h.val n.val x.val * Real.log 2 : ℝ) : EReal) := fun x => by
    refine Eq.trans ?_ (score_at x0 x1 q k hq hk h ⟨n.val, by omega⟩ ⟨x.val, by omega⟩)
    pointwise [val_main_v53, val_main_v50, val_main_v52, val_main_v51, val_main_v48, val_main_v49, val_main_v46, val_main_v47, val_main_cst_7]
  refine Eq.trans ?_ (row_log_sum q k (early_nk n.isLt) (fun x : Fin 256 => (val_main_v53 (F := Ideal) x0 x1 (ix3 h n x) : EReal)) hs)
  rw [← log_two_bits]
  pointwise [val_main_v59, val_main_v56, val_main_v58, val_main_v57, val_main_v55, val_main_v54, val_main_cst_8, val_main_cst_9]

include hq hk in
theorem late_log (h : Fin 4) (n : Fin 8192) :
    (val_main_v70 (F := Ideal) x0 x1 (ix2 h n) : EReal) = ((lse q k h.val (256 + n.val) : ℝ) : EReal) := by
  have hs : ∀ x : Fin 8448, (val_main_v64 (F := Ideal) x0 x1 (ix3 h n x) : EReal) = ((sc q k h.val (256 + n.val) x.val * Real.log 2 : ℝ) : EReal) := fun x => by
    refine Eq.trans ?_ (score_at x0 x1 q k hq hk h ⟨256 + n.val, by omega⟩ x)
    pointwise [val_main_v64, val_main_v61, val_main_v63, val_main_v62, val_main_v60, val_main_v46, val_main_v47, val_main_cst_10]
  refine Eq.trans ?_ (row_log_sum q k (late_nk n.val) (fun x : Fin 8448 => (val_main_v64 (F := Ideal) x0 x1 (ix3 h n x) : EReal)) hs)
  rw [← log_two_bits]
  pointwise [val_main_v70, val_main_v67, val_main_v69, val_main_v68, val_main_v66, val_main_v65, val_main_cst_11, val_main_cst_12]

/-! ## The results -/

theorem out_split (n : Fin 8448) (c : Fin 512) :
    (val_main_v45 (F := Ideal) x0 x1 x2 (ix2 n c) : EReal)
      = if hn : n.val < 256 then val_main_v24 (F := Ideal) x0 x1 x2 (ix3 ⟨n.val, hn⟩ ⟨c.val / 128, by omega⟩ ⟨c.val % 128, by omega⟩)
        else val_main_v43 (F := Ideal) x0 x1 x2 (ix3 ⟨n.val - 256, by omega⟩ ⟨c.val / 128, by omega⟩ ⟨c.val % 128, by omega⟩) := by
  pointwise [val_main_v45, val_main_v44]

theorem log_split (n : Fin 8448) (c : Fin 512) :
    (val_main_v74 (F := Ideal) x0 x1 (ix2 n c) : EReal)
      = if hn : n.val < 256 then val_main_v59 (F := Ideal) x0 x1 (ix2 ⟨c.val / 128, by omega⟩ ⟨n.val, hn⟩)
        else val_main_v70 (F := Ideal) x0 x1 (ix2 ⟨c.val / 128, by omega⟩ ⟨n.val - 256, by omega⟩) := by
  pointwise [val_main_v74, val_main_v73, val_main_v72, val_main_v71]

include hq hk in
theorem out_eq : val_main_v45 (F := Ideal) x0 x1 x2 = outArr q k x2 := by
  funext y
  rw [eq_ix2 y]
  refine (out_split x0 x1 x2 (y 0) (y 1)).trans ?_
  split
  · exact early_out x0 x1 x2 q k hq hk ⟨(y 0).val, by assumption⟩ _ _
  · refine (late_out x0 x1 x2 q k hq hk _ _ _).trans ?_
    show outr q k _ (256 + ((y 0).val - 256)) _ = _
    rw [show 256 + ((y 0).val - 256) = (y 0).val by omega]
    rfl

include hq hk in
theorem log_eq : val_main_v74 (F := Ideal) x0 x1 = lseArr q k := by
  funext y
  rw [eq_ix2 y]
  refine (log_split x0 x1 (y 0) (y 1)).trans ?_
  split
  · exact early_log x0 x1 q k hq hk _ ⟨(y 0).val, by assumption⟩
  · refine (late_log x0 x1 q k hq hk _ _).trans ?_
    show ((lse q k _ (256 + ((y 0).val - 256)) : ℝ) : EReal) = _
    rw [show 256 + ((y 0).val - 256) = (y 0).val by omega]
    rfl

end Cert.FwdRefIdeal.Fwd

end
-- ==== Proof.FwdMeet.lean ====
/- The forward attention's claims: where the queries and keys are finite, the kernel's two results and the reference's are the same arrays. -/
module

public import proofs.«01_k».proof.Defs
public import proofs.«01_k».proof.Proof.Gen.Fwd
public import proofs.«01_k».proof.Proof.Gen.Fwd.Frame
public import proofs.«01_k».proof.Proof.Gen.FwdIdeal
public import proofs.«01_k».proof.Proof.Gen.FwdRefIdeal
public import proofs.«01_k».proof.Proof.Gen.FwdRefIdeal.Run
public import proofs.«01_k».proof.Proof.Gen.Pre_finite_qk
public import proofs.«01_k».proof.Proof.Finite
public import proofs.«01_k».proof.Proof.FwdRef
public import Idealize.ShloMosaic.Adequacy
public import Idealize.ShloMosaic.Init

@[expose] public section

set_option maxRecDepth 16384

noncomputable section

namespace Cert.Fwd.Meet

open Idealize.ShloMosaic Idealize.ShloMosaic.TcCoe Idealize.SL.Sem Cert.Attn

theorem kernel_frame : Cert.quiescent_Fwd (hFwd := Cert.Fwd.Gen.facts) := fun m g _ => Cert.Fwd.Gen.frame m g

theorem ideal_frame : Cert.quiescent_FwdIdeal (hFwdIdeal := Cert.FwdIdeal.Gen.facts) := fun m g _ => Cert.FwdIdeal.Gen.frame m g

theorem ideal_frame_finite : Cert.quiescent_FwdIdeal_pre_finite_qk (hFwdIdeal := Cert.FwdIdeal.Gen.facts) (hPre_finite_qk := Cert.Pre_finite_qk.Gen.facts) :=
  fun m g _ => Cert.FwdIdeal.Gen.frame m g

theorem reference_frame : Cert.quiescent_FwdRefIdeal (hFwdRefIdeal := Cert.FwdRefIdeal.Gen.facts) :=
  fun m g _ => (θ_run _ _ _).mono (fun r h => ⟨fun c => (h c).2.2, sem_eq_zero_of_no_sems (by decide) r.2⟩) (Cert.FwdRefIdeal.Value.run m g)

theorem reference_frame_finite :
    Cert.quiescent_FwdRefIdeal_pre_finite_qk (hFwdRefIdeal := Cert.FwdRefIdeal.Gen.facts) (hPre_finite_qk := Cert.Pre_finite_qk.Gen.facts) :=
  fun m g _ => (θ_run _ _ _).mono (fun r h => ⟨fun c => (h c).2.2, sem_eq_zero_of_no_sems (by decide) r.2⟩) (Cert.FwdRefIdeal.Value.run m g)

theorem constants : Cert.preserves_Fwd_FwdIdeal :=
  ⟨IdealRules.named_const.statement Cert.FwdIdeal.κ "mask" .f32 0xF149F2CA#32 ⊥ rfl,
    IdealRules.named_const.statement Cert.FwdIdeal.κ "log2e" .f32 0x3FB8AA3B#32 (((Real.log 2)⁻¹ : ℝ) : EReal) rfl⟩

/-- An array's entries as reals. -/
def realOf (x : (⟨2, ![8448, 1024]⟩ : Shape).Idx → EReal) (i j : ℕ) : ℝ :=
  (x (ix2 (n0 := 8448) (n1 := 1024) ⟨i % 8448, Nat.mod_lt _ (by norm_num)⟩ ⟨j % 1024, Nat.mod_lt _ (by norm_num)⟩)).toReal

theorem eq_realOf (x : (⟨2, ![8448, 1024]⟩ : Shape).Idx → EReal) (h : ∀ y, x y = (((x y).toReal : ℝ) : EReal)) (i : Fin 8448) (j : Fin 1024) :
    x (ix2 i j) = ((realOf x i.val j.val : ℝ) : EReal) := by
  refine (h _).trans (congrArg (fun y => (((x y).toReal : ℝ) : EReal)) (congrArg₂ ix2 (Fin.ext ?_) (Fin.ext ?_)))
  · exact (Nat.mod_eq_of_lt i.isLt).symm
  · exact (Nat.mod_eq_of_lt j.isLt).symm

variable (x0 x1 x2 : Vec Ideal Cert.Pre_finite_qk.S8448x1024 .bf16)

theorem real_q (h : (Cert.Pre_finite_qk.fn (F := Ideal) x0 x1 x2).1 = (fun _ => 1#1)) (i : Cert.Pre_finite_qk.S8448x1024.Idx) :
    (x0 i : EReal) = (((x0 i : EReal).toReal : ℝ) : EReal) := by
  have e := h
  dsimp only [Cert.Pre_finite_qk.fn] at e
  exact real_of_all (s := Cert.Pre_finite_qk.S8448x1024) (extf .f32 x0 Cert.Pre_finite_qk.Gen.bitsLt_bf16_f32) _ _ _ e i

theorem real_k (h : (Cert.Pre_finite_qk.fn (F := Ideal) x0 x1 x2).2 = (fun _ => 1#1)) (i : Cert.Pre_finite_qk.S8448x1024.Idx) :
    (x1 i : EReal) = (((x1 i : EReal).toReal : ℝ) : EReal) := by
  have e := h
  dsimp only [Cert.Pre_finite_qk.fn] at e
  exact real_of_all (s := Cert.Pre_finite_qk.S8448x1024) (extf .f32 x1 Cert.Pre_finite_qk.Gen.bitsLt_bf16_f32) _ _ _ e i

theorem equal_results : Cert.algebraic_FwdIdeal_FwdRefIdeal_pre_finite_qk (hFwdIdeal := Cert.FwdIdeal.Gen.facts)
    (hFwdRefIdeal := Cert.FwdRefIdeal.Gen.facts) (hPre_finite_qk := Cert.Pre_finite_qk.Gen.facts) := by
  intro m g m' g' hpre hag
  have hq := fun c => eq_realOf _ (real_q _ _ _ (hpre c).1)
  have hk := fun c => eq_realOf _ (real_k _ _ _ (hpre c).2)
  refine ⟨fun c => outArr _ _ _, fun c => lseArr _ _,
    (θ_run _ _ _).mono (fun r h c => ⟨(h c).1.trans (Cert.FwdIdeal.Fwd.final_out m c _ _ (hq c) (hk c)),
      (h c).2.1.trans (Cert.FwdIdeal.Fwd.final_lse m c _ _ (hq c) (hk c)), (h c).2.2⟩) (Cert.FwdIdeal.Value.run_blocks m g), ?_⟩
  refine (θ_run _ _ _).mono (fun r h c => ⟨(h c).1.trans ?_, (h c).2.1.trans ?_, (h c).2.2⟩) (Cert.FwdRefIdeal.Value.run m' g')
  · obtain ⟨a0, a1, a2⟩ := hag c
    refine (Cert.FwdRefIdeal.Read.val_main_v45_eq m' c).trans ?_
    rw [a0, a1, a2]
    exact Cert.FwdRefIdeal.Fwd.out_eq _ _ _ _ _ (hq c) (hk c)
  · obtain ⟨a0, a1, a2⟩ := hag c
    refine (Cert.FwdRefIdeal.Read.val_main_v74_eq _ _).trans ?_
    rw [a0, a1]
    exact Cert.FwdRefIdeal.Fwd.log_eq _ _ _ _ (hq c) (hk c)

end Cert.Fwd.Meet

end
-- ==== Proof.lean ====
/- The claim: the frames of all programs, the named constants of the idealized kernels, and the equality of
   their results with the references', the attention's over finite arguments. -/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.WordsBody
public import proofs.«01_k».proof.Proof.Meet
public import proofs.«01_k».proof.Proof.Ff1WValue
public import proofs.«01_k».proof.Proof.Ff1XValue
public import proofs.«01_k».proof.Proof.Ff2WValue
public import proofs.«01_k».proof.Proof.Ff2XValue
public import proofs.«01_k».proof.Proof.OutIn
public import proofs.«01_k».proof.Proof.Up
public import proofs.«01_k».proof.Proof.Forward
public import proofs.«01_k».proof.Proof.FwdMeet
public import Idealize.ShloMosaic.Adequacy
public import Idealize.ShloMosaic.Init

@[expose] public section

set_option maxRecDepth 16384

noncomputable section

namespace Cert.Proof

open Idealize.ShloMosaic Idealize.SL.Sem

theorem kernel_frame : Cert.quiescent_Kernel (hKernel := Cert.Kernel.Gen.facts) :=
  fun m g _ => Cert.Kernel.Bwd.frame m g

theorem ideal_frame : Cert.quiescent_KernelIdeal (hKernelIdeal := Cert.KernelIdeal.Gen.facts) :=
  fun m g _ => Cert.KernelIdeal.Bwd.frame m g

theorem ideal_frame_finite : Cert.quiescent_KernelIdeal_pre_finite (hKernelIdeal := Cert.KernelIdeal.Gen.facts) (hPre_finite := Cert.Pre_finite.Gen.facts) :=
  fun m g _ => Cert.KernelIdeal.Bwd.frame m g

theorem reference_frame : Cert.quiescent_ReferenceIdeal (hReferenceIdeal := Cert.ReferenceIdeal.Gen.facts) :=
  fun m g _ => (θ_run _ _ _).mono (fun r h => ⟨fun c => (h c).2.2.2, sem_eq_zero_of_no_sems (by decide) r.2⟩) (Cert.ReferenceIdeal.Value.run m g)

theorem reference_frame_finite :
    Cert.quiescent_ReferenceIdeal_pre_finite (hReferenceIdeal := Cert.ReferenceIdeal.Gen.facts) (hPre_finite := Cert.Pre_finite.Gen.facts) :=
  fun m g _ => (θ_run _ _ _).mono (fun r h => ⟨fun c => (h c).2.2.2, sem_eq_zero_of_no_sems (by decide) r.2⟩) (Cert.ReferenceIdeal.Value.run m g)

theorem constants : Cert.preserves_Kernel_KernelIdeal :=
  ⟨IdealRules.named_const.statement Cert.KernelIdeal.κ "mask" .f32 0xF149F2CA#32 ⊥ rfl,
    IdealRules.named_const.statement Cert.KernelIdeal.κ "log2" .f32 0x3F317218#32 ((Real.log 2 : ℝ) : EReal) rfl⟩

theorem equal_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hag
  refine ⟨fun c => Cert.KernelIdeal.Bwd.dqArr m c, fun c => Cert.KernelIdeal.Bwd.dkArr m c, fun c => Cert.KernelIdeal.Bwd.dvArr m c, ?_, ?_⟩
  · refine (θ_run _ _ _).mono (fun r h c => ?_) (Cert.KernelIdeal.Bwd.run_main m g)
    obtain ⟨r0, r1, r2⟩ := Cert.KernelIdeal.Bwd.results_of_post m r h.1 c
    exact ⟨r0, r1, r2, Cert.KernelIdeal.Bwd.args_of_post m r h.1 c⟩
  · refine (θ_run _ _ _).mono (fun r h c => ?_) (Cert.ReferenceIdeal.Value.run m' g')
    obtain ⟨r0, r1, r2, ra⟩ := h c
    obtain ⟨a0, a1, a2, a3⟩ := hag c
    obtain ⟨b0, b1, b2⟩ := Cert.KernelIdeal.Bwd.meet _ _ _ _ m c a0 a1 a2 a3 (by rw [a0, a1, a2, a3]; exact hpre c)
    exact ⟨r0.trans ((Cert.ReferenceIdeal.Read.val_main_v148_eq _).trans b0), r1.trans ((Cert.ReferenceIdeal.Read.val_main_v149_eq _).trans b1),
      r2.trans ((Cert.ReferenceIdeal.Read.val_main_v150_eq _).trans b2), ra⟩

theorem claim : Cert.Claim :=
  ⟨Cert.Kernel.Gen.facts, Cert.KernelIdeal.Gen.facts, Cert.ReferenceIdeal.Gen.facts,
    Cert.Ff1W.Gen.facts, Cert.Ff1WIdeal.Gen.facts, Cert.Ff1WRefIdeal.Gen.facts,
    Cert.Ff1X.Gen.facts, Cert.Ff1XIdeal.Gen.facts, Cert.Ff1XRefIdeal.Gen.facts,
    Cert.Ff2W.Gen.facts, Cert.Ff2WIdeal.Gen.facts, Cert.Ff2WRefIdeal.Gen.facts,
    Cert.Ff2X.Gen.facts, Cert.Ff2XIdeal.Gen.facts, Cert.Ff2XRefIdeal.Gen.facts,
    Cert.OutW.Gen.facts, Cert.OutWIdeal.Gen.facts, Cert.OutWRefIdeal.Gen.facts,
    Cert.OutX.Gen.facts, Cert.OutXIdeal.Gen.facts, Cert.OutXRefIdeal.Gen.facts,
    Cert.InW.Gen.facts, Cert.InWIdeal.Gen.facts, Cert.InWRefIdeal.Gen.facts,
    Cert.InX.Gen.facts, Cert.InXIdeal.Gen.facts, Cert.InXRefIdeal.Gen.facts,
    Cert.UpW.Gen.facts, Cert.UpWIdeal.Gen.facts, Cert.UpWRefIdeal.Gen.facts,
    Cert.UpX.Gen.facts, Cert.UpXIdeal.Gen.facts, Cert.UpXRefIdeal.Gen.facts,
    Cert.Ff1.Gen.facts, Cert.Ff1Ideal.Gen.facts, Cert.Ff1RefIdeal.Gen.facts,
    Cert.Ff2.Gen.facts, Cert.Ff2Ideal.Gen.facts, Cert.Ff2RefIdeal.Gen.facts,
    Cert.InProj.Gen.facts, Cert.InProjIdeal.Gen.facts, Cert.InProjRefIdeal.Gen.facts,
    Cert.OutProj.Gen.facts, Cert.OutProjIdeal.Gen.facts, Cert.OutProjRefIdeal.Gen.facts,
    Cert.KvUp.Gen.facts, Cert.KvUpIdeal.Gen.facts, Cert.KvUpRefIdeal.Gen.facts,
    Cert.QUp.Gen.facts, Cert.QUpIdeal.Gen.facts, Cert.QUpRefIdeal.Gen.facts,
    Cert.Fwd.Gen.facts, Cert.FwdIdeal.Gen.facts, Cert.FwdRefIdeal.Gen.facts,
    Cert.Pre_finite.Gen.facts, Cert.Pre_finite_qk.Gen.facts, kernel_frame, ideal_frame, ideal_frame_finite, reference_frame, reference_frame_finite,
    Cert.Ff1W.Grad.kernel_frame, Cert.Ff1W.Grad.ideal_frame, Cert.Ff1W.Grad.reference_frame,
    Cert.Ff1X.Grad.kernel_frame, Cert.Ff1X.Grad.ideal_frame, Cert.Ff1X.Grad.reference_frame,
    Cert.Ff2W.Grad.kernel_frame, Cert.Ff2W.Grad.ideal_frame, Cert.Ff2W.Grad.reference_frame,
    Cert.Ff2X.Grad.kernel_frame, Cert.Ff2X.Grad.ideal_frame, Cert.Ff2X.Grad.reference_frame,
    Cert.OutW.Grad.kernel_frame, Cert.OutW.Grad.ideal_frame, Cert.OutW.Grad.reference_frame,
    Cert.OutX.Grad.kernel_frame, Cert.OutX.Grad.ideal_frame, Cert.OutX.Grad.reference_frame,
    Cert.InW.Grad.kernel_frame, Cert.InW.Grad.ideal_frame, Cert.InW.Grad.reference_frame,
    Cert.InX.Grad.kernel_frame, Cert.InX.Grad.ideal_frame, Cert.InX.Grad.reference_frame,
    Cert.UpW.Grad.kernel_frame, Cert.UpW.Grad.ideal_frame, Cert.UpW.Grad.reference_frame,
    Cert.UpX.Grad.kernel_frame, Cert.UpX.Grad.ideal_frame, Cert.UpX.Grad.reference_frame,
    Cert.Ff1.Grad.kernel_frame, Cert.Ff1.Grad.ideal_frame, Cert.Ff1.Grad.reference_frame,
    Cert.Ff2.Grad.kernel_frame, Cert.Ff2.Grad.ideal_frame, Cert.Ff2.Grad.reference_frame,
    Cert.InProj.Grad.kernel_frame, Cert.InProj.Grad.ideal_frame, Cert.InProj.Grad.reference_frame,
    Cert.OutProj.Grad.kernel_frame, Cert.OutProj.Grad.ideal_frame, Cert.OutProj.Grad.reference_frame,
    Cert.KvUp.Grad.kernel_frame, Cert.KvUp.Grad.ideal_frame, Cert.KvUp.Grad.reference_frame,
    Cert.QUp.Grad.kernel_frame, Cert.QUp.Grad.ideal_frame, Cert.QUp.Grad.reference_frame,
    Cert.Fwd.Meet.kernel_frame, Cert.Fwd.Meet.ideal_frame, Cert.Fwd.Meet.ideal_frame_finite, Cert.Fwd.Meet.reference_frame, Cert.Fwd.Meet.reference_frame_finite,
    constants, equal_results,
    trivial, Cert.Ff1W.Grad.equal_results,
    trivial, Cert.Ff1X.Grad.equal_results,
    trivial, Cert.Ff2W.Grad.equal_results,
    trivial, Cert.Ff2X.Grad.equal_results,
    trivial, Cert.OutW.Grad.equal_results,
    trivial, Cert.OutX.Grad.equal_results,
    trivial, Cert.InW.Grad.equal_results,
    trivial, Cert.InX.Grad.equal_results,
    trivial, Cert.UpW.Grad.equal_results,
    trivial, Cert.UpX.Grad.equal_results,
    trivial, Cert.Ff1.Grad.equal_results,
    trivial, Cert.Ff2.Grad.equal_results,
    trivial, Cert.InProj.Grad.equal_results,
    trivial, Cert.OutProj.Grad.equal_results,
    trivial, Cert.KvUp.Grad.equal_results,
    trivial, Cert.QUp.Grad.equal_results,
    Cert.Fwd.Meet.constants, Cert.Fwd.Meet.equal_results⟩

end Cert.Proof

end
